-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S40x1408x4096 : Shape := ⟨3, ![40, 1408, 4096]⟩
abbrev S4096 : Shape := ⟨1, ![4096]⟩
abbrev S_ : Shape := ⟨0, ![]⟩
abbrev S1x1x4096 : Shape := ⟨3, ![1, 1, 4096]⟩

class Facts : Prop where
  bitsLt_bf16_f32 : FTy.bits .bf16 < FTy.bits .f32
  bcast_S_S40x1408x4096 : S_.BroadcastsInDim S40x1408x4096 (![] : Fin 0 → Fin S40x1408x4096.rank)
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S40x1408x4096_0_1_2 : S1x1x4096.BroadcastsInDim S40x1408x4096 (![0, 1, 2] : Fin 3 → Fin S40x1408x4096.rank)

variable [Facts]

def fn {F : FTy → Type} [FloatOps F] (main_arg0 : FVec F S40x1408x4096 .bf16) (main_arg1 : FVec F S4096 .f32) : IVec S40x1408x4096 1 :=
  let main_v0 : FVec F S40x1408x4096 .f32 := (extf .f32 · bitsLt_bf16_f32) main_arg0
  let main_v1 : FVec F S40x1408x4096 .f32 := Host.absf main_v0
  let main_cst : FVec F S_ .f32 := constant S_ .f32 0x7F800000#32
  let main_v2 : FVec F S40x1408x4096 .f32 := broadcastInDim S40x1408x4096 ![] bcast_S_S40x1408x4096 main_cst
  let main_v3 : IVec S40x1408x4096 1 := cmpf .olt main_v1 main_v2
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_v7 : IVec S1x1x4096 1 := broadcastInDim S1x1x4096 ![2] bcast_S4096_S1x1x4096_2 main_v6
  let main_v8 : IVec S40x1408x4096 1 := broadcastInDim S40x1408x4096 ![0, 1, 2] bcast_S1x1x4096_S40x1408x4096_0_1_2 main_v7
  let main_v9 : IVec S40x1408x4096 1 := andi main_v3 main_v8
  main_v9
-- ==== Kernel.lean ====
abbrev S40x1408x4096 : Shape := ⟨3, ![40, 1408, 4096]⟩
abbrev S4096 : Shape := ⟨1, ![4096]⟩
abbrev S1x4096 : Shape := ⟨2, ![1, 4096]⟩
abbrev S20x2816x4096 : Shape := ⟨3, ![20, 2816, 4096]⟩
abbrev S20x2816x2048 : Shape := ⟨3, ![20, 2816, 2048]⟩
abbrev S40x32x1408 : Shape := ⟨3, ![40, 32, 1408]⟩
abbrev S1x2816x512 : Shape := ⟨3, ![1, 2816, 512]⟩
abbrev S2x8x1408 : Shape := ⟨3, ![2, 8, 1408]⟩
abbrev S3x8x2816x128 : Shape := ⟨4, ![3, 8, 2816, 128]⟩
abbrev S3x16x2x256x128 : Shape := ⟨5, ![3, 16, 2, 256, 128]⟩
abbrev S11x4x256x256 : Shape := ⟨4, ![11, 4, 256, 256]⟩
abbrev S11x8x256 : Shape := ⟨3, ![11, 8, 256]⟩
abbrev S11x2x72x128 : Shape := ⟨4, ![11, 2, 72, 128]⟩
abbrev S1 : Shape := ⟨1, ![1]⟩
abbrev S3 : Shape := ⟨1, ![3]⟩
abbrev S_ : Shape := ⟨0, ![]⟩
abbrev S1x1x2816x128 : Shape := ⟨4, ![1, 1, 2816, 128]⟩
abbrev S2816x128 : Shape := ⟨2, ![2816, 128]⟩
abbrev S1x2816x128 : Shape := ⟨3, ![1, 2816, 128]⟩
abbrev S1x128 : Shape := ⟨2, ![1, 128]⟩
abbrev S256x128 : Shape := ⟨2, ![256, 128]⟩
abbrev S1x1x1x256x128 : Shape := ⟨5, ![1, 1, 1, 256, 128]⟩
abbrev S1x1x128 : Shape := ⟨3, ![1, 1, 128]⟩
abbrev S1x1x1 : Shape := ⟨3, ![1, 1, 1]⟩
abbrev S1x1x128x256 : Shape := ⟨4, ![1, 1, 128, 256]⟩
abbrev S128x256 : Shape := ⟨2, ![128, 256]⟩
abbrev S1x1x256 : Shape := ⟨3, ![1, 1, 256]⟩
abbrev S1x256 : Shape := ⟨2, ![1, 256]⟩
abbrev S64x256 : Shape := ⟨2, ![64, 256]⟩
abbrev S32x256 : Shape := ⟨2, ![32, 256]⟩
abbrev S1x256x128 : Shape := ⟨3, ![1, 256, 128]⟩
abbrev S1x1x256x128 : Shape := ⟨4, ![1, 1, 256, 128]⟩
abbrev S256x256 : Shape := ⟨2, ![256, 256]⟩
abbrev S1x1x256x256 : Shape := ⟨4, ![1, 1, 256, 256]⟩
abbrev S16x8x256 : Shape := ⟨3, ![16, 8, 256]⟩
abbrev S8x256 : Shape := ⟨2, ![8, 256]⟩
abbrev S8x128 : Shape := ⟨2, ![8, 128]⟩
abbrev S1x1x8x128 : Shape := ⟨4, ![1, 1, 8, 128]⟩
abbrev S1x8x128 : Shape := ⟨3, ![1, 8, 128]⟩
abbrev S40x1408x2048 : Shape := ⟨3, ![40, 1408, 2048]⟩
abbrev S40x1408x32 : Shape := ⟨3, ![40, 1408, 32]⟩

abbrev nBuf : Space → Nat
  | .hbm => 8
  | .vmem => 10
  | .smem => 1
  | _ => 0

abbrev bufTy : (tb : Table) → Fin (tcTables nBuf tb) → BufTy
  | .hbm, ⟨0, _⟩ => ⟨S40x1408x4096, .bf16⟩
  | .hbm, ⟨1, _⟩ => ⟨S4096, .f32⟩
  | .hbm, ⟨2, _⟩ => ⟨S1x4096, .f32⟩
  | .hbm, ⟨3, _⟩ => ⟨S20x2816x4096, .bf16⟩
  | .hbm, ⟨4, _⟩ => ⟨S20x2816x2048, .i8⟩
  | .hbm, ⟨5, _⟩ => ⟨S40x32x1408, .f32⟩
  | .hbm, ⟨6, _⟩ => ⟨S40x1408x2048, .i8⟩
  | .hbm, ⟨7, _⟩ => ⟨S40x1408x32, .f32⟩
  | .local _ .vmem, ⟨0, _⟩ => ⟨S1x4096, .f32⟩
  | .local _ .vmem, ⟨1, _⟩ => ⟨S1x2816x512, .i8⟩
  | .local _ .vmem, ⟨2, _⟩ => ⟨S1x2816x512, .i8⟩
  | .local _ .vmem, ⟨3, _⟩ => ⟨S2x8x1408, .f32⟩
  | .local _ .vmem, ⟨4, _⟩ => ⟨S2x8x1408, .f32⟩
  | .local _ .vmem, ⟨5, _⟩ => ⟨S3x8x2816x128, .bf16⟩
  | .local _ .vmem, ⟨6, _⟩ => ⟨S3x16x2x256x128, .bf16⟩
  | .local _ .vmem, ⟨7, _⟩ => ⟨S11x4x256x256, .f32⟩
  | .local _ .vmem, ⟨8, _⟩ => ⟨S11x8x256, .f32⟩
  | .local _ .vmem, ⟨9, _⟩ => ⟨S11x2x72x128, .f32⟩
  | .local _ .smem, ⟨0, _⟩ => ⟨S1, .i32⟩
  | _, _ => ⟨S40x1408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![81], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_11 : BitVec 32) : Fin 1 → Nat :=
  let c3_i32_12 : BitVec 32 := 3#32
  let v23 : BitVec 32 := Scalar.remsi c0_i32_11 c3_i32_12
  ![v23.toNat]
def k0_off2 (c0_i32_11 : BitVec 32) : Fin 4 → Nat :=
  let c3_i32_12 : BitVec 32 := 3#32
  let v23 : BitVec 32 := Scalar.remsi c0_i32_11 c3_i32_12
  let c0_i32_18 : BitVec 32 := 0#32
  let c0_i32_19 : BitVec 32 := 0#32
  let c0_i32_20 : BitVec 32 := 0#32
  ![v23.toNat, 0, 0, 0]
def k0_off3 (c0_i32_13 : BitVec 32) (c0_i32_15 : BitVec 32) (c0_i32_17 : BitVec 32) : Fin 3 → Nat :=
  let c4_i32_14 : BitVec 32 := 4#32
  let v24 : BitVec 32 := Scalar.divsi c0_i32_13 c4_i32_14
  let c0_i32_21 : BitVec 32 := 0#32
  let c4_i32_16 : BitVec 32 := 4#32
  let v25 : BitVec 32 := Scalar.remsi c0_i32_15 c4_i32_16
  let c8_i32 : BitVec 32 := 8#32
  let v26 : BitVec 32 := Scalar.muli v25 c8_i32
  let v27 : BitVec 32 := Scalar.addi v26 c0_i32_17
  let c128_i32 : BitVec 32 := 128#32
  let v28 : BitVec 32 := Scalar.muli v27 c128_i32
  ![v24.toNat, 0, v28.toNat]
def k0_off3_at (r : Fin 16) : BitVec 32 × BitVec 32 × BitVec 32 :=
  if r.val < 8 then
    if r.val < 4 then
      if r.val < 2 then
        if r.val < 1 then
          (0#32, 0#32, 0#32)
        else
          (0#32, 0#32, 1#32)
      else
        if r.val < 3 then
          (0#32, 0#32, 2#32)
        else
          (0#32, 0#32, 3#32)
    else
      if r.val < 6 then
        if r.val < 5 then
          (0#32, 0#32, 4#32)
        else
          (0#32, 0#32, 5#32)
      else
        if r.val < 7 then
          (0#32, 0#32, 6#32)
        else
          (0#32, 0#32, 7#32)
  else
    if r.val < 12 then
      if r.val < 10 then
        if r.val < 9 then
          (1#32, 1#32, 0#32)
        else
          (1#32, 1#32, 1#32)
      else
        if r.val < 11 then
          (1#32, 1#32, 2#32)
        else
          (1#32, 1#32, 3#32)
    else
      if r.val < 14 then
        if r.val < 13 then
          (1#32, 1#32, 4#32)
        else
          (1#32, 1#32, 5#32)
      else
        if r.val < 15 then
          (1#32, 1#32, 6#32)
        else
          (1#32, 1#32, 7#32)
def k0_off4 (c0_i32_22 : BitVec 32) : Fin 4 → Nat :=
  let c3_i32_23 : BitVec 32 := 3#32
  let v35 : BitVec 32 := Scalar.remsi c0_i32_22 c3_i32_23
  let c1_i32_31 : BitVec 32 := 1#32
  let c0_i32_32 : BitVec 32 := 0#32
  let c0_i32_33 : BitVec 32 := 0#32
  ![v35.toNat, 1, 0, 0]
def k0_off5 (c0_i32_35 : BitVec 32) : Fin 4 → Nat :=
  let c3_i32_36 : BitVec 32 := 3#32
  let v47 : BitVec 32 := Scalar.remsi c0_i32_35 c3_i32_36
  let c2_i32_43 : BitVec 32 := 2#32
  let c0_i32_44 : BitVec 32 := 0#32
  let c0_i32_45 : BitVec 32 := 0#32
  ![v47.toNat, 2, 0, 0]
def k0_off6 (c0_i32_47 : BitVec 32) : Fin 4 → Nat :=
  let c3_i32_48 : BitVec 32 := 3#32
  let v59 : BitVec 32 := Scalar.remsi c0_i32_47 c3_i32_48
  let c3_i32_56 : BitVec 32 := 3#32
  let c0_i32_57 : BitVec 32 := 0#32
  let c0_i32_58 : BitVec 32 := 0#32
  ![v59.toNat, 3, 0, 0]
def k0_off7 (c0_i32_60 : BitVec 32) : Fin 4 → Nat :=
  let c3_i32_61 : BitVec 32 := 3#32
  let v71 : BitVec 32 := Scalar.remsi c0_i32_60 c3_i32_61
  let c4_i32_69 : BitVec 32 := 4#32
  let c0_i32_70 : BitVec 32 := 0#32
  let c0_i32_71 : BitVec 32 := 0#32
  ![v71.toNat, 4, 0, 0]
def k0_off8 (c0_i32_73 : BitVec 32) : Fin 4 → Nat :=
  let c3_i32_74 : BitVec 32 := 3#32
  let v83 : BitVec 32 := Scalar.remsi c0_i32_73 c3_i32_74
  let c5_i32_81 : BitVec 32 := 5#32
  let c0_i32_82 : BitVec 32 := 0#32
  let c0_i32_83 : BitVec 32 := 0#32
  ![v83.toNat, 5, 0, 0]
def k0_off9 (c0_i32_85 : BitVec 32) : Fin 4 → Nat :=
  let c3_i32_86 : BitVec 32 := 3#32
  let v95 : BitVec 32 := Scalar.remsi c0_i32_85 c3_i32_86
  let c6_i32_93 : BitVec 32 := 6#32
  let c0_i32_94 : BitVec 32 := 0#32
  let c0_i32_95 : BitVec 32 := 0#32
  ![v95.toNat, 6, 0, 0]
def k0_off10 (c0_i32_97 : BitVec 32) : Fin 4 → Nat :=
  let c3_i32_98 : BitVec 32 := 3#32
  let v107 : BitVec 32 := Scalar.remsi c0_i32_97 c3_i32_98
  let c7_i32_105 : BitVec 32 := 7#32
  let c0_i32_106 : BitVec 32 := 0#32
  let c0_i32_107 : BitVec 32 := 0#32
  ![v107.toNat, 7, 0, 0]
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c80_i32 : BitVec 32 := 80#32
  let v5 : BitVec 1 := Scalar.cmpi .slt v4 c80_i32
  let v6 : BitVec 32 := Scalar.extui v5
  let c0_i32_1 : BitVec 32 := 0#32
  let v7 : BitVec 1 := Scalar.cmpi .ne v6 c0_i32_1
  v7

def k0_off11 (i : grid0.Coords) : Fin 1 → Nat :=
  let arg0 : BitVec 32 := BitVec.ofNat 32 (i 0).val
  let c3_i32_11 : BitVec 32 := 3#32
  let v23 : BitVec 32 := Scalar.addi arg0 c3_i32_11
  let c1_i32_12 : BitVec 32 := 1#32
  let v24 : BitVec 32 := Scalar.subi v23 c1_i32_12
  let c3_i32_13 : BitVec 32 := 3#32
  let v25 : BitVec 32 := Scalar.remsi v24 c3_i32_13
  ![v25.toNat]
def k0_off12 (i : grid0.Coords) : Fin 4 → Nat :=
  let arg0 : BitVec 32 := BitVec.ofNat 32 (i 0).val
  let c3_i32_11 : BitVec 32 := 3#32
  let v23 : BitVec 32 := Scalar.addi arg0 c3_i32_11
  let c1_i32_12 : BitVec 32 := 1#32
  let v24 : BitVec 32 := Scalar.subi v23 c1_i32_12
  let c3_i32_13 : BitVec 32 := 3#32
  let v25 : BitVec 32 := Scalar.remsi v24 c3_i32_13
  let c0_i32_17 : BitVec 32 := 0#32
  let c0_i32_18 : BitVec 32 := 0#32
  let c0_i32_19 : BitVec 32 := 0#32
  ![v25.toNat, 0, 0, 0]
def k0_off13 (i : grid0.Coords) (c0_i32_16 : BitVec 32) : Fin 3 → Nat :=
  let arg0 : BitVec 32 := BitVec.ofNat 32 (i 0).val
  let c3_i32_11 : BitVec 32 := 3#32
  let v23 : BitVec 32 := Scalar.addi arg0 c3_i32_11
  let c1_i32_12 : BitVec 32 := 1#32
  let v24 : BitVec 32 := Scalar.subi v23 c1_i32_12
  let c4_i32_14 : BitVec 32 := 4#32
  let v26 : BitVec 32 := Scalar.divsi v24 c4_i32_14
  let c0_i32_20 : BitVec 32 := 0#32
  let c4_i32_15 : BitVec 32 := 4#32
  let v27 : BitVec 32 := Scalar.remsi v24 c4_i32_15
  let c8_i32 : BitVec 32 := 8#32
  let v28 : BitVec 32 := Scalar.muli v27 c8_i32
  let v29 : BitVec 32 := Scalar.addi v28 c0_i32_16
  let c128_i32 : BitVec 32 := 128#32
  let v30 : BitVec 32 := Scalar.muli v29 c128_i32
  ![v26.toNat, 0, v30.toNat]
def k0_off14 (i : grid0.Coords) : Fin 4 → Nat :=
  let arg0 : BitVec 32 := BitVec.ofNat 32 (i 0).val
  let c3_i32_11 : BitVec 32 := 3#32
  let v23 : BitVec 32 := Scalar.addi arg0 c3_i32_11
  let c1_i32_12 : BitVec 32 := 1#32
  let v24 : BitVec 32 := Scalar.subi v23 c1_i32_12
  let c3_i32_21 : BitVec 32 := 3#32
  let v37 : BitVec 32 := Scalar.remsi v24 c3_i32_21
  let c1_i32_27 : BitVec 32 := 1#32
  let c0_i32_28 : BitVec 32 := 0#32
  let c0_i32_29 : BitVec 32 := 0#32
  ![v37.toNat, 1, 0, 0]
def k0_off15 (i : grid0.Coords) : Fin 4 → Nat :=
  let arg0 : BitVec 32 := BitVec.ofNat 32 (i 0).val
  let c3_i32_11 : BitVec 32 := 3#32
  let v23 : BitVec 32 := Scalar.addi arg0 c3_i32_11
  let c1_i32_12 : BitVec 32 := 1#32
  let v24 : BitVec 32 := Scalar.subi v23 c1_i32_12
  let c3_i32_31 : BitVec 32 := 3#32
  let v49 : BitVec 32 := Scalar.remsi v24 c3_i32_31
  let c2_i32_36 : BitVec 32 := 2#32
  let c0_i32_37 : BitVec 32 := 0#32
  let c0_i32_38 : BitVec 32 := 0#32
  ![v49.toNat, 2, 0, 0]
def k0_off16 (i : grid0.Coords) : Fin 4 → Nat :=
  let arg0 : BitVec 32 := BitVec.ofNat 32 (i 0).val
  let c3_i32_11 : BitVec 32 := 3#32
  let v23 : BitVec 32 := Scalar.addi arg0 c3_i32_11
  let c1_i32_12 : BitVec 32 := 1#32
  let v24 : BitVec 32 := Scalar.subi v23 c1_i32_12
  let c3_i32_40 : BitVec 32 := 3#32
  let v61 : BitVec 32 := Scalar.remsi v24 c3_i32_40
  let c3_i32_46 : BitVec 32 := 3#32
  let c0_i32_47 : BitVec 32 := 0#32
  let c0_i32_48 : BitVec 32 := 0#32
  ![v61.toNat, 3, 0, 0]
def k0_off17 (i : grid0.Coords) : Fin 4 → Nat :=
  let arg0 : BitVec 32 := BitVec.ofNat 32 (i 0).val
  let c3_i32_11 : BitVec 32 := 3#32
  let v23 : BitVec 32 := Scalar.addi arg0 c3_i32_11
  let c1_i32_12 : BitVec 32 := 1#32
  let v24 : BitVec 32 := Scalar.subi v23 c1_i32_12
  let c3_i32_50 : BitVec 32 := 3#32
  let v73 : BitVec 32 := Scalar.remsi v24 c3_i32_50
  let c4_i32_56 : BitVec 32 := 4#32
  let c0_i32_57 : BitVec 32 := 0#32
  let c0_i32_58 : BitVec 32 := 0#32
  ![v73.toNat, 4, 0, 0]
def k0_off18 (i : grid0.Coords) : Fin 4 → Nat :=
  let arg0 : BitVec 32 := BitVec.ofNat 32 (i 0).val
  let c3_i32_11 : BitVec 32 := 3#32
  let v23 : BitVec 32 := Scalar.addi arg0 c3_i32_11
  let c1_i32_12 : BitVec 32 := 1#32
  let v24 : BitVec 32 := Scalar.subi v23 c1_i32_12
  let c3_i32_60 : BitVec 32 := 3#32
  let v85 : BitVec 32 := Scalar.remsi v24 c3_i32_60
  let c5_i32_65 : BitVec 32 := 5#32
  let c0_i32_66 : BitVec 32 := 0#32
  let c0_i32_67 : BitVec 32 := 0#32
  ![v85.toNat, 5, 0, 0]
def k0_off19 (i : grid0.Coords) : Fin 4 → Nat :=
  let arg0 : BitVec 32 := BitVec.ofNat 32 (i 0).val
  let c3_i32_11 : BitVec 32 := 3#32
  let v23 : BitVec 32 := Scalar.addi arg0 c3_i32_11
  let c1_i32_12 : BitVec 32 := 1#32
  let v24 : BitVec 32 := Scalar.subi v23 c1_i32_12
  let c3_i32_69 : BitVec 32 := 3#32
  let v97 : BitVec 32 := Scalar.remsi v24 c3_i32_69
  let c6_i32_74 : BitVec 32 := 6#32
  let c0_i32_75 : BitVec 32 := 0#32
  let c0_i32_76 : BitVec 32 := 0#32
  ![v97.toNat, 6, 0, 0]
def k0_off20 (i : grid0.Coords) : Fin 4 → Nat :=
  let arg0 : BitVec 32 := BitVec.ofNat 32 (i 0).val
  let c3_i32_11 : BitVec 32 := 3#32
  let v23 : BitVec 32 := Scalar.addi arg0 c3_i32_11
  let c1_i32_12 : BitVec 32 := 1#32
  let v24 : BitVec 32 := Scalar.subi v23 c1_i32_12
  let c3_i32_78 : BitVec 32 := 3#32
  let v109 : BitVec 32 := Scalar.remsi v24 c3_i32_78
  let c7_i32_83 : BitVec 32 := 7#32
  let c0_i32_84 : BitVec 32 := 0#32
  let c0_i32_85 : BitVec 32 := 0#32
  ![v109.toNat, 7, 0, 0]
def k0_cond3 (i : grid0.Coords) : BitVec 1 :=
  let arg0 : BitVec 32 := BitVec.ofNat 32 (i 0).val
  let c80_i32_2 : BitVec 32 := 80#32
  let v8 : BitVec 1 := Scalar.cmpi .slt arg0 c80_i32_2
  let v9 : BitVec 32 := Scalar.extui v8
  let c0_i32_3 : BitVec 32 := 0#32
  let v10 : BitVec 1 := Scalar.cmpi .ne v9 c0_i32_3
  v10

def k0_off21 (i : grid0.Coords) : Fin 1 → Nat :=
  let arg0 : BitVec 32 := BitVec.ofNat 32 (i 0).val
  let c3_i32_11 : BitVec 32 := 3#32
  let v23 : BitVec 32 := Scalar.remsi arg0 c3_i32_11
  ![v23.toNat]
def k0_off22 (i : grid0.Coords) : Fin 4 → Nat :=
  let arg0 : BitVec 32 := BitVec.ofNat 32 (i 0).val
  let c3_i32_11 : BitVec 32 := 3#32
  let v23 : BitVec 32 := Scalar.remsi arg0 c3_i32_11
  let c0_i32_15 : BitVec 32 := 0#32
  let c0_i32_16 : BitVec 32 := 0#32
  let c0_i32_17 : BitVec 32 := 0#32
  ![v23.toNat, 0, 0, 0]
def k0_off23 (i : grid0.Coords) (c0_i32_14 : BitVec 32) : Fin 3 → Nat :=
  let arg0 : BitVec 32 := BitVec.ofNat 32 (i 0).val
  let c4_i32_12 : BitVec 32 := 4#32
  let v24 : BitVec 32 := Scalar.divsi arg0 c4_i32_12
  let c0_i32_18 : BitVec 32 := 0#32
  let c4_i32_13 : BitVec 32 := 4#32
  let v25 : BitVec 32 := Scalar.remsi arg0 c4_i32_13
  let c8_i32 : BitVec 32 := 8#32
  let v26 : BitVec 32 := Scalar.muli v25 c8_i32
  let v27 : BitVec 32 := Scalar.addi v26 c0_i32_14
  let c128_i32 : BitVec 32 := 128#32
  let v28 : BitVec 32 := Scalar.muli v27 c128_i32
  ![v24.toNat, 0, v28.toNat]
def k0_off24 (i : grid0.Coords) : Fin 4 → Nat :=
  let arg0 : BitVec 32 := BitVec.ofNat 32 (i 0).val
  let c3_i32_19 : BitVec 32 := 3#32
  let v35 : BitVec 32 := Scalar.remsi arg0 c3_i32_19
  let c1_i32_25 : BitVec 32 := 1#32
  let c0_i32_26 : BitVec 32 := 0#32
  let c0_i32_27 : BitVec 32 := 0#32
  ![v35.toNat, 1, 0, 0]
def k0_off25 (i : grid0.Coords) : Fin 4 → Nat :=
  let arg0 : BitVec 32 := BitVec.ofNat 32 (i 0).val
  let c3_i32_29 : BitVec 32 := 3#32
  let v47 : BitVec 32 := Scalar.remsi arg0 c3_i32_29
  let c2_i32_34 : BitVec 32 := 2#32
  let c0_i32_35 : BitVec 32 := 0#32
  let c0_i32_36 : BitVec 32 := 0#32
  ![v47.toNat, 2, 0, 0]
def k0_off26 (i : grid0.Coords) : Fin 4 → Nat :=
  let arg0 : BitVec 32 := BitVec.ofNat 32 (i 0).val
  let c3_i32_38 : BitVec 32 := 3#32
  let v59 : BitVec 32 := Scalar.remsi arg0 c3_i32_38
  let c3_i32_44 : BitVec 32 := 3#32
  let c0_i32_45 : BitVec 32 := 0#32
  let c0_i32_46 : BitVec 32 := 0#32
  ![v59.toNat, 3, 0, 0]
def k0_off27 (i : grid0.Coords) : Fin 4 → Nat :=
  let arg0 : BitVec 32 := BitVec.ofNat 32 (i 0).val
  let c3_i32_48 : BitVec 32 := 3#32
  let v71 : BitVec 32 := Scalar.remsi arg0 c3_i32_48
  let c4_i32_54 : BitVec 32 := 4#32
  let c0_i32_55 : BitVec 32 := 0#32
  let c0_i32_56 : BitVec 32 := 0#32
  ![v71.toNat, 4, 0, 0]
def k0_off28 (i : grid0.Coords) : Fin 4 → Nat :=
  let arg0 : BitVec 32 := BitVec.ofNat 32 (i 0).val
  let c3_i32_58 : BitVec 32 := 3#32
  let v83 : BitVec 32 := Scalar.remsi arg0 c3_i32_58
  let c5_i32_63 : BitVec 32 := 5#32
  let c0_i32_64 : BitVec 32 := 0#32
  let c0_i32_65 : BitVec 32 := 0#32
  ![v83.toNat, 5, 0, 0]
def k0_off29 (i : grid0.Coords) : Fin 4 → Nat :=
  let arg0 : BitVec 32 := BitVec.ofNat 32 (i 0).val
  let c3_i32_67 : BitVec 32 := 3#32
  let v95 : BitVec 32 := Scalar.remsi arg0 c3_i32_67
  let c6_i32_72 : BitVec 32 := 6#32
  let c0_i32_73 : BitVec 32 := 0#32
  let c0_i32_74 : BitVec 32 := 0#32
  ![v95.toNat, 6, 0, 0]
def k0_off30 (i : grid0.Coords) : Fin 4 → Nat :=
  let arg0 : BitVec 32 := BitVec.ofNat 32 (i 0).val
  let c3_i32_76 : BitVec 32 := 3#32
  let v107 : BitVec 32 := Scalar.remsi arg0 c3_i32_76
  let c7_i32_81 : BitVec 32 := 7#32
  let c0_i32_82 : BitVec 32 := 0#32
  let c0_i32_83 : BitVec 32 := 0#32
  ![v107.toNat, 7, 0, 0]
def k0_off31 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v76 : Index := Scalar.indexCast v12
  let c0_33 : Index := 0#32
  let c0_34 : Index := 0#32
  let c0_35 : Index := 0#32
  ![v76.toNat, 0, 0, 0]
def k0_off32 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v79 : Index := Scalar.indexCast v12
  let c1_36 : Index := 1#32
  let c0_37 : Index := 0#32
  let c0_38 : Index := 0#32
  ![v79.toNat, 1, 0, 0]
def k0_off33 (i : grid0.Coords) (c0_i32_39 : BitVec 32) : Fin 5 → Nat :=
  let c0_40 : Index := 0#32
  let arg0 : BitVec 32 := BitVec.ofNat 32 (i 0).val
  let c79_i32 : BitVec 32 := 79#32
  let v11 : BitVec 32 := Scalar.minsi arg0 c79_i32
  let c4_i32 : BitVec 32 := 4#32
  let v13 : BitVec 32 := Scalar.remsi v11 c4_i32
  let c4_i32_5 : BitVec 32 := 4#32
  let v14 : BitVec 32 := Scalar.muli v13 c4_i32_5
  let v83 : BitVec 32 := Scalar.addi v14 c0_i32_39
  let v84 : Index := Scalar.indexCast v83
  let c0_41 : Index := 0#32
  let c0_42 : Index := 0#32
  let c0_43 : Index := 0#32
  ![0, v84.toNat, 0, 0, 0]
def k0_off34 (i : grid0.Coords) (c0_i32_39 : BitVec 32) : Fin 5 → Nat :=
  let c0_44 : Index := 0#32
  let arg0 : BitVec 32 := BitVec.ofNat 32 (i 0).val
  let c79_i32 : BitVec 32 := 79#32
  let v11 : BitVec 32 := Scalar.minsi arg0 c79_i32
  let c4_i32 : BitVec 32 := 4#32
  let v13 : BitVec 32 := Scalar.remsi v11 c4_i32
  let c4_i32_5 : BitVec 32 := 4#32
  let v14 : BitVec 32 := Scalar.muli v13 c4_i32_5
  let v83 : BitVec 32 := Scalar.addi v14 c0_i32_39
  let v87 : Index := Scalar.indexCast v83
  let c1_45 : Index := 1#32
  let c0_46 : Index := 0#32
  let c0_47 : Index := 0#32
  ![0, v87.toNat, 1, 0, 0]
def k0_off35 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v172 : Index := Scalar.indexCast v12
  let c2_96 : Index := 2#32
  let c0_97 : Index := 0#32
  let c0_98 : Index := 0#32
  ![v172.toNat, 2, 0, 0]
def k0_off36 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v175 : Index := Scalar.indexCast v12
  let c3_99 : Index := 3#32
  let c0_100 : Index := 0#32
  let c0_101 : Index := 0#32
  ![v175.toNat, 3, 0, 0]
def k0_off37 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v268 : Index := Scalar.indexCast v12
  let c4_158 : Index := 4#32
  let c0_159 : Index := 0#32
  let c0_160 : Index := 0#32
  ![v268.toNat, 4, 0, 0]
def k0_off38 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v271 : Index := Scalar.indexCast v12
  let c5_161 : Index := 5#32
  let c0_162 : Index := 0#32
  let c0_163 : Index := 0#32
  ![v271.toNat, 5, 0, 0]
def k0_off39 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v364 : Index := Scalar.indexCast v12
  let c6_219 : Index := 6#32
  let c0_220 : Index := 0#32
  let c0_221 : Index := 0#32
  ![v364.toNat, 6, 0, 0]
def k0_off40 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v367 : Index := Scalar.indexCast v12
  let c7_222 : Index := 7#32
  let c0_223 : Index := 0#32
  let c0_224 : Index := 0#32
  ![v367.toNat, 7, 0, 0]
def k0_off41 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v538 : Index := Scalar.indexCast v12
  let c0_363 : Index := 0#32
  let c256_364 : Index := 256#32
  let c0_365 : Index := 0#32
  ![v538.toNat, 0, 256, 0]
def k0_off42 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v541 : Index := Scalar.indexCast v12
  let c1_366 : Index := 1#32
  let c256_367 : Index := 256#32
  let c0_368 : Index := 0#32
  ![v541.toNat, 1, 256, 0]
def k0_off43 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v634 : Index := Scalar.indexCast v12
  let c2_428 : Index := 2#32
  let c256_429 : Index := 256#32
  let c0_430 : Index := 0#32
  ![v634.toNat, 2, 256, 0]
def k0_off44 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v637 : Index := Scalar.indexCast v12
  let c3_431 : Index := 3#32
  let c256_432 : Index := 256#32
  let c0_433 : Index := 0#32
  ![v637.toNat, 3, 256, 0]
def k0_off45 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v730 : Index := Scalar.indexCast v12
  let c4_493 : Index := 4#32
  let c256_494 : Index := 256#32
  let c0_495 : Index := 0#32
  ![v730.toNat, 4, 256, 0]
def k0_off46 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v733 : Index := Scalar.indexCast v12
  let c5_496 : Index := 5#32
  let c256_497 : Index := 256#32
  let c0_498 : Index := 0#32
  ![v733.toNat, 5, 256, 0]
def k0_off47 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v826 : Index := Scalar.indexCast v12
  let c6_558 : Index := 6#32
  let c256_559 : Index := 256#32
  let c0_560 : Index := 0#32
  ![v826.toNat, 6, 256, 0]
def k0_off48 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v829 : Index := Scalar.indexCast v12
  let c7_561 : Index := 7#32
  let c256_562 : Index := 256#32
  let c0_563 : Index := 0#32
  ![v829.toNat, 7, 256, 0]
def k0_off49 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1000 : Index := Scalar.indexCast v12
  let c0_708 : Index := 0#32
  let c512_709 : Index := 512#32
  let c0_710 : Index := 0#32
  ![v1000.toNat, 0, 512, 0]
def k0_off50 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1003 : Index := Scalar.indexCast v12
  let c1_711 : Index := 1#32
  let c512_712 : Index := 512#32
  let c0_713 : Index := 0#32
  ![v1003.toNat, 1, 512, 0]
def k0_off51 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1096 : Index := Scalar.indexCast v12
  let c2_773 : Index := 2#32
  let c512_774 : Index := 512#32
  let c0_775 : Index := 0#32
  ![v1096.toNat, 2, 512, 0]
def k0_off52 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1099 : Index := Scalar.indexCast v12
  let c3_776 : Index := 3#32
  let c512_777 : Index := 512#32
  let c0_778 : Index := 0#32
  ![v1099.toNat, 3, 512, 0]
def k0_off53 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1192 : Index := Scalar.indexCast v12
  let c4_838 : Index := 4#32
  let c512_839 : Index := 512#32
  let c0_840 : Index := 0#32
  ![v1192.toNat, 4, 512, 0]
def k0_off54 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1195 : Index := Scalar.indexCast v12
  let c5_841 : Index := 5#32
  let c512_842 : Index := 512#32
  let c0_843 : Index := 0#32
  ![v1195.toNat, 5, 512, 0]
def k0_off55 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1288 : Index := Scalar.indexCast v12
  let c6_903 : Index := 6#32
  let c512_904 : Index := 512#32
  let c0_905 : Index := 0#32
  ![v1288.toNat, 6, 512, 0]
def k0_off56 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1291 : Index := Scalar.indexCast v12
  let c7_906 : Index := 7#32
  let c512_907 : Index := 512#32
  let c0_908 : Index := 0#32
  ![v1291.toNat, 7, 512, 0]
def k0_off57 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1462 : Index := Scalar.indexCast v12
  let c0_1052 : Index := 0#32
  let c768_1053 : Index := 768#32
  let c0_1054 : Index := 0#32
  ![v1462.toNat, 0, 768, 0]
def k0_off58 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1465 : Index := Scalar.indexCast v12
  let c1_1055 : Index := 1#32
  let c768_1056 : Index := 768#32
  let c0_1057 : Index := 0#32
  ![v1465.toNat, 1, 768, 0]
def k0_off59 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1558 : Index := Scalar.indexCast v12
  let c2_1117 : Index := 2#32
  let c768_1118 : Index := 768#32
  let c0_1119 : Index := 0#32
  ![v1558.toNat, 2, 768, 0]
def k0_off60 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1561 : Index := Scalar.indexCast v12
  let c3_1120 : Index := 3#32
  let c768_1121 : Index := 768#32
  let c0_1122 : Index := 0#32
  ![v1561.toNat, 3, 768, 0]
def k0_off61 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1654 : Index := Scalar.indexCast v12
  let c4_1182 : Index := 4#32
  let c768_1183 : Index := 768#32
  let c0_1184 : Index := 0#32
  ![v1654.toNat, 4, 768, 0]
def k0_off62 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1657 : Index := Scalar.indexCast v12
  let c5_1185 : Index := 5#32
  let c768_1186 : Index := 768#32
  let c0_1187 : Index := 0#32
  ![v1657.toNat, 5, 768, 0]
def k0_off63 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1750 : Index := Scalar.indexCast v12
  let c6_1247 : Index := 6#32
  let c768_1248 : Index := 768#32
  let c0_1249 : Index := 0#32
  ![v1750.toNat, 6, 768, 0]
def k0_off64 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1753 : Index := Scalar.indexCast v12
  let c7_1250 : Index := 7#32
  let c768_1251 : Index := 768#32
  let c0_1252 : Index := 0#32
  ![v1753.toNat, 7, 768, 0]
def k0_off65 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1924 : Index := Scalar.indexCast v12
  let c0_1396 : Index := 0#32
  let c1024_1397 : Index := 1024#32
  let c0_1398 : Index := 0#32
  ![v1924.toNat, 0, 1024, 0]
def k0_off66 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1927 : Index := Scalar.indexCast v12
  let c1_1399 : Index := 1#32
  let c1024_1400 : Index := 1024#32
  let c0_1401 : Index := 0#32
  ![v1927.toNat, 1, 1024, 0]
def k0_off67 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2020 : Index := Scalar.indexCast v12
  let c2_1461 : Index := 2#32
  let c1024_1462 : Index := 1024#32
  let c0_1463 : Index := 0#32
  ![v2020.toNat, 2, 1024, 0]
def k0_off68 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2023 : Index := Scalar.indexCast v12
  let c3_1464 : Index := 3#32
  let c1024_1465 : Index := 1024#32
  let c0_1466 : Index := 0#32
  ![v2023.toNat, 3, 1024, 0]
def k0_off69 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2116 : Index := Scalar.indexCast v12
  let c4_1526 : Index := 4#32
  let c1024_1527 : Index := 1024#32
  let c0_1528 : Index := 0#32
  ![v2116.toNat, 4, 1024, 0]
def k0_off70 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2119 : Index := Scalar.indexCast v12
  let c5_1529 : Index := 5#32
  let c1024_1530 : Index := 1024#32
  let c0_1531 : Index := 0#32
  ![v2119.toNat, 5, 1024, 0]
def k0_off71 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2212 : Index := Scalar.indexCast v12
  let c6_1591 : Index := 6#32
  let c1024_1592 : Index := 1024#32
  let c0_1593 : Index := 0#32
  ![v2212.toNat, 6, 1024, 0]
def k0_off72 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2215 : Index := Scalar.indexCast v12
  let c7_1594 : Index := 7#32
  let c1024_1595 : Index := 1024#32
  let c0_1596 : Index := 0#32
  ![v2215.toNat, 7, 1024, 0]
def k0_off73 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2386 : Index := Scalar.indexCast v12
  let c0_1740 : Index := 0#32
  let c1280_1741 : Index := 1280#32
  let c0_1742 : Index := 0#32
  ![v2386.toNat, 0, 1280, 0]
def k0_off74 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2389 : Index := Scalar.indexCast v12
  let c1_1743 : Index := 1#32
  let c1280_1744 : Index := 1280#32
  let c0_1745 : Index := 0#32
  ![v2389.toNat, 1, 1280, 0]
def k0_off75 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2482 : Index := Scalar.indexCast v12
  let c2_1805 : Index := 2#32
  let c1280_1806 : Index := 1280#32
  let c0_1807 : Index := 0#32
  ![v2482.toNat, 2, 1280, 0]
def k0_off76 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2485 : Index := Scalar.indexCast v12
  let c3_1808 : Index := 3#32
  let c1280_1809 : Index := 1280#32
  let c0_1810 : Index := 0#32
  ![v2485.toNat, 3, 1280, 0]
def k0_off77 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2578 : Index := Scalar.indexCast v12
  let c4_1870 : Index := 4#32
  let c1280_1871 : Index := 1280#32
  let c0_1872 : Index := 0#32
  ![v2578.toNat, 4, 1280, 0]
def k0_off78 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2581 : Index := Scalar.indexCast v12
  let c5_1873 : Index := 5#32
  let c1280_1874 : Index := 1280#32
  let c0_1875 : Index := 0#32
  ![v2581.toNat, 5, 1280, 0]
def k0_off79 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2674 : Index := Scalar.indexCast v12
  let c6_1935 : Index := 6#32
  let c1280_1936 : Index := 1280#32
  let c0_1937 : Index := 0#32
  ![v2674.toNat, 6, 1280, 0]
def k0_off80 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2677 : Index := Scalar.indexCast v12
  let c7_1938 : Index := 7#32
  let c1280_1939 : Index := 1280#32
  let c0_1940 : Index := 0#32
  ![v2677.toNat, 7, 1280, 0]
def k0_off81 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2848 : Index := Scalar.indexCast v12
  let c0_2085 : Index := 0#32
  let c1536_2086 : Index := 1536#32
  let c0_2087 : Index := 0#32
  ![v2848.toNat, 0, 1536, 0]
def k0_off82 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2851 : Index := Scalar.indexCast v12
  let c1_2088 : Index := 1#32
  let c1536_2089 : Index := 1536#32
  let c0_2090 : Index := 0#32
  ![v2851.toNat, 1, 1536, 0]
def k0_off83 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2944 : Index := Scalar.indexCast v12
  let c2_2150 : Index := 2#32
  let c1536_2151 : Index := 1536#32
  let c0_2152 : Index := 0#32
  ![v2944.toNat, 2, 1536, 0]
def k0_off84 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2947 : Index := Scalar.indexCast v12
  let c3_2153 : Index := 3#32
  let c1536_2154 : Index := 1536#32
  let c0_2155 : Index := 0#32
  ![v2947.toNat, 3, 1536, 0]
def k0_off85 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3040 : Index := Scalar.indexCast v12
  let c4_2215 : Index := 4#32
  let c1536_2216 : Index := 1536#32
  let c0_2217 : Index := 0#32
  ![v3040.toNat, 4, 1536, 0]
def k0_off86 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3043 : Index := Scalar.indexCast v12
  let c5_2218 : Index := 5#32
  let c1536_2219 : Index := 1536#32
  let c0_2220 : Index := 0#32
  ![v3043.toNat, 5, 1536, 0]
def k0_off87 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3136 : Index := Scalar.indexCast v12
  let c6_2280 : Index := 6#32
  let c1536_2281 : Index := 1536#32
  let c0_2282 : Index := 0#32
  ![v3136.toNat, 6, 1536, 0]
def k0_off88 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3139 : Index := Scalar.indexCast v12
  let c7_2283 : Index := 7#32
  let c1536_2284 : Index := 1536#32
  let c0_2285 : Index := 0#32
  ![v3139.toNat, 7, 1536, 0]
def k0_off89 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3310 : Index := Scalar.indexCast v12
  let c0_2430 : Index := 0#32
  let c1792_2431 : Index := 1792#32
  let c0_2432 : Index := 0#32
  ![v3310.toNat, 0, 1792, 0]
def k0_off90 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3313 : Index := Scalar.indexCast v12
  let c1_2433 : Index := 1#32
  let c1792_2434 : Index := 1792#32
  let c0_2435 : Index := 0#32
  ![v3313.toNat, 1, 1792, 0]
def k0_off91 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3406 : Index := Scalar.indexCast v12
  let c2_2495 : Index := 2#32
  let c1792_2496 : Index := 1792#32
  let c0_2497 : Index := 0#32
  ![v3406.toNat, 2, 1792, 0]
def k0_off92 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3409 : Index := Scalar.indexCast v12
  let c3_2498 : Index := 3#32
  let c1792_2499 : Index := 1792#32
  let c0_2500 : Index := 0#32
  ![v3409.toNat, 3, 1792, 0]
def k0_off93 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3502 : Index := Scalar.indexCast v12
  let c4_2560 : Index := 4#32
  let c1792_2561 : Index := 1792#32
  let c0_2562 : Index := 0#32
  ![v3502.toNat, 4, 1792, 0]
def k0_off94 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3505 : Index := Scalar.indexCast v12
  let c5_2563 : Index := 5#32
  let c1792_2564 : Index := 1792#32
  let c0_2565 : Index := 0#32
  ![v3505.toNat, 5, 1792, 0]
def k0_off95 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3598 : Index := Scalar.indexCast v12
  let c6_2625 : Index := 6#32
  let c1792_2626 : Index := 1792#32
  let c0_2627 : Index := 0#32
  ![v3598.toNat, 6, 1792, 0]
def k0_off96 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3601 : Index := Scalar.indexCast v12
  let c7_2628 : Index := 7#32
  let c1792_2629 : Index := 1792#32
  let c0_2630 : Index := 0#32
  ![v3601.toNat, 7, 1792, 0]
def k0_off97 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3772 : Index := Scalar.indexCast v12
  let c0_2774 : Index := 0#32
  let c2048_2775 : Index := 2048#32
  let c0_2776 : Index := 0#32
  ![v3772.toNat, 0, 2048, 0]
def k0_off98 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3775 : Index := Scalar.indexCast v12
  let c1_2777 : Index := 1#32
  let c2048_2778 : Index := 2048#32
  let c0_2779 : Index := 0#32
  ![v3775.toNat, 1, 2048, 0]
def k0_off99 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3868 : Index := Scalar.indexCast v12
  let c2_2839 : Index := 2#32
  let c2048_2840 : Index := 2048#32
  let c0_2841 : Index := 0#32
  ![v3868.toNat, 2, 2048, 0]
def k0_off100 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3871 : Index := Scalar.indexCast v12
  let c3_2842 : Index := 3#32
  let c2048_2843 : Index := 2048#32
  let c0_2844 : Index := 0#32
  ![v3871.toNat, 3, 2048, 0]
def k0_off101 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3964 : Index := Scalar.indexCast v12
  let c4_2904 : Index := 4#32
  let c2048_2905 : Index := 2048#32
  let c0_2906 : Index := 0#32
  ![v3964.toNat, 4, 2048, 0]
def k0_off102 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3967 : Index := Scalar.indexCast v12
  let c5_2907 : Index := 5#32
  let c2048_2908 : Index := 2048#32
  let c0_2909 : Index := 0#32
  ![v3967.toNat, 5, 2048, 0]
def k0_off103 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4060 : Index := Scalar.indexCast v12
  let c6_2969 : Index := 6#32
  let c2048_2970 : Index := 2048#32
  let c0_2971 : Index := 0#32
  ![v4060.toNat, 6, 2048, 0]
def k0_off104 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4063 : Index := Scalar.indexCast v12
  let c7_2972 : Index := 7#32
  let c2048_2973 : Index := 2048#32
  let c0_2974 : Index := 0#32
  ![v4063.toNat, 7, 2048, 0]
def k0_off105 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4234 : Index := Scalar.indexCast v12
  let c0_3119 : Index := 0#32
  let c2304_3120 : Index := 2304#32
  let c0_3121 : Index := 0#32
  ![v4234.toNat, 0, 2304, 0]
def k0_off106 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4237 : Index := Scalar.indexCast v12
  let c1_3122 : Index := 1#32
  let c2304_3123 : Index := 2304#32
  let c0_3124 : Index := 0#32
  ![v4237.toNat, 1, 2304, 0]
def k0_off107 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4330 : Index := Scalar.indexCast v12
  let c2_3184 : Index := 2#32
  let c2304_3185 : Index := 2304#32
  let c0_3186 : Index := 0#32
  ![v4330.toNat, 2, 2304, 0]
def k0_off108 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4333 : Index := Scalar.indexCast v12
  let c3_3187 : Index := 3#32
  let c2304_3188 : Index := 2304#32
  let c0_3189 : Index := 0#32
  ![v4333.toNat, 3, 2304, 0]
def k0_off109 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4426 : Index := Scalar.indexCast v12
  let c4_3249 : Index := 4#32
  let c2304_3250 : Index := 2304#32
  let c0_3251 : Index := 0#32
  ![v4426.toNat, 4, 2304, 0]
def k0_off110 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4429 : Index := Scalar.indexCast v12
  let c5_3252 : Index := 5#32
  let c2304_3253 : Index := 2304#32
  let c0_3254 : Index := 0#32
  ![v4429.toNat, 5, 2304, 0]
def k0_off111 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4522 : Index := Scalar.indexCast v12
  let c6_3314 : Index := 6#32
  let c2304_3315 : Index := 2304#32
  let c0_3316 : Index := 0#32
  ![v4522.toNat, 6, 2304, 0]
def k0_off112 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4525 : Index := Scalar.indexCast v12
  let c7_3317 : Index := 7#32
  let c2304_3318 : Index := 2304#32
  let c0_3319 : Index := 0#32
  ![v4525.toNat, 7, 2304, 0]
def k0_off113 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4696 : Index := Scalar.indexCast v12
  let c0_3463 : Index := 0#32
  let c2560_3464 : Index := 2560#32
  let c0_3465 : Index := 0#32
  ![v4696.toNat, 0, 2560, 0]
def k0_off114 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4699 : Index := Scalar.indexCast v12
  let c1_3466 : Index := 1#32
  let c2560_3467 : Index := 2560#32
  let c0_3468 : Index := 0#32
  ![v4699.toNat, 1, 2560, 0]
def k0_off115 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4792 : Index := Scalar.indexCast v12
  let c2_3528 : Index := 2#32
  let c2560_3529 : Index := 2560#32
  let c0_3530 : Index := 0#32
  ![v4792.toNat, 2, 2560, 0]
def k0_off116 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4795 : Index := Scalar.indexCast v12
  let c3_3531 : Index := 3#32
  let c2560_3532 : Index := 2560#32
  let c0_3533 : Index := 0#32
  ![v4795.toNat, 3, 2560, 0]
def k0_off117 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4888 : Index := Scalar.indexCast v12
  let c4_3593 : Index := 4#32
  let c2560_3594 : Index := 2560#32
  let c0_3595 : Index := 0#32
  ![v4888.toNat, 4, 2560, 0]
def k0_off118 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4891 : Index := Scalar.indexCast v12
  let c5_3596 : Index := 5#32
  let c2560_3597 : Index := 2560#32
  let c0_3598 : Index := 0#32
  ![v4891.toNat, 5, 2560, 0]
def k0_off119 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4984 : Index := Scalar.indexCast v12
  let c6_3658 : Index := 6#32
  let c2560_3659 : Index := 2560#32
  let c0_3660 : Index := 0#32
  ![v4984.toNat, 6, 2560, 0]
def k0_off120 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4987 : Index := Scalar.indexCast v12
  let c7_3661 : Index := 7#32
  let c2560_3662 : Index := 2560#32
  let c0_3663 : Index := 0#32
  ![v4987.toNat, 7, 2560, 0]
def k0_off121 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v76 : Index := Scalar.indexCast v12
  let c0_33 : Index := 0#32
  let c0_34 : Index := 0#32
  let c0_35 : Index := 0#32
  ![v76.toNat, 0, 0, 0]
def k0_off122 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v79 : Index := Scalar.indexCast v12
  let c1_36 : Index := 1#32
  let c0_37 : Index := 0#32
  let c0_38 : Index := 0#32
  ![v79.toNat, 1, 0, 0]
def k0_off123 (i : grid0.Coords) (c0_i32_39 : BitVec 32) : Fin 5 → Nat :=
  let c0_40 : Index := 0#32
  let arg0 : BitVec 32 := BitVec.ofNat 32 (i 0).val
  let c79_i32 : BitVec 32 := 79#32
  let v11 : BitVec 32 := Scalar.minsi arg0 c79_i32
  let c4_i32 : BitVec 32 := 4#32
  let v13 : BitVec 32 := Scalar.remsi v11 c4_i32
  let c4_i32_5 : BitVec 32 := 4#32
  let v14 : BitVec 32 := Scalar.muli v13 c4_i32_5
  let v83 : BitVec 32 := Scalar.addi v14 c0_i32_39
  let v84 : Index := Scalar.indexCast v83
  let c0_41 : Index := 0#32
  let c0_42 : Index := 0#32
  let c0_43 : Index := 0#32
  ![0, v84.toNat, 0, 0, 0]
def k0_off124 (i : grid0.Coords) (c0_i32_39 : BitVec 32) : Fin 5 → Nat :=
  let c0_44 : Index := 0#32
  let arg0 : BitVec 32 := BitVec.ofNat 32 (i 0).val
  let c79_i32 : BitVec 32 := 79#32
  let v11 : BitVec 32 := Scalar.minsi arg0 c79_i32
  let c4_i32 : BitVec 32 := 4#32
  let v13 : BitVec 32 := Scalar.remsi v11 c4_i32
  let c4_i32_5 : BitVec 32 := 4#32
  let v14 : BitVec 32 := Scalar.muli v13 c4_i32_5
  let v83 : BitVec 32 := Scalar.addi v14 c0_i32_39
  let v87 : Index := Scalar.indexCast v83
  let c1_45 : Index := 1#32
  let c0_46 : Index := 0#32
  let c0_47 : Index := 0#32
  ![0, v87.toNat, 1, 0, 0]
def k0_off125 (i : grid0.Coords) (c0_i32_39 : BitVec 32) : Fin 5 → Nat :=
  let c1_49 : Index := 1#32
  let arg0 : BitVec 32 := BitVec.ofNat 32 (i 0).val
  let c79_i32 : BitVec 32 := 79#32
  let v11 : BitVec 32 := Scalar.minsi arg0 c79_i32
  let c4_i32 : BitVec 32 := 4#32
  let v13 : BitVec 32 := Scalar.remsi v11 c4_i32
  let c4_i32_5 : BitVec 32 := 4#32
  let v14 : BitVec 32 := Scalar.muli v13 c4_i32_5
  let v83 : BitVec 32 := Scalar.addi v14 c0_i32_39
  let v92 : Index := Scalar.indexCast v83
  let c0_50 : Index := 0#32
  let c0_51 : Index := 0#32
  let c0_52 : Index := 0#32
  ![1, v92.toNat, 0, 0, 0]
def k0_off126 (i : grid0.Coords) (c0_i32_39 : BitVec 32) : Fin 5 → Nat :=
  let c1_53 : Index := 1#32
  let arg0 : BitVec 32 := BitVec.ofNat 32 (i 0).val
  let c79_i32 : BitVec 32 := 79#32
  let v11 : BitVec 32 := Scalar.minsi arg0 c79_i32
  let c4_i32 : BitVec 32 := 4#32
  let v13 : BitVec 32 := Scalar.remsi v11 c4_i32
  let c4_i32_5 : BitVec 32 := 4#32
  let v14 : BitVec 32 := Scalar.muli v13 c4_i32_5
  let v83 : BitVec 32 := Scalar.addi v14 c0_i32_39
  let v95 : Index := Scalar.indexCast v83
  let c1_54 : Index := 1#32
  let c0_55 : Index := 0#32
  let c0_56 : Index := 0#32
  ![1, v95.toNat, 1, 0, 0]
def k0_off127 (i : grid0.Coords) (c0_i32_39 : BitVec 32) : Fin 5 → Nat :=
  let c2 : Index := 2#32
  let arg0 : BitVec 32 := BitVec.ofNat 32 (i 0).val
  let c79_i32 : BitVec 32 := 79#32
  let v11 : BitVec 32 := Scalar.minsi arg0 c79_i32
  let c4_i32 : BitVec 32 := 4#32
  let v13 : BitVec 32 := Scalar.remsi v11 c4_i32
  let c4_i32_5 : BitVec 32 := 4#32
  let v14 : BitVec 32 := Scalar.muli v13 c4_i32_5
  let v83 : BitVec 32 := Scalar.addi v14 c0_i32_39
  let v101 : Index := Scalar.indexCast v83
  let c0_58 : Index := 0#32
  let c0_59 : Index := 0#32
  let c0_60 : Index := 0#32
  ![2, v101.toNat, 0, 0, 0]
def k0_off128 (i : grid0.Coords) (c0_i32_39 : BitVec 32) : Fin 5 → Nat :=
  let c2_61 : Index := 2#32
  let arg0 : BitVec 32 := BitVec.ofNat 32 (i 0).val
  let c79_i32 : BitVec 32 := 79#32
  let v11 : BitVec 32 := Scalar.minsi arg0 c79_i32
  let c4_i32 : BitVec 32 := 4#32
  let v13 : BitVec 32 := Scalar.remsi v11 c4_i32
  let c4_i32_5 : BitVec 32 := 4#32
  let v14 : BitVec 32 := Scalar.muli v13 c4_i32_5
  let v83 : BitVec 32 := Scalar.addi v14 c0_i32_39
  let v104 : Index := Scalar.indexCast v83
  let c1_62 : Index := 1#32
  let c0_63 : Index := 0#32
  let c0_64 : Index := 0#32
  ![2, v104.toNat, 1, 0, 0]
def k0_off129 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v190 : Index := Scalar.indexCast v12
  let c2_114 : Index := 2#32
  let c0_115 : Index := 0#32
  let c0_116 : Index := 0#32
  ![v190.toNat, 2, 0, 0]
def k0_off130 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v193 : Index := Scalar.indexCast v12
  let c3_117 : Index := 3#32
  let c0_118 : Index := 0#32
  let c0_119 : Index := 0#32
  ![v193.toNat, 3, 0, 0]
def k0_off131 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v304 : Index := Scalar.indexCast v12
  let c4_194 : Index := 4#32
  let c0_195 : Index := 0#32
  let c0_196 : Index := 0#32
  ![v304.toNat, 4, 0, 0]
def k0_off132 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v307 : Index := Scalar.indexCast v12
  let c5_197 : Index := 5#32
  let c0_198 : Index := 0#32
  let c0_199 : Index := 0#32
  ![v307.toNat, 5, 0, 0]
def k0_off133 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v418 : Index := Scalar.indexCast v12
  let c6_273 : Index := 6#32
  let c0_274 : Index := 0#32
  let c0_275 : Index := 0#32
  ![v418.toNat, 6, 0, 0]
def k0_off134 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v421 : Index := Scalar.indexCast v12
  let c7_276 : Index := 7#32
  let c0_277 : Index := 0#32
  let c0_278 : Index := 0#32
  ![v421.toNat, 7, 0, 0]
def k0_off135 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v610 : Index := Scalar.indexCast v12
  let c0_435 : Index := 0#32
  let c256_436 : Index := 256#32
  let c0_437 : Index := 0#32
  ![v610.toNat, 0, 256, 0]
def k0_off136 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v613 : Index := Scalar.indexCast v12
  let c1_438 : Index := 1#32
  let c256_439 : Index := 256#32
  let c0_440 : Index := 0#32
  ![v613.toNat, 1, 256, 0]
def k0_off137 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v724 : Index := Scalar.indexCast v12
  let c2_518 : Index := 2#32
  let c256_519 : Index := 256#32
  let c0_520 : Index := 0#32
  ![v724.toNat, 2, 256, 0]
def k0_off138 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v727 : Index := Scalar.indexCast v12
  let c3_521 : Index := 3#32
  let c256_522 : Index := 256#32
  let c0_523 : Index := 0#32
  ![v727.toNat, 3, 256, 0]
def k0_off139 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v838 : Index := Scalar.indexCast v12
  let c4_601 : Index := 4#32
  let c256_602 : Index := 256#32
  let c0_603 : Index := 0#32
  ![v838.toNat, 4, 256, 0]
def k0_off140 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v841 : Index := Scalar.indexCast v12
  let c5_604 : Index := 5#32
  let c256_605 : Index := 256#32
  let c0_606 : Index := 0#32
  ![v841.toNat, 5, 256, 0]
def k0_off141 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v952 : Index := Scalar.indexCast v12
  let c6_684 : Index := 6#32
  let c256_685 : Index := 256#32
  let c0_686 : Index := 0#32
  ![v952.toNat, 6, 256, 0]
def k0_off142 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v955 : Index := Scalar.indexCast v12
  let c7_687 : Index := 7#32
  let c256_688 : Index := 256#32
  let c0_689 : Index := 0#32
  ![v955.toNat, 7, 256, 0]
def k0_off143 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1144 : Index := Scalar.indexCast v12
  let c0_852 : Index := 0#32
  let c512_853 : Index := 512#32
  let c0_854 : Index := 0#32
  ![v1144.toNat, 0, 512, 0]
def k0_off144 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1147 : Index := Scalar.indexCast v12
  let c1_855 : Index := 1#32
  let c512_856 : Index := 512#32
  let c0_857 : Index := 0#32
  ![v1147.toNat, 1, 512, 0]
def k0_off145 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1258 : Index := Scalar.indexCast v12
  let c2_935 : Index := 2#32
  let c512_936 : Index := 512#32
  let c0_937 : Index := 0#32
  ![v1258.toNat, 2, 512, 0]
def k0_off146 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1261 : Index := Scalar.indexCast v12
  let c3_938 : Index := 3#32
  let c512_939 : Index := 512#32
  let c0_940 : Index := 0#32
  ![v1261.toNat, 3, 512, 0]
def k0_off147 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1372 : Index := Scalar.indexCast v12
  let c4_1018 : Index := 4#32
  let c512_1019 : Index := 512#32
  let c0_1020 : Index := 0#32
  ![v1372.toNat, 4, 512, 0]
def k0_off148 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1375 : Index := Scalar.indexCast v12
  let c5_1021 : Index := 5#32
  let c512_1022 : Index := 512#32
  let c0_1023 : Index := 0#32
  ![v1375.toNat, 5, 512, 0]
def k0_off149 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1486 : Index := Scalar.indexCast v12
  let c6_1101 : Index := 6#32
  let c512_1102 : Index := 512#32
  let c0_1103 : Index := 0#32
  ![v1486.toNat, 6, 512, 0]
def k0_off150 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1489 : Index := Scalar.indexCast v12
  let c7_1104 : Index := 7#32
  let c512_1105 : Index := 512#32
  let c0_1106 : Index := 0#32
  ![v1489.toNat, 7, 512, 0]
def k0_off151 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1678 : Index := Scalar.indexCast v12
  let c0_1268 : Index := 0#32
  let c768_1269 : Index := 768#32
  let c0_1270 : Index := 0#32
  ![v1678.toNat, 0, 768, 0]
def k0_off152 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1681 : Index := Scalar.indexCast v12
  let c1_1271 : Index := 1#32
  let c768_1272 : Index := 768#32
  let c0_1273 : Index := 0#32
  ![v1681.toNat, 1, 768, 0]
def k0_off153 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1792 : Index := Scalar.indexCast v12
  let c2_1351 : Index := 2#32
  let c768_1352 : Index := 768#32
  let c0_1353 : Index := 0#32
  ![v1792.toNat, 2, 768, 0]
def k0_off154 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1795 : Index := Scalar.indexCast v12
  let c3_1354 : Index := 3#32
  let c768_1355 : Index := 768#32
  let c0_1356 : Index := 0#32
  ![v1795.toNat, 3, 768, 0]
def k0_off155 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1906 : Index := Scalar.indexCast v12
  let c4_1434 : Index := 4#32
  let c768_1435 : Index := 768#32
  let c0_1436 : Index := 0#32
  ![v1906.toNat, 4, 768, 0]
def k0_off156 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v1909 : Index := Scalar.indexCast v12
  let c5_1437 : Index := 5#32
  let c768_1438 : Index := 768#32
  let c0_1439 : Index := 0#32
  ![v1909.toNat, 5, 768, 0]
def k0_off157 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2020 : Index := Scalar.indexCast v12
  let c6_1517 : Index := 6#32
  let c768_1518 : Index := 768#32
  let c0_1519 : Index := 0#32
  ![v2020.toNat, 6, 768, 0]
def k0_off158 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2023 : Index := Scalar.indexCast v12
  let c7_1520 : Index := 7#32
  let c768_1521 : Index := 768#32
  let c0_1522 : Index := 0#32
  ![v2023.toNat, 7, 768, 0]
def k0_off159 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2212 : Index := Scalar.indexCast v12
  let c0_1684 : Index := 0#32
  let c1024_1685 : Index := 1024#32
  let c0_1686 : Index := 0#32
  ![v2212.toNat, 0, 1024, 0]
def k0_off160 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2215 : Index := Scalar.indexCast v12
  let c1_1687 : Index := 1#32
  let c1024_1688 : Index := 1024#32
  let c0_1689 : Index := 0#32
  ![v2215.toNat, 1, 1024, 0]
def k0_off161 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2326 : Index := Scalar.indexCast v12
  let c2_1767 : Index := 2#32
  let c1024_1768 : Index := 1024#32
  let c0_1769 : Index := 0#32
  ![v2326.toNat, 2, 1024, 0]
def k0_off162 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2329 : Index := Scalar.indexCast v12
  let c3_1770 : Index := 3#32
  let c1024_1771 : Index := 1024#32
  let c0_1772 : Index := 0#32
  ![v2329.toNat, 3, 1024, 0]
def k0_off163 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2440 : Index := Scalar.indexCast v12
  let c4_1850 : Index := 4#32
  let c1024_1851 : Index := 1024#32
  let c0_1852 : Index := 0#32
  ![v2440.toNat, 4, 1024, 0]
def k0_off164 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2443 : Index := Scalar.indexCast v12
  let c5_1853 : Index := 5#32
  let c1024_1854 : Index := 1024#32
  let c0_1855 : Index := 0#32
  ![v2443.toNat, 5, 1024, 0]
def k0_off165 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2554 : Index := Scalar.indexCast v12
  let c6_1933 : Index := 6#32
  let c1024_1934 : Index := 1024#32
  let c0_1935 : Index := 0#32
  ![v2554.toNat, 6, 1024, 0]
def k0_off166 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2557 : Index := Scalar.indexCast v12
  let c7_1936 : Index := 7#32
  let c1024_1937 : Index := 1024#32
  let c0_1938 : Index := 0#32
  ![v2557.toNat, 7, 1024, 0]
def k0_off167 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2746 : Index := Scalar.indexCast v12
  let c0_2100 : Index := 0#32
  let c1280_2101 : Index := 1280#32
  let c0_2102 : Index := 0#32
  ![v2746.toNat, 0, 1280, 0]
def k0_off168 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2749 : Index := Scalar.indexCast v12
  let c1_2103 : Index := 1#32
  let c1280_2104 : Index := 1280#32
  let c0_2105 : Index := 0#32
  ![v2749.toNat, 1, 1280, 0]
def k0_off169 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2860 : Index := Scalar.indexCast v12
  let c2_2183 : Index := 2#32
  let c1280_2184 : Index := 1280#32
  let c0_2185 : Index := 0#32
  ![v2860.toNat, 2, 1280, 0]
def k0_off170 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2863 : Index := Scalar.indexCast v12
  let c3_2186 : Index := 3#32
  let c1280_2187 : Index := 1280#32
  let c0_2188 : Index := 0#32
  ![v2863.toNat, 3, 1280, 0]
def k0_off171 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2974 : Index := Scalar.indexCast v12
  let c4_2266 : Index := 4#32
  let c1280_2267 : Index := 1280#32
  let c0_2268 : Index := 0#32
  ![v2974.toNat, 4, 1280, 0]
def k0_off172 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v2977 : Index := Scalar.indexCast v12
  let c5_2269 : Index := 5#32
  let c1280_2270 : Index := 1280#32
  let c0_2271 : Index := 0#32
  ![v2977.toNat, 5, 1280, 0]
def k0_off173 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3088 : Index := Scalar.indexCast v12
  let c6_2349 : Index := 6#32
  let c1280_2350 : Index := 1280#32
  let c0_2351 : Index := 0#32
  ![v3088.toNat, 6, 1280, 0]
def k0_off174 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3091 : Index := Scalar.indexCast v12
  let c7_2352 : Index := 7#32
  let c1280_2353 : Index := 1280#32
  let c0_2354 : Index := 0#32
  ![v3091.toNat, 7, 1280, 0]
def k0_off175 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3280 : Index := Scalar.indexCast v12
  let c0_2517 : Index := 0#32
  let c1536_2518 : Index := 1536#32
  let c0_2519 : Index := 0#32
  ![v3280.toNat, 0, 1536, 0]
def k0_off176 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3283 : Index := Scalar.indexCast v12
  let c1_2520 : Index := 1#32
  let c1536_2521 : Index := 1536#32
  let c0_2522 : Index := 0#32
  ![v3283.toNat, 1, 1536, 0]
def k0_off177 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3394 : Index := Scalar.indexCast v12
  let c2_2600 : Index := 2#32
  let c1536_2601 : Index := 1536#32
  let c0_2602 : Index := 0#32
  ![v3394.toNat, 2, 1536, 0]
def k0_off178 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3397 : Index := Scalar.indexCast v12
  let c3_2603 : Index := 3#32
  let c1536_2604 : Index := 1536#32
  let c0_2605 : Index := 0#32
  ![v3397.toNat, 3, 1536, 0]
def k0_off179 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3508 : Index := Scalar.indexCast v12
  let c4_2683 : Index := 4#32
  let c1536_2684 : Index := 1536#32
  let c0_2685 : Index := 0#32
  ![v3508.toNat, 4, 1536, 0]
def k0_off180 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3511 : Index := Scalar.indexCast v12
  let c5_2686 : Index := 5#32
  let c1536_2687 : Index := 1536#32
  let c0_2688 : Index := 0#32
  ![v3511.toNat, 5, 1536, 0]
def k0_off181 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3622 : Index := Scalar.indexCast v12
  let c6_2766 : Index := 6#32
  let c1536_2767 : Index := 1536#32
  let c0_2768 : Index := 0#32
  ![v3622.toNat, 6, 1536, 0]
def k0_off182 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3625 : Index := Scalar.indexCast v12
  let c7_2769 : Index := 7#32
  let c1536_2770 : Index := 1536#32
  let c0_2771 : Index := 0#32
  ![v3625.toNat, 7, 1536, 0]
def k0_off183 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3814 : Index := Scalar.indexCast v12
  let c0_2934 : Index := 0#32
  let c1792_2935 : Index := 1792#32
  let c0_2936 : Index := 0#32
  ![v3814.toNat, 0, 1792, 0]
def k0_off184 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3817 : Index := Scalar.indexCast v12
  let c1_2937 : Index := 1#32
  let c1792_2938 : Index := 1792#32
  let c0_2939 : Index := 0#32
  ![v3817.toNat, 1, 1792, 0]
def k0_off185 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3928 : Index := Scalar.indexCast v12
  let c2_3017 : Index := 2#32
  let c1792_3018 : Index := 1792#32
  let c0_3019 : Index := 0#32
  ![v3928.toNat, 2, 1792, 0]
def k0_off186 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v3931 : Index := Scalar.indexCast v12
  let c3_3020 : Index := 3#32
  let c1792_3021 : Index := 1792#32
  let c0_3022 : Index := 0#32
  ![v3931.toNat, 3, 1792, 0]
def k0_off187 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4042 : Index := Scalar.indexCast v12
  let c4_3100 : Index := 4#32
  let c1792_3101 : Index := 1792#32
  let c0_3102 : Index := 0#32
  ![v4042.toNat, 4, 1792, 0]
def k0_off188 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4045 : Index := Scalar.indexCast v12
  let c5_3103 : Index := 5#32
  let c1792_3104 : Index := 1792#32
  let c0_3105 : Index := 0#32
  ![v4045.toNat, 5, 1792, 0]
def k0_off189 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4156 : Index := Scalar.indexCast v12
  let c6_3183 : Index := 6#32
  let c1792_3184 : Index := 1792#32
  let c0_3185 : Index := 0#32
  ![v4156.toNat, 6, 1792, 0]
def k0_off190 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4159 : Index := Scalar.indexCast v12
  let c7_3186 : Index := 7#32
  let c1792_3187 : Index := 1792#32
  let c0_3188 : Index := 0#32
  ![v4159.toNat, 7, 1792, 0]
def k0_off191 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4348 : Index := Scalar.indexCast v12
  let c0_3350 : Index := 0#32
  let c2048_3351 : Index := 2048#32
  let c0_3352 : Index := 0#32
  ![v4348.toNat, 0, 2048, 0]
def k0_off192 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4351 : Index := Scalar.indexCast v12
  let c1_3353 : Index := 1#32
  let c2048_3354 : Index := 2048#32
  let c0_3355 : Index := 0#32
  ![v4351.toNat, 1, 2048, 0]
def k0_off193 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4462 : Index := Scalar.indexCast v12
  let c2_3433 : Index := 2#32
  let c2048_3434 : Index := 2048#32
  let c0_3435 : Index := 0#32
  ![v4462.toNat, 2, 2048, 0]
def k0_off194 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4465 : Index := Scalar.indexCast v12
  let c3_3436 : Index := 3#32
  let c2048_3437 : Index := 2048#32
  let c0_3438 : Index := 0#32
  ![v4465.toNat, 3, 2048, 0]
def k0_off195 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4576 : Index := Scalar.indexCast v12
  let c4_3516 : Index := 4#32
  let c2048_3517 : Index := 2048#32
  let c0_3518 : Index := 0#32
  ![v4576.toNat, 4, 2048, 0]
def k0_off196 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4579 : Index := Scalar.indexCast v12
  let c5_3519 : Index := 5#32
  let c2048_3520 : Index := 2048#32
  let c0_3521 : Index := 0#32
  ![v4579.toNat, 5, 2048, 0]
def k0_off197 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4690 : Index := Scalar.indexCast v12
  let c6_3599 : Index := 6#32
  let c2048_3600 : Index := 2048#32
  let c0_3601 : Index := 0#32
  ![v4690.toNat, 6, 2048, 0]
def k0_off198 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4693 : Index := Scalar.indexCast v12
  let c7_3602 : Index := 7#32
  let c2048_3603 : Index := 2048#32
  let c0_3604 : Index := 0#32
  ![v4693.toNat, 7, 2048, 0]
def k0_off199 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4882 : Index := Scalar.indexCast v12
  let c0_3767 : Index := 0#32
  let c2304_3768 : Index := 2304#32
  let c0_3769 : Index := 0#32
  ![v4882.toNat, 0, 2304, 0]
def k0_off200 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4885 : Index := Scalar.indexCast v12
  let c1_3770 : Index := 1#32
  let c2304_3771 : Index := 2304#32
  let c0_3772 : Index := 0#32
  ![v4885.toNat, 1, 2304, 0]
def k0_off201 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4996 : Index := Scalar.indexCast v12
  let c2_3850 : Index := 2#32
  let c2304_3851 : Index := 2304#32
  let c0_3852 : Index := 0#32
  ![v4996.toNat, 2, 2304, 0]
def k0_off202 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v4999 : Index := Scalar.indexCast v12
  let c3_3853 : Index := 3#32
  let c2304_3854 : Index := 2304#32
  let c0_3855 : Index := 0#32
  ![v4999.toNat, 3, 2304, 0]
def k0_off203 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5110 : Index := Scalar.indexCast v12
  let c4_3933 : Index := 4#32
  let c2304_3934 : Index := 2304#32
  let c0_3935 : Index := 0#32
  ![v5110.toNat, 4, 2304, 0]
def k0_off204 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5113 : Index := Scalar.indexCast v12
  let c5_3936 : Index := 5#32
  let c2304_3937 : Index := 2304#32
  let c0_3938 : Index := 0#32
  ![v5113.toNat, 5, 2304, 0]
def k0_off205 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5224 : Index := Scalar.indexCast v12
  let c6_4016 : Index := 6#32
  let c2304_4017 : Index := 2304#32
  let c0_4018 : Index := 0#32
  ![v5224.toNat, 6, 2304, 0]
def k0_off206 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5227 : Index := Scalar.indexCast v12
  let c7_4019 : Index := 7#32
  let c2304_4020 : Index := 2304#32
  let c0_4021 : Index := 0#32
  ![v5227.toNat, 7, 2304, 0]
def k0_off207 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5416 : Index := Scalar.indexCast v12
  let c0_4183 : Index := 0#32
  let c2560_4184 : Index := 2560#32
  let c0_4185 : Index := 0#32
  ![v5416.toNat, 0, 2560, 0]
def k0_off208 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5419 : Index := Scalar.indexCast v12
  let c1_4186 : Index := 1#32
  let c2560_4187 : Index := 2560#32
  let c0_4188 : Index := 0#32
  ![v5419.toNat, 1, 2560, 0]
def k0_off209 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5530 : Index := Scalar.indexCast v12
  let c2_4266 : Index := 2#32
  let c2560_4267 : Index := 2560#32
  let c0_4268 : Index := 0#32
  ![v5530.toNat, 2, 2560, 0]
def k0_off210 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5533 : Index := Scalar.indexCast v12
  let c3_4269 : Index := 3#32
  let c2560_4270 : Index := 2560#32
  let c0_4271 : Index := 0#32
  ![v5533.toNat, 3, 2560, 0]
def k0_off211 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5644 : Index := Scalar.indexCast v12
  let c4_4349 : Index := 4#32
  let c2560_4350 : Index := 2560#32
  let c0_4351 : Index := 0#32
  ![v5644.toNat, 4, 2560, 0]
def k0_off212 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5647 : Index := Scalar.indexCast v12
  let c5_4352 : Index := 5#32
  let c2560_4353 : Index := 2560#32
  let c0_4354 : Index := 0#32
  ![v5647.toNat, 5, 2560, 0]
def k0_off213 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5758 : Index := Scalar.indexCast v12
  let c6_4432 : Index := 6#32
  let c2560_4433 : Index := 2560#32
  let c0_4434 : Index := 0#32
  ![v5758.toNat, 6, 2560, 0]
def k0_off214 (i : grid0.Coords) : Fin 4 → Nat :=
  let arg0 : BitVec 32 := BitVec.ofNat 32 (i 0).val
  let c79_i32 : BitVec 32 := 79#32
  let v11 : BitVec 32 := Scalar.minsi arg0 c79_i32
  let c3_i32_4 : BitVec 32 := 3#32
  let v12 : BitVec 32 := Scalar.remsi v11 c3_i32_4
  let v5761 : Index := Scalar.indexCast v12
  let c7_4435 : Index := 7#32
  let c2560_4436 : Index := 2560#32
  let c0_4437 : Index := 0#32
  ![v5761.toNat, 7, 2560, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c4_i32_14 : BitVec 32 := 4#32
  let v31 : BitVec 32 := Scalar.divsi v30 c4_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c4_i32_14 c0_i32_17
  let v38 : BitVec 32 := Scalar.extui v37
  let c0_i32_18 : BitVec 32 := 0#32
  let v39 : BitVec 1 := Scalar.cmpi .slt c4_i32_14 c0_i32_18
  let v40 : BitVec 32 := Scalar.extui v39
  let v41 : BitVec 32 := Scalar.subi v38 v40
  let v42 : BitVec 1 := Scalar.cmpi .ne v36 v41
  let v43 : BitVec 32 := Scalar.remsi v30 c4_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c4_i32_21 : BitVec 32 := 4#32
  let c0_i32_22 : BitVec 32 := 0#32
  let v48 : BitVec 1 := Scalar.cmpi .eq c4_i32_21 c0_i32_22
  let c1_i32_23 : BitVec 32 := 1#32
  let v49 : BitVec 32 := Scalar.select v48 c1_i32_23 c4_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  ![v18.toNat, c0_i32_27.toNat, v57.toNat]

def cc0_transform_3 (i : grid0.Coords) : Fin 3 → Nat :=
  let arg0 : BitVec 32 := BitVec.ofNat 32 (i 0).val
  let c79_i32 : BitVec 32 := 79#32
  let v0 : BitVec 32 := Scalar.minsi arg0 c79_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c79_i32_10 : BitVec 32 := 79#32
  let v28 : BitVec 32 := Scalar.minsi arg0 c79_i32_10
  let c4_i32_11 : BitVec 32 := 4#32
  let v29 : BitVec 32 := Scalar.divsi v28 c4_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c4_i32_11 c0_i32_14
  let v36 : BitVec 32 := Scalar.extui v35
  let c0_i32_15 : BitVec 32 := 0#32
  let v37 : BitVec 1 := Scalar.cmpi .slt c4_i32_11 c0_i32_15
  let v38 : BitVec 32 := Scalar.extui v37
  let v39 : BitVec 32 := Scalar.subi v36 v38
  let v40 : BitVec 1 := Scalar.cmpi .ne v34 v39
  let v41 : BitVec 32 := Scalar.remsi v28 c4_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c4_i32_18 : BitVec 32 := 4#32
  let c0_i32_19 : BitVec 32 := 0#32
  let v46 : BitVec 1 := Scalar.cmpi .eq c4_i32_18 c0_i32_19
  let c1_i32_20 : BitVec 32 := 1#32
  let v47 : BitVec 32 := Scalar.select v46 c1_i32_20 c4_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v17.toNat, v55.toNat, c0_i32_24.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2816x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S40x1408x4096 : Shape := ⟨3, ![40, 1408, 4096]⟩
abbrev S4096 : Shape := ⟨1, ![4096]⟩
abbrev S1x1x4096 : Shape := ⟨3, ![1, 1, 4096]⟩
abbrev S40x1408x2048x2x1 : Shape := ⟨5, ![40, 1408, 2048, 2, 1]⟩
abbrev S40x1408x2048x1x1 : Shape := ⟨5, ![40, 1408, 2048, 1, 1]⟩
abbrev S40x1408x2048x1 : Shape := ⟨4, ![40, 1408, 2048, 1]⟩
abbrev S40x1408x1024x2x2 : Shape := ⟨5, ![40, 1408, 1024, 2, 2]⟩
abbrev S40x1408x1024x1x2 : Shape := ⟨5, ![40, 1408, 1024, 1, 2]⟩
abbrev S40x1408x1024x2 : Shape := ⟨4, ![40, 1408, 1024, 2]⟩
abbrev S40x1408x512x2x4 : Shape := ⟨5, ![40, 1408, 512, 2, 4]⟩
abbrev S40x1408x512x1x4 : Shape := ⟨5, ![40, 1408, 512, 1, 4]⟩
abbrev S40x1408x512x4 : Shape := ⟨4, ![40, 1408, 512, 4]⟩
abbrev S40x1408x256x2x8 : Shape := ⟨5, ![40, 1408, 256, 2, 8]⟩
abbrev S40x1408x256x1x8 : Shape := ⟨5, ![40, 1408, 256, 1, 8]⟩
abbrev S40x1408x256x8 : Shape := ⟨4, ![40, 1408, 256, 8]⟩
abbrev S40x1408x128x2x16 : Shape := ⟨5, ![40, 1408, 128, 2, 16]⟩
abbrev S40x1408x128x1x16 : Shape := ⟨5, ![40, 1408, 128, 1, 16]⟩
abbrev S40x1408x128x16 : Shape := ⟨4, ![40, 1408, 128, 16]⟩
abbrev S40x1408x64x2x32 : Shape := ⟨5, ![40, 1408, 64, 2, 32]⟩
abbrev S40x1408x64x1x32 : Shape := ⟨5, ![40, 1408, 64, 1, 32]⟩
abbrev S40x1408x64x32 : Shape := ⟨4, ![40, 1408, 64, 32]⟩
abbrev S40x1408x32x2x64 : Shape := ⟨5, ![40, 1408, 32, 2, 64]⟩
abbrev S40x1408x32x1x64 : Shape := ⟨5, ![40, 1408, 32, 1, 64]⟩
abbrev S40x1408x32x64 : Shape := ⟨4, ![40, 1408, 32, 64]⟩
abbrev S_ : Shape := ⟨0, ![]⟩
abbrev S40x1408x32x128 : Shape := ⟨4, ![40, 1408, 32, 128]⟩
abbrev S40x1408x32 : Shape := ⟨3, ![40, 1408, 32]⟩
abbrev S40x1408x32x1 : Shape := ⟨4, ![40, 1408, 32, 1]⟩
abbrev S40x1408x2048 : Shape := ⟨3, ![40, 1408, 2048]⟩

abbrev nBuf : Space → Nat
  | .hbm => 123
  | .vmem => 0
  | .smem => 0
  | _ => 0

abbrev bufTy : (tb : Table) → Fin (tcTables nBuf tb) → BufTy
  | .hbm, ⟨0, _⟩ => ⟨S40x1408x4096, .bf16⟩
  | .hbm, ⟨1, _⟩ => ⟨S4096, .f32⟩
  | .hbm, ⟨2, _⟩ => ⟨S40x1408x4096, .f32⟩
  | .hbm, ⟨3, _⟩ => ⟨S1x1x4096, .f32⟩
  | .hbm, ⟨4, _⟩ => ⟨S40x1408x4096, .f32⟩
  | .hbm, ⟨5, _⟩ => ⟨S40x1408x4096, .f32⟩
  | .hbm, ⟨6, _⟩ => ⟨S40x1408x2048x2x1, .f32⟩
  | .hbm, ⟨7, _⟩ => ⟨S40x1408x2048x1x1, .f32⟩
  | .hbm, ⟨8, _⟩ => ⟨S40x1408x2048x1, .f32⟩
  | .hbm, ⟨9, _⟩ => ⟨S40x1408x2048x1x1, .f32⟩
  | .hbm, ⟨10, _⟩ => ⟨S40x1408x2048x1, .f32⟩
  | .hbm, ⟨11, _⟩ => ⟨S40x1408x2048x1, .f32⟩
  | .hbm, ⟨12, _⟩ => ⟨S40x1408x2048x1, .f32⟩
  | .hbm, ⟨13, _⟩ => ⟨S40x1408x2048x1x1, .f32⟩
  | .hbm, ⟨14, _⟩ => ⟨S40x1408x2048x1x1, .f32⟩
  | .hbm, ⟨15, _⟩ => ⟨S40x1408x2048x2x1, .f32⟩
  | .hbm, ⟨16, _⟩ => ⟨S40x1408x4096, .f32⟩
  | .hbm, ⟨17, _⟩ => ⟨S40x1408x1024x2x2, .f32⟩
  | .hbm, ⟨18, _⟩ => ⟨S40x1408x1024x1x2, .f32⟩
  | .hbm, ⟨19, _⟩ => ⟨S40x1408x1024x2, .f32⟩
  | .hbm, ⟨20, _⟩ => ⟨S40x1408x1024x1x2, .f32⟩
  | .hbm, ⟨21, _⟩ => ⟨S40x1408x1024x2, .f32⟩
  | .hbm, ⟨22, _⟩ => ⟨S40x1408x1024x2, .f32⟩
  | .hbm, ⟨23, _⟩ => ⟨S40x1408x1024x2, .f32⟩
  | .hbm, ⟨24, _⟩ => ⟨S40x1408x1024x1x2, .f32⟩
  | .hbm, ⟨25, _⟩ => ⟨S40x1408x1024x1x2, .f32⟩
  | .hbm, ⟨26, _⟩ => ⟨S40x1408x1024x2x2, .f32⟩
  | .hbm, ⟨27, _⟩ => ⟨S40x1408x4096, .f32⟩
  | .hbm, ⟨28, _⟩ => ⟨S40x1408x512x2x4, .f32⟩
  | .hbm, ⟨29, _⟩ => ⟨S40x1408x512x1x4, .f32⟩
  | .hbm, ⟨30, _⟩ => ⟨S40x1408x512x4, .f32⟩
  | .hbm, ⟨31, _⟩ => ⟨S40x1408x512x1x4, .f32⟩
  | .hbm, ⟨32, _⟩ => ⟨S40x1408x512x4, .f32⟩
  | .hbm, ⟨33, _⟩ => ⟨S40x1408x512x4, .f32⟩
  | .hbm, ⟨34, _⟩ => ⟨S40x1408x512x4, .f32⟩
  | .hbm, ⟨35, _⟩ => ⟨S40x1408x512x1x4, .f32⟩
  | .hbm, ⟨36, _⟩ => ⟨S40x1408x512x1x4, .f32⟩
  | .hbm, ⟨37, _⟩ => ⟨S40x1408x512x2x4, .f32⟩
  | .hbm, ⟨38, _⟩ => ⟨S40x1408x4096, .f32⟩
  | .hbm, ⟨39, _⟩ => ⟨S40x1408x256x2x8, .f32⟩
  | .hbm, ⟨40, _⟩ => ⟨S40x1408x256x1x8, .f32⟩
  | .hbm, ⟨41, _⟩ => ⟨S40x1408x256x8, .f32⟩
  | .hbm, ⟨42, _⟩ => ⟨S40x1408x256x1x8, .f32⟩
  | .hbm, ⟨43, _⟩ => ⟨S40x1408x256x8, .f32⟩
  | .hbm, ⟨44, _⟩ => ⟨S40x1408x256x8, .f32⟩
  | .hbm, ⟨45, _⟩ => ⟨S40x1408x256x8, .f32⟩
  | .hbm, ⟨46, _⟩ => ⟨S40x1408x256x1x8, .f32⟩
  | .hbm, ⟨47, _⟩ => ⟨S40x1408x256x1x8, .f32⟩
  | .hbm, ⟨48, _⟩ => ⟨S40x1408x256x2x8, .f32⟩
  | .hbm, ⟨49, _⟩ => ⟨S40x1408x4096, .f32⟩
  | .hbm, ⟨50, _⟩ => ⟨S40x1408x128x2x16, .f32⟩
  | .hbm, ⟨51, _⟩ => ⟨S40x1408x128x1x16, .f32⟩
  | .hbm, ⟨52, _⟩ => ⟨S40x1408x128x16, .f32⟩
  | .hbm, ⟨53, _⟩ => ⟨S40x1408x128x1x16, .f32⟩
  | .hbm, ⟨54, _⟩ => ⟨S40x1408x128x16, .f32⟩
  | .hbm, ⟨55, _⟩ => ⟨S40x1408x128x16, .f32⟩
  | .hbm, ⟨56, _⟩ => ⟨S40x1408x128x16, .f32⟩
  | .hbm, ⟨57, _⟩ => ⟨S40x1408x128x1x16, .f32⟩
  | .hbm, ⟨58, _⟩ => ⟨S40x1408x128x1x16, .f32⟩
  | .hbm, ⟨59, _⟩ => ⟨S40x1408x128x2x16, .f32⟩
  | .hbm, ⟨60, _⟩ => ⟨S40x1408x4096, .f32⟩
  | .hbm, ⟨61, _⟩ => ⟨S40x1408x64x2x32, .f32⟩
  | .hbm, ⟨62, _⟩ => ⟨S40x1408x64x1x32, .f32⟩
  | .hbm, ⟨63, _⟩ => ⟨S40x1408x64x32, .f32⟩
  | .hbm, ⟨64, _⟩ => ⟨S40x1408x64x1x32, .f32⟩
  | .hbm, ⟨65, _⟩ => ⟨S40x1408x64x32, .f32⟩
  | .hbm, ⟨66, _⟩ => ⟨S40x1408x64x32, .f32⟩
  | .hbm, ⟨67, _⟩ => ⟨S40x1408x64x32, .f32⟩
  | .hbm, ⟨68, _⟩ => ⟨S40x1408x64x1x32, .f32⟩
  | .hbm, ⟨69, _⟩ => ⟨S40x1408x64x1x32, .f32⟩
  | .hbm, ⟨70, _⟩ => ⟨S40x1408x64x2x32, .f32⟩
  | .hbm, ⟨71, _⟩ => ⟨S40x1408x4096, .f32⟩
  | .hbm, ⟨72, _⟩ => ⟨S40x1408x32x2x64, .f32⟩
  | .hbm, ⟨73, _⟩ => ⟨S40x1408x32x1x64, .f32⟩
  | .hbm, ⟨74, _⟩ => ⟨S40x1408x32x64, .f32⟩
  | .hbm, ⟨75, _⟩ => ⟨S40x1408x32x1x64, .f32⟩
  | .hbm, ⟨76, _⟩ => ⟨S40x1408x32x64, .f32⟩
  | .hbm, ⟨77, _⟩ => ⟨S40x1408x32x64, .f32⟩
  | .hbm, ⟨78, _⟩ => ⟨S40x1408x32x64, .f32⟩
  | .hbm, ⟨79, _⟩ => ⟨S40x1408x32x1x64, .f32⟩
  | .hbm, ⟨80, _⟩ => ⟨S40x1408x32x1x64, .f32⟩
  | .hbm, ⟨81, _⟩ => ⟨S40x1408x32x2x64, .f32⟩
  | .hbm, ⟨82, _⟩ => ⟨S40x1408x4096, .f32⟩
  | .hbm, ⟨83, _⟩ => ⟨S_, .f32⟩
  | .hbm, ⟨84, _⟩ => ⟨S40x1408x4096, .f32⟩
  | .hbm, ⟨85, _⟩ => ⟨S40x1408x4096, .f32⟩
  | .hbm, ⟨86, _⟩ => ⟨S40x1408x32x128, .f32⟩
  | .hbm, ⟨87, _⟩ => ⟨S40x1408x32x128, .f32⟩
  | .hbm, ⟨88, _⟩ => ⟨S_, .f32⟩
  | .hbm, ⟨89, _⟩ => ⟨S40x1408x32, .f32⟩
  | .hbm, ⟨90, _⟩ => ⟨S_, .f32⟩
  | .hbm, ⟨91, _⟩ => ⟨S40x1408x32, .f32⟩
  | .hbm, ⟨92, _⟩ => ⟨S40x1408x32, .i1⟩
  | .hbm, ⟨93, _⟩ => ⟨S_, .f32⟩
  | .hbm, ⟨94, _⟩ => ⟨S40x1408x32, .f32⟩
  | .hbm, ⟨95, _⟩ => ⟨S40x1408x32, .f32⟩
  | .hbm, ⟨96, _⟩ => ⟨S_, .f32⟩
  | .hbm, ⟨97, _⟩ => ⟨S40x1408x32, .f32⟩
  | .hbm, ⟨98, _⟩ => ⟨S40x1408x32, .f32⟩
  | .hbm, ⟨99, _⟩ => ⟨S40x1408x32x1, .f32⟩
  | .hbm, ⟨100, _⟩ => ⟨S40x1408x32x128, .f32⟩
  | .hbm, ⟨101, _⟩ => ⟨S40x1408x32x128, .f32⟩
  | .hbm, ⟨102, _⟩ => ⟨S40x1408x32x128, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S40x1408x32x128, .f32⟩
  | .hbm, ⟨107, _⟩ => ⟨S40x1408x32x128, .f32⟩
  | .hbm, ⟨108, _⟩ => ⟨S_, .f32⟩
  | .hbm, ⟨109, _⟩ => ⟨S40x1408x32x128, .f32⟩
  | .hbm, ⟨110, _⟩ => ⟨S40x1408x32x128, .f32⟩
  | .hbm, ⟨111, _⟩ => ⟨S40x1408x32x128, .i32⟩
  | .hbm, ⟨112, _⟩ => ⟨S40x1408x4096, .i32⟩
  | .hbm, ⟨113, _⟩ => ⟨S_, .i32⟩
  | .hbm, ⟨114, _⟩ => ⟨S40x1408x4096, .i32⟩
  | .hbm, ⟨115, _⟩ => ⟨S40x1408x4096, .i32⟩
  | .hbm, ⟨116, _⟩ => ⟨S40x1408x2048, .i32⟩
  | .hbm, ⟨117, _⟩ => ⟨S40x1408x2048, .i32⟩
  | .hbm, ⟨118, _⟩ => ⟨S_, .i32⟩
  | .hbm, ⟨119, _⟩ => ⟨S40x1408x2048, .i32⟩
  | .hbm, ⟨120, _⟩ => ⟨S40x1408x2048, .i32⟩
  | .hbm, ⟨121, _⟩ => ⟨S40x1408x2048, .i32⟩
  | .hbm, ⟨122, _⟩ => ⟨S40x1408x2048, .i8⟩
  | _, _ => ⟨S40x1408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_cst : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_cst_0 : Ref sig .tc := ⟨.hbm, 88, rfl⟩
abbrev main_v85 : Ref sig .tc := ⟨.hbm, 89, rfl⟩
abbrev main_cst_1 : Ref sig .tc := ⟨.hbm, 90, rfl⟩
abbrev main_v86 : Ref sig .tc := ⟨.hbm, 91, rfl⟩
abbrev main_v87 : Ref sig .tc := ⟨.hbm, 92, rfl⟩
abbrev main_cst_2 : Ref sig .tc := ⟨.hbm, 93, rfl⟩
abbrev main_v88 : Ref sig .tc := ⟨.hbm, 94, rfl⟩
abbrev main_v89 : Ref sig .tc := ⟨.hbm, 95, rfl⟩
abbrev main_cst_3 : Ref sig .tc := ⟨.hbm, 96, rfl⟩
abbrev main_call0_v0 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_cst_4 : Ref sig .tc := ⟨.hbm, 103, rfl⟩
abbrev main_cst_5 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_c : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_c_6 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩

abbrev nD : Nat := 1
abbrev τ : Topo := Topo.v7x

variable {F : FTy → Type} [FloatOps F]
-- ==== Proof.K.Pieces.lean ====
module

public import proofs.«01_k».proof.Proof.Gen.Kernel

/-! The body of one grid point, cut into pieces with the chunk, tile and lane as parameters.

The printed body is unrolled: 11 chunks of 256 rows, 4 tiles of two groups in each, every load and
store at a literal place.  Here the same operations are written once, for chunk `c` and tile `j`. -/

@[expose] public section

namespace Cert.Kernel.Gen

open Idealize.ShloMosaic Idealize.SL.Sem
open Cert.Kernel K0.Facts₀ Shapes1.Facts₀

variable {F : FTy → Type} [FloatOps F]

/-- What a piece of the body is: a program of the tensor core. -/
abbrev TCProg (F : FTy → Type) [FloatOps F] : Type → Type 1 :=
  Prog (TpuEff nD τ sig (Elt F) Λ₀ .tc)

theorem inbV (c : ℕ) (hc : c < 11) (j : ℕ) (hj : j < 4) :
    ∀ a, (![c, j, 0, 0] : Fin 4 → ℕ) a + S1x1x256x256.size a ≤ S11x4x256x256.size a := by
  intro a; fin_cases a <;> simp [S1x1x256x256, S11x4x256x256] <;> omega

theorem inbVh (c : ℕ) (hc : c < 11) (j : ℕ) (hj : j < 4) (o : ℕ) (ho : o ≤ 128) :
    ∀ a, (![c, j, o, 0] : Fin 4 → ℕ) a + S1x1x128x256.size a ≤ S11x4x256x256.size a := by
  intro a; fin_cases a <;> simp [S1x1x128x256, S11x4x256x256] <;> omega

theorem inbR (c : ℕ) (hc : c < 11) (s : ℕ) (hs : s < 8) :
    ∀ a, (![c, s, 0] : Fin 3 → ℕ) a + S1x1x256.size a ≤ S11x8x256.size a := by
  intro a; fin_cases a <;> simp [S1x1x256, S11x8x256] <;> omega

theorem inbRl (c : ℕ) (hc : c < 11) (o : ℕ) (ho : o ≤ 128) :
    ∀ a, (![c, 0, o] : Fin 3 → ℕ) a + S1x8x128.size a ≤ S11x8x256.size a := by
  intro a; fin_cases a <;> simp [S1x8x128, S11x8x256] <;> omega

theorem inbC (a0 : ℕ) (h0 : a0 ≤ 2560) (b0 : ℕ) (hb : b0 ≤ 384) :
    ∀ a, (![0, a0, b0] : Fin 3 → ℕ) a + S1x256x128.size a ≤ S1x2816x512.size a := by
  intro a; fin_cases a <;> simp [S1x256x128, S1x2816x512] <;> omega

theorem inbW (k : ℕ) (hk : k < 3) (s : ℕ) (hs : s < 8) (o : ℕ) (ho : o ≤ 2560) :
    ∀ a, (![k, s, o, 0] : Fin 4 → ℕ) a + S1x1x256x128.size a ≤ S3x8x2816x128.size a := by
  intro a; fin_cases a <;> simp [S1x1x256x128, S3x8x2816x128] <;> omega

theorem inbH (p : ℕ) (hp : p < 3) (t : ℕ) (ht : t < 16) (s : ℕ) (hs : s < 2) :
    ∀ a, (![p, t, s, 0, 0] : Fin 5 → ℕ) a + S1x1x1x256x128.size a ≤ S3x16x2x256x128.size a := by
  intro a; fin_cases a <;> simp [S1x1x1x256x128, S3x16x2x256x128] <;> omega

theorem inbSt (c : ℕ) (hc : c < 11) (l : ℕ) (hl : l < 2) (s : ℕ) (hs : s < 8) :
    ∀ a, S1x1x8x128.size a = 0 ∨ (![c, l, s, 0] : Fin 4 → ℕ) a + (![1, 1, 9, 1] : Fin 4 → ℕ) a * (S1x1x8x128.size a - 1)
      < S11x2x72x128.size a := by
  intro a; right; fin_cases a <;> simp [S1x1x8x128, S11x2x72x128] <;> omega

theorem inbSl (c : ℕ) (hc : c < 11) (l : ℕ) (hl : l < 2) (o : ℕ) (ho : o ≤ 63) :
    ∀ a, (![c, l, o, 0] : Fin 4 → ℕ) a + S1x1x8x128.size a ≤ S11x2x72x128.size a := by
  intro a; fin_cases a <;> simp [S1x1x8x128, S11x2x72x128] <;> omega

theorem inbSc (b : ℕ) (hb : b < 2) (o : ℕ) (ho : o ≤ 1280) :
    ∀ a, (![b, 0, o] : Fin 3 → ℕ) a + S1x8x128.size a ≤ S2x8x1408.size a := by
  intro a; fin_cases a <;> simp [S1x8x128, S2x8x1408] <;> omega

theorem packedC' : ∀ c : Fin 11, ∀ j : Fin 4,
    (Rect.unit (s := S1x2816x512) ![0, 256 * c.val, 128 * j.val] S1x256x128.size
      (inbC (256 * c.val) (by omega) (128 * j.val) (by omega))).PackedRows (EltTy.packing .i8) := by
  decide +kernel

theorem packedC (c : ℕ) (hc : c < 11) (j : ℕ) (hj : j < 4) :
    (Rect.unit (s := S1x2816x512) ![0, 256 * c, 128 * j] S1x256x128.size
      (inbC (256 * c) (by omega) (128 * j) (by omega))).PackedRows (EltTy.packing .i8) :=
  packedC' ⟨c, hc⟩ ⟨j, hj⟩

/-! ## What the operations compute -/

/-- The two nibble rows of 128 channels of one group, as 32-bit words: round `v·r` to the nearest code, make it
    a biased nibble, and put two channels into one byte. -/
def groupBytes (v : Vec F S1x1x128x256 .f32) (r : Vec F S1x1x256 .f32) : IVec S32x256 32 :=
  let y : FVec F S128x256 .f32 :=
    minimumf (maximumf
      (mulf (shapeCast S128x256 v shapeCasts_S1x1x128x256_S128x256)
        (broadcastTo S128x256 (shapeCast S1x256 r shapeCasts_S1x1x256_S1x256) broadcasts_S1x256_S128x256))
      (broadcast S128x256 (Scalar.ofBits .f32 0xC0E00000#32)))
      (broadcast S128x256 (Scalar.ofBits .f32 0x40E00000#32))
  let u : IVec S64x256 32 :=
    bitcast S64x256 32 (trunci 16 (addi (fptosi 32 (roundeven y)) (broadcast S128x256 8#32)) natLt_16_32)
      bitcasts_S128x256_w16_S64x256_w32
  xori (ori (extractStridedSlice S32x256 ![0, 0] u slices_S64x256_o0_0_S32x256)
      (shli (extractStridedSlice S32x256 ![32, 0] u slices_S64x256_o32_0_S32x256) (broadcast S32x256 4#32)))
    (broadcast S32x256 8913032#32)

/-- The byte tile of two groups: both groups' words as 128 rows of 16-bit words, transposed and cut to bytes. -/
def packTile (a b : IVec S32x256 32) : IVec S1x256x128 8 :=
  shapeCast S1x256x128
    (trunci 8 (transpose S256x128 [1, 0]
      (bitcast S128x256 16 (concatenate S64x256 0 [⟨S32x256, a⟩, ⟨S32x256, b⟩] concatenates_S32x256_S32x256_S64x256_d0)
        bitcasts_S64x256_w32_S128x256_w16)
      transposes_S128x256_p1_0_S256x128) natLt_8_16)
    shapeCasts_S256x128_S1x256x128

/-- Two slabs of 128 columns side by side. -/
def wTile (a b : Vec F S1x1x256x128 .bf16) : FVec F S256x256 .bf16 :=
  concatenate S256x256 1 [⟨S256x128, shapeCast S256x128 a shapeCasts_S1x1x256x128_S256x128⟩,
    ⟨S256x128, shapeCast S256x128 b shapeCasts_S1x1x256x128_S256x128⟩] concatenates_S256x128_S256x128_S256x256_d1

/-- Two halves of one Hadamard tile side by side. -/
def hTile (a b : Vec F S1x1x1x256x128 .bf16) : FVec F S256x256 .bf16 :=
  concatenate S256x256 1 [⟨S256x128, shapeCast S256x128 a shapeCasts_S1x1x1x256x128_S256x128⟩,
    ⟨S256x128, shapeCast S256x128 b shapeCasts_S1x1x1x256x128_S256x128⟩] concatenates_S256x128_S256x128_S256x256_d1

/-- One Hadamard tile times one tile of rows. -/
def rot (h : FVec F S256x256 .bf16) (w : FVec F S256x256 .bf16) : FVec F S256x256 .f32 :=
  matmul dot_S256x256_S256x256_S256x256_1_1_0_0_n_n none h w (constant S256x256 .f32 0x00000000#32)

/-- The running maxima of one group over its 16 blocks of 8 rows. -/
def slabMax (o : Fin 2 → ℕ) (ho : S256x256.Slices o S128x256) (v : FVec F S256x256 .f32) : FVec F S8x256 .f32 :=
  multiReduction .maximumf [0] S8x256
    (shapeCast S16x8x256 (absf (extractStridedSlice S128x256 o v ho)) shapeCasts_S128x256_S16x8x256)
    0xFF800000#32 reduces_S16x8x256_S8x256 (.inl rfl) rfl

/-- The left half of the maxima, as it is stored. -/
def slabL (m : FVec F S8x256 .f32) : FVec F S1x1x8x128 .f32 :=
  shapeCast S1x1x8x128 (extractStridedSlice S8x128 ![0, 0] m slices_S8x256_o0_0_S8x128) shapeCasts_S8x128_S1x1x8x128

/-- The right half of the maxima, as it is stored. -/
def slabR (m : FVec F S8x256 .f32) : FVec F S1x1x8x128 .f32 :=
  shapeCast S1x1x8x128 (extractStridedSlice S8x128 ![0, 128] m slices_S8x256_o0_128_S8x128) shapeCasts_S8x128_S1x1x8x128

/-- One stored row of maxima as a vector. -/
abbrev slabRow (x : Vec F S1x1x8x128 .f32) : FVec F S8x128 .f32 :=
  shapeCast S8x128 x shapeCasts_S1x1x8x128_S8x128

/-- The scale from the largest magnitude. -/
def scaleOf (m : FVec F S8x128 .f32) : FVec F S8x128 .f32 :=
  let a : FVec F S8x128 .f32 := mulf m (broadcast S8x128 (Scalar.ofBits .f32 0x3DB504F3#32))
  select (cmpf .oeq a (broadcast S8x128 (Scalar.ofBits .f32 0x00000000#32)))
    (broadcast S8x128 (Scalar.ofBits .f32 0x3F800000#32))
    (divf a (broadcast S8x128 (Scalar.ofBits .f32 0x40E00000#32)))

/-- The factor that takes an unnormalised value to its code. -/
def recipOf (s : FVec F S8x128 .f32) : FVec F S8x128 .f32 :=
  divf (broadcast S8x128 (Scalar.ofBits .f32 0x3DB504F3#32)) s

/-! ## The pieces -/

section pieces

variable (i : grid0.Coords)
  (arg3 : Memref sig .tc .vmem S1x2816x512 .i8) (harg3 : arg3.IsWhole)
  (arg4 : Memref sig .tc .vmem S2x8x1408 .f32)
  (arg5 : Memref sig .tc .vmem S3x8x2816x128 .bf16)
  (arg6 : Memref sig .tc .vmem S3x16x2x256x128 .bf16)
  (arg7 : Memref sig .tc .vmem S11x4x256x256 .f32)
  (arg8 : Memref sig .tc .vmem S11x8x256 .f32)
  (arg9 : Memref sig .tc .vmem S11x2x72x128 .f32)

/-- The ring slot of the block this point rotates. -/
def slotN (i : grid0.Coords) : ℕ :=
  (Scalar.indexCast (Scalar.remsi (Scalar.minsi (BitVec.ofNat 32 (i 0).val) 79#32) 3#32)).toNat

theorem slotN_eq : ∀ i : grid0.Coords, slotN i = min (i 0).val 79 % 3 := by decide +kernel

theorem slotN_lt (i : grid0.Coords) : slotN i < 3 := by rw [slotN_eq]; omega

/-- The Hadamard tile number of tile `j` of the block this point rotates. -/
def tileN (i : grid0.Coords) (j : ℕ) : ℕ :=
  (Scalar.indexCast (Scalar.addi (Scalar.muli (Scalar.remsi (Scalar.minsi (BitVec.ofNat 32 (i 0).val) 79#32) 4#32) 4#32)
    (BitVec.ofNat 32 j))).toNat

theorem tileN_eq : ∀ i : grid0.Coords, ∀ j : Fin 4, tileN i j.val = 4 * (min (i 0).val 79 % 4) + j.val := by
  decide +kernel

theorem tileN_lt (i : grid0.Coords) (j : ℕ) (hj : j < 4) : tileN i j < 16 := by
  rw [tileN_eq i ⟨j, hj⟩]; simp only; omega

/-- Codes of tile `j` of chunk `c`, of the block the previous point rotated. -/
def codesU (c : ℕ) (hc : c < 11) (j : ℕ) (hj : j < 4) : TCProg F PUnit := do
  let v0 : Vec F S1x1x128x256 .f32 ← Prog.lift (.load arg7 (Rect.unit (s := S11x4x256x256) ![c, j, 0, 0] S1x1x128x256.size (inbVh c hc j hj 0 (by omega))).toLoadRect (View.loadsAt_vmem h_S1x1x128x256))
  let r0 : Vec F S1x1x256 .f32 ← Prog.lift (.load arg8 (Rect.unit (s := S11x8x256) ![c, 2 * j, 0] S1x1x256.size (inbR c hc (2 * j) (by omega))).toLoadRect (View.loadsAt_vmem h_S1x1x256))
  let v1 : Vec F S1x1x128x256 .f32 ← Prog.lift (.load arg7 (Rect.unit (s := S11x4x256x256) ![c, j, 128, 0] S1x1x128x256.size (inbVh c hc j hj 128 (by omega))).toLoadRect (View.loadsAt_vmem h_S1x1x128x256))
  let r1 : Vec F S1x1x256 .f32 ← Prog.lift (.load arg8 (Rect.unit (s := S11x8x256) ![c, 2 * j + 1, 0] S1x1x256.size (inbR c hc (2 * j + 1) (by omega))).toLoadRect (View.loadsAt_vmem h_S1x1x256))
  let _ : Vec F S1x256x128 .i8 ← Prog.lift (.load arg3 (Rect.unit (s := S1x2816x512) ![0, 256 * c, 128 * j] S1x256x128.size (inbC (256 * c) (by omega) (128 * j) (by omega))).toLoadRect (View.loadsAt_vmem h_S1x256x128))
  Prog.lift (.store arg3 (Rect.unit (s := S1x2816x512) ![0, 256 * c, 128 * j] S1x256x128.size (inbC (256 * c) (by omega) (128 * j) (by omega))) (packTile (groupBytes v0 r0) (groupBytes v1 r1)) Finset.univ (View.stores_vmem h_S1x256x128 (harg3.storeExact_slice rfl _ (packedC c hc j hj)) (fun _ => rfl)) (.inl rfl))

/-- The two slabs of tile `j`, rows of chunk `c`. -/
def loadW (c : ℕ) (hc : c < 11) (j : ℕ) (hj : j < 4) : TCProg F (FVec F S256x256 .bf16) := do
  let a : Vec F S1x1x256x128 .bf16 ← Prog.lift (.load arg5 (Rect.unit (s := S3x8x2816x128) ![slotN i, 2 * j, 256 * c, 0] S1x1x256x128.size (inbW _ (slotN_lt i) (2 * j) (by omega) (256 * c) (by omega))).toLoadRect (View.loadsAt_vmem h_S1x1x256x128))
  let b : Vec F S1x1x256x128 .bf16 ← Prog.lift (.load arg5 (Rect.unit (s := S3x8x2816x128) ![slotN i, 2 * j + 1, 256 * c, 0] S1x1x256x128.size (inbW _ (slotN_lt i) (2 * j + 1) (by omega) (256 * c) (by omega))).toLoadRect (View.loadsAt_vmem h_S1x1x256x128))
  pure (wTile a b)

/-- One Hadamard tile, of part `p` of the signs. -/
def loadH (p : ℕ) (hp : p < 3) (j : ℕ) (hj : j < 4) : TCProg F (FVec F S256x256 .bf16) := do
  let a : Vec F S1x1x1x256x128 .bf16 ← Prog.lift (.load arg6 (Rect.unit (s := S3x16x2x256x128) ![p, tileN i j, 0, 0, 0] S1x1x1x256x128.size (inbH p hp _ (tileN_lt i j hj) 0 (by omega))).toLoadRect (View.loadsAt_vmem h_S1x1x1x256x128))
  let b : Vec F S1x1x1x256x128 .bf16 ← Prog.lift (.load arg6 (Rect.unit (s := S3x16x2x256x128) ![p, tileN i j, 1, 0, 0] S1x1x1x256x128.size (inbH p hp _ (tileN_lt i j hj) 1 (by omega))).toLoadRect (View.loadsAt_vmem h_S1x1x1x256x128))
  pure (hTile a b)

/-- The rotated tile by one pass. -/
def rotate1 (c : ℕ) (hc : c < 11) (j : ℕ) (hj : j < 4) : TCProg F (FVec F S256x256 .f32) := do
  let w ← loadW i arg5 c hc j hj
  let h ← loadH i arg6 0 (by omega) j hj
  pure (rot h w)

/-- The rotated tile by three passes, one for each part of the signs. -/
def rotate3 (c : ℕ) (hc : c < 11) (j : ℕ) (hj : j < 4) : TCProg F (FVec F S256x256 .f32) := do
  let w ← loadW i arg5 c hc j hj
  let h0 ← loadH i arg6 0 (by omega) j hj
  let h1 ← loadH i arg6 1 (by omega) j hj
  let h2 ← loadH i arg6 2 (by omega) j hj
  pure (addf (addf (rot h0 w) (rot h1 w)) (rot h2 w))

/-- Keep the rotated tile. -/
def keepV (c : ℕ) (hc : c < 11) (j : ℕ) (hj : j < 4) (v : FVec F S256x256 .f32) : TCProg F PUnit := do
  let _ : Vec F S1x1x256x256 .f32 ← Prog.lift (.load arg7 (Rect.unit (s := S11x4x256x256) ![c, j, 0, 0] S1x1x256x256.size (inbV c hc j hj)).toLoadRect (View.loadsAt_vmem h_S1x1x256x256))
  Prog.lift (.store arg7 (Rect.unit (s := S11x4x256x256) ![c, j, 0, 0] S1x1x256x256.size (inbV c hc j hj)) (shapeCast S1x1x256x256 v shapeCasts_S256x256_S1x1x256x256) Finset.univ (View.stores_vmem_bits_univ h_S1x1x256x256 rfl) (.inl rfl))

/-- Keep one half of the maxima of group `s` of the chunk. -/
def keepS (c : ℕ) (hc : c < 11) (l : ℕ) (hl : l < 2) (s : ℕ) (hs : s < 8) (x : FVec F S1x1x8x128 .f32) : TCProg F PUnit := do
  let _ : Vec F S1x1x8x128 .f32 ← Prog.lift (.load arg9 (⟨![c, l, s, 0], S1x1x8x128.size, ![1, 1, 9, 1], inbSt c hc l hl s hs⟩ : LoadRect S11x2x72x128) (View.loadsAt_vmem h_S1x1x8x128))
  Prog.lift (.store arg9 ⟨(⟨![c, l, s, 0], S1x1x8x128.size, ![1, 1, 9, 1], inbSt c hc l hl s hs⟩ : LoadRect S11x2x72x128), spos_1_1_9_1⟩ x Finset.univ (View.stores_vmem_bits_univ h_S1x1x8x128 rfl) (.inl rfl))

/-- The maxima of both groups of tile `j`. -/
def maximaU (c : ℕ) (hc : c < 11) (j : ℕ) (hj : j < 4) (v : FVec F S256x256 .f32) : TCProg F PUnit := do
  keepS arg9 c hc 0 (by omega) (2 * j) (by omega) (slabL (slabMax ![0, 0] slices_S256x256_o0_0_S128x256 v))
  keepS arg9 c hc 1 (by omega) (2 * j) (by omega) (slabR (slabMax ![0, 0] slices_S256x256_o0_0_S128x256 v))
  keepS arg9 c hc 0 (by omega) (2 * j + 1) (by omega) (slabL (slabMax ![128, 0] slices_S256x256_o128_0_S128x256 v))
  keepS arg9 c hc 1 (by omega) (2 * j + 1) (by omega) (slabR (slabMax ![128, 0] slices_S256x256_o128_0_S128x256 v))

/-- Tile `j` of chunk `c`: the previous block's codes, then this block's rotation and maxima. -/
def tileU (rotate : ∀ c, c < 11 → ∀ j, j < 4 → TCProg F (FVec F S256x256 .f32)) (c : ℕ) (hc : c < 11) (j : ℕ) (hj : j < 4) : TCProg F PUnit := do
  codesU arg3 harg3 arg7 arg8 c hc j hj
  let v ← rotate c hc j hj
  keepV arg7 c hc j hj v
  maximaU arg9 c hc j hj v

/-- One row of maxima of the chunk. -/
def loadS (c : ℕ) (hc : c < 11) (l : ℕ) (hl : l < 2) (o : ℕ) (ho : o ≤ 63) : TCProg F (Vec F S1x1x8x128 .f32) :=
  Prog.lift (.load arg9 (Rect.unit (s := S11x2x72x128) ![c, l, o, 0] S1x1x8x128.size (inbSl c hc l hl o ho)).toLoadRect (View.loadsAt_vmem h_S1x1x8x128))

/-- Scales and factors of lanes `128·l` of chunk `c`. -/
def scaleU (c : ℕ) (hc : c < 11) (l : ℕ) (hl : l < 2) : TCProg F PUnit := do
  let x0 ← loadS (F := F) arg9 c hc l hl 0 (by omega)
  let x1 ← loadS (F := F) arg9 c hc l hl 9 (by omega)
  let x2 ← loadS (F := F) arg9 c hc l hl 18 (by omega)
  let x3 ← loadS (F := F) arg9 c hc l hl 27 (by omega)
  let x4 ← loadS (F := F) arg9 c hc l hl 36 (by omega)
  let x5 ← loadS (F := F) arg9 c hc l hl 45 (by omega)
  let x6 ← loadS (F := F) arg9 c hc l hl 54 (by omega)
  let x7 ← loadS (F := F) arg9 c hc l hl 63 (by omega)
  let m : FVec F S8x128 .f32 := maximumf (maximumf (maximumf (maximumf (maximumf (maximumf (maximumf (slabRow x0) (slabRow x1)) (slabRow x2)) (slabRow x3)) (slabRow x4)) (slabRow x5)) (slabRow x6)) (slabRow x7)
  let _ : Vec F S1x8x128 .f32 ← Prog.lift (.load arg8 (Rect.unit (s := S11x8x256) ![c, 0, 128 * l] S1x8x128.size (inbRl c hc (128 * l) (by omega))).toLoadRect (View.loadsAt_vmem h_S1x8x128))
  Prog.lift (.store arg8 (Rect.unit (s := S11x8x256) ![c, 0, 128 * l] S1x8x128.size (inbRl c hc (128 * l) (by omega))) (shapeCast S1x8x128 (recipOf (scaleOf m)) shapeCasts_S8x128_S1x8x128) Finset.univ (View.stores_vmem_bits_univ h_S1x8x128 rfl) (.inl rfl))
  let _ : Vec F S1x8x128 .f32 ← Prog.lift (.load arg4 (Rect.unit (s := S2x8x1408) ![(256 * c + 128 * l) / 1408, 0, (256 * c + 128 * l) % 1408] S1x8x128.size (inbSc _ (by omega) _ (by omega))).toLoadRect (View.loadsAt_vmem h_S1x8x128))
  Prog.lift (.store arg4 (Rect.unit (s := S2x8x1408) ![(256 * c + 128 * l) / 1408, 0, (256 * c + 128 * l) % 1408] S1x8x128.size (inbSc _ (by omega) _ (by omega))) (shapeCast S1x8x128 (scaleOf m) shapeCasts_S8x128_S1x8x128) Finset.univ (View.stores_vmem_bits_univ h_S1x8x128 rfl) (.inl rfl))

/-- Chunk `c`: four tiles, then the scales of its 256 rows. -/
def chunkU (rotate : ∀ c, c < 11 → ∀ j, j < 4 → TCProg F (FVec F S256x256 .f32)) (c : ℕ) (hc : c < 11) : TCProg F PUnit := do
  tileU arg3 harg3 arg7 arg8 arg9 rotate c hc 0 (by omega)
  tileU arg3 harg3 arg7 arg8 arg9 rotate c hc 1 (by omega)
  tileU arg3 harg3 arg7 arg8 arg9 rotate c hc 2 (by omega)
  tileU arg3 harg3 arg7 arg8 arg9 rotate c hc 3 (by omega)
  scaleU arg4 arg8 arg9 c hc 0 (by omega)
  scaleU arg4 arg8 arg9 c hc 1 (by omega)

/-- The chunks below `n`, in order. -/
def chunksU (rotate : ∀ c, c < 11 → ∀ j, j < 4 → TCProg F (FVec F S256x256 .f32)) : (n : ℕ) → n ≤ 11 → TCProg F PUnit
  | 0, _ => pure ⟨⟩
  | n + 1, h => do
    chunksU rotate n (by omega)
    chunkU arg3 harg3 arg4 arg7 arg8 arg9 rotate n (by omega)

/-! ## The copies of the ring -/

theorem inbDst (k : ℕ) (hk : k < 3) (j : ℕ) (hj : j < 8) :
    ∀ a, (![k, j, 0, 0] : Fin 4 → ℕ) a + S1x1x2816x128.size a ≤ S3x8x2816x128.size a := by
  intro a; fin_cases a <;> simp [S1x1x2816x128, S3x8x2816x128] <;> omega

/-- A column where a slab starts. -/
abbrev SlabCol (q : ℕ) : Prop := ∃ n, n < 32 ∧ q = 128 * n

theorem inbSrc (p : ℕ) (hp : p < 20) (q : ℕ) (hq : SlabCol q) :
    ∀ a, (![p, 0, q] : Fin 3 → ℕ) a + S1x2816x128.size a ≤ S20x2816x4096.size a := by
  obtain ⟨n, hn, rfl⟩ := hq
  intro a; fin_cases a <;> simp [S1x2816x128, S20x2816x4096] <;> omega

theorem inbSem (k : ℕ) (hk : k < 3) : ∀ a, (![k] : Fin 1 → ℕ) a + S1.size a ≤ S3.size a := by
  intro a; fin_cases a; simp [S1, S3]; omega

theorem wordsDst' : ∀ k : Fin 3, ∀ j : Fin 8, (Rect.unit (s := S3x8x2816x128) ![k.val, j.val, 0, 0] S1x1x2816x128.size
    (inbDst k.val k.isLt j.val j.isLt)).WholeWords (EltTy.packing .bf16) := by
  decide +kernel

theorem wordsSrc' : ∀ p : Fin 20, ∀ n : Fin 32, (Rect.unit (s := S20x2816x4096) ![p.val, 0, 128 * n.val] S1x2816x128.size
    (inbSrc p.val p.isLt _ ⟨n.val, n.isLt, rfl⟩)).WholeWords (EltTy.packing .bf16) := by
  decide +kernel

theorem wordsSrc (p : ℕ) (hp : p < 20) (q : ℕ) (hq : SlabCol q) : (Rect.unit (s := S20x2816x4096) ![p, 0, q] S1x2816x128.size
    (inbSrc p hp q hq)).WholeWords (EltTy.packing .bf16) := by
  obtain ⟨n, hn, rfl⟩ := hq
  exact wordsSrc' ⟨p, hp⟩ ⟨n, hn⟩

/-- The 128 columns from `q` on of the pair `p` of the array. -/
def srcView (arg2 : Memref sig .tc .hbm S20x2816x4096 .bf16) (p : ℕ) (hp : p < 20) (q : ℕ) (hq : SlabCol q) :
    Memref sig .tc .hbm S2816x128 .bf16 :=
  (arg2.slice (Rect.unit (s := S20x2816x4096) ![p, 0, q] S1x2816x128.size (inbSrc p hp q hq)) (fun _ => rfl)).squeeze
    S2816x128 squeezes_S1x2816x128_S2816x128

/-- Slab `j` of ring slot `k`. -/
def dstView (arg5 : Memref sig .tc .vmem S3x8x2816x128 .bf16) (k : ℕ) (hk : k < 3) (j : ℕ) (hj : j < 8) :
    Memref sig .tc .vmem S2816x128 .bf16 :=
  (arg5.slice (Rect.unit (s := S3x8x2816x128) ![k, j, 0, 0] S1x1x2816x128.size (inbDst k hk j hj)) (fun _ => rfl)).squeeze
    S2816x128 squeezes_S1x1x2816x128_S2816x128

/-- The semaphore of ring slot `k`. -/
def semOf (arg11 : DmaSems sig S3) (k : ℕ) (hk : k < 3) : DmaSems sig S_ :=
  (arg11.slice (Rect.unit (s := S3) ![k] S1.size (inbSem k hk))).squeeze S_ squeezes_S1_S_

theorem srcView_words {arg2 : Memref sig .tc .hbm S20x2816x4096 .bf16} (harg2 : arg2.IsWhole) (p : ℕ) (hp : p < 20) (q : ℕ) (hq : SlabCol q) :
    (srcView arg2 p hp q hq).view.WordExact :=
  (harg2.wordExact_slice rfl _ (wordsSrc p hp q hq)).reshape _ _

theorem dstView_words {arg5 : Memref sig .tc .vmem S3x8x2816x128 .bf16} (harg5 : arg5.IsWhole) (k : ℕ) (hk : k < 3) (j : ℕ) (hj : j < 8) :
    (dstView arg5 k hk j hj).view.WordExact :=
  (harg5.wordExact_slice rfl _ (wordsDst' ⟨k, hk⟩ ⟨j, hj⟩)).reshape _ _

variable (arg1 : Memref sig .tc .vmem S1x4096 .f32)
  (arg2 : Memref sig .tc .hbm S20x2816x4096 .bf16) (harg2 : arg2.IsWhole) (harg5 : arg5.IsWhole) (harg6 : arg6.IsWhole)
  (arg10 : Memref sig .tc .smem S1 .i32)
  (arg11 : DmaSems sig S3)

/-- Start the copy of the 128 columns from `q` on of pair `p` into slab `j` of slot `k`. -/
def startN (k : ℕ) (hk : k < 3) (j : ℕ) (hj : j < 8) (p : ℕ) (hp : p < 20) (q : ℕ) (hq : SlabCol q) : TCProg F PUnit :=
  Prog.lift (.enqueueDma (srcView arg2 p hp q hq) (.here (dstView arg5 k hk j hj)) (.dma (semOf arg11 k hk).sem)
    (srcView_words harg2 p hp q hq) (dstView_words harg5 k hk j hj) ⟨Or.inl rfl, trivial⟩)

/-- Wait for one copy of slot `k`. -/
def waitN (k : ℕ) (hk : k < 3) (j : ℕ) (hj : j < 8) (p : ℕ) (hp : p < 20) (q : ℕ) (hq : SlabCol q) : TCProg F PUnit :=
  Prog.lift (.waitDma2 (semOf arg11 k hk).sem (srcView arg2 p hp q hq) (dstView arg5 k hk j hj)
    (srcView_words harg2 p hp q hq) (dstView_words harg5 k hk j hj))

/-! The places of block `b`, as the body computes them. -/

/-- The ring slot of block `b`. -/
def slotB (b : BitVec 32) : ℕ := (Scalar.remsi b 3#32).toNat
/-- The pair of block `b`. -/
def pairB (b : BitVec 32) : ℕ := (Scalar.divsi b 4#32).toNat
/-- The first column of slab `j` of block `b`. -/
def colB (b : BitVec 32) (j : ℕ) : ℕ :=
  (Scalar.muli (Scalar.addi (Scalar.muli (Scalar.remsi b 4#32) 8#32) (BitVec.ofNat 32 j)) 128#32).toNat

theorem slotB_eq' : ∀ n : Fin 80, slotB (BitVec.ofNat 32 n.val) = n.val % 3 := by decide +kernel
theorem pairB_eq' : ∀ n : Fin 80, pairB (BitVec.ofNat 32 n.val) = n.val / 4 := by decide +kernel
theorem colB_eq' : ∀ n : Fin 80, ∀ j : Fin 8, colB (BitVec.ofNat 32 n.val) j.val = 128 * (8 * (n.val % 4) + j.val) := by
  decide +kernel

theorem slotB_eq (b : BitVec 32) (hb : b.toNat < 80) : slotB b = b.toNat % 3 := by
  have := slotB_eq' ⟨b.toNat, hb⟩
  simpa using this
theorem pairB_eq (b : BitVec 32) (hb : b.toNat < 80) : pairB b = b.toNat / 4 := by
  have := pairB_eq' ⟨b.toNat, hb⟩
  simpa using this
theorem colB_eq (b : BitVec 32) (hb : b.toNat < 80) (j : ℕ) (hj : j < 8) : colB b j = 128 * (8 * (b.toNat % 4) + j) := by
  have := colB_eq' ⟨b.toNat, hb⟩ ⟨j, hj⟩
  simpa using this

theorem slotB_lt (b : BitVec 32) (hb : b.toNat < 80) : slotB b < 3 := by rw [slotB_eq b hb]; omega
theorem pairB_lt (b : BitVec 32) (hb : b.toNat < 80) : pairB b < 20 := by rw [pairB_eq b hb]; omega
theorem colB_slab (b : BitVec 32) (hb : b.toNat < 80) (j : ℕ) (hj : j < 8) : SlabCol (colB b j) :=
  ⟨8 * (b.toNat % 4) + j, by omega, colB_eq b hb j hj⟩

/-- Start the eight copies of block `b`, the first `n` of them. -/
def startsU (b : BitVec 32) (hb : b.toNat < 80) : (n : ℕ) → n ≤ 8 → TCProg F PUnit
  | 0, _ => pure ⟨⟩
  | n + 1, h => do
    startsU b hb n (by omega)
    startN arg5 arg2 harg2 harg5 arg11 (slotB b) (slotB_lt b hb) n (by omega) (pairB b) (pairB_lt b hb) (colB b n) (colB_slab b hb n (by omega))

/-- Wait for the eight copies of block `b`, the first `n` of them. -/
def waitsU (b : BitVec 32) (hb : b.toNat < 80) : (n : ℕ) → n ≤ 8 → TCProg F PUnit
  | 0, _ => pure ⟨⟩
  | n + 1, h => do
    waitsU b hb n (by omega)
    waitN arg5 arg2 harg2 harg5 arg11 (slotB b) (slotB_lt b hb) n (by omega) (pairB b) (pairB_lt b hb) (colB b n) (colB_slab b hb n (by omega))

theorem startB_lt : ∀ i : grid0.Coords, k0_cond2 i = 1#1 →
    (Scalar.subi (Scalar.addi (BitVec.ofNat 32 (i 0).val) 3#32) 1#32).toNat < 80 := by decide +kernel
theorem waitB_lt : ∀ i : grid0.Coords, k0_cond3 i = 1#1 → (BitVec.ofNat 32 (i 0).val).toNat < 80 := by decide +kernel

/-! ## The first point's preparations -/

/-- The sign of Hadamard row `n`, column `k`, in the half of the rows that group `half` owns, zero in the other. -/
def hadHalf (half : BitVec 32) : FVec F S256x128 .f32 :=
  let n : IVec S256x128 32 := iota .tc S256x128 32 [0] iota_S256x128_d0_w32
  let k : IVec S256x128 32 := iota .tc S256x128 32 [1] iota_S256x128_d1_w32
  let j : IVec S256x128 32 := andi n (broadcast S256x128 127#32)
  let ch : IVec S256x128 32 := ori (shli (andi j (broadcast S256x128 63#32)) (broadcast S256x128 1#32)) (shrsi j (broadcast S256x128 6#32))
  let p0 : IVec S256x128 32 := andi ch k
  let p1 : IVec S256x128 32 := xori p0 (shrsi p0 (broadcast S256x128 4#32))
  let p2 : IVec S256x128 32 := xori p1 (shrsi p1 (broadcast S256x128 2#32))
  let p3 : IVec S256x128 32 := xori p2 (shrsi p2 (broadcast S256x128 1#32))
  let s : IVec S256x128 32 := subi (broadcast S256x128 1#32) (muli (broadcast S256x128 2#32) (andi p3 (broadcast S256x128 1#32)))
  select (cmpi .eq (shrsi n (broadcast S256x128 7#32)) (broadcast S256x128 half)) (sitofp .f32 s)
    (broadcast S256x128 (Scalar.ofBits .f32 0x00000000#32))

/-- The first part of the signs. -/
def split1 (s : FVec F S1x128 .f32) : FVec F S1x128 .f32 := extf .f32 (truncf .bf16 s bitsLt_bf16_f32) bitsLt_bf16_f32
/-- The second part of the signs. -/
def split2 (s : FVec F S1x128 .f32) : FVec F S1x128 .f32 :=
  extf .f32 (truncf .bf16 (subf s (split1 s)) bitsLt_bf16_f32) bitsLt_bf16_f32
/-- The third part of the signs. -/
def split3 (s : FVec F S1x128 .f32) : FVec F S1x128 .f32 :=
  extf .f32 (truncf .bf16 (subf (subf s (split1 s)) (split2 s)) bitsLt_bf16_f32) bitsLt_bf16_f32

/-- One half tile of the Hadamard array, as it is stored. -/
def hadStore (half : BitVec 32) (s : FVec F S1x128 .f32) : FVec F S1x1x1x256x128 .bf16 :=
  shapeCast S1x1x1x256x128
    (truncf .bf16 (mulf (hadHalf half) (broadcastTo S256x128 s broadcasts_S1x128_S256x128)) bitsLt_bf16_f32)
    shapeCasts_S256x128_S1x1x1x256x128

/-- Note where the second part is not zero. -/
def restOf (r : FVec F S1x128 .f32) (s : FVec F S1x128 .f32) : FVec F S1x128 .f32 :=
  maximumf r (select (cmpf .oeq (split2 s) (broadcast S1x128 (Scalar.ofBits .f32 0x00000000#32)))
    (broadcast S1x128 (Scalar.ofBits .f32 0x00000000#32)) (broadcast S1x128 (Scalar.ofBits .f32 0x3F800000#32)))

/-- The flag: zero if no second part was. -/
def flagOf (r : FVec F S1x128 .f32) : BitVec 32 :=
  Scalar.fptosi 32 (extractAt ![0, 0, 0]
    (shapeCast S1x1x1 (multiReduction .maximumf [1, 2] S1 (shapeCast S1x1x128 r shapeCasts_S1x128_S1x1x128) 0xFF800000#32
      reduces_S1x1x128_S1 (.inl rfl) rfl) shapeCasts_S1_S1x1x1) inpos_S1x1x1_p0_0_0)

theorem inbSg (o : ℕ) (ho : o ≤ 3968) : ∀ a, (![0, o] : Fin 2 → ℕ) a + S1x128.size a ≤ S1x4096.size a := by
  intro a; fin_cases a <;> simp [S1x128, S1x4096]; omega

theorem packedH' : ∀ p : Fin 3, ∀ t : Fin 16, ∀ s : Fin 2,
    (Rect.unit (s := S3x16x2x256x128) ![p.val, t.val, s.val, 0, 0] S1x1x1x256x128.size
      (inbH p.val p.isLt t.val t.isLt s.val s.isLt)).PackedRows (EltTy.packing .bf16) := by
  decide +kernel

/-- Store one half tile. -/
def keepH (p : ℕ) (hp : p < 3) (t : ℕ) (ht : t < 16) (s : ℕ) (hs : s < 2) (x : FVec F S1x1x1x256x128 .bf16) : TCProg F PUnit := do
  let _ : Vec F S1x1x1x256x128 .bf16 ← Prog.lift (.load arg6 (Rect.unit (s := S3x16x2x256x128) ![p, t, s, 0, 0] S1x1x1x256x128.size (inbH p hp t ht s hs)).toLoadRect (View.loadsAt_vmem h_S1x1x1x256x128))
  Prog.lift (.store arg6 (Rect.unit (s := S3x16x2x256x128) ![p, t, s, 0, 0] S1x1x1x256x128.size (inbH p hp t ht s hs)) x Finset.univ (View.stores_vmem h_S1x1x1x256x128 (harg6.storeExact_slice rfl _ (packedH' ⟨p, hp⟩ ⟨t, ht⟩ ⟨s, hs⟩)) (fun _ => rfl)) (.inl rfl))

/-- The three parts of half `s` of tile `t`. -/
def initTileU (s : ℕ) (hs : s < 2) (t : ℕ) (ht : t < 16) (r : FVec F S1x128 .f32) : TCProg F (FVec F S1x128 .f32) := do
  let x : Vec F S1x128 .f32 ← Prog.lift (.load arg1 (Rect.unit (s := S1x4096) ![0, 256 * t + 128 * s] S1x128.size (inbSg _ (by omega))).toLoadRect (View.loadsAt_vmem h_S1x128))
  let g : FVec F S1x128 .f32 := shapeCast S1x128 x shapeCasts_S1x128_S1x128
  keepH arg6 harg6 0 (by omega) t ht s hs (hadStore (BitVec.ofNat 32 s) (split1 g))
  keepH arg6 harg6 1 (by omega) t ht s hs (hadStore (BitVec.ofNat 32 s) (split2 g))
  keepH arg6 harg6 2 (by omega) t ht s hs (hadStore (BitVec.ofNat 32 s) (split3 g))
  pure (restOf r g)

/-- The tiles below `n` of half `s`. -/
def initTilesU (s : ℕ) (hs : s < 2) (r : FVec F S1x128 .f32) : (n : ℕ) → n ≤ 16 → TCProg F (FVec F S1x128 .f32)
  | 0, _ => pure r
  | n + 1, h => do
    let r' ← initTilesU s hs r n (by omega)
    initTileU arg6 arg1 harg6 s hs n (by omega) r'

/-- The first point: the Hadamard tiles, the flag, and zeros for what the codes of no block are read from. -/
def initU : TCProg F PUnit := do
  let r1 ← initTilesU (F := F) arg6 arg1 harg6 0 (by omega) (broadcast S1x128 (Scalar.ofBits .f32 0x00000000#32)) 16 (by omega)
  let r2 ← initTilesU (F := F) arg6 arg1 harg6 1 (by omega) r1 16 (by omega)
  let _ : Elt F .i32 ← smemLoad arg10 (Rect.unit (s := S1) ![0] S1.size inb_S1_S1_0) numel1_S1 rfl
  Prog.lift (.store arg10 (Rect.unit (s := S1) ![0] S1.size inb_S1_S1_0) (fun _ => flagOf r2) Finset.univ (View.stores_smem_one rfl numel1_S1) (.inl rfl))
  let _ : Vec F S11x4x256x256 .f32 ← Prog.lift (.load arg7 (Rect.unit (s := S11x4x256x256) ![0, 0, 0, 0] S11x4x256x256.size inb_S11x4x256x256_S11x4x256x256_0_0_0_0).toLoadRect (View.loadsAt_vmem h_S11x4x256x256))
  Prog.lift (.store arg7 (Rect.unit (s := S11x4x256x256) ![0, 0, 0, 0] S11x4x256x256.size inb_S11x4x256x256_S11x4x256x256_0_0_0_0) (shapeCast S11x4x256x256 (broadcast S11x4x256x256 (Scalar.ofBits .f32 0x00000000#32)) shapeCasts_S11x4x256x256_S11x4x256x256) Finset.univ (View.stores_vmem_bits_univ h_S11x4x256x256 rfl) (.inl rfl))
  let _ : Vec F S11x8x256 .f32 ← Prog.lift (.load arg8 (Rect.unit (s := S11x8x256) ![0, 0, 0] S11x8x256.size inb_S11x8x256_S11x8x256_0_0_0).toLoadRect (View.loadsAt_vmem h_S11x8x256))
  Prog.lift (.store arg8 (Rect.unit (s := S11x8x256) ![0, 0, 0] S11x8x256.size inb_S11x8x256_S11x8x256_0_0_0) (shapeCast S11x8x256 (broadcast S11x8x256 (Scalar.ofBits .f32 0x00000000#32)) shapeCasts_S11x8x256_S11x8x256) Finset.univ (View.stores_vmem_bits_univ h_S11x8x256 rfl) (.inl rfl))

/-! ## The whole body -/

/-- The body of one grid point in pieces, branches in place. -/
def bodyV : TCProg F PUnit := do
  if k0_h1 : k0_cond1 i = 1#1 then do
    startsU arg5 arg2 harg2 harg5 arg11 0#32 (by decide) 8 (by omega)
    startsU arg5 arg2 harg2 harg5 arg11 1#32 (by decide) 8 (by omega)
    initU arg6 arg7 arg8 arg1 harg6 arg10
    pure ⟨⟩
  else do
    pure ⟨⟩
  if k0_h2 : k0_cond2 i = 1#1 then do
    startsU arg5 arg2 harg2 harg5 arg11 (Scalar.subi (Scalar.addi (BitVec.ofNat 32 (i 0).val) 3#32) 1#32) (startB_lt i k0_h2) 8 (by omega)
    pure ⟨⟩
  else do
    pure ⟨⟩
  if k0_h3 : k0_cond3 i = 1#1 then do
    waitsU arg5 arg2 harg2 harg5 arg11 (BitVec.ofNat 32 (i 0).val) (waitB_lt i k0_h3) 8 (by omega)
    pure ⟨⟩
  else do
    pure ⟨⟩
  let v15 : Elt F .i32 ← smemLoad arg10 (Rect.unit (s := S1) ![0] S1.size inb_S1_S1_0) numel1_S1 rfl
  if Scalar.cmpi .ne (Scalar.extui (Scalar.cmpi .eq v15 0#32) : BitVec 32) 0#32 = 1#1 then do
    chunksU arg3 harg3 arg4 arg7 arg8 arg9 (rotate1 i arg5 arg6) 11 (by omega)
    pure ⟨⟩
  else do
    pure ⟨⟩
  let v19 : Elt F .i32 ← smemLoad arg10 (Rect.unit (s := S1) ![0] S1.size inb_S1_S1_0) numel1_S1 rfl
  if Scalar.cmpi .ne (Scalar.extui (Scalar.cmpi .ne v19 0#32) : BitVec 32) 0#32 = 1#1 then do
    chunksU arg3 harg3 arg4 arg7 arg8 arg9 (rotate3 i arg5 arg6) 11 (by omega)
    pure ⟨⟩
  else do
    pure ⟨⟩

/-- At the first point: start blocks 0 and 1, build the tiles. -/
def entryIf : TCProg F PUnit :=
  if k0_h1 : k0_cond1 i = 1#1 then do
    startsU arg5 arg2 harg2 harg5 arg11 0#32 (by decide) 8 (by omega)
    startsU arg5 arg2 harg2 harg5 arg11 1#32 (by decide) 8 (by omega)
    initU arg6 arg7 arg8 arg1 harg6 arg10
    pure ⟨⟩
  else do
    pure ⟨⟩

/-- Start the block two points ahead, if there is one. -/
def startsIf : TCProg F PUnit :=
  if k0_h2 : k0_cond2 i = 1#1 then do
    startsU arg5 arg2 harg2 harg5 arg11 (Scalar.subi (Scalar.addi (BitVec.ofNat 32 (i 0).val) 3#32) 1#32) (startB_lt i k0_h2) 8 (by omega)
    pure ⟨⟩
  else do
    pure ⟨⟩

/-- Wait for this point's block, if there is one. -/
def waitsIf : TCProg F PUnit :=
  if k0_h3 : k0_cond3 i = 1#1 then do
    waitsU arg5 arg2 harg2 harg5 arg11 (BitVec.ofNat 32 (i 0).val) (waitB_lt i k0_h3) 8 (by omega)
    pure ⟨⟩
  else do
    pure ⟨⟩

/-- The step by one product per tile, if the flag asks for it. -/
def stepIf1 (v15 : Elt F .i32) : TCProg F PUnit :=
  if Scalar.cmpi .ne (Scalar.extui (Scalar.cmpi .eq v15 0#32) : BitVec 32) 0#32 = 1#1 then do
    chunksU arg3 harg3 arg4 arg7 arg8 arg9 (rotate1 i arg5 arg6) 11 (by omega)
    pure ⟨⟩
  else do
    pure ⟨⟩

/-- The step by three products per tile, if the flag asks for it. -/
def stepIf3 (v19 : Elt F .i32) : TCProg F PUnit :=
  if Scalar.cmpi .ne (Scalar.extui (Scalar.cmpi .ne v19 0#32) : BitVec 32) 0#32 = 1#1 then do
    chunksU arg3 harg3 arg4 arg7 arg8 arg9 (rotate3 i arg5 arg6) 11 (by omega)
    pure ⟨⟩
  else do
    pure ⟨⟩

/-- The whole body. -/
def bodyU : TCProg F PUnit := do
  entryIf i arg5 arg6 arg7 arg8 arg1 arg2 harg2 harg5 harg6 arg10 arg11
  startsIf i arg5 arg2 harg2 harg5 arg11
  waitsIf i arg5 arg2 harg2 harg5 arg11
  let v15 : Elt F .i32 ← smemLoad arg10 (Rect.unit (s := S1) ![0] S1.size inb_S1_S1_0) numel1_S1 rfl
  stepIf1 i arg3 harg3 arg4 arg5 arg6 arg7 arg8 arg9 v15
  let v19 : Elt F .i32 ← smemLoad arg10 (Rect.unit (s := S1) ![0] S1.size inb_S1_S1_0) numel1_S1 rfl
  stepIf3 i arg3 harg3 arg4 arg5 arg6 arg7 arg8 arg9 v19

end pieces

end Cert.Kernel.Gen
-- ==== Proof.K.Rules.lean ====
module

public import proofs.«01_k».proof.Proof.K.Pieces
public import proofs.«01_k».proof.Proof.Gen.Kernel.Launch
public import Idealize.ShloMosaic.Lib.Pipeline.FrameBody
public import Idealize.ShloMosaic.Lib.Batch
public import Idealize.ShloMosaic.Lib.Tactic

/-! How one load and one store change what a buffer holds.

A buffer is owned at a function of its index.  A load reads that function at a rectangle; a store lays a
rectangle over it.  A buffer that is being rewritten piece by piece holds `mix p N X`: the new values `N` where `p` says
it has been written, the old values `X` elsewhere. -/

@[expose] public section

noncomputable section

namespace Cert.Kernel.Gen

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

/-- The propositions about those resources. -/
abbrev SP (F : FTy → Type) [FloatOps F] : Type _ := sProp (MT nD τ sig Unit (Elt F) ℕ (Pipeline.UD sig nD τ) ℕ)

/-- The weakest precondition of a piece of the body on core `c`. -/
abbrev WP {α : Type} (c : Dev nD) (p : TCProg F α) (K : α → sProp 𝕄) : sProp 𝕄 :=
  wp frame (wpE (defs₀ (F := F)) Variants.none (c : Thread nD τ) none) Set.univ p K

theorem WP_bind {α β : Type} (c : Dev nD) (p : TCProg F α) (k : α → TCProg F β) (K : β → sProp 𝕄) :
    WP c (p >>= k) K = WP c p (fun a => WP c (k a) K) := wp_bind _ _ _ p k K

theorem WP_pure {α : Type} (c : Dev nD) (a : α) (K : α → sProp 𝕄) : K a ⊢ WP c (pure a) K := le_wp_ret _ _ _ a K

/-! ## Load and store -/

/-- What a load at `r` reads of contents `X`. -/
abbrev rd {s : Shape} {α : Type} (X : s.Idx → α) (r : LoadRect s) : r.shape.Idx → α := fun x => X (r.idx x)

/-- A load of an owned buffer. -/
theorem wp_ld (c : Dev nD) {cs : CoreSpace} {s : Shape} {e : EltTy} {m : Memref sig .tc cs s e} {r : LoadRect s}
    {hl : m.view.LoadsAt r} {q : PosShare TreeShare} {X : s.Idx → Elt F e} {K : (r.shape.Idx → Elt F e) → sProp 𝕄} :
    owns (c : Thread nD τ) m q X
      ⊢ iprop((owns (c : Thread nD τ) m q X -∗ K (rd X r)) -∗ WP c (Prog.lift (.load m r hl)) K) := by
  unfold owns
  iintro ⟨%f, %hf, H⟩ Hk
  iapply (wp_load Variants.none (c : Thread nD τ) none Set.univ (m.view.setOn_subset_set _)) $$ H
  iintro H
  subst hf
  rw [show m.view.readAt (Elt F) r f = rd (m.view.read (Elt F) f) r from rfl]
  iapply (le_wp_ret _ _ _ _ K)
  iapply Hk
  iexists f
  isplitr
  · ipureintro; rfl
  iexact H

/-- A store of a whole vector into an owned buffer. -/
theorem wp_st (c : Dev nD) {cs : CoreSpace} {s : Shape} {e : EltTy} {m : Memref sig .tc cs s e} {r : Rect s}
    {w : r.shape.Idx → Elt F e} {hx : (m.access r).Stores Finset.univ} {hm : Finset.univ = Finset.univ ∨ ∀ a, r.stride a = 1}
    {X : s.Idx → Elt F e} {K : PUnit → sProp 𝕄} :
    owns (c : Thread nD τ) m fullShare X
      ⊢ iprop((owns (c : Thread nD τ) m fullShare (r.overlay X w) -∗ K ⟨⟩)
          -∗ WP c (Prog.lift (.store m r w Finset.univ hx hm)) K) := by
  unfold owns
  iintro ⟨%f, %hf, H⟩ Hk
  have h : (m.view.loc (c : Thread nD τ) ↦[m.view.set]{fullShare} f : sProp 𝕄)
      ⊢ iprop(((m.view.loc (c : Thread nD τ) ↦[m.view.set]{fullShare} ((m.access r).write (Elt F) f w Finset.univ)) -∗ WP c (Prog.ret ⟨⟩) K)
        -∗ WP c (Prog.lift (.store m r w Finset.univ hx hm)) K) :=
    wp_store Variants.none (c : Thread nD τ) none Set.univ (k := Prog.ret) (hx := hx) (hm := hm) (Memref.setOn_access_subset m r _)
  iapply h $$ H
  iintro H
  subst hf
  iapply (le_wp_ret _ _ _ _ K)
  iapply Hk
  iexists _
  isplitr
  swap
  · iexact H
  ipureintro
  funext x
  by_cases hxm : x ∈ r.set
  · obtain ⟨i, rfl⟩ := r.toLoadRect.exists_idx_of_mem hxm
    change m.view.read (Elt F) ((m.view.slice r).write (Elt F) f w Finset.univ) (r.emb i) = r.overlay _ w (r.emb i)
    rw [View.read_slice_write_emb (v := m.view) r f w (Finset.mem_univ i), Rect.overlay_emb]
  · rw [Rect.overlay_of_not_mem _ _ _ hxm]
    exact View.read_slice_write_of_not_mem (v := m.view) r f w _ (by rw [Rect.map_emb_univ]; exact hxm)

/-! ## A buffer written piece by piece -/

open Classical in
/-- The new values where `p` says the buffer has been written, the old elsewhere. -/
def mix {s : Shape} {α : Type} (p : s.Idx → Prop) (N X : s.Idx → α) : s.Idx → α := fun x => if p x then N x else X x

section mix
variable {s : Shape} {α : Type} {p q : s.Idx → Prop} {N X : s.Idx → α}

theorem mix_pos {x : s.Idx} (h : p x) : mix p N X x = N x := if_pos h
theorem mix_neg {x : s.Idx} (h : ¬ p x) : mix p N X x = X x := if_neg h

theorem mix_congr (h : ∀ x, p x ↔ q x) : mix p N X = mix q N X := by
  rw [show p = q from funext fun x => propext (h x)]

theorem mix_none (h : ∀ x, ¬ p x) : mix p N X = X := funext fun x => mix_neg (h x)
theorem mix_all (h : ∀ x, p x) : mix p N X = N := funext fun x => mix_pos (h x)

theorem rd_mix_new {r : LoadRect s} (h : ∀ i, p (r.idx i)) : rd (mix p N X) r = rd N r := funext fun i => mix_pos (h i)
theorem rd_mix_old {r : LoadRect s} (h : ∀ i, ¬ p (r.idx i)) : rd (mix p N X) r = rd X r := funext fun i => mix_neg (h i)

/-- A store of the new values at `r`. -/
theorem overlay_mix {r : Rect s} {w : r.shape.Idx → α} (hw : ∀ i, w i = N (r.idx i)) :
    r.overlay (mix p N X) w = mix (fun x => p x ∨ x ∈ r.set) N X := by
  funext x
  by_cases hx : x ∈ r.set
  · obtain ⟨i, rfl⟩ := r.toLoadRect.exists_idx_of_mem hx
    rw [mix_pos (Or.inr hx)]
    exact (r.overlay_emb _ w i).trans (hw i)
  · rw [Rect.overlay_of_not_mem _ _ _ hx]
    by_cases h : p x
    · rw [mix_pos h, mix_pos (Or.inl h)]
    · rw [mix_neg h, mix_neg (by tauto)]

/-- A store of the new values at `r`, the written part named. -/
theorem overlay_mix' {r : Rect s} {w : r.shape.Idx → α} (hw : ∀ i, w i = N (r.idx i)) (h : ∀ x, (p x ∨ x ∈ r.set) ↔ q x) :
    r.overlay (mix p N X) w = mix q N X := (overlay_mix hw).trans (mix_congr h)

/-- A store over the whole buffer. -/
theorem overlay_all {r : Rect s} {w : r.shape.Idx → α} (hw : ∀ i, w i = N (r.idx i)) (h : ∀ x, x ∈ r.set) :
    r.overlay X w = N := by
  funext x
  obtain ⟨i, rfl⟩ := r.toLoadRect.exists_idx_of_mem (h x)
  exact (r.overlay_emb _ w i).trans (hw i)

end mix

/-- The index of the tile of shape `t` at which `x` falls, the tiles laid out from zero. -/
def modIdx (t : Shape) {s : Shape} (hr : t.rank = s.rank) (ht : ∀ a, 0 < t.size a) (x : s.Idx) : t.Idx :=
  fun a => ⟨(x (Fin.cast hr a)).val % t.size a, Nat.mod_lt _ (ht a)⟩

/-- Membership in a rectangle of unit strides. -/
theorem mem_unit {s : Shape} {off size : Fin s.rank → ℕ} {inb} {x : s.Idx} :
    x ∈ (Rect.unit (s := s) off size inb).set ↔ ∀ a, off a ≤ (x a).val ∧ (x a).val < off a + size a := Rect.mem_set_unit

end Cert.Kernel.Gen

end
-- ==== Proof.K.Units.lean ====
module

public import proofs.«01_k».proof.Proof.K.Rules

/-! What one step of the body leaves in each buffer, chunk by chunk and tile by tile. -/

@[expose] public section

noncomputable section

namespace Cert.Kernel.Gen

open Cert.Kernel K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

/-! ## The values -/

section values

variable (rv : Fin 11 → Fin 4 → FVec F S256x256 .f32)

/-- The rotated tiles, as the buffer holds them. -/
def newV : Vec F S11x4x256x256 .f32 := fun x =>
  shapeCast S1x1x256x256 (rv (x 0) (x 1)) shapeCasts_S256x256_S1x1x256x256 (modIdx S1x1x256x256 (s := S11x4x256x256) rfl (by decide) x)

/-- The running maxima of group `s` of chunk `c`. -/
def grpMax (c : Fin 11) (s : Fin 8) : FVec F S8x256 .f32 :=
  if s.val % 2 = 0 then slabMax ![0, 0] slices_S256x256_o0_0_S128x256 (rv c ⟨s.val / 2, by omega⟩)
  else slabMax ![128, 0] slices_S256x256_o128_0_S128x256 (rv c ⟨s.val / 2, by omega⟩)

/-- One half of the maxima of a group, as it is stored. -/
def sTile (c : Fin 11) (l : Fin 2) (s : Fin 8) : FVec F S1x1x8x128 .f32 :=
  if l = 0 then slabL (grpMax rv c s) else slabR (grpMax rv c s)

/-- An index of a tile of maxima. -/
def sIdx (k n : ℕ) : S1x1x8x128.Idx := fun a =>
  ⟨(![0, 0, k, n] : Fin 4 → ℕ) a % S1x1x8x128.size a, Nat.mod_lt _ (by revert a; decide)⟩

/-- The maxima: row `s + 9·k` is row `k` of group `s`. -/
def newS : Vec F S11x2x72x128 .f32 := fun x =>
  sTile rv (x 0) (x 1) ⟨(x 2).val % 9 % 8, by omega⟩ (sIdx ((x 2).val / 9) (x 3).val)

/-- Row `k` of all eight groups. -/
def sRow (c : Fin 11) (l : Fin 2) (k : ℕ) : Vec F S1x1x8x128 .f32 := fun i =>
  sTile rv c l (i 2) (sIdx k (i 3).val)

/-- The largest magnitude of each group and each of 128 rows. -/
def mxOf (c : Fin 11) (l : Fin 2) : FVec F S8x128 .f32 :=
  maximumf (maximumf (maximumf (maximumf (maximumf (maximumf (maximumf (slabRow (sRow rv c l 0)) (slabRow (sRow rv c l 1)))
    (slabRow (sRow rv c l 2))) (slabRow (sRow rv c l 3))) (slabRow (sRow rv c l 4))) (slabRow (sRow rv c l 5)))
    (slabRow (sRow rv c l 6))) (slabRow (sRow rv c l 7))

/-- The factors, as the buffer holds them. -/
def newR : Vec F S11x8x256 .f32 := fun x =>
  shapeCast S1x8x128 (recipOf (scaleOf (mxOf rv (x 0) ⟨(x 2).val / 128, by have : (x 2).val < 256 := (x 2).isLt; omega⟩)))
    shapeCasts_S8x128_S1x8x128 (modIdx S1x8x128 (s := S11x8x256) rfl (by decide) x)

/-- Where row `x 2` of batch `x 0` of a pair is among the rows of the pair. -/
def rowOf (x : S2x8x1408.Idx) : ℕ := 1408 * (x 0).val + (x 2).val

theorem rowOf_lt (x : S2x8x1408.Idx) : rowOf x < 2816 := by
  have h0 : (x 0).val < 2 := (x 0).isLt
  have h2 : (x 2).val < 1408 := (x 2).isLt
  unfold rowOf; omega

/-- The scales of a block, as the result holds them. -/
def newSc : Vec F S2x8x1408 .f32 := fun x =>
  shapeCast S1x8x128 (scaleOf (mxOf rv ⟨rowOf x / 256, by have := rowOf_lt x; omega⟩ ⟨rowOf x % 256 / 128, by omega⟩))
    shapeCasts_S8x128_S1x8x128 (modIdx S1x8x128 (s := S2x8x1408) rfl (by decide) x)

/-- The byte tile of chunk `c`, tile `j`, from rotated tiles `V` and factors `R`. -/
def codeTile (V : Vec F S11x4x256x256 .f32) (R : Vec F S11x8x256 .f32) (c : Fin 11) (j : Fin 4) : IVec S1x256x128 8 :=
  packTile
    (groupBytes
      (rd V (Rect.unit (s := S11x4x256x256) ![c.val, j.val, 0, 0] S1x1x128x256.size (inbVh c.val c.isLt j.val j.isLt 0 (by omega))).toLoadRect)
      (rd R (Rect.unit (s := S11x8x256) ![c.val, 2 * j.val, 0] S1x1x256.size (inbR c.val c.isLt (2 * j.val) (by omega))).toLoadRect))
    (groupBytes
      (rd V (Rect.unit (s := S11x4x256x256) ![c.val, j.val, 128, 0] S1x1x128x256.size (inbVh c.val c.isLt j.val j.isLt 128 (by omega))).toLoadRect)
      (rd R (Rect.unit (s := S11x8x256) ![c.val, 2 * j.val + 1, 0] S1x1x256.size (inbR c.val c.isLt (2 * j.val + 1) (by omega))).toLoadRect))

/-- The bytes of a block, as the result holds them. -/
def newC (V : Vec F S11x4x256x256 .f32) (R : Vec F S11x8x256 .f32) : IVec S1x2816x512 8 := fun x =>
  codeTile V R ⟨(x 1).val / 256, by have : (x 1).val < 2816 := (x 1).isLt; omega⟩
    ⟨(x 2).val / 128, by have : (x 2).val < 512 := (x 2).isLt; omega⟩ (modIdx S1x256x128 (s := S1x2816x512) rfl (by decide) x)

end values

/-! ## The pieces -/

variable (c₀ : Dev nD)
  (arg3 : Memref sig .tc .vmem S1x2816x512 .i8) (harg3 : arg3.IsWhole)
  (arg4 : Memref sig .tc .vmem S2x8x1408 .f32)
  (arg7 : Memref sig .tc .vmem S11x4x256x256 .f32)
  (arg8 : Memref sig .tc .vmem S11x8x256 .f32)
  (arg9 : Memref sig .tc .vmem S11x2x72x128 .f32)

theorem codesU_wp (c : ℕ) (hc : c < 11) (j : ℕ) (hj : j < 4) (V : Vec F S11x4x256x256 .f32) (R : Vec F S11x8x256 .f32)
    (C : IVec S1x2816x512 8) (K : PUnit → sProp 𝕄) :
    iprop(owns (c₀ : Thread nD τ) arg7 fullShare V ∗ owns (c₀ : Thread nD τ) arg8 fullShare R ∗ owns (c₀ : Thread nD τ) arg3 fullShare C)
      ⊢ iprop((iprop(owns (c₀ : Thread nD τ) arg7 fullShare V ∗ owns (c₀ : Thread nD τ) arg8 fullShare R
            ∗ owns (c₀ : Thread nD τ) arg3 fullShare ((Rect.unit (s := S1x2816x512) ![0, 256 * c, 128 * j] S1x256x128.size (inbC (256 * c) (by omega) (128 * j) (by omega))).overlay C (codeTile V R ⟨c, hc⟩ ⟨j, hj⟩))) -∗ K ⟨⟩)
          -∗ WP c₀ (codesU (F := F) arg3 harg3 arg7 arg8 c hc j hj) K) := by
  unfold codesU
  iintro ⟨H7, H8, H3⟩ Hk
  rw [WP_bind]
  iapply (wp_ld c₀) $$ H7; iintro H7
  rw [WP_bind]
  iapply (wp_ld c₀) $$ H8; iintro H8
  rw [WP_bind]
  iapply (wp_ld c₀) $$ H7; iintro H7
  rw [WP_bind]
  iapply (wp_ld c₀) $$ H8; iintro H8
  rw [WP_bind]
  iapply (wp_ld c₀) $$ H3; iintro H3
  iapply (wp_st c₀) $$ H3; iintro H3
  iapply Hk
  isplitl [H7]; · iexact H7
  isplitl [H8]; · iexact H8
  iexact H3

theorem keepV_wp (c : ℕ) (hc : c < 11) (j : ℕ) (hj : j < 4) (v : FVec F S256x256 .f32) (V : Vec F S11x4x256x256 .f32) (K : PUnit → sProp 𝕄) :
    owns (c₀ : Thread nD τ) arg7 fullShare V
      ⊢ iprop((owns (c₀ : Thread nD τ) arg7 fullShare ((Rect.unit (s := S11x4x256x256) ![c, j, 0, 0] S1x1x256x256.size (inbV c hc j hj)).overlay V
            (shapeCast S1x1x256x256 v shapeCasts_S256x256_S1x1x256x256)) -∗ K ⟨⟩)
          -∗ WP c₀ (keepV (F := F) arg7 c hc j hj v) K) := by
  unfold keepV
  iintro H7 Hk
  rw [WP_bind]
  iapply (wp_ld c₀) $$ H7; iintro H7
  iapply (wp_st c₀) $$ H7; iintro H7
  iapply Hk
  iexact H7

/-- Rows `s`, `s + 9`, … of part `c, l` of the maxima. -/
abbrev rectS (c : ℕ) (hc : c < 11) (l : ℕ) (hl : l < 2) (s : ℕ) (hs : s < 8) : Rect S11x2x72x128 :=
  ⟨(⟨![c, l, s, 0], S1x1x8x128.size, ![1, 1, 9, 1], inbSt c hc l hl s hs⟩ : LoadRect S11x2x72x128), spos_1_1_9_1⟩

theorem keepS_wp (c : ℕ) (hc : c < 11) (l : ℕ) (hl : l < 2) (s : ℕ) (hs : s < 8) (x : FVec F S1x1x8x128 .f32)
    (S : Vec F S11x2x72x128 .f32) (K : PUnit → sProp 𝕄) :
    owns (c₀ : Thread nD τ) arg9 fullShare S
      ⊢ iprop((owns (c₀ : Thread nD τ) arg9 fullShare ((rectS c hc l hl s hs).overlay S x) -∗ K ⟨⟩)
          -∗ WP c₀ (keepS (F := F) arg9 c hc l hl s hs x) K) := by
  unfold keepS
  iintro H9 Hk
  rw [WP_bind]
  iapply (wp_ld c₀) $$ H9; iintro H9
  iapply (wp_st c₀) $$ H9; iintro H9
  iapply Hk
  iexact H9

/-! ## What has been written -/

/-- The rotated tiles written after `n` chunks and `j` tiles. -/
def vP (n j : ℕ) (x : S11x4x256x256.Idx) : Prop := (x 0).val < n ∨ ((x 0).val = n ∧ (x 1).val < j)
/-- The factors written after `n` chunks and `l` halves. -/
def rP (n l : ℕ) (x : S11x8x256.Idx) : Prop := (x 0).val < n ∨ ((x 0).val = n ∧ (x 2).val < 128 * l)
/-- The maxima written after `n` chunks and `j` tiles. -/
def sP (n j : ℕ) (x : S11x2x72x128.Idx) : Prop := (x 2).val % 9 < 8 ∧ ((x 0).val < n ∨ ((x 0).val = n ∧ (x 2).val % 9 < 2 * j))
/-- The bytes written after `n` chunks and `j` tiles. -/
def cP (n j : ℕ) (x : S1x2816x512.Idx) : Prop := (x 1).val < 256 * n ∨ ((x 1).val < 256 * (n + 1) ∧ (x 2).val < 128 * j)
/-- The scales written after `n` chunks and `l` halves. -/
def scP (n l : ℕ) (x : S2x8x1408.Idx) : Prop := rowOf x < 256 * n + 128 * l

theorem app3 {A B C D : Type} (f : A → B → C → D) {a a' : A} {b b' : B} {x x' : C} (ha : a = a') (hb : b = b') (hx : x = x') :
    f a b x = f a' b' x' := by subst ha hb hx; rfl
theorem app4 {A B C D E : Type} (f : A → B → C → D → E) {a a' : A} {b b' : B} {x x' : C} {y y' : D} (ha : a = a') (hb : b = b') (hx : x = x')
    (hy : y = y') : f a b x y = f a' b' x' y' := by subst ha hb hx hy; rfl

section written
variable (rv : Fin 11 → Fin 4 → FVec F S256x256 .f32)

theorem codeTile_mix (n j : ℕ) (hn : n < 11) (hj : j < 4) (V N : Vec F S11x4x256x256 .f32) (R M : Vec F S11x8x256 .f32) :
    codeTile (mix (vP n j) N V) (mix (rP n 0) M R) ⟨n, hn⟩ ⟨j, hj⟩ = codeTile V R ⟨n, hn⟩ ⟨j, hj⟩ := by
  unfold codeTile
  rw [rd_mix_old, rd_mix_old, rd_mix_old, rd_mix_old]
  all_goals
    intro i h
    have h0 := (i 0).isLt
    have h1 := (i 1).isLt
    simp only [rP, vP, LoadRect.idx_apply] at h
    simp [S1x1x256, S1x1x128x256] at h h0 h1
    try omega

theorem write_C (n j : ℕ) (hn : n < 11) (hj : j < 4) (V : Vec F S11x4x256x256 .f32) (R : Vec F S11x8x256 .f32) (C : IVec S1x2816x512 8) :
    (Rect.unit (s := S1x2816x512) ![0, 256 * n, 128 * j] S1x256x128.size (inbC (256 * n) (by omega) (128 * j) (by omega))).overlay
      (mix (cP n j) (newC V R) C) (codeTile V R ⟨n, hn⟩ ⟨j, hj⟩) = mix (cP n (j + 1)) (newC V R) C := by
  refine overlay_mix' ?_ ?_
  · intro i
    have h1 : (i 1).val < 256 := (i 1).isLt
    have h2 : (i 2).val < 128 := (i 2).isLt
    have h0 : (i 0).val < 1 := (i 0).isLt
    refine app3 (codeTile V R) (Fin.ext ?_) (Fin.ext ?_) (funext fun a => Fin.ext ?_)
    · simp [LoadRect.idx_apply]; omega
    · simp [LoadRect.idx_apply]; omega
    · fin_cases a <;> simp [modIdx, LoadRect.idx_apply, S1x256x128] <;> omega
  · intro x
    have h0 : (x 0).val < 1 := (x 0).isLt
    rw [mem_unit]
    simp [Fin.forall_fin_succ, cP, S1x256x128]
    omega

theorem write_V (n j : ℕ) (hn : n < 11) (hj : j < 4) (V : Vec F S11x4x256x256 .f32) :
    (Rect.unit (s := S11x4x256x256) ![n, j, 0, 0] S1x1x256x256.size (inbV n hn j hj)).overlay (mix (vP n j) (newV rv) V)
      (shapeCast S1x1x256x256 (rv ⟨n, hn⟩ ⟨j, hj⟩) shapeCasts_S256x256_S1x1x256x256) = mix (vP n (j + 1)) (newV rv) V := by
  refine overlay_mix' ?_ ?_
  · intro i
    have h0 : (i 0).val < 1 := (i 0).isLt
    have h1 : (i 1).val < 1 := (i 1).isLt
    have h2 : (i 2).val < 256 := (i 2).isLt
    have h3 : (i 3).val < 256 := (i 3).isLt
    refine app3 (fun a b => shapeCast S1x1x256x256 (rv a b) shapeCasts_S256x256_S1x1x256x256) (Fin.ext ?_) (Fin.ext ?_)
      (funext fun a => Fin.ext ?_)
    · simp [LoadRect.idx_apply]; omega
    · simp [LoadRect.idx_apply]; omega
    · fin_cases a <;> simp [modIdx, LoadRect.idx_apply, S1x1x256x256] <;> omega
  · intro x
    have h2 : (x 2).val < 256 := (x 2).isLt
    have h3 : (x 3).val < 256 := (x 3).isLt
    rw [mem_unit]
    simp [Fin.forall_fin_succ, vP, S1x1x256x256]
    omega

theorem newS_rectS (n l s : ℕ) (hn : n < 11) (hl : l < 2) (hs : s < 8) (i : (rectS n hn l hl s hs).shape.Idx) :
    sTile rv ⟨n, hn⟩ ⟨l, hl⟩ ⟨s, hs⟩ i = newS rv ((rectS n hn l hl s hs).idx i) := by
  have h0 : (i 0).val < 1 := (i 0).isLt
  have h1 : (i 1).val < 1 := (i 1).isLt
  have h2 : (i 2).val < 8 := (i 2).isLt
  have h3 : (i 3).val < 128 := (i 3).isLt
  refine app4 (sTile rv) (Fin.ext ?_) (Fin.ext ?_) (Fin.ext ?_) (funext fun a => Fin.ext ?_)
  · simp [LoadRect.idx_apply]; omega
  · simp [LoadRect.idx_apply]; omega
  · simp [LoadRect.idx_apply]; omega
  · fin_cases a <;> simp [sIdx, LoadRect.idx_apply, S1x1x8x128] <;> omega

theorem mem_rectS (n l s : ℕ) (hn : n < 11) (hl : l < 2) (hs : s < 8) (x : S11x2x72x128.Idx) :
    x ∈ (rectS n hn l hl s hs).set ↔ (x 0).val = n ∧ (x 1).val = l ∧ (x 2).val % 9 = s := by
  have h2 : (x 2).val < 72 := (x 2).isLt
  have h3 : (x 3).val < 128 := (x 3).isLt
  rw [LoadRect.mem_set]
  simp [Fin.forall_fin_succ, S1x1x8x128]
  intro h0 h1
  constructor
  · rintro ⟨⟨k, hk, hk'⟩, -⟩; omega
  · intro h
    exact ⟨⟨(x 2).val / 9, by omega, by omega⟩, h3⟩

theorem sTile_L0 (n j : ℕ) (hn : n < 11) (hj : j < 4) :
    slabL (slabMax ![0, 0] slices_S256x256_o0_0_S128x256 (rv ⟨n, hn⟩ ⟨j, hj⟩)) = sTile rv ⟨n, hn⟩ ⟨0, by omega⟩ ⟨2 * j, by omega⟩ := by
  have h : (⟨2 * j / 2, by omega⟩ : Fin 4) = ⟨j, hj⟩ := Fin.ext (by simp)
  simp [sTile, grpMax, h]
theorem sTile_R0 (n j : ℕ) (hn : n < 11) (hj : j < 4) :
    slabR (slabMax ![0, 0] slices_S256x256_o0_0_S128x256 (rv ⟨n, hn⟩ ⟨j, hj⟩)) = sTile rv ⟨n, hn⟩ ⟨1, by omega⟩ ⟨2 * j, by omega⟩ := by
  have h : (⟨2 * j / 2, by omega⟩ : Fin 4) = ⟨j, hj⟩ := Fin.ext (by simp)
  simp [sTile, grpMax, h]
theorem sTile_L1 (n j : ℕ) (hn : n < 11) (hj : j < 4) :
    slabL (slabMax ![128, 0] slices_S256x256_o128_0_S128x256 (rv ⟨n, hn⟩ ⟨j, hj⟩)) = sTile rv ⟨n, hn⟩ ⟨0, by omega⟩ ⟨2 * j + 1, by omega⟩ := by
  have h : (⟨(2 * j + 1) / 2, by omega⟩ : Fin 4) = ⟨j, hj⟩ := Fin.ext (by simp; omega)
  have h2 : ¬ (2 * j + 1) % 2 = 0 := by omega
  simp [sTile, grpMax, h]
theorem sTile_R1 (n j : ℕ) (hn : n < 11) (hj : j < 4) :
    slabR (slabMax ![128, 0] slices_S256x256_o128_0_S128x256 (rv ⟨n, hn⟩ ⟨j, hj⟩)) = sTile rv ⟨n, hn⟩ ⟨1, by omega⟩ ⟨2 * j + 1, by omega⟩ := by
  have h : (⟨(2 * j + 1) / 2, by omega⟩ : Fin 4) = ⟨j, hj⟩ := Fin.ext (by simp; omega)
  simp [sTile, grpMax, h]

theorem maximaU_wp (c₀ : Dev nD) (arg9 : Memref sig .tc .vmem S11x2x72x128 .f32) (n : ℕ) (hn : n < 11) (j : ℕ) (hj : j < 4)
    (S : Vec F S11x2x72x128 .f32) (K : PUnit → sProp 𝕄) :
    owns (c₀ : Thread nD τ) arg9 fullShare (mix (sP n j) (newS rv) S)
      ⊢ iprop((owns (c₀ : Thread nD τ) arg9 fullShare (mix (sP n (j + 1)) (newS rv) S) -∗ K ⟨⟩)
          -∗ WP c₀ (maximaU (F := F) arg9 n hn j hj (rv ⟨n, hn⟩ ⟨j, hj⟩)) K) := by
  unfold maximaU
  rw [sTile_L0 rv n j hn hj, sTile_R0 rv n j hn hj, sTile_L1 rv n j hn hj, sTile_R1 rv n j hn hj]
  iintro H9 Hk
  rw [WP_bind]
  iapply (keepS_wp c₀) $$ H9; iintro H9
  rw [overlay_mix (newS_rectS rv n 0 (2 * j) hn (by omega) (by omega)), WP_bind]
  iapply (keepS_wp c₀) $$ H9; iintro H9
  rw [overlay_mix (newS_rectS rv n 1 (2 * j) hn (by omega) (by omega)), WP_bind]
  iapply (keepS_wp c₀) $$ H9; iintro H9
  rw [overlay_mix (newS_rectS rv n 0 (2 * j + 1) hn (by omega) (by omega))]
  iapply (keepS_wp c₀) $$ H9; iintro H9
  rw [overlay_mix' (q := sP n (j + 1)) (newS_rectS rv n 1 (2 * j + 1) hn (by omega) (by omega)) (fun x => by
    have h1 : (x 1).val < 2 := (x 1).isLt
    refine (or_congr (or_congr (or_congr (or_congr Iff.rfl (mem_rectS n 0 (2 * j) hn (by omega) (by omega) x))
      (mem_rectS n 1 (2 * j) hn (by omega) (by omega) x)) (mem_rectS n 0 (2 * j + 1) hn (by omega) (by omega) x))
      (mem_rectS n 1 (2 * j + 1) hn (by omega) (by omega) x)).trans ?_
    unfold sP
    omega)]
  iapply Hk
  iexact H9

theorem rd_S (n l k o : ℕ) (hn : n < 11) (hl : l < 2) (hk : k < 8) (ho : o = 9 * k) (hoo : o ≤ 63) (S : Vec F S11x2x72x128 .f32) :
    rd (mix (sP n 4) (newS rv) S) (Rect.unit (s := S11x2x72x128) ![n, l, o, 0] S1x1x8x128.size (inbSl n hn l hl o hoo)).toLoadRect
      = sRow rv ⟨n, hn⟩ ⟨l, hl⟩ k := by
  subst ho
  rw [rd_mix_new]
  · funext i
    have h0 : (i 0).val < 1 := (i 0).isLt
    have h1 : (i 1).val < 1 := (i 1).isLt
    have h2 : (i 2).val < 8 := (i 2).isLt
    have h3 : (i 3).val < 128 := (i 3).isLt
    refine app4 (sTile rv) (Fin.ext ?_) (Fin.ext ?_) (Fin.ext ?_) (funext fun a => Fin.ext ?_)
    · simp [LoadRect.idx_apply]; omega
    · simp [LoadRect.idx_apply]; omega
    · simp [LoadRect.idx_apply]; omega
    · fin_cases a <;> simp [sIdx, LoadRect.idx_apply, S1x1x8x128] <;> omega
  · intro i
    have h0 : (i 0).val < 1 := (i 0).isLt
    have h2 : (i 2).val < 8 := (i 2).isLt
    simp [sP, LoadRect.idx_apply]
    omega

theorem write_R (n l : ℕ) (hn : n < 11) (hl : l < 2) (R : Vec F S11x8x256 .f32) :
    (Rect.unit (s := S11x8x256) ![n, 0, 128 * l] S1x8x128.size (inbRl n hn (128 * l) (by omega))).overlay (mix (rP n l) (newR rv) R)
      (shapeCast S1x8x128 (recipOf (scaleOf (mxOf rv ⟨n, hn⟩ ⟨l, hl⟩))) shapeCasts_S8x128_S1x8x128) = mix (rP n (l + 1)) (newR rv) R := by
  refine overlay_mix' ?_ ?_
  · intro i
    have h0 : (i 0).val < 1 := (i 0).isLt
    have h1 : (i 1).val < 8 := (i 1).isLt
    have h2 : (i 2).val < 128 := (i 2).isLt
    refine app3 (fun a b => shapeCast S1x8x128 (recipOf (scaleOf (mxOf rv a b))) shapeCasts_S8x128_S1x8x128) (Fin.ext ?_) (Fin.ext ?_)
      (funext fun a => Fin.ext ?_)
    · simp [LoadRect.idx_apply]; omega
    · simp [LoadRect.idx_apply]; omega
    · fin_cases a <;> simp [modIdx, LoadRect.idx_apply, S1x8x128] <;> omega
  · intro x
    have h1 : (x 1).val < 8 := (x 1).isLt
    rw [mem_unit]
    simp [Fin.forall_fin_succ, rP, S1x8x128]
    omega

theorem write_Sc (n l : ℕ) (hn : n < 11) (hl : l < 2) (Sc : Vec F S2x8x1408 .f32) :
    (Rect.unit (s := S2x8x1408) ![(256 * n + 128 * l) / 1408, 0, (256 * n + 128 * l) % 1408] S1x8x128.size
      (inbSc _ (by omega) _ (by omega))).overlay (mix (scP n l) (newSc rv) Sc)
      (shapeCast S1x8x128 (scaleOf (mxOf rv ⟨n, hn⟩ ⟨l, hl⟩)) shapeCasts_S8x128_S1x8x128) = mix (scP n (l + 1)) (newSc rv) Sc := by
  refine overlay_mix' ?_ ?_
  · intro i
    have h0 : (i 0).val < 1 := (i 0).isLt
    have h1 : (i 1).val < 8 := (i 1).isLt
    have h2 : (i 2).val < 128 := (i 2).isLt
    refine app3 (fun a b => shapeCast S1x8x128 (scaleOf (mxOf rv a b)) shapeCasts_S8x128_S1x8x128) (Fin.ext ?_) (Fin.ext ?_)
      (funext fun a => Fin.ext ?_)
    · simp [rowOf, LoadRect.idx_apply]; omega
    · simp [rowOf, LoadRect.idx_apply]; omega
    · fin_cases a <;> simp [modIdx, LoadRect.idx_apply, S1x8x128] <;> omega
  · intro x
    have h0 : (x 0).val < 2 := (x 0).isLt
    have h1 : (x 1).val < 8 := (x 1).isLt
    have h2 : (x 2).val < 1408 := (x 2).isLt
    rw [mem_unit]
    simp [Fin.forall_fin_succ, scP, rowOf, S1x8x128]
    omega

end written

/-! ## One tile, one chunk, all chunks -/

section steps

variable (rv : Fin 11 → Fin 4 → FVec F S256x256 .f32)
  (V : Vec F S11x4x256x256 .f32) (R : Vec F S11x8x256 .f32) (S : Vec F S11x2x72x128 .f32) (C : IVec S1x2816x512 8) (Sc : Vec F S2x8x1408 .f32)
  (rotate : ∀ c, c < 11 → ∀ j, j < 4 → TCProg F (FVec F S256x256 .f32)) (Rres : SP F)
  (hrot : ∀ (c : ℕ) (hc : c < 11) (j : ℕ) (hj : j < 4) (K : FVec F S256x256 .f32 → SP F),
    Rres ⊢ iprop((Rres -∗ K (rv ⟨c, hc⟩ ⟨j, hj⟩)) -∗ WP c₀ (rotate c hc j hj) K))

/-- The buffers after `n` chunks and `j` tiles of the next. -/
abbrev tilesAt (n j : ℕ) : sProp 𝕄 :=
  iprop(owns (c₀ : Thread nD τ) arg7 fullShare (mix (vP n j) (newV rv) V)
    ∗ owns (c₀ : Thread nD τ) arg8 fullShare (mix (rP n 0) (newR rv) R)
    ∗ owns (c₀ : Thread nD τ) arg9 fullShare (mix (sP n j) (newS rv) S)
    ∗ owns (c₀ : Thread nD τ) arg3 fullShare (mix (cP n j) (newC V R) C))

/-- The buffers that the scales touch, after `n` chunks and `l` halves of the next. -/
abbrev scalesAt (n l : ℕ) : sProp 𝕄 :=
  iprop(owns (c₀ : Thread nD τ) arg8 fullShare (mix (rP n l) (newR rv) R)
    ∗ owns (c₀ : Thread nD τ) arg9 fullShare (mix (sP n 4) (newS rv) S)
    ∗ owns (c₀ : Thread nD τ) arg4 fullShare (mix (scP n l) (newSc rv) Sc))

include hrot in
theorem tileU_wp (n : ℕ) (hn : n < 11) (j : ℕ) (hj : j < 4) (K : PUnit → sProp 𝕄) :
    iprop(tilesAt c₀ arg3 arg7 arg8 arg9 rv V R S C n j ∗ Rres)
      ⊢ iprop((iprop(tilesAt c₀ arg3 arg7 arg8 arg9 rv V R S C n (j + 1) ∗ Rres) -∗ K ⟨⟩)
          -∗ WP c₀ (tileU (F := F) arg3 harg3 arg7 arg8 arg9 rotate n hn j hj) K) := by
  unfold tileU
  iintro ⟨⟨H7, H8, H9, H3⟩, HR⟩ Hk
  rw [WP_bind]
  iapply (codesU_wp c₀ arg3 harg3 arg7 arg8) $$ [H7 H8 H3]
  · isplitl [H7]; · iexact H7
    isplitl [H8]; · iexact H8
    iexact H3
  iintro ⟨H7, H8, H3⟩
  rw [codeTile_mix n j hn hj, write_C n j hn hj, WP_bind]
  iapply (hrot n hn j hj) $$ HR
  iintro HR
  rw [WP_bind]
  iapply (keepV_wp c₀) $$ H7
  iintro H7
  rw [write_V rv n j hn hj]
  iapply (maximaU_wp rv c₀) $$ H9
  iintro H9
  iapply Hk
  isplitr [HR]
  · isplitl [H7]; · iexact H7
    isplitl [H8]; · iexact H8
    isplitl [H9]; · iexact H9
    iexact H3
  iexact HR

theorem scaleU_wp (n : ℕ) (hn : n < 11) (l : ℕ) (hl : l < 2) (K : PUnit → sProp 𝕄) :
    scalesAt c₀ arg4 arg8 arg9 rv R S Sc n l
      ⊢ iprop((scalesAt c₀ arg4 arg8 arg9 rv R S Sc n (l + 1) -∗ K ⟨⟩)
          -∗ WP c₀ (scaleU (F := F) arg4 arg8 arg9 n hn l hl) K) := by
  unfold scaleU loadS
  iintro ⟨H8, H9, H4⟩ Hk
  rw [WP_bind]; iapply (wp_ld c₀) $$ H9; iintro H9
  rw [WP_bind]; iapply (wp_ld c₀) $$ H9; iintro H9
  rw [WP_bind]; iapply (wp_ld c₀) $$ H9; iintro H9
  rw [WP_bind]; iapply (wp_ld c₀) $$ H9; iintro H9
  rw [WP_bind]; iapply (wp_ld c₀) $$ H9; iintro H9
  rw [WP_bind]; iapply (wp_ld c₀) $$ H9; iintro H9
  rw [WP_bind]; iapply (wp_ld c₀) $$ H9; iintro H9
  rw [WP_bind]; iapply (wp_ld c₀) $$ H9; iintro H9
  rw [rd_S rv n l 0 0 hn hl (by omega) rfl (by omega), rd_S rv n l 1 9 hn hl (by omega) rfl (by omega), rd_S rv n l 2 18 hn hl (by omega) rfl (by omega),
    rd_S rv n l 3 27 hn hl (by omega) rfl (by omega), rd_S rv n l 4 36 hn hl (by omega) rfl (by omega), rd_S rv n l 5 45 hn hl (by omega) rfl (by omega),
    rd_S rv n l 6 54 hn hl (by omega) rfl (by omega), rd_S rv n l 7 63 hn hl (by omega) rfl (by omega)]
  rw [WP_bind]; iapply (wp_ld c₀) $$ H8; iintro H8
  rw [WP_bind]; iapply (wp_st c₀) $$ H8; iintro H8
  rw [WP_bind]; iapply (wp_ld c₀) $$ H4; iintro H4
  iapply (wp_st c₀) $$ H4; iintro H4
  iapply Hk
  isplitl [H8]
  · rw [← write_R rv n l hn hl]; iexact H8
  isplitl [H9]; · iexact H9
  rw [← write_Sc rv n l hn hl]; iexact H4

/-- The buffers after `n` chunks. -/
abbrev chunksAt (n : ℕ) : sProp 𝕄 :=
  iprop(tilesAt c₀ arg3 arg7 arg8 arg9 rv V R S C n 0 ∗ owns (c₀ : Thread nD τ) arg4 fullShare (mix (scP n 0) (newSc rv) Sc))

theorem vP_succ (n : ℕ) (N V : Vec F S11x4x256x256 .f32) : mix (vP n 4) N V = mix (vP (n + 1) 0) N V :=
  mix_congr fun x => by have : (x 1).val < 4 := (x 1).isLt; unfold vP; omega
theorem rP_succ (n : ℕ) (N V : Vec F S11x8x256 .f32) : mix (rP n 2) N V = mix (rP (n + 1) 0) N V :=
  mix_congr fun x => by have : (x 2).val < 256 := (x 2).isLt; unfold rP; omega
theorem sP_succ (n : ℕ) (N V : Vec F S11x2x72x128 .f32) : mix (sP n 4) N V = mix (sP (n + 1) 0) N V :=
  mix_congr fun x => by unfold sP; omega
theorem cP_succ (n : ℕ) (N V : IVec S1x2816x512 8) : mix (cP n 4) N V = mix (cP (n + 1) 0) N V :=
  mix_congr fun x => by have : (x 2).val < 512 := (x 2).isLt; unfold cP; omega
theorem scP_succ (n : ℕ) (N V : Vec F S2x8x1408 .f32) : mix (scP n 2) N V = mix (scP (n + 1) 0) N V :=
  mix_congr fun x => by unfold scP; omega

include hrot in
theorem chunkU_wp (n : ℕ) (hn : n < 11) (K : PUnit → sProp 𝕄) :
    iprop(chunksAt c₀ arg3 arg4 arg7 arg8 arg9 rv V R S C Sc n ∗ Rres)
      ⊢ iprop((iprop(chunksAt c₀ arg3 arg4 arg7 arg8 arg9 rv V R S C Sc (n + 1) ∗ Rres) -∗ K ⟨⟩)
          -∗ WP c₀ (chunkU (F := F) arg3 harg3 arg4 arg7 arg8 arg9 rotate n hn) K) := by
  unfold chunkU
  iintro ⟨⟨HT, H4⟩, HR⟩ Hk
  rw [WP_bind]
  iapply (tileU_wp c₀ arg3 harg3 arg7 arg8 arg9 rv V R S C rotate Rres hrot) $$ [HT HR]
  · isplitl [HT]; · iexact HT
    iexact HR
  iintro H
  rw [WP_bind]; iapply (tileU_wp c₀ arg3 harg3 arg7 arg8 arg9 rv V R S C rotate Rres hrot) $$ H; iintro H
  rw [WP_bind]; iapply (tileU_wp c₀ arg3 harg3 arg7 arg8 arg9 rv V R S C rotate Rres hrot) $$ H; iintro H
  rw [WP_bind]; iapply (tileU_wp c₀ arg3 harg3 arg7 arg8 arg9 rv V R S C rotate Rres hrot) $$ H; iintro ⟨⟨H7, H8, H9, H3⟩, HR⟩
  rw [WP_bind]
  iapply (scaleU_wp c₀ arg4 arg8 arg9 rv R S Sc) $$ [H8 H9 H4]
  · isplitl [H8]; · iexact H8
    isplitl [H9]; · iexact H9
    iexact H4
  iintro H
  iapply (scaleU_wp c₀ arg4 arg8 arg9 rv R S Sc) $$ H
  iintro ⟨H8, H9, H4⟩
  iapply Hk
  isplitr [HR]
  · isplitr [H4]
    · isplitl [H7]; · rw [← vP_succ]; iexact H7
      isplitl [H8]; · rw [← rP_succ]; iexact H8
      isplitl [H9]; · rw [← sP_succ]; iexact H9
      rw [← cP_succ]; iexact H3
    rw [← scP_succ]; iexact H4
  iexact HR

include hrot in
theorem chunksU_wp (n : ℕ) (hn : n ≤ 11) (K : PUnit → sProp 𝕄) :
    iprop(chunksAt c₀ arg3 arg4 arg7 arg8 arg9 rv V R S C Sc 0 ∗ Rres)
      ⊢ iprop((iprop(chunksAt c₀ arg3 arg4 arg7 arg8 arg9 rv V R S C Sc n ∗ Rres) -∗ K ⟨⟩)
          -∗ WP c₀ (chunksU (F := F) arg3 harg3 arg4 arg7 arg8 arg9 rotate n hn) K) := by
  induction n generalizing K with
  | zero =>
    iintro H Hk
    unfold chunksU
    iapply (WP_pure c₀)
    iapply Hk $$ H
  | succ n ih =>
    iintro H Hk
    unfold chunksU
    rw [WP_bind]
    iapply ih $$ H
    iintro H
    iapply (chunkU_wp c₀ arg3 harg3 arg4 arg7 arg8 arg9 rv V R S C Sc rotate Rres hrot) $$ H
    iexact Hk

include hrot in
/-- One whole step: from any contents `V`, `R` of the last step, the bytes made from them, and this step's rotated tiles, factors and scales. -/
theorem step_wp (K : PUnit → sProp 𝕄) :
    iprop(owns (c₀ : Thread nD τ) arg7 fullShare V ∗ owns (c₀ : Thread nD τ) arg8 fullShare R ∗ owns (c₀ : Thread nD τ) arg9 fullShare S
        ∗ owns (c₀ : Thread nD τ) arg3 fullShare C ∗ owns (c₀ : Thread nD τ) arg4 fullShare Sc ∗ Rres)
      ⊢ iprop((iprop(owns (c₀ : Thread nD τ) arg7 fullShare (newV rv) ∗ owns (c₀ : Thread nD τ) arg8 fullShare (newR rv)
            ∗ (∃ S, owns (c₀ : Thread nD τ) arg9 fullShare S)
            ∗ owns (c₀ : Thread nD τ) arg3 fullShare (newC V R) ∗ owns (c₀ : Thread nD τ) arg4 fullShare (newSc rv) ∗ Rres) -∗ K ⟨⟩)
          -∗ WP c₀ (chunksU (F := F) arg3 harg3 arg4 arg7 arg8 arg9 rotate 11 (by omega)) K) := by
  iintro ⟨H7, H8, H9, H3, H4, HR⟩ Hk
  iapply (chunksU_wp c₀ arg3 harg3 arg4 arg7 arg8 arg9 rv V R S C Sc rotate Rres hrot 11) $$ [H7 H8 H9 H3 H4 HR]
  · isplitr [HR]
    · isplitr [H4]
      · isplitl [H7]; · rw [mix_none (fun x => by unfold vP; omega)]; iexact H7
        isplitl [H8]; · rw [mix_none (fun x => by unfold rP; omega)]; iexact H8
        isplitl [H9]; · rw [mix_none (fun x => by unfold sP; omega)]; iexact H9
        rw [mix_none (fun x => by unfold cP; omega)]; iexact H3
      rw [mix_none (fun x => by unfold scP; omega)]; iexact H4
    iexact HR
  unfold chunksAt tilesAt
  rw [mix_all (p := vP 11 0) (fun x => by have : (x 0).val < 11 := (x 0).isLt; unfold vP; omega),
    mix_all (p := rP 11 0) (fun x => by have : (x 0).val < 11 := (x 0).isLt; unfold rP; omega),
    mix_all (p := cP 11 0) (fun x => by have : (x 1).val < 2816 := (x 1).isLt; unfold cP; omega),
    mix_all (p := scP 11 0) (fun x => by have := rowOf_lt x; unfold scP; omega)]
  iintro ⟨⟨⟨H7, H8, H9, H3⟩, H4⟩, HR⟩
  iapply Hk
  isplitl [H7]; · iexact H7
  isplitl [H8]; · iexact H8
  isplitl [H9]; · iexists _; iexact H9
  isplitl [H3]; · iexact H3
  isplitl [H4]; · iexact H4
  iexact HR

end steps

end Cert.Kernel.Gen

end
-- ==== Proof.K.Rotate.lean ====
module

public import proofs.«01_k».proof.Proof.K.Units
public import Idealize.ShloMosaic.Lib.Pipeline.Value

/-! The rotated tile: a Hadamard tile times two slabs of a landed block. -/

@[expose] public section

noncomputable section

namespace Cert.Kernel.Gen

open Cert.Kernel K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

/-! ## The values -/

/-- Row `r`, column `l` of a slab. -/
def slabIdx (r l : ℕ) : S2816x128.Idx := fun a =>
  ⟨(![r, l] : Fin 2 → ℕ) a % S2816x128.size a, Nat.mod_lt _ (by revert a; decide)⟩

/-- The 256 rows from `o` on of a slab. -/
def slabTile (X : Vec F S2816x128 .bf16) (o : ℕ) : Vec F S1x1x256x128 .bf16 := fun i => X (slabIdx (o + (i 2).val) (i 3).val)

/-- Rows of chunk `c`, both slabs of tile `j`. -/
def wT (X : Fin 8 → Vec F S2816x128 .bf16) (c : Fin 11) (j : Fin 4) : FVec F S256x256 .bf16 :=
  wTile (slabTile (X ⟨2 * j.val, by omega⟩) (256 * c.val)) (slabTile (X ⟨2 * j.val + 1, by omega⟩) (256 * c.val))

/-- Hadamard tile `t` of part `p`. -/
def hT (H : Vec F S3x16x2x256x128 .bf16) (p : Fin 3) (t : Fin 16) : FVec F S256x256 .bf16 :=
  hTile (rd H (Rect.unit (s := S3x16x2x256x128) ![p.val, t.val, 0, 0, 0] S1x1x1x256x128.size (inbH p.val p.isLt t.val t.isLt 0 (by omega))).toLoadRect)
    (rd H (Rect.unit (s := S3x16x2x256x128) ![p.val, t.val, 1, 0, 0] S1x1x1x256x128.size (inbH p.val p.isLt t.val t.isLt 1 (by omega))).toLoadRect)

/-- The rotated tiles by one pass. -/
def rv1 (i : grid0.Coords) (H : Vec F S3x16x2x256x128 .bf16) (X : Fin 8 → Vec F S2816x128 .bf16) (c : Fin 11) (j : Fin 4) : FVec F S256x256 .f32 :=
  rot (hT H 0 ⟨tileN i j.val, tileN_lt i j.val j.isLt⟩) (wT X c j)

/-- The rotated tiles by three passes. -/
def rv3 (i : grid0.Coords) (H : Vec F S3x16x2x256x128 .bf16) (X : Fin 8 → Vec F S2816x128 .bf16) (c : Fin 11) (j : Fin 4) : FVec F S256x256 .f32 :=
  addf (addf (rot (hT H 0 ⟨tileN i j.val, tileN_lt i j.val j.isLt⟩) (wT X c j)) (rot (hT H 1 ⟨tileN i j.val, tileN_lt i j.val j.isLt⟩) (wT X c j)))
    (rot (hT H 2 ⟨tileN i j.val, tileN_lt i j.val j.isLt⟩) (wT X c j))

/-! ## The loads -/

variable (c₀ : Dev nD) (arg5 : Memref sig .tc .vmem S3x8x2816x128 .bf16) (arg6 : Memref sig .tc .vmem S3x16x2x256x128 .bf16)

theorem casts_slab : S1x1x2816x128.ShapeCasts S2816x128 := by decide

theorem slab_set (k : ℕ) (hk : k < 3) (j : ℕ) (hj : j < 8) (o : ℕ) (ho : o ≤ 2560) :
    arg5.view.setOn (Rect.unit (s := S3x8x2816x128) ![k, j, o, 0] S1x1x256x128.size (inbW k hk j hj o ho)).toLoadRect.set
      ⊆ (dstView arg5 k hk j hj).view.set := by
  refine Finset.Subset.trans (show _ ⊆ (arg5.view.slice
    (Rect.unit (s := S3x8x2816x128) ![k, j, 0, 0] S1x1x2816x128.size (inbDst k hk j hj))).set from ?_)
    (Finset.Subset.antisymm_iff.mp (Memref.set_view_squeeze (arg5.slice (Rect.unit (s := S3x8x2816x128) ![k, j, 0, 0] S1x1x2816x128.size
      (inbDst k hk j hj)) (fun _ => rfl)) squeezes_S1x1x2816x128_S2816x128)).2
  rw [View.set_slice]
  refine Finset.map_subset_map.mpr fun x hx => ?_
  rw [mem_unit] at hx ⊢
  simp [Fin.forall_fin_succ, S1x1x256x128, S1x1x2816x128] at hx ⊢
  omega

theorem slab_read (k : ℕ) (hk : k < 3) (j : ℕ) (hj : j < 8) (o : ℕ) (ho : o ≤ 2560) (f : arg5.view.ty.Contents (Elt F)) :
    arg5.view.readAt (Elt F) (Rect.unit (s := S3x8x2816x128) ![k, j, o, 0] S1x1x256x128.size (inbW k hk j hj o ho)).toLoadRect f
      = slabTile ((dstView arg5 k hk j hj).view.read (Elt F) f) o := by
  funext i
  have h0 : (i 0).val < 1 := (i 0).isLt
  have h1 : (i 1).val < 1 := (i 1).isLt
  have h2 : (i 2).val < 256 := (i 2).isLt
  have h3 : (i 3).val < 128 := (i 3).isLt
  unfold slabTile dstView
  rw [Memref.read_squeeze_slice arg5 _ _ _ casts_slab f]
  rw [shapeCast_apply (k := (fun a => ⟨(![0, 0, o + (i 2).val, (i 3).val] : Fin 4 → ℕ) a, by
    fin_cases a <;> simp [S1x1x2816x128] <;> omega⟩ : S1x1x2816x128.Idx))]
  · rw [View.readAt_apply, View.readAt_apply]
    congr 1
    funext a
    apply Fin.ext
    fin_cases a <;> simp [LoadRect.idx_apply] <;> omega
  · rw [Shape.rowMajor_val_two]
    refine (Shape.rowMajor_val_four _).trans ?_
    simp [slabIdx, S2816x128, S1x1x2816x128]
    omega

theorem wp_ld_slab_raw (k : ℕ) (hk : k < 3) (j : ℕ) (hj : j < 8) (o : ℕ) (ho : o ≤ 2560) (f : arg5.view.ty.Contents (Elt F))
    {hl : arg5.view.LoadsAt (Rect.unit (s := S3x8x2816x128) ![k, j, o, 0] S1x1x256x128.size (inbW k hk j hj o ho)).toLoadRect}
    (K : Vec F S1x1x256x128 .bf16 → sProp 𝕄) :
    ((dstView arg5 k hk j hj).view.loc (c₀ : Thread nD τ) ↦[(dstView arg5 k hk j hj).view.set]{fullShare} f : sProp 𝕄)
      ⊢ iprop((((dstView arg5 k hk j hj).view.loc (c₀ : Thread nD τ) ↦[(dstView arg5 k hk j hj).view.set]{fullShare} f)
          -∗ K (slabTile ((dstView arg5 k hk j hj).view.read (Elt F) f) o))
        -∗ WP c₀ (Prog.lift (.load arg5 (Rect.unit (s := S3x8x2816x128) ![k, j, o, 0] S1x1x256x128.size (inbW k hk j hj o ho)).toLoadRect hl)) K) := by
  rw [← slab_read arg5 k hk j hj o ho f]
  iintro H Hk
  have h : ((dstView arg5 k hk j hj).view.loc (c₀ : Thread nD τ) ↦[(dstView arg5 k hk j hj).view.set]{fullShare} f : sProp 𝕄)
      ⊢ iprop((((dstView arg5 k hk j hj).view.loc (c₀ : Thread nD τ) ↦[(dstView arg5 k hk j hj).view.set]{fullShare} f)
          -∗ WP c₀ (Prog.ret (arg5.view.readAt (Elt F) (Rect.unit (s := S3x8x2816x128) ![k, j, o, 0] S1x1x256x128.size (inbW k hk j hj o ho)).toLoadRect f)) K)
        -∗ WP c₀ (Prog.lift (.load arg5 (Rect.unit (s := S3x8x2816x128) ![k, j, o, 0] S1x1x256x128.size (inbW k hk j hj o ho)).toLoadRect hl)) K) :=
    wp_load Variants.none (c₀ : Thread nD τ) none Set.univ (k := Prog.ret) (slab_set arg5 k hk j hj o ho)
  iapply h $$ H
  iintro H
  iapply (le_wp_ret _ _ _ _ K)
  iapply Hk
  iexact H

theorem wp_ld_slab (k : ℕ) (hk : k < 3) (j : ℕ) (hj : j < 8) (o : ℕ) (ho : o ≤ 2560) (X : Vec F S2816x128 .bf16)
    {hl : arg5.view.LoadsAt (Rect.unit (s := S3x8x2816x128) ![k, j, o, 0] S1x1x256x128.size (inbW k hk j hj o ho)).toLoadRect}
    (K : Vec F S1x1x256x128 .bf16 → sProp 𝕄) :
    owns (c₀ : Thread nD τ) (dstView arg5 k hk j hj) fullShare X
      ⊢ iprop((owns (c₀ : Thread nD τ) (dstView arg5 k hk j hj) fullShare X -∗ K (slabTile X o))
          -∗ WP c₀ (Prog.lift (.load arg5 (Rect.unit (s := S3x8x2816x128) ![k, j, o, 0] S1x1x256x128.size (inbW k hk j hj o ho)).toLoadRect hl)) K) := by
  unfold owns
  iintro ⟨%f, %hf, H⟩ Hk
  subst hf
  iapply (wp_ld_slab_raw c₀ arg5 k hk j hj o ho f K) $$ H
  iintro H
  iapply Hk
  iexists f
  isplitr
  · ipureintro; rfl
  iexact H

/-! ## The tiles -/

/-- The eight slabs of slot `k`. -/
def slabs (k : ℕ) (hk : k < 3) (X : Fin 8 → Vec F S2816x128 .bf16) : sProp 𝕄 :=
  bigSep Finset.univ fun j : Fin 8 => owns (c₀ : Thread nD τ) (dstView arg5 k hk j.val j.isLt) fullShare (X j)

/-- What a rotation reads. -/
def RotRes (i : grid0.Coords) (H : Vec F S3x16x2x256x128 .bf16) (X : Fin 8 → Vec F S2816x128 .bf16) : sProp 𝕄 :=
  iprop(owns (c₀ : Thread nD τ) arg6 fullShare H ∗ slabs c₀ arg5 (slotN i) (slotN_lt i) X)

theorem slabs_take (k : ℕ) (hk : k < 3) (X : Fin 8 → Vec F S2816x128 .bf16) (j : ℕ) (hj : j < 8) :
    slabs c₀ arg5 k hk X ⊢ iprop(owns (c₀ : Thread nD τ) (dstView arg5 k hk j hj) fullShare (X ⟨j, hj⟩)
      ∗ (owns (c₀ : Thread nD τ) (dstView arg5 k hk j hj) fullShare (X ⟨j, hj⟩) -∗ slabs c₀ arg5 k hk X)) := by
  unfold slabs
  have e := BI.bigSep_erase (Φ := fun j : Fin 8 => (owns (c₀ : Thread nD τ) (dstView arg5 k hk j.val j.isLt) fullShare (X j) : sProp 𝕄))
    (Finset.mem_univ (⟨j, hj⟩ : Fin 8))
  have e' : (bigSep Finset.univ fun j : Fin 8 => (owns (c₀ : Thread nD τ) (dstView arg5 k hk j.val j.isLt) fullShare (X j) : sProp 𝕄))
      = iprop(owns (c₀ : Thread nD τ) (dstView arg5 k hk j hj) fullShare (X ⟨j, hj⟩)
        ∗ bigSep (Finset.univ.erase (⟨j, hj⟩ : Fin 8)) fun j : Fin 8 => owns (c₀ : Thread nD τ) (dstView arg5 k hk j.val j.isLt) fullShare (X j)) := e
  rw [e']
  iintro ⟨H, R⟩
  isplitl [H]
  · iexact H
  iintro H
  isplitl [H]
  · iexact H
  iexact R

theorem loadW_wp (i : grid0.Coords) (X : Fin 8 → Vec F S2816x128 .bf16) (c : ℕ) (hc : c < 11) (j : ℕ) (hj : j < 4)
    (K : FVec F S256x256 .bf16 → SP F) :
    slabs c₀ arg5 (slotN i) (slotN_lt i) X
      ⊢ iprop((slabs c₀ arg5 (slotN i) (slotN_lt i) X -∗ K (wT X ⟨c, hc⟩ ⟨j, hj⟩)) -∗ WP c₀ (loadW i arg5 c hc j hj) K) := by
  rw [show wT X ⟨c, hc⟩ ⟨j, hj⟩ = wTile (slabTile (X ⟨2 * j, by omega⟩) (256 * c)) (slabTile (X ⟨2 * j + 1, by omega⟩) (256 * c)) from rfl]
  iintro H Hk
  unfold loadW
  rw [WP_bind]
  ihave H' := (slabs_take c₀ arg5 (slotN i) (slotN_lt i) X (2 * j) (by omega)) $$ H
  icases H' with ⟨H, Hb⟩
  iapply (wp_ld_slab c₀ arg5 _ _ _ _ _ (by omega) _ _) $$ H
  iintro H
  ihave H := Hb $$ H
  rw [WP_bind]
  ihave H' := (slabs_take c₀ arg5 (slotN i) (slotN_lt i) X (2 * j + 1) (by omega)) $$ H
  icases H' with ⟨H, Hb⟩
  iapply (wp_ld_slab c₀ arg5 _ _ _ _ _ (by omega) _ _) $$ H
  iintro H
  ihave H := Hb $$ H
  iapply (WP_pure c₀ _ K)
  iapply Hk
  iexact H

theorem loadH_wp (i : grid0.Coords) (H : Vec F S3x16x2x256x128 .bf16) (p : ℕ) (hp : p < 3) (j : ℕ) (hj : j < 4)
    (K : FVec F S256x256 .bf16 → SP F) :
    owns (c₀ : Thread nD τ) arg6 fullShare H
      ⊢ iprop((owns (c₀ : Thread nD τ) arg6 fullShare H -∗ K (hT H ⟨p, hp⟩ ⟨tileN i j, tileN_lt i j hj⟩)) -∗ WP c₀ (loadH i arg6 p hp j hj) K) := by
  rw [show hT H ⟨p, hp⟩ ⟨tileN i j, tileN_lt i j hj⟩ = hTile
    (rd H (Rect.unit (s := S3x16x2x256x128) ![p, tileN i j, 0, 0, 0] S1x1x1x256x128.size (inbH p hp _ (tileN_lt i j hj) 0 (by omega))).toLoadRect)
    (rd H (Rect.unit (s := S3x16x2x256x128) ![p, tileN i j, 1, 0, 0] S1x1x1x256x128.size (inbH p hp _ (tileN_lt i j hj) 1 (by omega))).toLoadRect) from rfl]
  iintro H Hk
  unfold loadH
  rw [WP_bind]
  iapply (wp_ld c₀) $$ H
  iintro H
  rw [WP_bind]
  iapply (wp_ld c₀) $$ H
  iintro H
  iapply (WP_pure c₀ _ K)
  iapply Hk
  iexact H

theorem rotate1_wp (i : grid0.Coords) (H : Vec F S3x16x2x256x128 .bf16) (X : Fin 8 → Vec F S2816x128 .bf16)
    (c : ℕ) (hc : c < 11) (j : ℕ) (hj : j < 4) (K : FVec F S256x256 .f32 → SP F) :
    RotRes c₀ arg5 arg6 i H X
      ⊢ iprop((RotRes c₀ arg5 arg6 i H X -∗ K (rv1 i H X ⟨c, hc⟩ ⟨j, hj⟩)) -∗ WP c₀ (rotate1 i arg5 arg6 c hc j hj) K) := by
  unfold RotRes
  rw [show rv1 i H X ⟨c, hc⟩ ⟨j, hj⟩ = rot (hT H ⟨0, by omega⟩ ⟨tileN i j, tileN_lt i j hj⟩) (wT X ⟨c, hc⟩ ⟨j, hj⟩) from rfl]
  iintro ⟨H, S⟩ Hk
  unfold rotate1
  rw [WP_bind]
  iapply (loadW_wp c₀ arg5 i X c hc j hj _) $$ S
  iintro S
  rw [WP_bind]
  iapply (loadH_wp c₀ arg6 i _ 0 _ j hj _) $$ H
  iintro H
  iapply (WP_pure c₀ _ K)
  iapply Hk
  isplitl [H]
  · iexact H
  iexact S

theorem rotate3_wp (i : grid0.Coords) (H : Vec F S3x16x2x256x128 .bf16) (X : Fin 8 → Vec F S2816x128 .bf16)
    (c : ℕ) (hc : c < 11) (j : ℕ) (hj : j < 4) (K : FVec F S256x256 .f32 → SP F) :
    RotRes c₀ arg5 arg6 i H X
      ⊢ iprop((RotRes c₀ arg5 arg6 i H X -∗ K (rv3 i H X ⟨c, hc⟩ ⟨j, hj⟩)) -∗ WP c₀ (rotate3 i arg5 arg6 c hc j hj) K) := by
  unfold RotRes
  rw [show rv3 i H X ⟨c, hc⟩ ⟨j, hj⟩ = addf (addf (rot (hT H ⟨0, by omega⟩ ⟨tileN i j, tileN_lt i j hj⟩) (wT X ⟨c, hc⟩ ⟨j, hj⟩))
    (rot (hT H ⟨1, by omega⟩ ⟨tileN i j, tileN_lt i j hj⟩) (wT X ⟨c, hc⟩ ⟨j, hj⟩)))
    (rot (hT H ⟨2, by omega⟩ ⟨tileN i j, tileN_lt i j hj⟩) (wT X ⟨c, hc⟩ ⟨j, hj⟩)) from rfl]
  iintro ⟨H, S⟩ Hk
  unfold rotate3
  rw [WP_bind]
  iapply (loadW_wp c₀ arg5 i X c hc j hj _) $$ S
  iintro S
  rw [WP_bind]
  iapply (loadH_wp c₀ arg6 i _ 0 _ j hj _) $$ H
  iintro H
  rw [WP_bind]
  iapply (loadH_wp c₀ arg6 i _ 1 _ j hj _) $$ H
  iintro H
  rw [WP_bind]
  iapply (loadH_wp c₀ arg6 i _ 2 _ j hj _) $$ H
  iintro H
  iapply (WP_pure c₀ _ K)
  iapply Hk
  isplitl [H]
  · iexact H
  iexact S

end Cert.Kernel.Gen

end
-- ==== Proof.K.Ring.lean ====
module

public import proofs.«01_k».proof.Proof.K.Rotate
public import Idealize.ShloMosaic.Lib.ShareLeaves
public import Idealize.ShloMosaic.Lib.Batch

/-! The ring of landing slots: eight copies started on one semaphore, and the eight waits that bring them back. -/

@[expose] public section

noncomputable section

namespace Cert.Kernel.Gen

open Cert.Kernel K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Transfers (Batch pending)
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

/-- The share of the array that slot `k` reads through. -/
def slotShare (k : ℕ) (hk : k < 3) : PosShare TreeShare := leaf 2 fullShare ⟨k, by omega⟩
/-- The share of the array that slab `j` of slot `k` reads through. -/
def slabShare (k : ℕ) (hk : k < 3) (j : Fin 8) : PosShare TreeShare := leaf 3 (slotShare k hk) ⟨j.val, by omega⟩

variable (c₀ : Dev nD) (arg2 : Memref sig .tc .hbm S20x2816x4096 .bf16) (arg5 : Memref sig .tc .vmem S3x8x2816x128 .bf16)
  (arg11 : DmaSems sig S3) (f : Buf (Elt F) (arg2.view.loc (c₀ : Thread nD τ)))

/-- What one copy adds to its semaphore. -/
def credN : ℕ := (dstView arg5 0 (by omega) 0 (by omega)).view.dmaCredit

theorem credN_pos : 0 < credN arg5 := View.dmaCredit_pos _ (by decide)

/-- The semaphore cell of slot `k`. -/
def slotSem (k : ℕ) (hk : k < 3) : SemLoc sig := .dma (semOf arg11 k hk).sem

section block

variable (k : ℕ) (hk : k < 3) (p : ℕ) (hp : p < 20) (q : Fin 8 → ℕ) (hq : ∀ j, SlabCol (q j))

/-- What the copy of slab `j` brings. -/
def bring (j : Fin 8) : Vec F S2816x128 .bf16 := (srcView arg2 p hp (q j) (hq j)).view.read (Elt F) f

/-- The elements of the array slab `j` is copied from. -/
def srcPt (j : Fin 8) : sProp 𝕄 :=
  (srcView arg2 p hp (q j) (hq j)).view.loc (c₀ : Thread nD τ) ↦[(srcView arg2 p hp (q j) (hq j)).view.set]{slabShare k hk j} f

/-- The other elements of the array, at the same share. -/
def srcRest (j : Fin 8) : sProp 𝕄 :=
  arg2.view.loc (c₀ : Thread nD τ) ↦[Finset.univ \ (srcView arg2 p hp (q j) (hq j)).view.set]{slabShare k hk j} f

/-- What the copy of slab `j` gives back. -/
def delivers (j : Fin 8) : sProp 𝕄 :=
  iprop(owns (c₀ : Thread nD τ) (dstView arg5 k hk j.val j.isLt) fullShare (bring c₀ arg2 f p hp q hq j) ∗ srcPt c₀ arg2 f k hk p hp q hq j)

theorem pts_storable {ℓ : Loc nD τ sig} (I : Finset (Idx ℓ)) (q : PosShare TreeShare) (g : Buf (Elt F) ℓ) :
    Storable (upEmb : UEmb _ 𝕄) (ℓ ↦[I]{q} g : sProp 𝕄) := inferInstance

instance srcPt_storable (j : Fin 8) : Storable (upEmb : UEmb _ 𝕄) (srcPt c₀ arg2 f k hk p hp q hq j) :=
  pts_storable (ℓ := arg2.view.loc (c₀ : Thread nD τ)) _ _ _

instance delivers_storable (j : Fin 8) : Storable (upEmb : UEmb _ 𝕄) (delivers c₀ arg2 arg5 f k hk p hp q hq j) := by
  unfold delivers; infer_instance

/-- The copies of slot `k`, `n` of them started and `u` units waited for. -/
def slotBatch (n u : ℕ) : sProp 𝕄 :=
  Batch (countersEmb (U := Pipeline.UD sig nD τ)) (c₀ : Thread nD τ) (slotSem arg11 k hk) () (credN arg5)
    (delivers c₀ arg2 arg5 f k hk p hp q hq) n u

/-- Slot `k` while its eight copies are in flight. -/
def Flight : sProp 𝕄 :=
  iprop(slotBatch c₀ arg2 arg5 arg11 f k hk p hp q hq 8 0 ∗ bigSep Finset.univ (srcRest c₀ arg2 f k hk p hp q hq))

/-- Slot `k` with no copy in flight, holding `X`. -/
def Idle (X : Fin 8 → Vec F S2816x128 .bf16) : sProp 𝕄 :=
  iprop(slabs c₀ arg5 k hk X ∗ semVal ((c₀ : Thread nD τ), slotSem arg11 k hk) 0
    ∗ (arg2.view.loc (c₀ : Thread nD τ) ↦[Finset.univ]{slotShare k hk} f))

theorem src_split :
    (arg2.view.loc (c₀ : Thread nD τ) ↦[Finset.univ]{slotShare k hk} f : sProp 𝕄)
      = iprop(bigSep Finset.univ (srcPt c₀ arg2 f k hk p hp q hq) ∗ bigSep Finset.univ (srcRest c₀ arg2 f k hk p hp q hq)) := by
  rw [pointsTo_leaves Finset.univ f 3 (slotShare k hk)]
  have h : ∀ j : Fin 8, (arg2.view.loc (c₀ : Thread nD τ) ↦[Finset.univ]{leaf 3 (slotShare k hk) j} f : sProp 𝕄)
      = iprop(srcPt c₀ arg2 f k hk p hp q hq j ∗ srcRest c₀ arg2 f k hk p hp q hq j) := fun j => by
    have e := pointsTo_split_subset (ℓ := arg2.view.loc (c₀ : Thread nD τ)) (q := slabShare k hk j) (f := f) (Ix := Unit) (Name := ℕ)
      (U := Pipeline.UD sig nD τ) (Lvl := ℕ) (Finset.subset_univ ((srcView arg2 p hp (q j) (hq j)).view.set))
    exact BI.Entails.antisymm e.1 e.2
  exact (bigSep_congr fun j _ => h j).trans (BI.bigSep_sep _ _ _)

/-- Starting slab `n`. -/
theorem start_step (harg2 : arg2.IsWhole) (harg5 : arg5.IsWhole) (n : ℕ) (hn : n < 8) (X : Vec F S2816x128 .bf16) (K : PUnit → SP F) :
    iprop(srcPt c₀ arg2 f k hk p hp q hq ⟨n, hn⟩ ∗ owns (c₀ : Thread nD τ) (dstView arg5 k hk n hn) fullShare X
        ∗ slotBatch c₀ arg2 arg5 arg11 f k hk p hp q hq n 0)
      ⊢ iprop((slotBatch c₀ arg2 arg5 arg11 f k hk p hp q hq (n + 1) 0 -∗ K ⟨⟩)
        -∗ WP c₀ (startN arg5 arg2 harg2 harg5 arg11 k hk n hn p hp (q ⟨n, hn⟩) (hq ⟨n, hn⟩)) K) := by
  unfold owns srcPt slotBatch
  iintro ⟨H, ⟨%g, %hg, Hd⟩, HB⟩ Hk
  have h := Transfers.wp_dmaBatch (countersEmb (U := Pipeline.UD sig nD τ)) Variants.none (c₀ : Thread nD τ) none (defs := defs₀ (F := F))
    (src := srcView arg2 p hp (q ⟨n, hn⟩) (hq ⟨n, hn⟩)) (via := .same) (dst := dstView arg5 k hk n hn) (sm := slotSem arg11 k hk)
    (hsrc := srcView_words harg2 p hp _ _) (hdst := dstView_words harg5 k hk n hn) (hsem := ⟨Or.inl rfl, trivial⟩)
    (k := Prog.ret) (Q := K) (q := slabShare k hk ⟨n, hn⟩) (fs := f) (Sd := (dstView arg5 k hk n hn).view.set) (fd := g)
    (D := delivers c₀ arg2 arg5 f k hk p hp q hq) (j := n) (u := 0) () (credN arg5) rfl (Finset.Subset.refl _) hn (Nat.zero_le _) (by
      unfold delivers srcPt owns
      iintro ⟨Hd, Hs⟩
      isplitl [Hd]
      · iexists _
        isplitr
        rotate_left
        · iexact Hd
        · ipureintro
          rw [View.read_write_univ]
          rfl
      · iexact Hs)
  iapply h $$ [H Hd HB]
  · isplitl [H]
    · iexact H
    isplitl [Hd]
    · iexact Hd
    iexact HB
  iintro HB
  iapply (le_wp_ret _ _ _ _ K)
  iapply Hk
  iexact HB

/-- Waiting for one copy. -/
theorem wait_step (harg2 : arg2.IsWhole) (harg5 : arg5.IsWhole) (n : ℕ) (hn : n < 8) (W : Waits sig Unit) (K : PUnit → SP F) :
    iprop(slotBatch c₀ arg2 arg5 arg11 f k hk p hp q hq 8 (n * credN arg5) ∗ owes (c₀ : Thread nD τ) 0 W)
      ⊢ iprop((iprop(slotBatch c₀ arg2 arg5 arg11 f k hk p hp q hq 8 ((n + 1) * credN arg5) ∗ ∃ W', owes (c₀ : Thread nD τ) 0 W') -∗ K ⟨⟩)
        -∗ WP c₀ (waitN arg5 arg2 harg2 harg5 arg11 k hk n hn p hp (q ⟨n, hn⟩) (hq ⟨n, hn⟩)) K) := by
  unfold slotBatch
  iintro ⟨HB, HO⟩ Hk
  have h := Transfers.wp_waitBatchMul (countersEmb (U := Pipeline.UD sig nD τ)) Variants.none (c₀ : Thread nD τ) none (defs := defs₀ (F := F))
    (srcw := srcView arg2 p hp (q ⟨n, hn⟩) (hq ⟨n, hn⟩)) (dstw := dstView arg5 k hk n hn) (sem := (semOf arg11 k hk).sem)
    (hsrc := srcView_words harg2 p hp _ _) (hdst := dstView_words harg5 k hk n hn)
    (k := Prog.ret) (Q := K) (N := credN arg5)
    (D := delivers c₀ arg2 arg5 f k hk p hp q hq) (j := 8) (u := n * credN arg5) () 1 (by rw [Nat.one_mul]; rfl)
    (by rw [← Nat.add_mul, Nat.mul_comm]; exact Nat.mul_le_mul_left _ (by omega)) (W := W)
  rw [Nat.one_mul, ← Nat.succ_mul] at h
  iapply h $$ [HB HO]
  · isplitl [HB]
    · iexact HB
    iexact HO
  iintro ⟨HB, HO⟩
  iapply (le_wp_ret _ _ _ _ K)
  iapply Hk
  isplitl [HB]
  · iexact HB
  iexists _
  iexact HO

/-- A slot at rest becomes a batch with nothing started. -/
theorem idle_open (X : Fin 8 → Vec F S2816x128 .bf16) :
    Idle c₀ arg2 arg5 arg11 f k hk X
      ⊢ |={Set.univ}=> iprop(slotBatch c₀ arg2 arg5 arg11 f k hk p hp q hq 0 0
        ∗ bigSep Finset.univ (srcPt c₀ arg2 f k hk p hp q hq) ∗ bigSep Finset.univ (srcRest c₀ arg2 f k hk p hp q hq)
        ∗ slabs c₀ arg5 k hk X) := by
  unfold Idle slotBatch
  rw [src_split c₀ arg2 f k hk p hp q hq]
  iintro ⟨Hs, Hv, Hp, Hr⟩
  imod (Transfers.batch_alloc' (Lvl := ℕ) (countersEmb (U := Pipeline.UD sig nD τ)) (c₀ : Thread nD τ) () (credN arg5)
    (delivers c₀ arg2 arg5 f k hk p hp q hq) (sm := slotSem arg11 k hk) (E := Set.univ)) $$ Hv with HB
  imodintro
  isplitl [HB]
  · iexact HB
  isplitl [Hp]
  · iexact Hp
  isplitl [Hr]
  · iexact Hr
  iexact Hs

/-- A slot whose eight copies have been waited for is at rest, holding what they brought. -/
theorem batch_close :
    iprop(slotBatch c₀ arg2 arg5 arg11 f k hk p hp q hq 8 (8 * credN arg5) ∗ bigSep Finset.univ (srcRest c₀ arg2 f k hk p hp q hq))
      ⊢ |={Set.univ}=> Idle c₀ arg2 arg5 arg11 f k hk (bring c₀ arg2 f p hp q hq) := by
  unfold Idle slotBatch
  rw [src_split c₀ arg2 f k hk p hp q hq, Nat.mul_comm 8]
  iintro ⟨HB, Hr⟩
  imod (Transfers.batch_collect' (countersEmb (U := Pipeline.UD sig nD τ)) (c₀ : Thread nD τ) (credN_pos arg5)
    (D := delivers c₀ arg2 arg5 f k hk p hp q hq)) $$ HB with ⟨HD, Hv⟩
  imodintro
  ihave HD' := (show bigSep Finset.univ (delivers c₀ arg2 arg5 f k hk p hp q hq)
      ⊢ iprop(slabs c₀ arg5 k hk (bring c₀ arg2 f p hp q hq) ∗ bigSep Finset.univ (srcPt c₀ arg2 f k hk p hp q hq))
    from Entails.of_eq (BI.bigSep_sep Finset.univ _ _)) $$ HD
  icases HD' with ⟨Hs, Hp⟩
  isplitl [Hs]
  · iexact Hs
  isplitl [Hv]
  · iexact Hv
  isplitl [Hp]
  · iexact Hp
  iexact Hr

end block

/-! ## The eight starts and the eight waits of a block -/

variable (harg2 : arg2.IsWhole) (harg5 : arg5.IsWhole) (b : BitVec 32) (hb : b.toNat < 80)

/-- The slabs of block `b` in flight. -/
abbrev FlightB : sProp 𝕄 :=
  Flight c₀ arg2 arg5 arg11 f (slotB b) (slotB_lt b hb) (pairB b) (pairB_lt b hb) (fun j => colB b j.val) (fun j => colB_slab b hb j.val j.isLt)

/-- The slabs of block `b`, as its copies bring them. -/
abbrev bringB : Fin 8 → Vec F S2816x128 .bf16 :=
  bring c₀ arg2 f (pairB b) (pairB_lt b hb) (fun j => colB b j.val) (fun j => colB_slab b hb j.val j.isLt)

abbrev batchB (n u : ℕ) : sProp 𝕄 :=
  slotBatch c₀ arg2 arg5 arg11 f (slotB b) (slotB_lt b hb) (pairB b) (pairB_lt b hb) (fun j => colB b j.val) (fun j => colB_slab b hb j.val j.isLt) n u

/-- What the copies not started yet need. -/
def pendB (X : Fin 8 → Vec F S2816x128 .bf16) (n : ℕ) : sProp 𝕄 :=
  bigSep (pending n) fun j : Fin 8 =>
    iprop(srcPt c₀ arg2 f (slotB b) (slotB_lt b hb) (pairB b) (pairB_lt b hb) (fun j => colB b j.val) (fun j => colB_slab b hb j.val j.isLt) j
      ∗ owns (c₀ : Thread nD τ) (dstView arg5 (slotB b) (slotB_lt b hb) j.val j.isLt) fullShare (X j))

theorem starts_wp (X : Fin 8 → Vec F S2816x128 .bf16) : ∀ (n : ℕ) (hn : n ≤ 8) (K : PUnit → SP F),
    iprop(batchB c₀ arg2 arg5 arg11 f b hb 0 0 ∗ pendB c₀ arg2 arg5 f b hb X 0)
      ⊢ iprop((iprop(batchB c₀ arg2 arg5 arg11 f b hb n 0 ∗ pendB c₀ arg2 arg5 f b hb X n) -∗ K ⟨⟩)
        -∗ WP c₀ (startsU arg5 arg2 harg2 harg5 arg11 b hb n hn) K)
  | 0, _, K => by
    iintro H Hk
    unfold startsU
    iapply (WP_pure c₀ _ K)
    iapply Hk
    iexact H
  | n + 1, hn, K => by
    iintro H Hk
    unfold startsU
    rw [WP_bind]
    iapply (starts_wp X n _ _) $$ H
    unfold pendB
    rw [Transfers.bigSep_pending_step _ n (by omega)]
    iintro ⟨HB, ⟨Hs, Hd⟩, Hp⟩
    iapply (start_step c₀ arg2 arg5 arg11 f (slotB b) (slotB_lt b hb) (pairB b) (pairB_lt b hb) (fun j => colB b j.val)
      (fun j => colB_slab b hb j.val j.isLt) harg2 harg5 n _ (X ⟨n, by omega⟩) K) $$ [HB Hs Hd]
    · isplitl [Hs]
      · iexact Hs
      isplitl [Hd]
      · iexact Hd
      iexact HB
    iintro HB
    iapply Hk
    isplitl [HB]
    · iexact HB
    iexact Hp

theorem waits_wp (W : Waits sig Unit) : ∀ (n : ℕ) (hn : n ≤ 8) (K : PUnit → SP F),
    iprop(batchB c₀ arg2 arg5 arg11 f b hb 8 0 ∗ owes (c₀ : Thread nD τ) 0 W)
      ⊢ iprop((iprop(batchB c₀ arg2 arg5 arg11 f b hb 8 (n * credN arg5) ∗ ∃ W', owes (c₀ : Thread nD τ) 0 W') -∗ K ⟨⟩)
        -∗ WP c₀ (waitsU arg5 arg2 harg2 harg5 arg11 b hb n hn) K)
  | 0, _, K => by
    rw [Nat.zero_mul]
    iintro ⟨H, HO⟩ Hk
    unfold waitsU
    iapply (WP_pure c₀ _ K)
    iapply Hk
    isplitl [H]
    · iexact H
    iexists W
    iexact HO
  | n + 1, hn, K => by
    iintro H Hk
    unfold waitsU
    rw [WP_bind]
    iapply (waits_wp W n _ _) $$ H
    iintro ⟨HB, ⟨%W', HO⟩⟩
    iapply (wait_step c₀ arg2 arg5 arg11 f (slotB b) (slotB_lt b hb) (pairB b) (pairB_lt b hb) (fun j => colB b j.val)
      (fun j => colB_slab b hb j.val j.isLt) harg2 harg5 n _ W' K) $$ [HB HO]
    · isplitl [HB]
      · iexact HB
      iexact HO
    iexact Hk

/-- The eight starts of block `b`. -/
theorem startsU_wp (X : Fin 8 → Vec F S2816x128 .bf16) (K : PUnit → SP F) :
    Idle c₀ arg2 arg5 arg11 f (slotB b) (slotB_lt b hb) X
      ⊢ iprop((FlightB c₀ arg2 arg5 arg11 f b hb -∗ K ⟨⟩) -∗ WP c₀ (startsU arg5 arg2 harg2 harg5 arg11 b hb 8 (by omega)) K) := by
  iintro H Hk
  imod (idle_open c₀ arg2 arg5 arg11 f (slotB b) (slotB_lt b hb) (pairB b) (pairB_lt b hb) (fun j => colB b j.val)
    (fun j => colB_slab b hb j.val j.isLt) X) $$ H with ⟨HB, Hp, Hr, Hs⟩
  iapply (starts_wp c₀ arg2 arg5 arg11 f harg2 harg5 b hb X 8 _ K) $$ [HB Hp Hs]
  · isplitl [HB]
    · iexact HB
    have e : iprop(bigSep Finset.univ (srcPt c₀ arg2 f (slotB b) (slotB_lt b hb) (pairB b) (pairB_lt b hb) (fun j => colB b j.val)
          (fun j => colB_slab b hb j.val j.isLt)) ∗ slabs c₀ arg5 (slotB b) (slotB_lt b hb) X)
        = pendB c₀ arg2 arg5 f b hb X 0 := by
      unfold pendB
      rw [← Transfers.bigSep_pending_zero]
      exact (BI.bigSep_sep Finset.univ _ _).symm
    rw [← e]
    isplitl [Hp]
    · iexact Hp
    iexact Hs
  iintro ⟨HB, -⟩
  iapply Hk
  unfold FlightB Flight
  isplitl [HB]
  · iexact HB
  iexact Hr

/-- The eight waits of block `b`. -/
theorem waitsU_wp (W : Waits sig Unit) (K : PUnit → SP F) :
    iprop(FlightB c₀ arg2 arg5 arg11 f b hb ∗ owes (c₀ : Thread nD τ) 0 W)
      ⊢ iprop((iprop(Idle c₀ arg2 arg5 arg11 f (slotB b) (slotB_lt b hb) (bringB c₀ arg2 f b hb) ∗ ∃ W', owes (c₀ : Thread nD τ) 0 W') -∗ K ⟨⟩)
        -∗ WP c₀ (do waitsU arg5 arg2 harg2 harg5 arg11 b hb 8 (by omega); pure ⟨⟩) K) := by
  unfold FlightB Flight
  iintro ⟨⟨HB, Hr⟩, HO⟩ Hk
  rw [WP_bind]
  iapply (waits_wp c₀ arg2 arg5 arg11 f harg2 harg5 b hb W 8 _ _) $$ [HB HO]
  · isplitl [HB]
    · iexact HB
    iexact HO
  iintro ⟨HB, HO⟩
  imod (batch_close c₀ arg2 arg5 arg11 f (slotB b) (slotB_lt b hb) (pairB b) (pairB_lt b hb) (fun j => colB b j.val)
    (fun j => colB_slab b hb j.val j.isLt)) $$ [HB Hr] with H
  · isplitl [HB]
    · iexact HB
    iexact Hr
  iapply (WP_pure c₀ _ K)
  iapply Hk
  isplitl [H]
  · iexact H
  iexact HO

end Cert.Kernel.Gen

end
-- ==== Proof.K.Init.lean ====
module

public import proofs.«01_k».proof.Proof.K.Rotate

/-! The first grid point's preparations: the Hadamard tiles, the flag, and the zeros. -/

@[expose] public section

noncomputable section

namespace Cert.Kernel.Gen

open Cert.Kernel K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

/-! ## The values -/

/-- The signs of half `s` of tile `t`. -/
def sgTile (G : Vec F S1x4096 .f32) (t : ℕ) (ht : t < 16) (s : ℕ) (hs : s < 2) : FVec F S1x128 .f32 :=
  shapeCast S1x128 (rd G (Rect.unit (s := S1x4096) ![0, 256 * t + 128 * s] S1x128.size (inbSg _ (by omega))).toLoadRect) shapeCasts_S1x128_S1x128

/-- Part `p` of the signs. -/
def partOf (p : ℕ) (g : FVec F S1x128 .f32) : FVec F S1x128 .f32 := if p = 0 then split1 g else if p = 1 then split2 g else split3 g

/-- The Hadamard array. -/
def newH (G : Vec F S1x4096 .f32) : Vec F S3x16x2x256x128 .bf16 := fun x =>
  hadStore (BitVec.ofNat 32 (x 2).val) (partOf (x 0).val (sgTile G (x 1).val (x 1).isLt (x 2).val (x 2).isLt))
    (modIdx S1x1x1x256x128 (s := S3x16x2x256x128) rfl (by decide) x)

/-- The notes on the first `n` tiles of half `s`, after `r`. -/
def restTo (G : Vec F S1x4096 .f32) (s : ℕ) (hs : s < 2) (r : FVec F S1x128 .f32) : (n : ℕ) → n ≤ 16 → FVec F S1x128 .f32
  | 0, _ => r
  | n + 1, h => restOf (restTo G s hs r n (by omega)) (sgTile G n (by omega) s hs)

/-- The notes on all the signs. -/
def restAll (G : Vec F S1x4096 .f32) : FVec F S1x128 .f32 :=
  restTo G 1 (by omega) (restTo G 0 (by omega) (broadcast S1x128 (Scalar.ofBits .f32 0x00000000#32)) 16 (by omega)) 16 (by omega)

/-- The flag in its buffer. -/
def newFlag (G : Vec F S1x4096 .f32) : Vec F S1 .i32 := fun _ => flagOf (restAll G)

/-- What the rotated tiles hold before the first block. -/
def zeroV : Vec F S11x4x256x256 .f32 := fun _ => Scalar.ofBits .f32 0x00000000#32
/-- What the factors hold before the first block. -/
def zeroR : Vec F S11x8x256 .f32 := fun _ => Scalar.ofBits .f32 0x00000000#32

/-! ## The triples -/

variable (c₀ : Dev nD) (arg1 : Memref sig .tc .vmem S1x4096 .f32) (arg6 : Memref sig .tc .vmem S3x16x2x256x128 .bf16) (harg6 : arg6.IsWhole)
  (arg7 : Memref sig .tc .vmem S11x4x256x256 .f32) (arg8 : Memref sig .tc .vmem S11x8x256 .f32) (arg10 : Memref sig .tc .smem S1 .i32)

/-- The place in a buffer of one. -/
def at0 : S1.Idx := fun a => ⟨0, by revert a; decide⟩

theorem only0 (y : S1.Idx) : y = at0 := funext fun a => Fin.ext (by
  have h := (y a).isLt
  revert h
  fin_cases a
  intro h
  have h' : (y 0).val < 1 := h
  show (y 0).val = 0
  omega)

theorem zeroV_all (X : Vec F S11x4x256x256 .f32) :
    (Rect.unit (s := S11x4x256x256) ![0, 0, 0, 0] S11x4x256x256.size inb_S11x4x256x256_S11x4x256x256_0_0_0_0).overlay X
      (shapeCast S11x4x256x256 (broadcast S11x4x256x256 (Scalar.ofBits .f32 0x00000000#32)) shapeCasts_S11x4x256x256_S11x4x256x256) = zeroV (F := F) :=
  overlay_all (fun i => rfl) (fun x => by
    rw [mem_unit]; intro a; have := (x a).isLt; revert this; fin_cases a <;> simp)

theorem zeroR_all (X : Vec F S11x8x256 .f32) :
    (Rect.unit (s := S11x8x256) ![0, 0, 0] S11x8x256.size inb_S11x8x256_S11x8x256_0_0_0).overlay X
      (shapeCast S11x8x256 (broadcast S11x8x256 (Scalar.ofBits .f32 0x00000000#32)) shapeCasts_S11x8x256_S11x8x256) = zeroR (F := F) :=
  overlay_all (fun i => rfl) (fun x => by
    rw [mem_unit]; intro a; have := (x a).isLt; revert this; fin_cases a <;> simp)

theorem flag_all (X : Vec F S1 .i32) (b : BitVec 32) :
    (Rect.unit (s := S1) ![0] S1.size inb_S1_S1_0).overlay X (fun _ => b) = (fun _ => b : Vec F S1 .i32) :=
  overlay_all (fun i => rfl) (fun x => by
    rw [mem_unit]; intro a; have := (x a).isLt; revert this; fin_cases a <;> simp)

/-- The word of a buffer of one. -/
theorem smemLoad_wp (X : Vec F S1 .i32) {q : PosShare TreeShare} (K : Elt F .i32 → sProp 𝕄) :
    owns (c₀ : Thread nD τ) arg10 q X
      ⊢ iprop((owns (c₀ : Thread nD τ) arg10 q X -∗ K (X at0))
        -∗ WP c₀ (smemLoad arg10 (Rect.unit (s := S1) ![0] S1.size inb_S1_S1_0) numel1_S1 rfl) K) := by
  have e : smemLoad (nD := nD) (τ := τ) (Val := Elt F) arg10 (Rect.unit (s := S1) ![0] S1.size inb_S1_S1_0) numel1_S1 rfl
      = (Prog.lift (.load arg10 (Rect.unit (s := S1) ![0] S1.size inb_S1_S1_0).toLoadRect (View.loadsAt_rect (View.loads_smem_one rfl numel1_S1))) : TCProg F _)
        >>= fun g => pure (g (Shape.Idx.first (numel1_S1.symm ▸ Nat.one_pos))) := rfl
  rw [e, WP_bind]
  iintro H Hk
  iapply (wp_ld c₀) $$ H
  iintro H
  iapply (WP_pure c₀ _ K)
  rw [show rd X (Rect.unit (s := S1) ![0] S1.size inb_S1_S1_0).toLoadRect (Shape.Idx.first (numel1_S1.symm ▸ Nat.one_pos)) = X at0
    from congrArg X (only0 _)]
  iapply Hk
  iexact H

theorem keepH_wp (p : ℕ) (hp : p < 3) (t : ℕ) (ht : t < 16) (s : ℕ) (hs : s < 2) (x : FVec F S1x1x1x256x128 .bf16)
    (H : Vec F S3x16x2x256x128 .bf16) (K : PUnit → SP F) :
    owns (c₀ : Thread nD τ) arg6 fullShare H
      ⊢ iprop((owns (c₀ : Thread nD τ) arg6 fullShare ((Rect.unit (s := S3x16x2x256x128) ![p, t, s, 0, 0] S1x1x1x256x128.size (inbH p hp t ht s hs)).overlay H x) -∗ K ⟨⟩)
          -∗ WP c₀ (keepH (F := F) arg6 harg6 p hp t ht s hs x) K) := by
  unfold keepH
  iintro H6 Hk
  rw [WP_bind]
  iapply (wp_ld c₀) $$ H6; iintro H6
  iapply (wp_st c₀) $$ H6; iintro H6
  iapply Hk
  iexact H6

/-- The part of the Hadamard array written after `n` tiles of half `s` and `p` parts of the next. -/
def hP (s n p : ℕ) (x : S3x16x2x256x128.Idx) : Prop :=
  (x 2).val < s ∨ ((x 2).val = s ∧ ((x 1).val < n ∨ ((x 1).val = n ∧ (x 0).val < p)))

theorem keepH_mix (G : Vec F S1x4096 .f32) (H : Vec F S3x16x2x256x128 .bf16) (p : ℕ) (hp : p < 3) (t : ℕ) (ht : t < 16) (s : ℕ) (hs : s < 2) :
    (Rect.unit (s := S3x16x2x256x128) ![p, t, s, 0, 0] S1x1x1x256x128.size (inbH p hp t ht s hs)).overlay (mix (hP s t p) (newH G) H)
      (hadStore (BitVec.ofNat 32 s) (partOf p (sgTile G t ht s hs)))
      = mix (hP s t (p + 1)) (newH G) H := by
  refine overlay_mix' (fun i => ?_) (fun x => ?_)
  · have h0 : (i 0).val < 1 := (i 0).isLt
    have h1 : (i 1).val < 1 := (i 1).isLt
    have h2 : (i 2).val < 1 := (i 2).isLt
    have h3 : (i 3).val < 256 := (i 3).isLt
    have h4 : (i 4).val < 128 := (i 4).isLt
    have hh : ∀ (p' t' s' : ℕ) (ht' : t' < 16) (hs' : s' < 2) (y : S1x1x1x256x128.Idx), p' = p → t' = t → s' = s → y = i →
        hadStore (BitVec.ofNat 32 s) (partOf p (sgTile G t ht s hs)) i = hadStore (BitVec.ofNat 32 s') (partOf p' (sgTile G t' ht' s' hs')) y := by
      rintro _ _ _ _ _ _ rfl rfl rfl rfl; rfl
    refine hh _ _ _ _ _ _ ?_ ?_ ?_ (funext fun a => Fin.ext ?_)
    · simp [LoadRect.idx_apply]; omega
    · simp [LoadRect.idx_apply]; omega
    · simp [LoadRect.idx_apply]; omega
    · fin_cases a <;> simp [modIdx, LoadRect.idx_apply, S1x1x1x256x128] <;> omega
  · rw [mem_unit]
    have h3 : (x 3).val < 256 := (x 3).isLt
    have h4 : (x 4).val < 128 := (x 4).isLt
    unfold hP
    simp [Fin.forall_fin_succ, S1x1x1x256x128]
    omega

theorem initTileU_wp (G : Vec F S1x4096 .f32) {q : PosShare TreeShare} (H : Vec F S3x16x2x256x128 .bf16) (t : ℕ) (ht : t < 16) (s : ℕ) (hs : s < 2)
    (r : FVec F S1x128 .f32) (K : FVec F S1x128 .f32 → SP F) :
    iprop(owns (c₀ : Thread nD τ) arg1 q G ∗ owns (c₀ : Thread nD τ) arg6 fullShare (mix (hP s t 0) (newH G) H))
      ⊢ iprop((iprop(owns (c₀ : Thread nD τ) arg1 q G ∗ owns (c₀ : Thread nD τ) arg6 fullShare (mix (hP s t 3) (newH G) H))
            -∗ K (restOf r (sgTile G t ht s hs)))
          -∗ WP c₀ (initTileU (F := F) arg6 arg1 harg6 s hs t ht r) K) := by
  rw [← keepH_mix G H 2 (by omega) t ht s hs, ← keepH_mix G H 1 (by omega) t ht s hs, ← keepH_mix G H 0 (by omega) t ht s hs]
  unfold initTileU sgTile
  iintro ⟨H1, H6⟩ Hk
  rw [WP_bind]
  iapply (wp_ld c₀) $$ H1; iintro H1
  rw [WP_bind]
  iapply (keepH_wp c₀ arg6 harg6) $$ H6; iintro H6
  rw [WP_bind]
  iapply (keepH_wp c₀ arg6 harg6) $$ H6; iintro H6
  rw [WP_bind]
  iapply (keepH_wp c₀ arg6 harg6) $$ H6; iintro H6
  iapply (WP_pure c₀ _ K)
  iapply Hk
  isplitl [H1]
  · iexact H1
  iexact H6

theorem initTilesU_wp (G : Vec F S1x4096 .f32) {q : PosShare TreeShare} (H : Vec F S3x16x2x256x128 .bf16) (s : ℕ) (hs : s < 2)
    (r : FVec F S1x128 .f32) : ∀ (n : ℕ) (hn : n ≤ 16) (K : FVec F S1x128 .f32 → SP F),
    iprop(owns (c₀ : Thread nD τ) arg1 q G ∗ owns (c₀ : Thread nD τ) arg6 fullShare (mix (hP s 0 0) (newH G) H))
      ⊢ iprop((iprop(owns (c₀ : Thread nD τ) arg1 q G ∗ owns (c₀ : Thread nD τ) arg6 fullShare (mix (hP s n 0) (newH G) H))
            -∗ K (restTo G s hs r n hn))
          -∗ WP c₀ (initTilesU (F := F) arg6 arg1 harg6 s hs r n hn) K)
  | 0, hn, K => by
    unfold initTilesU restTo
    iintro H Hk
    iapply (WP_pure c₀ _ K)
    iapply Hk
    iexact H
  | n + 1, hn, K => by
    unfold initTilesU restTo
    iintro H Hk
    rw [WP_bind]
    iapply (initTilesU_wp G H s hs r n _ _) $$ H
    iintro H
    iapply (initTileU_wp c₀ arg1 arg6 harg6 G H n _ s hs _ K) $$ H
    have e : mix (hP s n 3) (newH G) H = mix (hP s (n + 1) 0) (newH G) H := mix_congr fun x => by
      have h0 : (x 0).val < 3 := (x 0).isLt
      unfold hP; omega
    rw [e]
    iexact Hk

attribute [local irreducible] initTilesU restTo newH hP in
theorem initU_wp (G : Vec F S1x4096 .f32) {q : PosShare TreeShare} (K : PUnit → SP F) :
    iprop(owns (c₀ : Thread nD τ) arg1 q G ∗ (∃ H, owns (c₀ : Thread nD τ) arg6 fullShare H) ∗ (∃ X, owns (c₀ : Thread nD τ) arg7 fullShare X)
        ∗ (∃ X, owns (c₀ : Thread nD τ) arg8 fullShare X) ∗ (∃ X, owns (c₀ : Thread nD τ) arg10 fullShare X))
      ⊢ iprop((iprop(owns (c₀ : Thread nD τ) arg1 q G ∗ owns (c₀ : Thread nD τ) arg6 fullShare (newH G) ∗ owns (c₀ : Thread nD τ) arg7 fullShare (zeroV (F := F))
            ∗ owns (c₀ : Thread nD τ) arg8 fullShare (zeroR (F := F)) ∗ owns (c₀ : Thread nD τ) arg10 fullShare (newFlag G)) -∗ K ⟨⟩)
          -∗ WP c₀ (initU (F := F) arg6 arg7 arg8 arg1 harg6 arg10) K) := by
  unfold initU
  iintro ⟨H1, ⟨%H, H6⟩, ⟨%V, H7⟩, ⟨%R, H8⟩, ⟨%X, H10⟩⟩ Hk
  have e0 : H = mix (hP 0 0 0) (newH G) H := (mix_none fun x => by unfold hP; omega).symm
  have e1 : mix (hP 0 16 0) (newH G) H = mix (hP 1 0 0) (newH G) H := mix_congr fun x => by
    have h1 : (x 1).val < 16 := (x 1).isLt
    unfold hP; omega
  have e2 : mix (hP 1 16 0) (newH G) H = newH G := mix_all fun x => by
    have h1 : (x 1).val < 16 := (x 1).isLt
    have h2 : (x 2).val < 2 := (x 2).isLt
    unfold hP; omega
  rw [WP_bind]
  ihave H6' := (Entails.of_eq (congrArg (fun Y => (owns (c₀ : Thread nD τ) arg6 fullShare Y : sProp 𝕄)) e0)) $$ H6
  iapply (initTilesU_wp c₀ arg1 arg6 harg6 G H 0 _ _ 16 _ _) $$ [H1 H6']
  · isplitl [H1]
    · iexact H1
    iexact H6'
  rw [e1]
  iintro Hh
  rw [WP_bind]
  iapply (initTilesU_wp c₀ arg1 arg6 harg6 G H 1 _ _ 16 _ _) $$ Hh
  rw [e2]
  iintro ⟨H1, H6⟩
  rw [WP_bind]
  iapply (smemLoad_wp c₀ arg10 X) $$ H10; iintro H10
  rw [WP_bind]
  iapply (wp_st c₀) $$ H10
  rw [flag_all X]
  iintro H10
  rw [WP_bind]
  iapply (wp_ld c₀) $$ H7; iintro H7
  rw [WP_bind]
  iapply (wp_st c₀) $$ H7
  rw [zeroV_all]
  iintro H7
  rw [WP_bind]
  iapply (wp_ld c₀) $$ H8; iintro H8
  iapply (wp_st c₀) $$ H8
  rw [zeroR_all]
  iintro H8
  iapply Hk
  isplitl [H1]
  · iexact H1
  isplitl [H6]
  · iexact H6
  isplitl [H7]
  · iexact H7
  isplitl [H8]
  · iexact H8
  iexact H10

end Cert.Kernel.Gen

end
-- ==== Proof.K.State.lean ====
module

public import proofs.«01_k».proof.Proof.K.Ring
public import proofs.«01_k».proof.Proof.K.Init

/-! One grid point: what the ring and the buffers hold before it and after it. -/

@[expose] public section

noncomputable section

namespace Cert.Kernel.Gen

open Cert.Kernel K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

variable (c₀ : Dev nD) (arg2 : Memref sig .tc .hbm S20x2816x4096 .bf16) (arg5 : Memref sig .tc .vmem S3x8x2816x128 .bf16)
  (arg11 : DmaSems sig S3) (f : Buf (Elt F) (arg2.view.loc (c₀ : Thread nD τ)))

/-! ## The ring -/

/-- The first column of slab `j` of block `b`. -/
def colN (b : ℕ) (j : Fin 8) : ℕ := 128 * (8 * (b % 4) + j.val)
theorem colN_slab (b : ℕ) (j : Fin 8) : SlabCol (colN b j) := ⟨8 * (b % 4) + j.val, by omega, rfl⟩

/-- Block `b` in flight. -/
def FlightN (b : ℕ) (hb : b < 80) : sProp 𝕄 :=
  Flight c₀ arg2 arg5 arg11 f (b % 3) (by omega) (b / 4) (by omega) (colN b) (colN_slab b)

/-- The slabs of block `b`. -/
def blkX (b : ℕ) (hb : b < 80) : Fin 8 → Vec F S2816x128 .bf16 := bring c₀ arg2 f (b / 4) (by omega) (colN b) (colN_slab b)

/-- Slot `k` at rest, holding something. -/
def Rest (k : ℕ) (hk : k < 3) : sProp 𝕄 := iprop(∃ X, Idle c₀ arg2 arg5 arg11 f k hk X)

theorem flight_congr {k k' p p' : ℕ} {q q' : Fin 8 → ℕ} (hk : k < 3) (hk' : k' < 3) (hp : p < 20) (hp' : p' < 20) (hq : ∀ j, SlabCol (q j))
    (hq' : ∀ j, SlabCol (q' j)) (ek : k = k') (ep : p = p') (eq : q = q') :
    Flight c₀ arg2 arg5 arg11 f k hk p hp q hq = Flight c₀ arg2 arg5 arg11 f k' hk' p' hp' q' hq' := by
  subst ek ep eq; rfl

theorem bring_congr {p p' : ℕ} {q q' : Fin 8 → ℕ} (hp : p < 20) (hp' : p' < 20) (hq : ∀ j, SlabCol (q j))
    (hq' : ∀ j, SlabCol (q' j)) (ep : p = p') (eq : q = q') :
    bring c₀ arg2 f p hp q hq = bring c₀ arg2 f p' hp' q' hq' := by
  subst ep eq; rfl

theorem idle_congr {k k' : ℕ} (hk : k < 3) (hk' : k' < 3) (ek : k = k') (X : Fin 8 → Vec F S2816x128 .bf16) :
    Idle c₀ arg2 arg5 arg11 f k hk X = Idle c₀ arg2 arg5 arg11 f k' hk' X := by
  subst ek; rfl

theorem rest_congr {k k' : ℕ} (hk : k < 3) (hk' : k' < 3) (ek : k = k') :
    Rest c₀ arg2 arg5 arg11 f k hk = Rest c₀ arg2 arg5 arg11 f k' hk' := by
  subst ek; rfl

theorem flightB_eq (b : BitVec 32) (hb : b.toNat < 80) (n : ℕ) (hn : n < 80) (e : b.toNat = n) :
    FlightB c₀ arg2 arg5 arg11 f b hb = FlightN c₀ arg2 arg5 arg11 f n hn := by
  subst e
  exact flight_congr c₀ arg2 arg5 arg11 f _ _ _ _ _ _ (slotB_eq b hb) (pairB_eq b hb) (funext fun j => colB_eq b hb j.val j.isLt)

theorem bringB_eq (b : BitVec 32) (hb : b.toNat < 80) (n : ℕ) (hn : n < 80) (e : b.toNat = n) :
    bringB c₀ arg2 f b hb = blkX c₀ arg2 f n hn := by
  subst e
  exact bring_congr c₀ arg2 f _ _ _ _ (pairB_eq b hb) (funext fun j => colB_eq b hb j.val j.isLt)

/-- The ring before point `t`. -/
def PreRing (t : ℕ) : sProp 𝕄 :=
  if h : t < 79 then iprop(FlightN c₀ arg2 arg5 arg11 f t (by omega) ∗ FlightN c₀ arg2 arg5 arg11 f (t + 1) (by omega)
    ∗ Rest c₀ arg2 arg5 arg11 f ((t + 2) % 3) (by omega))
  else if h : t < 80 then iprop(FlightN c₀ arg2 arg5 arg11 f 79 (by omega) ∗ Rest c₀ arg2 arg5 arg11 f 2 (by omega) ∗ Rest c₀ arg2 arg5 arg11 f 0 (by omega))
  else iprop(Idle c₀ arg2 arg5 arg11 f 1 (by omega) (blkX c₀ arg2 f 79 (by omega)) ∗ Rest c₀ arg2 arg5 arg11 f 2 (by omega)
    ∗ Rest c₀ arg2 arg5 arg11 f 0 (by omega))

/-- The ring at point `t` once its copies are started. -/
def MidRing (t : ℕ) : sProp 𝕄 :=
  if h : t < 78 then iprop(FlightN c₀ arg2 arg5 arg11 f t (by omega) ∗ FlightN c₀ arg2 arg5 arg11 f (t + 1) (by omega)
    ∗ FlightN c₀ arg2 arg5 arg11 f (t + 2) (by omega))
  else PreRing c₀ arg2 arg5 arg11 f t

/-- The slots point `t` does not read, once its block has landed. -/
def RestRing (t : ℕ) : sProp 𝕄 :=
  if h : t < 78 then iprop(FlightN c₀ arg2 arg5 arg11 f (t + 1) (by omega) ∗ FlightN c₀ arg2 arg5 arg11 f (t + 2) (by omega))
  else if h : t < 79 then iprop(FlightN c₀ arg2 arg5 arg11 f 79 (by omega) ∗ Rest c₀ arg2 arg5 arg11 f 2 (by omega))
  else iprop(Rest c₀ arg2 arg5 arg11 f 2 (by omega) ∗ Rest c₀ arg2 arg5 arg11 f 0 (by omega))

theorem cond1_iff : ∀ i : grid0.Coords, k0_cond1 i = 1#1 ↔ (i 0).val = 0 := by decide +kernel
theorem cond2_iff : ∀ i : grid0.Coords, k0_cond2 i = 1#1 ↔ (i 0).val < 78 := by decide +kernel
theorem cond3_iff : ∀ i : grid0.Coords, k0_cond3 i = 1#1 ↔ (i 0).val < 80 := by decide +kernel
theorem startB_eq : ∀ i : grid0.Coords, k0_cond2 i = 1#1 →
    (Scalar.subi (Scalar.addi (BitVec.ofNat 32 (i 0).val) 3#32) 1#32).toNat = (i 0).val + 2 := by decide +kernel
theorem waitB_eq : ∀ i : grid0.Coords, k0_cond3 i = 1#1 → (BitVec.ofNat 32 (i 0).val).toNat = (i 0).val := by decide +kernel

variable (harg2 : arg2.IsWhole) (harg5 : arg5.IsWhole) (i : grid0.Coords)

theorem coord_lt : (i 0).val < 81 := (i 0).isLt

/-- The block that point `i` reads. -/
def blkI : Fin 8 → Vec F S2816x128 .bf16 := blkX c₀ arg2 f (min (i 0).val 79) (by omega)

theorem blkI_eq (n : ℕ) (hn : n < 80) (e : min (i 0).val 79 = n) : blkI c₀ arg2 f i = blkX c₀ arg2 f n hn := by
  subst e; rfl

/-- Starting the copies two points ahead. -/
theorem starts_stage (K : PUnit → SP F) :
    PreRing c₀ arg2 arg5 arg11 f (i 0).val
      ⊢ iprop((MidRing c₀ arg2 arg5 arg11 f (i 0).val -∗ K ⟨⟩)
        -∗ WP c₀ (startsIf i arg5 arg2 harg2 harg5 arg11) K) := by
  unfold startsIf
  by_cases h : k0_cond2 i = 1#1
  · have ht := (cond2_iff i).mp h
    rw [dif_pos h]
    unfold PreRing MidRing Rest
    rw [dif_pos (by omega), dif_pos ht]
    iintro ⟨H0, H1, ⟨%X, H2⟩⟩ Hk
    rw [WP_bind]
    have e : (((i 0).val + 2) % 3) = slotB (Scalar.subi (Scalar.addi (BitVec.ofNat 32 (i 0).val) 3#32) 1#32) := by
      rw [slotB_eq _ (startB_lt i h), startB_eq i h]
    ihave H2 := (Entails.of_eq (idle_congr c₀ arg2 arg5 arg11 f _ (slotB_lt _ (startB_lt i h)) e X)) $$ H2
    iapply (startsU_wp c₀ arg2 arg5 arg11 f harg2 harg5 _ (startB_lt i h) X _) $$ H2
    rw [flightB_eq c₀ arg2 arg5 arg11 f _ (startB_lt i h) ((i 0).val + 2) (by omega) (startB_eq i h)]
    iintro H2
    iapply (WP_pure c₀ _ K)
    iapply Hk
    isplitl [H0]
    · iexact H0
    isplitl [H1]
    · iexact H1
    iexact H2
  · have ht : ¬ (i 0).val < 78 := fun h' => h ((cond2_iff i).mpr h')
    rw [dif_neg h]
    unfold MidRing
    rw [dif_neg ht]
    iintro H Hk
    iapply (WP_pure c₀ _ K)
    iapply Hk
    iexact H

/-- Waiting for this point's block. -/
theorem waits_stage (W : Waits sig Unit) (K : PUnit → SP F) :
    iprop(MidRing c₀ arg2 arg5 arg11 f (i 0).val ∗ owes (c₀ : Thread nD τ) 0 W)
      ⊢ iprop((iprop(Idle c₀ arg2 arg5 arg11 f (slotN i) (slotN_lt i) (blkI c₀ arg2 f i) ∗ RestRing c₀ arg2 arg5 arg11 f (i 0).val
            ∗ ∃ W', owes (c₀ : Thread nD τ) 0 W') -∗ K ⟨⟩)
        -∗ WP c₀ (waitsIf i arg5 arg2 harg2 harg5 arg11) K) := by
  unfold waitsIf
  by_cases h : k0_cond3 i = 1#1
  · have ht := (cond3_iff i).mp h
    rw [dif_pos h]
    have hw := waitB_eq i h
    have e1 : MidRing c₀ arg2 arg5 arg11 f (i 0).val
        = iprop(FlightN c₀ arg2 arg5 arg11 f (i 0).val ht ∗ RestRing c₀ arg2 arg5 arg11 f (i 0).val) := by
      unfold MidRing RestRing PreRing
      by_cases h78 : (i 0).val < 78
      · rw [dif_pos h78, dif_pos h78]
      · rw [dif_neg h78, dif_neg h78]
        by_cases h79 : (i 0).val < 79
        · rw [dif_pos h79, dif_pos h79]
          have : (i 0).val = 78 := by omega
          simp only [this]
        · rw [dif_neg h79, dif_neg h79, dif_pos ht]
          have : (i 0).val = 79 := by omega
          simp only [this]
    have e2 : Idle c₀ arg2 arg5 arg11 f (slotB (BitVec.ofNat 32 (i 0).val)) (slotB_lt _ (waitB_lt i h)) (bringB c₀ arg2 f (BitVec.ofNat 32 (i 0).val) (waitB_lt i h))
        = Idle c₀ arg2 arg5 arg11 f (slotN i) (slotN_lt i) (blkI c₀ arg2 f i) := by
      rw [bringB_eq c₀ arg2 f _ (waitB_lt i h) (i 0).val ht hw,
        idle_congr c₀ arg2 arg5 arg11 f _ (slotN_lt i) (by rw [slotB_eq _ (waitB_lt i h), hw, slotN_eq, Nat.min_eq_left (by omega)])]
      rw [blkI_eq c₀ arg2 f i (i 0).val ht (Nat.min_eq_left (by omega))]
    rw [e1, ← e2, ← flightB_eq c₀ arg2 arg5 arg11 f _ (waitB_lt i h) (i 0).val ht hw]
    iintro ⟨⟨H0, HR⟩, HO⟩ Hk
    iapply (waitsU_wp c₀ arg2 arg5 arg11 f harg2 harg5 _ (waitB_lt i h) W K) $$ [H0 HO]
    · isplitl [H0]
      · iexact H0
      iexact HO
    iintro ⟨H0, HO⟩
    iapply Hk
    isplitl [H0]
    · iexact H0
    isplitl [HR]
    · iexact HR
    iexact HO
  · have ht : ¬ (i 0).val < 80 := fun h' => h ((cond3_iff i).mpr h')
    have h80 : (i 0).val = 80 := by have := coord_lt i; omega
    rw [dif_neg h]
    have e1 : MidRing c₀ arg2 arg5 arg11 f (i 0).val
        = iprop(Idle c₀ arg2 arg5 arg11 f (slotN i) (slotN_lt i) (blkI c₀ arg2 f i) ∗ RestRing c₀ arg2 arg5 arg11 f (i 0).val) := by
      unfold MidRing RestRing PreRing
      rw [dif_neg (by omega), dif_neg (by omega), dif_neg (by omega), dif_neg (by omega), dif_neg (by omega),
        idle_congr c₀ arg2 arg5 arg11 f (slotN_lt i) (show 1 < 3 by omega) (by rw [slotN_eq]; omega),
        blkI_eq c₀ arg2 f i 79 (by omega) (by omega)]
    rw [e1]
    iintro ⟨⟨H, HR⟩, HO⟩ Hk
    iapply (WP_pure c₀ _ K)
    iapply Hk
    isplitl [H]
    · iexact H
    isplitl [HR]
    · iexact HR
    iexists W
    iexact HO

/-- The ring after point `t` is the ring before the next. -/
theorem ring_next :
    iprop(Idle c₀ arg2 arg5 arg11 f (slotN i) (slotN_lt i) (blkI c₀ arg2 f i) ∗ RestRing c₀ arg2 arg5 arg11 f (i 0).val)
      ⊢ PreRing c₀ arg2 arg5 arg11 f ((i 0).val + 1) := by
  have hc := coord_lt i
  unfold RestRing PreRing
  by_cases h78 : (i 0).val < 78
  · rw [dif_pos h78, dif_pos (by omega)]
    iintro ⟨H, H1, H2⟩
    isplitl [H1]
    · iexact H1
    isplitl [H2]
    · iexact H2
    rw [rest_congr c₀ arg2 arg5 arg11 f _ (slotN_lt i) (by rw [slotN_eq]; omega)]
    unfold Rest
    iexists _
    iexact H
  rw [dif_neg h78]
  by_cases h79 : (i 0).val < 79
  · rw [dif_pos h79, dif_neg (by omega), dif_pos (by omega)]
    iintro ⟨H, H1, H2⟩
    isplitl [H1]
    · iexact H1
    isplitl [H2]
    · iexact H2
    rw [rest_congr c₀ arg2 arg5 arg11 f (k := 0) _ (slotN_lt i) (by rw [slotN_eq]; omega)]
    unfold Rest
    iexists _
    iexact H
  rw [dif_neg h79, dif_neg (by omega), dif_neg (by omega)]
  have e : Idle c₀ arg2 arg5 arg11 f (slotN i) (slotN_lt i) (blkI c₀ arg2 f i)
      = Idle c₀ arg2 arg5 arg11 f 1 (by omega) (blkX c₀ arg2 f 79 (by omega)) := by
    rw [idle_congr c₀ arg2 arg5 arg11 f _ (show 1 < 3 by omega) (by rw [slotN_eq]; omega)]
    rw [blkI_eq c₀ arg2 f i 79 (by omega) (Nat.min_eq_right (by omega))]
  rw [e]

/-! ## The buffers -/

attribute [local irreducible] startsU waitsU initU chunksU newH newFlag restAll Flight

variable (arg6 : Memref sig .tc .vmem S3x16x2x256x128 .bf16) (arg7 : Memref sig .tc .vmem S11x4x256x256 .f32)
  (arg8 : Memref sig .tc .vmem S11x8x256 .f32) (arg1 : Memref sig .tc .vmem S1x4096 .f32) (harg6 : arg6.IsWhole)
  (arg10 : Memref sig .tc .smem S1 .i32) (G : Vec F S1x4096 .f32)

/-- The kept buffers: the signed Hadamard tiles, the flag, and the rotated block with its factors. -/
def Bufs (V : Vec F S11x4x256x256 .f32) (R : Vec F S11x8x256 .f32) : sProp 𝕄 :=
  iprop(owns (c₀ : Thread nD τ) arg6 fullShare (newH G) ∗ owns (c₀ : Thread nD τ) arg10 fullShare (newFlag G)
    ∗ owns (c₀ : Thread nD τ) arg7 fullShare V ∗ owns (c₀ : Thread nD τ) arg8 fullShare R)

/-- What point `t` starts from. -/
def Entry (t : ℕ) (V : Vec F S11x4x256x256 .f32) (R : Vec F S11x8x256 .f32) : sProp 𝕄 :=
  if t = 0 then iprop((Rest c₀ arg2 arg5 arg11 f 0 (by omega) ∗ Rest c₀ arg2 arg5 arg11 f 1 (by omega) ∗ Rest c₀ arg2 arg5 arg11 f 2 (by omega))
    ∗ (∃ X, owns (c₀ : Thread nD τ) arg6 fullShare X) ∗ (∃ X, owns (c₀ : Thread nD τ) arg7 fullShare X)
    ∗ (∃ X, owns (c₀ : Thread nD τ) arg8 fullShare X) ∗ (∃ X, owns (c₀ : Thread nD τ) arg10 fullShare X))
  else iprop(PreRing c₀ arg2 arg5 arg11 f t ∗ Bufs c₀ arg6 arg7 arg8 arg10 G V R)

/-- The first point starts two blocks and builds the tiles. -/
theorem entry_stage (V : Vec F S11x4x256x256 .f32) (R : Vec F S11x8x256 .f32) (hV : (i 0).val = 0 → V = zeroV) (hR : (i 0).val = 0 → R = zeroR)
    {q : PosShare TreeShare} (K : PUnit → SP F) :
    iprop(Entry c₀ arg2 arg5 arg11 f arg6 arg7 arg8 arg10 G (i 0).val V R ∗ owns (c₀ : Thread nD τ) arg1 q G)
      ⊢ iprop((iprop(PreRing c₀ arg2 arg5 arg11 f (i 0).val ∗ Bufs c₀ arg6 arg7 arg8 arg10 G V R ∗ owns (c₀ : Thread nD τ) arg1 q G) -∗ K ⟨⟩)
        -∗ WP c₀ (entryIf i arg5 arg6 arg7 arg8 arg1 arg2 harg2 harg5 harg6 arg10 arg11) K) := by
  unfold entryIf
  by_cases h : k0_cond1 i = 1#1
  · have ht := (cond1_iff i).mp h
    rw [dif_pos h]
    obtain rfl := hV ht
    obtain rfl := hR ht
    unfold Entry PreRing Bufs
    rw [ht, if_pos rfl, dif_pos (by omega)]
    have e0 := idle_congr c₀ arg2 arg5 arg11 f (show 0 < 3 by omega) (slotB_lt 0#32 (by decide)) (by rw [slotB_eq _ (by decide)]; rfl)
    have e1 := idle_congr c₀ arg2 arg5 arg11 f (show 1 < 3 by omega) (slotB_lt 1#32 (by decide)) (by rw [slotB_eq _ (by decide)]; rfl)
    rw [← flightB_eq c₀ arg2 arg5 arg11 f 0#32 (by decide) 0 (by omega) rfl, ← flightB_eq c₀ arg2 arg5 arg11 f 1#32 (by decide) (0 + 1) (by omega) rfl]
    unfold Rest
    iintro ⟨⟨⟨⟨%X0, H0⟩, ⟨%X1, H1⟩, H2⟩, H6, H7, H8, H10⟩, HG⟩ Hk
    ihave H0 := (Entails.of_eq (e0 X0)) $$ H0
    ihave H1 := (Entails.of_eq (e1 X1)) $$ H1
    rw [WP_bind]
    iapply (startsU_wp c₀ arg2 arg5 arg11 f harg2 harg5 0#32 _ X0 _) $$ H0
    iintro H0
    rw [WP_bind]
    iapply (startsU_wp c₀ arg2 arg5 arg11 f harg2 harg5 1#32 _ X1 _) $$ H1
    iintro H1
    rw [WP_bind]
    iapply (initU_wp c₀ arg1 arg6 harg6 arg7 arg8 arg10 G _) $$ [HG H6 H7 H8 H10]
    · isplitl [HG]
      · iexact HG
      isplitl [H6]
      · iexact H6
      isplitl [H7]
      · iexact H7
      isplitl [H8]
      · iexact H8
      iexact H10
    iintro ⟨HG, H6, H7, H8, H10⟩
    iapply (WP_pure c₀ _ K)
    iapply Hk
    isplitl [H0 H1 H2]
    · isplitl [H0]
      · iexact H0
      isplitl [H1]
      · iexact H1
      iexact H2
    isplitl [H6 H7 H8 H10]
    · isplitl [H6]
      · iexact H6
      isplitl [H10]
      · iexact H10
      isplitl [H7]
      · iexact H7
      iexact H8
    iexact HG
  · have ht : ¬ (i 0).val = 0 := fun h' => h ((cond1_iff i).mpr h')
    rw [dif_neg h]
    unfold Entry
    rw [if_neg ht]
    iintro ⟨⟨HP, HB⟩, HG⟩ Hk
    iapply (WP_pure c₀ _ K)
    iapply Hk
    isplitl [HP]
    · iexact HP
    isplitl [HB]
    · iexact HB
    iexact HG

/-! ## The whole point -/

/-- The rotated tiles of this point's block: one product per tile when the signs are single bf16 terms, three otherwise. -/
def rvAt (X : Fin 8 → Vec F S2816x128 .bf16) : Fin 11 → Fin 4 → Vec F S256x256 .f32 :=
  if newFlag G at0 = 0#32 then rv1 i (newH G) X else rv3 i (newH G) X

theorem flag_yes (v : BitVec 32) : Scalar.cmpi .ne (Scalar.extui (Scalar.cmpi .eq v 0#32) : BitVec 32) 0#32 = 1#1 ↔ v = 0#32 := by
  by_cases h : v = 0#32
  · subst h; decide
  · have e : Scalar.cmpi .eq v 0#32 = 0#1 := by
      rw [Scalar.cmpi, IntOp.cmpi, show (v == 0#32) = false from beq_false_of_ne h]; rfl
    rw [e]; simp [h]; decide

theorem flag_no (v : BitVec 32) : Scalar.cmpi .ne (Scalar.extui (Scalar.cmpi .ne v 0#32) : BitVec 32) 0#32 = 1#1 ↔ v ≠ 0#32 := by
  by_cases h : v = 0#32
  · subst h; decide
  · have e : Scalar.cmpi .ne v 0#32 = 1#1 := by
      rw [Scalar.cmpi, IntOp.cmpi, show (v != 0#32) = true from bne_iff_ne.mpr h]; rfl
    rw [e]; simp [h]; decide

variable (arg3 : Memref sig .tc .vmem S1x2816x512 .i8) (harg3 : arg3.IsWhole) (arg4 : Memref sig .tc .vmem S2x8x1408 .f32)
  (arg9 : Memref sig .tc .vmem S11x2x72x128 .f32)

theorem stepIf1_yes (v : Elt F .i32) (hf : v = 0#32) :
    stepIf1 i arg3 harg3 arg4 arg5 arg6 arg7 arg8 arg9 v = (do chunksU arg3 harg3 arg4 arg7 arg8 arg9 (rotate1 i arg5 arg6) 11 (by omega); pure ⟨⟩) := if_pos ((flag_yes v).mpr hf)

theorem stepIf1_no (v : Elt F .i32) (hf : v ≠ 0#32) :
    stepIf1 i arg3 harg3 arg4 arg5 arg6 arg7 arg8 arg9 v = pure ⟨⟩ := if_neg (fun h => hf ((flag_yes v).mp h))

theorem stepIf3_yes (v : Elt F .i32) (hf : v ≠ 0#32) :
    stepIf3 i arg3 harg3 arg4 arg5 arg6 arg7 arg8 arg9 v = (do chunksU arg3 harg3 arg4 arg7 arg8 arg9 (rotate3 i arg5 arg6) 11 (by omega); pure ⟨⟩) := if_pos ((flag_no v).mpr hf)

theorem stepIf3_no (v : Elt F .i32) (hf : v = 0#32) :
    stepIf3 i arg3 harg3 arg4 arg5 arg6 arg7 arg8 arg9 v = pure ⟨⟩ := if_neg (fun h => (flag_no v).mp h hf)

/-- What the step leaves: `V`, `R` are the rotated block and factors the point found, `Z` is its own rotated block. -/
def stepPost (Z : Fin 11 → Fin 4 → Vec F S256x256 .f32) (V : Vec F S11x4x256x256 .f32) (R : Vec F S11x8x256 .f32) (Rres : sProp 𝕄) : sProp 𝕄 :=
  iprop(owns (c₀ : Thread nD τ) arg7 fullShare (newV Z) ∗ owns (c₀ : Thread nD τ) arg8 fullShare (newR Z)
    ∗ (∃ S, owns (c₀ : Thread nD τ) arg9 fullShare S)
    ∗ owns (c₀ : Thread nD τ) arg3 fullShare (newC V R) ∗ owns (c₀ : Thread nD τ) arg4 fullShare (newSc Z) ∗ Rres)

/-- Exactly one of the two steps runs. -/
theorem step_stage (X : Fin 8 → Vec F S2816x128 .bf16) (V : Vec F S11x4x256x256 .f32) (R : Vec F S11x8x256 .f32) (S : Vec F S11x2x72x128 .f32)
    (C : Vec F S1x2816x512 .i8) (Sc : Vec F S2x8x1408 .f32) (K : PUnit → SP F) :
    iprop(owns (c₀ : Thread nD τ) arg7 fullShare V ∗ owns (c₀ : Thread nD τ) arg8 fullShare R ∗ owns (c₀ : Thread nD τ) arg9 fullShare S
        ∗ owns (c₀ : Thread nD τ) arg3 fullShare C ∗ owns (c₀ : Thread nD τ) arg4 fullShare Sc
        ∗ RotRes c₀ arg5 arg6 i (newH G) X ∗ owns (c₀ : Thread nD τ) arg10 fullShare (newFlag G))
      ⊢ iprop((iprop(stepPost c₀ arg7 arg8 arg3 arg4 arg9 (rvAt i G X) V R (RotRes c₀ arg5 arg6 i (newH G) X)
            ∗ owns (c₀ : Thread nD τ) arg10 fullShare (newFlag G)) -∗ K ⟨⟩)
        -∗ WP c₀ (do
          let v15 : Elt F .i32 ← smemLoad arg10 (Rect.unit (s := S1) ![0] S1.size inb_S1_S1_0) numel1_S1 rfl
          stepIf1 i arg3 harg3 arg4 arg5 arg6 arg7 arg8 arg9 v15
          let v19 : Elt F .i32 ← smemLoad arg10 (Rect.unit (s := S1) ![0] S1.size inb_S1_S1_0) numel1_S1 rfl
          stepIf3 i arg3 harg3 arg4 arg5 arg6 arg7 arg8 arg9 v19) K) := by
  unfold stepPost
  iintro ⟨H7, H8, H9, H3, H4, HR, H10⟩ Hk
  rw [WP_bind]
  iapply (smemLoad_wp c₀ arg10 (newFlag G) _) $$ H10
  iintro H10
  by_cases hf : newFlag G at0 = 0#32
  · rw [stepIf1_yes _ _ _ _ _ _ _ _ _ _ hf, show rvAt i G X = rv1 i (newH G) X from if_pos hf]
    rw [WP_bind, WP_bind]
    iapply (step_wp c₀ arg3 harg3 arg4 arg7 arg8 arg9 (rv1 i (newH G) X) V R S C Sc (rotate1 i arg5 arg6) (RotRes c₀ arg5 arg6 i (newH G) X)
      (fun c hc j hj K => rotate1_wp c₀ arg5 arg6 i (newH G) X c hc j hj K)) $$ [H7 H8 H9 H3 H4 HR]
    · isplitl [H7]; · iexact H7
      isplitl [H8]; · iexact H8
      isplitl [H9]; · iexact H9
      isplitl [H3]; · iexact H3
      isplitl [H4]; · iexact H4
      iexact HR
    iintro H
    iapply (WP_pure c₀ _ _)
    rw [WP_bind]
    iapply (smemLoad_wp c₀ arg10 (newFlag G) _) $$ H10
    iintro H10
    rw [stepIf3_no _ _ _ _ _ _ _ _ _ _ hf]
    iapply (WP_pure c₀ _ K)
    iapply Hk
    isplitl [H]
    · iexact H
    iexact H10
  · rw [stepIf1_no _ _ _ _ _ _ _ _ _ _ hf, show rvAt i G X = rv3 i (newH G) X from if_neg hf]
    rw [WP_bind]
    iapply (WP_pure c₀ _ _)
    rw [WP_bind]
    iapply (smemLoad_wp c₀ arg10 (newFlag G) _) $$ H10
    iintro H10
    rw [stepIf3_yes _ _ _ _ _ _ _ _ _ _ hf]
    rw [WP_bind]
    iapply (step_wp c₀ arg3 harg3 arg4 arg7 arg8 arg9 (rv3 i (newH G) X) V R S C Sc (rotate3 i arg5 arg6) (RotRes c₀ arg5 arg6 i (newH G) X)
      (fun c hc j hj K => rotate3_wp c₀ arg5 arg6 i (newH G) X c hc j hj K)) $$ [H7 H8 H9 H3 H4 HR]
    · isplitl [H7]; · iexact H7
      isplitl [H8]; · iexact H8
      isplitl [H9]; · iexact H9
      isplitl [H3]; · iexact H3
      isplitl [H4]; · iexact H4
      iexact HR
    iintro H
    iapply (WP_pure c₀ _ K)
    iapply Hk
    isplitl [H]
    · iexact H
    iexact H10

/-- One grid point, from what it starts with to what the next starts with. -/
theorem point_wp (V : Vec F S11x4x256x256 .f32) (R : Vec F S11x8x256 .f32) (hV : (i 0).val = 0 → V = zeroV) (hR : (i 0).val = 0 → R = zeroR)
    {q : PosShare TreeShare} (W : Waits sig Unit) (K : PUnit → SP F) :
    iprop(Entry c₀ arg2 arg5 arg11 f arg6 arg7 arg8 arg10 G (i 0).val V R ∗ (∃ S, owns (c₀ : Thread nD τ) arg9 fullShare S)
        ∗ owns (c₀ : Thread nD τ) arg1 q G ∗ (∃ C, owns (c₀ : Thread nD τ) arg3 fullShare C) ∗ (∃ Sc, owns (c₀ : Thread nD τ) arg4 fullShare Sc)
        ∗ owes (c₀ : Thread nD τ) 0 W)
      ⊢ iprop((iprop(Entry c₀ arg2 arg5 arg11 f arg6 arg7 arg8 arg10 G ((i 0).val + 1) (newV (rvAt i G (blkI c₀ arg2 f i))) (newR (rvAt i G (blkI c₀ arg2 f i)))
            ∗ (∃ S, owns (c₀ : Thread nD τ) arg9 fullShare S) ∗ owns (c₀ : Thread nD τ) arg1 q G
            ∗ owns (c₀ : Thread nD τ) arg3 fullShare (newC V R) ∗ owns (c₀ : Thread nD τ) arg4 fullShare (newSc (rvAt i G (blkI c₀ arg2 f i)))
            ∗ ∃ W', owes (c₀ : Thread nD τ) 0 W') -∗ K ⟨⟩)
        -∗ WP c₀ (bodyU i arg3 harg3 arg4 arg5 arg6 arg7 arg8 arg9 arg1 arg2 harg2 harg5 harg6 arg10 arg11) K) := by
  iintro ⟨HE, ⟨%S, H9⟩, H1, ⟨%C, H3⟩, ⟨%Sc, H4⟩, HO⟩ Hk
  unfold bodyU
  rw [WP_bind]
  iapply (entry_stage c₀ arg2 arg5 arg11 f harg2 harg5 i arg6 arg7 arg8 arg1 harg6 arg10 G V R hV hR _) $$ [HE H1]
  · isplitl [HE]; · iexact HE
    iexact H1
  iintro ⟨HP, HB, H1⟩
  rw [WP_bind]
  iapply (starts_stage c₀ arg2 arg5 arg11 f harg2 harg5 i _) $$ HP
  iintro HP
  rw [WP_bind]
  iapply (waits_stage c₀ arg2 arg5 arg11 f harg2 harg5 i W _) $$ [HP HO]
  · isplitl [HP]; · iexact HP
    iexact HO
  unfold Idle Bufs
  icases HB with ⟨H6, H10, H7, H8⟩
  iintro ⟨⟨HS, HI⟩, HR, HO⟩
  iapply (step_stage c₀ arg5 i arg6 arg7 arg8 arg10 G arg3 harg3 arg4 arg9 (blkI c₀ arg2 f i) V R S C Sc K) $$ [H6 H7 H8 H9 H3 H4 HS H10]
  · isplitl [H7]; · iexact H7
    isplitl [H8]; · iexact H8
    isplitl [H9]; · iexact H9
    isplitl [H3]; · iexact H3
    isplitl [H4]; · iexact H4
    isplitl [H6 HS]
    · unfold RotRes
      isplitl [H6]; · iexact H6
      iexact HS
    iexact H10
  unfold stepPost RotRes
  iintro ⟨⟨H7, H8, H9, H3, H4, H6, HS⟩, H10⟩
  iapply Hk
  isplitl [H6 H7 H8 HS HI HR H10]
  · unfold Entry
    rw [if_neg (by omega)]
    isplitl [HS HI HR]
    · iapply (ring_next c₀ arg2 arg5 arg11 f i)
      unfold Idle
      isplitr [HR]
      · isplitl [HS]; · iexact HS
        iexact HI
      iexact HR
    unfold Bufs
    isplitl [H6]; · iexact H6
    isplitl [H10]; · iexact H10
    isplitl [H7]; · iexact H7
    iexact H8
  isplitl [H9]; · iexact H9
  isplitl [H1]; · iexact H1
  isplitl [H3]; · iexact H3
  isplitl [H4]; · iexact H4
  iexact HO

end Cert.Kernel.Gen

end
-- ==== Proof.K.Slots.lean ====
module

public import proofs.«01_k».proof.Proof.K.State

/-! The ring buffer as its 24 slabs, and the array it is filled from as the shares the slots read through. -/

@[expose] public section

noncomputable section

namespace Cert.Kernel.Gen

open Cert.Kernel K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

variable (c₀ : Dev nD)

/-- The ring buffer. -/
abbrev ringM : Memref sig .tc .vmem S3x8x2816x128 .bf16 := Memref.whole cc0_scratch0

/-- Where the ring buffer lies. -/
abbrev ringLoc : Loc nD τ sig := (c₀ : Thread nD τ).loc cc0_scratch0

/-- The elements of slab `x.2` of slot `x.1`. -/
def slabEls (x : Fin 3 × Fin 8) : Finset (Idx (ringLoc c₀)) := (dstView ringM x.1.val x.1.isLt x.2.val x.2.isLt).view.set

theorem mem_slabEls (x : Fin 3 × Fin 8) (y : S3x8x2816x128.Idx) : y ∈ slabEls c₀ x ↔ (y 0).val = x.1.val ∧ (y 1).val = x.2.val := by
  have e : slabEls c₀ x = (Rect.unit (s := S3x8x2816x128) ![x.1.val, x.2.val, 0, 0] S1x1x2816x128.size (inbDst x.1.val x.1.isLt x.2.val x.2.isLt)).set := by
    unfold slabEls dstView
    rw [Memref.set_view_squeeze]
    exact (View.set_slice _ _).trans (Finset.map_refl)
  rw [e, mem_unit]
  have h2 : (y 2).val < 2816 := (y 2).isLt
  have h3 : (y 3).val < 128 := (y 3).isLt
  simp [Fin.forall_fin_succ, S1x1x2816x128]
  omega

theorem slabEls_disjoint (x y : Fin 3 × Fin 8) (h : x ≠ y) : Disjoint (slabEls c₀ x) (slabEls c₀ y) := by
  refine Finset.disjoint_left.mpr fun z hx hy => h ?_
  have h1 := (mem_slabEls c₀ x z).mp hx
  have h2 := (mem_slabEls c₀ y z).mp hy
  exact Prod.ext (Fin.ext (by omega)) (Fin.ext (by omega))

theorem slabEls_all : (Finset.univ : Finset (Fin 3 × Fin 8)).biUnion (slabEls c₀) = Finset.univ := by
  refine Finset.eq_univ_iff_forall.mpr fun z => Finset.mem_biUnion.mpr ⟨(⟨(z 0).val, (z 0).isLt⟩, ⟨(z 1).val, (z 1).isLt⟩), Finset.mem_univ _, ?_⟩
  exact (mem_slabEls c₀ _ z).mpr ⟨rfl, rfl⟩

theorem bigSep_pairs {M I J : Type} [URA M] (s : Finset I) (t : Finset J) (Φ : I × J → sProp M) :
    bigSep (s ×ˢ t) Φ = bigSep s fun i => bigSep t fun j => Φ (i, j) := by
  classical
  induction s using Finset.induction_on with
  | empty => rw [Finset.empty_product]; rfl
  | insert a s ha ih =>
    have hdisj : Disjoint (({a} : Finset I) ×ˢ t) (s ×ˢ t) := Finset.disjoint_product.mpr (.inl (Finset.disjoint_singleton_left.mpr ha))
    rw [BI.bigSep_insert ha, Finset.insert_eq, Finset.union_product, BI.bigSep_union hdisj, ih, Finset.singleton_product, BI.bigSep_map]
    rfl

theorem three {M : Type} [URA M] (Φ : Fin 3 → sProp M) : bigSep Finset.univ Φ = iprop(Φ 0 ∗ Φ 1 ∗ Φ 2) :=
  bigSep_univ_eq_bigSepL [(0 : Fin 3), (1 : Fin 3), (2 : Fin 3)] (by decide) (by decide) Φ

theorem four {M : Type} [URA M] (Φ : Fin 4 → sProp M) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The slabs of one slot, at something. -/
def slotAny (k : Fin 3) : sProp 𝕄 := iprop(∃ X, slabs c₀ ringM k.val k.isLt X)

theorem slot_open (f : Buf (Elt F) (ringLoc c₀)) (k : Fin 3) :
    (bigSep Finset.univ fun j : Fin 8 => (ringLoc c₀ ↦[slabEls c₀ (k, j)]{fullShare} f : sProp 𝕄)) ⊢ slotAny c₀ k := by
  unfold slotAny slabs
  iintro H
  iexists fun j => (dstView ringM k.val k.isLt j.val j.isLt).view.read (Elt F) f
  have h : (bigSep Finset.univ fun j : Fin 8 => (ringLoc c₀ ↦[slabEls c₀ (k, j)]{fullShare} f : sProp 𝕄))
      ⊢ bigSep Finset.univ fun j : Fin 8 => owns (c₀ : Thread nD τ) (dstView ringM k.val k.isLt j.val j.isLt) fullShare
        ((dstView ringM k.val k.isLt j.val j.isLt).view.read (Elt F) f) :=
    bigSep_mono fun j _ => owns_intro (c₀ : Thread nD τ) (dstView ringM k.val k.isLt j.val j.isLt) fullShare f
  iapply h
  iexact H

/-- The ring buffer is its slots. -/
theorem ring_open (f : Buf (Elt F) (ringLoc c₀)) :
    (ringLoc c₀ ↦{fullShare} f : sProp 𝕄) ⊢ iprop(slotAny c₀ 0 ∗ slotAny c₀ 1 ∗ slotAny c₀ 2) := by
  rw [← slabEls_all c₀, pointsTo_biUnion Finset.univ (slabEls c₀) (fun x _ y _ h => slabEls_disjoint c₀ x y h),
    ← Finset.univ_product_univ, bigSep_pairs, ← three]
  exact bigSep_mono fun k _ => slot_open c₀ f k

theorem slab_close (k : Fin 3) (j : Fin 8) (X : Vec F S2816x128 .bf16) :
    (owns (c₀ : Thread nD τ) (dstView ringM k.val k.isLt j.val j.isLt) fullShare X : sProp 𝕄)
      ⊢ iprop(∃ g : Buf (Elt F) (ringLoc c₀), ringLoc c₀ ↦[slabEls c₀ (k, j)]{fullShare} g) := by
  unfold owns
  iintro ⟨%g, -, H⟩
  iexists g
  iexact H

theorem slot_close (k : Fin 3) :
    slotAny (F := F) c₀ k ⊢ bigSep Finset.univ fun j : Fin 8 => (iprop(∃ g : Buf (Elt F) (ringLoc c₀), ringLoc c₀ ↦[slabEls c₀ (k, j)]{fullShare} g) : sProp 𝕄) := by
  unfold slotAny slabs
  iintro ⟨%X, H⟩
  have h : (bigSep Finset.univ fun j : Fin 8 => owns (c₀ : Thread nD τ) (dstView ringM k.val k.isLt j.val j.isLt) fullShare (X j) : sProp 𝕄)
      ⊢ bigSep Finset.univ fun j : Fin 8 => iprop(∃ g : Buf (Elt F) (ringLoc c₀), ringLoc c₀ ↦[slabEls c₀ (k, j)]{fullShare} g) :=
    bigSep_mono fun j _ => slab_close c₀ k j (X j)
  iapply h
  iexact H

/-- And back, at something. -/
theorem ring_close : iprop(slotAny (F := F) c₀ 0 ∗ slotAny c₀ 1 ∗ slotAny c₀ 2) ⊢ (iprop(∃ f, ringLoc c₀ ↦{fullShare} f) : sProp 𝕄) := by
  rw [← three]
  have h1 : (bigSep Finset.univ (slotAny (F := F) c₀) : sProp 𝕄)
      ⊢ bigSep Finset.univ fun x : Fin 3 × Fin 8 => iprop(∃ g : Buf (Elt F) (ringLoc c₀), ringLoc c₀ ↦[slabEls c₀ x]{fullShare} g) := by
    rw [← Finset.univ_product_univ, bigSep_pairs]
    exact bigSep_mono fun k _ => slot_close c₀ k
  refine h1.trans ((bigSep_exists_pi Finset.univ _).trans ?_)
  iintro ⟨%g, H⟩
  have h2 := pointsTo_biUnion_join (Ix := Unit) (Name := ℕ) (U := Pipeline.UD sig nD τ) (Lvl := ℕ) (q := fullShare) Finset.univ (slabEls c₀) g (g (0, 0))
    (fun x _ y _ h => slabEls_disjoint c₀ x y h)
  rw [slabEls_all] at h2
  ihave H := h2 $$ H
  icases H with ⟨%w, -, H⟩
  iexists w
  iexact H

end Cert.Kernel.Gen

end
-- ==== Proof.K.Body.lean ====
module

public import proofs.«01_k».proof.Proof.K.Pieces
public import Idealize.ShloMosaic.Lib.Tactic

/-! The printed body of a grid point is the body in pieces: the same operations in the same order. -/

@[expose] public section

namespace Cert.Kernel.Gen

open Idealize.ShloMosaic Idealize.SL.Sem
open Cert.Kernel K0.Facts₀ Shapes1.Facts₀

variable {F : FTy → Type} [FloatOps F]

theorem body_eq (i : grid0.Coords) (arg1 : Memref sig .tc .vmem S1x4096 .f32) (harg1 : arg1.IsWhole) (arg2 : Memref sig .tc .hbm S20x2816x4096 .bf16) (harg2 : arg2.IsWhole) (arg3 : Memref sig .tc .vmem S1x2816x512 .i8) (harg3 : arg3.IsWhole) (arg4 : Memref sig .tc .vmem S2x8x1408 .f32) (harg4 : arg4.IsWhole) (arg5 : Memref sig .tc .vmem S3x8x2816x128 .bf16) (harg5 : arg5.IsWhole) (arg6 : Memref sig .tc .vmem S3x16x2x256x128 .bf16) (harg6 : arg6.IsWhole) (arg7 : Memref sig .tc .vmem S11x4x256x256 .f32) (harg7 : arg7.IsWhole) (arg8 : Memref sig .tc .vmem S11x8x256 .f32) (harg8 : arg8.IsWhole) (arg9 : Memref sig .tc .vmem S11x2x72x128 .f32) (harg9 : arg9.IsWhole) (arg10 : Memref sig .tc .smem S1 .i32) (harg10 : arg10.IsWhole) (arg11 : DmaSems sig S3) :
    cc0_hadamard_int4_fold (F := F) i arg1 harg1 arg2 harg2 arg3 harg3 arg4 harg4 arg5 harg5 arg6 harg6 arg7 harg7 arg8 harg8 arg9 harg9 arg10 harg10 arg11
      = bodyV i arg3 harg3 arg4 arg5 arg6 arg7 arg8 arg9 arg1 arg2 harg2 harg5 harg6 arg10 arg11 := by
  sl_kernel_rfl

/-- The branches as pieces of their own. -/
theorem bodyV_eq (i : grid0.Coords) (arg1 : Memref sig .tc .vmem S1x4096 .f32) (arg2 : Memref sig .tc .hbm S20x2816x4096 .bf16) (harg2 : arg2.IsWhole) (arg3 : Memref sig .tc .vmem S1x2816x512 .i8) (harg3 : arg3.IsWhole) (arg4 : Memref sig .tc .vmem S2x8x1408 .f32) (arg5 : Memref sig .tc .vmem S3x8x2816x128 .bf16) (harg5 : arg5.IsWhole) (arg6 : Memref sig .tc .vmem S3x16x2x256x128 .bf16) (harg6 : arg6.IsWhole) (arg7 : Memref sig .tc .vmem S11x4x256x256 .f32) (arg8 : Memref sig .tc .vmem S11x8x256 .f32) (arg9 : Memref sig .tc .vmem S11x2x72x128 .f32) (arg10 : Memref sig .tc .smem S1 .i32) (arg11 : DmaSems sig S3) :
    bodyV (F := F) i arg3 harg3 arg4 arg5 arg6 arg7 arg8 arg9 arg1 arg2 harg2 harg5 harg6 arg10 arg11
      = bodyU i arg3 harg3 arg4 arg5 arg6 arg7 arg8 arg9 arg1 arg2 harg2 harg5 harg6 arg10 arg11 := by
  have e1 {c : Prop} [Decidable c] {a b : TCProg F PUnit} {k : PUnit → TCProg F PUnit} :
      ((if c then a else b) >>= k) = if c then a >>= k else b >>= k := by split <;> rfl
  have e2 {c : Prop} [Decidable c] {a : c → TCProg F PUnit} {b : ¬ c → TCProg F PUnit} {k : PUnit → TCProg F PUnit} :
      ((if h : c then a h else b h) >>= k) = if h : c then a h >>= k else b h >>= k := by split <;> rfl
  unfold bodyV bodyU entryIf startsIf waitsIf stepIf1 stepIf3
  simp only [e1, e2, Prog.bind_assoc, pure_bind]

end Cert.Kernel.Gen
-- ==== Proof.K.Data.lean ====
module

public import proofs.«01_k».proof.Proof.K.State
public import proofs.«01_k».proof.Proof.K.Slots
public import proofs.«01_k».proof.Proof.K.Body
public import proofs.«01_k».proof.Proof.Gen.Kernel.Frame

/-! The proof data of the one pipeline: what every buffer holds between two points, and that the body keeps it. -/

@[expose] public section

noncomputable section

namespace Cert.Kernel.Gen

open Cert.Kernel K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

variable (m : (ℓ : Loc nD τ sig) → Buf (Elt F) ℓ) (ρ : Dev nD → PrngReg) (c : Dev nD)

/-- The array in HBM and the scratch buffers. -/
abbrev arrM : Memref sig .tc .hbm S20x2816x4096 .bf16 := Memref.whole main_v1
abbrev hadM : Memref sig .tc .vmem S3x16x2x256x128 .bf16 := Memref.whole cc0_scratch1
abbrev rotM : Memref sig .tc .vmem S11x4x256x256 .f32 := Memref.whole cc0_scratch2
abbrev facM : Memref sig .tc .vmem S11x8x256 .f32 := Memref.whole cc0_scratch3
abbrev maxM : Memref sig .tc .vmem S11x2x72x128 .f32 := Memref.whole cc0_scratch4
abbrev flagM : Memref sig .tc .smem S1 .i32 := Memref.whole cc0_scratch5
abbrev semM : DmaSems sig S3 := cc0_scratch6

/-- What the array in HBM holds. -/
abbrev arrV : Buf (Elt F) ((arrM).view.loc (c : Thread nD τ)) := V m c main_v1

/-- The signs. -/
def signsV : Vec F S1x4096 .f32 := iblk m c 0 ⟨0, by decide⟩

theorem signs_block (t : Fin cfg0.N) : iblk m c 0 t = signsV m c := rfl

theorem coords_val : ∀ t : Fin grid0.N, ((grid0.coords t) 0).val = t.val := by decide +kernel

/-- The coordinates of point `t`. -/
def coordsN (t : ℕ) : grid0.Coords := grid0.coords ⟨min t 80, by rw [N_0]; omega⟩

theorem coordsN_eq (t : Fin cfg0.N) : coordsN t.val = grid0.coords t := by
  have h : t.val < 81 := N_0 ▸ t.isLt
  unfold coordsN
  congr 1
  exact Fin.ext (Nat.min_eq_left (by omega))

/-- The rotated block of point `t`. -/
def rotAt (t : ℕ) : Fin 11 → Fin 4 → Vec F S256x256 .f32 := rvAt (coordsN t) (signsV m c) (blkI c arrM (arrV m c) (coordsN t))

/-- The rotated block held before point `t`. -/
def Vat : ℕ → Vec F S11x4x256x256 .f32
  | 0 => zeroV
  | t + 1 => newV (rotAt m c t)
/-- Its factors. -/
def Rat : ℕ → Vec F S11x8x256 .f32
  | 0 => zeroR
  | t + 1 => newR (rotAt m c t)

/-- The share of the array that no slot reads through. -/
def spare : sProp 𝕄 := (arrM).view.loc (c : Thread nD τ) ↦[Finset.univ]{leaf 2 fullShare (3 : Fin 4)} arrV m c

/-- What the buffers hold before point `t`. -/
def PhiAt (t : ℕ) : sProp 𝕄 :=
  iprop(Entry c arrM ringM semM (arrV m c) hadM rotM facM flagM (signsV m c) t (Vat m c t) (Rat m c t)
    ∗ (∃ S, owns (c : Thread nD τ) maxM fullShare S) ∗ (∃ r, prngReg c r) ∗ spare m c)

/-- The proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => newC (Vat m c t.val) (Rat m c t.val)
    | ⟨2, _⟩ => newSc (rotAt m c t.val)
  Φ t := PhiAt m c t.val
  q _ := fullShare
  owed _ := 0

theorem A_eq (c : Dev nD) (w : Fin cfg0.W) : (dats m 0 c).A w = V m c (Pipeline.arrRef spec0 w) := by dsimp only [dats]
theorem after0_0 (t : Fin cfg0.N) : (dats m 0 c).after 0 t = iblk m c 0 t := by dsimp only [dats]
theorem after0_1 (t : Fin cfg0.N) : (dats m 0 c).after 1 t = newC (Vat m c t.val) (Rat m c t.val) := by dsimp only [dats]
theorem after0_2 (t : Fin cfg0.N) : (dats m 0 c).after 2 t = newSc (rotAt m c t.val) := by dsimp only [dats]

theorem before0_0 (t : Fin cfg0.N) (d) : (dats m 0 c).before 0 t d = signsV m c :=
  (((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)).trans (signs_block m c t)

/-! ## The body -/

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem Vat_zero (t : Fin cfg0.N) (h : ((grid0.coords t) 0).val = 0) : Vat m c t.val = zeroV := by
  rw [coords_val] at h; rw [h]; rfl
theorem Rat_zero (t : Fin cfg0.N) (h : ((grid0.coords t) 0).val = 0) : Rat m c t.val = zeroR := by
  rw [coords_val] at h; rw [h]; rfl

theorem rotAt_eq (t : Fin cfg0.N) : rotAt m c t.val = rvAt (grid0.coords t) (signsV m c) (blkI c arrM (arrV m c) (grid0.coords t)) := by
  rw [← coordsN_eq t]; rfl
theorem Vat_succ (t : Fin cfg0.N) : Vat m c (t.val + 1) = newV (rvAt (grid0.coords t) (signsV m c) (blkI c arrM (arrV m c) (grid0.coords t))) := by
  rw [← rotAt_eq]; rfl
theorem Rat_succ (t : Fin cfg0.N) : Rat m c (t.val + 1) = newR (rvAt (grid0.coords t) (signsV m c) (blkI c arrM (arrV m c) (grid0.coords t))) := by
  rw [← rotAt_eq]; rfl

attribute [local irreducible] bodyU rvAt newC newSc newV newR blkI Entry signsV Vat Rat in
theorem sound_body (t : Fin cfg0.N) :
    bodyPre m c t ⊢ wp frame (wpE (defs₀ (F := F)) Variants.none c none) Set.univ (bodyAt0 t) (fun _ => bodyPost m c t) := by
  have ht : (t : Fin grid0.N).val = ((grid0.coords t) 0).val := (coords_val t).symm
  unfold bodyPre bodyPost bodyAt0
  rw [body_eq, bodyV_eq, after0_0, after0_1, after0_2, signs_block]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  unfold PhiAt
  rw [Vat_succ, Rat_succ, rotAt_eq]
  iintro ⟨⟨HE, H9, Hg, Hs⟩, ⟨%W, -, HO⟩, ⟨%d0, H1⟩, ⟨%d1, H3⟩, ⟨%d2, H4⟩⟩
  rw [before0_0]
  have h := fun K => point_wp c arrM ringM semM (arrV m c) (Memref.isWhole_whole _) (Memref.isWhole_whole _) (grid0.coords t) hadM rotM facM
    (st0_0 t) (Memref.isWhole_whole _) flagM (signsV m c) (st0_1 t) (hstage0_1 ((cfg0.slots t 1).cast nbuf0_1)) (st0_2 t) maxM
    (Vat m c t.val) (Rat m c t.val) (Vat_zero m c t) (Rat_zero m c t) (q := fullShare) W K
  rw [← ht] at h
  iapply (h _) $$ [HE H9 H1 H3 H4 HO]
  · isplitl [HE]; · iexact HE
    isplitl [H9]; · iexact H9
    isplitl [H1]; · iexact H1
    isplitl [H3]; · iexists _; iexact H3
    isplitl [H4]; · iexists _; iexact H4
    iexact HO
  iintro ⟨HE, H9, H1, H3, H4, ⟨%W', HO⟩⟩
  isplitl [HE H9 Hg Hs]
  · isplitl [HE]; · iexact HE
    isplitl [H9]; · iexact H9
    isplitl [Hg]; · iexact Hg
    iexact Hs
  isplitl [HO]
  · iexists W'; isplitr; · ipureintro; exact fun _ _ => Or.inl trivial
    iexact HO
  isplitl [H1]; · iexact H1
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## What the pipeline is entered with and leaves -/

/-- The kernel's own semaphores. -/
abbrev osem0 : Fin 3 → SemLoc sig := fun k => slotSem semM k.val k.isLt
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(semVal ((c : Thread nD τ), osem0 0) 0 ∗ semVal ((c : Thread nD τ), osem0 1) 0 ∗ semVal ((c : Thread nD τ), osem0 2) 0) := by
  rw [Pipeline.ownSems0_eq_of_list c osem0 [0, 1, 2] (by decide) (by decide)]; rfl

/-- The arrays the kernel reads by its own copies. -/
def H0 : Finset (Ref sig .tc) := {main_v1}
theorem H0_sub : H0 ⊆ Pipeline.restRefs sig spec0 := by decide
theorem arrPts_eq : (bigSep H0 (fun b => ((c : Thread nD τ).loc b) ↦{fullShare} V m c b) : sProp 𝕄)
      = (((c : Thread nD τ).loc main_v1) ↦{fullShare} V m c main_v1) := BI.bigSep_singleton

/-- The array is the shares of the slots and the spare one. -/
theorem arr_split : (((c : Thread nD τ).loc main_v1) ↦{fullShare} V m c main_v1 : sProp 𝕄)
    = iprop(((arrM).view.loc (c : Thread nD τ) ↦[Finset.univ]{slotShare 0 (by omega)} arrV m c)
      ∗ ((arrM).view.loc (c : Thread nD τ) ↦[Finset.univ]{slotShare 1 (by omega)} arrV m c)
      ∗ ((arrM).view.loc (c : Thread nD τ) ↦[Finset.univ]{slotShare 2 (by omega)} arrV m c) ∗ spare m c) := by
  have h := pointsTo_leaves (Ix := Unit) (Name := ℕ) (U := Pipeline.UD sig nD τ) (Lvl := ℕ) (ℓ := (arrM).view.loc (c : Thread nD τ)) Finset.univ (arrV m c) 2 fullShare
  exact h.trans (four _)

/-- Slots at rest are the ring buffer, the semaphores and the shares. -/
theorem rests_intro :
    iprop((∃ f, ringLoc c ↦{fullShare} f)
        ∗ (semVal ((c : Thread nD τ), osem0 0) 0 ∗ semVal ((c : Thread nD τ), osem0 1) 0 ∗ semVal ((c : Thread nD τ), osem0 2) 0)
        ∗ (((c : Thread nD τ).loc main_v1) ↦{fullShare} V m c main_v1))
      ⊢ (iprop((Rest c arrM ringM semM (arrV m c) 0 (by omega) ∗ Rest c arrM ringM semM (arrV m c) 1 (by omega) ∗ Rest c arrM ringM semM (arrV m c) 2 (by omega))
        ∗ spare m c) : sProp 𝕄) := by
  rw [arr_split]
  iintro ⟨⟨%f, HR⟩, ⟨S0, S1, S2⟩, A0, A1, A2, A3⟩
  ihave HR := (ring_open c f) $$ HR
  unfold slotAny Rest Idle
  icases HR with ⟨⟨%X0, R0⟩, ⟨%X1, R1⟩, ⟨%X2, R2⟩⟩
  isplitr [A3]
  · isplitl [R0 S0 A0]
    · iexists X0
      isplitl [R0]; · iexact R0
      isplitl [S0]; · iexact S0
      iexact A0
    isplitl [R1 S1 A1]
    · iexists X1
      isplitl [R1]; · iexact R1
      isplitl [S1]; · iexact S1
      iexact A1
    iexists X2
    isplitl [R2]; · iexact R2
    isplitl [S2]; · iexact S2
    iexact A2
  iexact A3

theorem rests_elim :
    (iprop((Rest c arrM ringM semM (arrV m c) 0 (by omega) ∗ Rest c arrM ringM semM (arrV m c) 1 (by omega) ∗ Rest c arrM ringM semM (arrV m c) 2 (by omega))
        ∗ spare m c) : sProp 𝕄)
      ⊢ iprop((∃ f, ringLoc c ↦{fullShare} f)
        ∗ (semVal ((c : Thread nD τ), osem0 0) 0 ∗ semVal ((c : Thread nD τ), osem0 1) 0 ∗ semVal ((c : Thread nD τ), osem0 2) 0)
        ∗ (((c : Thread nD τ).loc main_v1) ↦{fullShare} V m c main_v1)) := by
  rw [arr_split]
  unfold Rest Idle
  iintro ⟨⟨⟨%X0, R0, S0, A0⟩, ⟨%X1, R1, S1, A1⟩, ⟨%X2, R2, S2, A2⟩⟩, A3⟩
  isplitl [R0 R1 R2]
  · iapply (ring_close c)
    unfold slotAny
    isplitl [R0]; · iexists X0; iexact R0
    isplitl [R1]; · iexists X1; iexact R1
    iexists X2; iexact R2
  isplitl [S0 S1 S2]
  · isplitl [S0]; · iexact S0
    isplitl [S1]; · iexact S1
    iexact S2
  isplitl [A0]; · iexact A0
  isplitl [A1]; · iexact A1
  isplitl [A2]; · iexact A2
  iexact A3

theorem scoped_eq : (Pipeline.scopedRest (Ix := Unit) (Name := ℕ) (U := Pipeline.UD sig nD τ) (Lvl := ℕ) (Val := Elt F) spec0 c : sProp 𝕄)
    = iprop((∃ f, ringLoc c ↦{fullShare} f) ∗ (∃ X, owns (c : Thread nD τ) hadM fullShare X) ∗ (∃ X, owns (c : Thread nD τ) rotM fullShare X)
      ∗ (∃ X, owns (c : Thread nD τ) facM fullShare X) ∗ (∃ X, owns (c : Thread nD τ) maxM fullShare X) ∗ (∃ X, owns (c : Thread nD τ) flagM fullShare X)) := by
  rw [scopedRest0_eq]
  simp only [owns_whole]
  rfl

theorem phi_in : Pipeline.ΦD osem0 spec0 H0 (fun c b => V m c b) c ⊢ (dats m 0 c).Φ 0 := by
  rw [show (dats m 0 c).Φ 0 = PhiAt m c 0 from rfl, Pipeline.ΦD_eq, ownSems00_eq, arrPts_eq, scoped_eq]
  unfold PhiAt Entry
  rw [if_pos rfl]
  iintro ⟨⟨H5, H6, H7, H8, H9, H10⟩, Hg, HS, HA⟩
  ihave H := (rests_intro m c) $$ [H5 HS HA]
  · isplitl [H5]; · iexact H5
    isplitl [HS]; · iexact HS
    iexact HA
  icases H with ⟨HR, Hsp⟩
  isplitl [HR H6 H7 H8 H10]
  · isplitl [HR]; · iexact HR
    isplitl [H6]; · iexact H6
    isplitl [H7]; · iexact H7
    isplitl [H8]; · iexact H8
    iexact H10
  isplitl [H9]; · iexact H9
  isplitl [Hg]; · iexact Hg
  iexact Hsp

theorem phi_out : (dats m 0 c).Φ (Fin.last cfg0.N) ⊢ Pipeline.ΦD osem0 spec0 H0 (fun c b => V m c b) c := by
  rw [show (dats m 0 c).Φ (Fin.last cfg0.N) = PhiAt m c 81 from congrArg (PhiAt m c) N_0, Pipeline.ΦD_eq, ownSems00_eq, arrPts_eq, scoped_eq]
  unfold PhiAt Entry PreRing Bufs
  rw [if_neg (by omega), dif_neg (by omega), dif_neg (by omega)]
  iintro ⟨⟨⟨R1, R2, R0⟩, H6, H10, H7, H8⟩, H9, Hg, Hsp⟩
  ihave H := (rests_elim m c) $$ [R0 R1 R2 Hsp]
  · isplitr [Hsp]
    · isplitl [R0]; · iexact R0
      isplitl [R1]
      · unfold Rest
        iexists _
        iexact R1
      iexact R2
    iexact Hsp
  icases H with ⟨HR, HS, HA⟩
  isplitl [HR H6 H7 H8 H9 H10]
  · isplitl [HR]; · iexact HR
    isplitl [H6]; · iexists _; iexact H6
    isplitl [H7]; · iexists _; iexact H7
    isplitl [H8]; · iexists _; iexact H8
    isplitl [H9]; · iexact H9
    iexists _; iexact H10
  isplitl [Hg]; · iexact Hg
  isplitl [HS]; · iexact HS
  iexact HA

/-! ## The run -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  obtain rfl : b = main_v1 := Finset.mem_singleton.mp hb
  simp only [hostOps1, List.mem_cons, List.mem_nil_iff, or_false] at hop
  rcases hop with rfl | rfl
  all_goals simp only [StableHlo.reshape_bufs, StableHlo.unary_bufs, Finset.mem_insert, Finset.mem_singleton, not_or]
  all_goals exact ⟨StableHlo.devRef_ne_of_ne (by decide), StableHlo.devRef_ne_of_ne (by decide)⟩

theorem W_main_arg0D : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1D : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m) (hin := phi_in m) (hout := phi_out m) (Q' := _) (hQ' := fun _ h => h)

/-- The frame: the program ends, its arguments are as launched and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(((h.1 c).2 main_arg0 (Pipeline.mem_restRefs_of main_arg0 (by decide) (by decide))).trans (W_main_arg0D m c)),
      (((h.1 c).2 main_arg1 (Pipeline.mem_restRefs_of main_arg1 (by decide) (by decide))).trans (W_main_arg1D m c))⟩, h.2⟩) (run_main m ρ)

end Cert.Kernel.Gen

end
-- ==== Proof.KI.Pieces.lean ====
module

public import proofs.«01_k».proof.Proof.Gen.KernelIdeal

/-! The body of one grid point, cut into pieces with the chunk, tile and lane as parameters.

The printed body is unrolled: 11 chunks of 256 rows, 4 tiles of two groups in each, every load and
store at a literal place.  Here the same operations are written once, for chunk `c` and tile `j`. -/

@[expose] public section

namespace Cert.KernelIdeal.Gen

open Idealize.ShloMosaic Idealize.SL.Sem
open Cert.KernelIdeal K0.Facts₀ Shapes1.Facts₀

variable {F : FTy → Type} [FloatOps F]

/-- What a piece of the body is: a program of the tensor core. -/
abbrev TCProg (F : FTy → Type) [FloatOps F] : Type → Type 1 :=
  Prog (TpuEff nD τ sig (Elt F) Λ₀ .tc)

theorem inbV (c : ℕ) (hc : c < 11) (j : ℕ) (hj : j < 4) :
    ∀ a, (![c, j, 0, 0] : Fin 4 → ℕ) a + S1x1x256x256.size a ≤ S11x4x256x256.size a := by
  intro a; fin_cases a <;> simp [S1x1x256x256, S11x4x256x256] <;> omega

theorem inbVh (c : ℕ) (hc : c < 11) (j : ℕ) (hj : j < 4) (o : ℕ) (ho : o ≤ 128) :
    ∀ a, (![c, j, o, 0] : Fin 4 → ℕ) a + S1x1x128x256.size a ≤ S11x4x256x256.size a := by
  intro a; fin_cases a <;> simp [S1x1x128x256, S11x4x256x256] <;> omega

theorem inbR (c : ℕ) (hc : c < 11) (s : ℕ) (hs : s < 8) :
    ∀ a, (![c, s, 0] : Fin 3 → ℕ) a + S1x1x256.size a ≤ S11x8x256.size a := by
  intro a; fin_cases a <;> simp [S1x1x256, S11x8x256] <;> omega

theorem inbRl (c : ℕ) (hc : c < 11) (o : ℕ) (ho : o ≤ 128) :
    ∀ a, (![c, 0, o] : Fin 3 → ℕ) a + S1x8x128.size a ≤ S11x8x256.size a := by
  intro a; fin_cases a <;> simp [S1x8x128, S11x8x256] <;> omega

theorem inbC (a0 : ℕ) (h0 : a0 ≤ 2560) (b0 : ℕ) (hb : b0 ≤ 384) :
    ∀ a, (![0, a0, b0] : Fin 3 → ℕ) a + S1x256x128.size a ≤ S1x2816x512.size a := by
  intro a; fin_cases a <;> simp [S1x256x128, S1x2816x512] <;> omega

theorem inbW (k : ℕ) (hk : k < 3) (s : ℕ) (hs : s < 8) (o : ℕ) (ho : o ≤ 2560) :
    ∀ a, (![k, s, o, 0] : Fin 4 → ℕ) a + S1x1x256x128.size a ≤ S3x8x2816x128.size a := by
  intro a; fin_cases a <;> simp [S1x1x256x128, S3x8x2816x128] <;> omega

theorem inbH (p : ℕ) (hp : p < 3) (t : ℕ) (ht : t < 16) (s : ℕ) (hs : s < 2) :
    ∀ a, (![p, t, s, 0, 0] : Fin 5 → ℕ) a + S1x1x1x256x128.size a ≤ S3x16x2x256x128.size a := by
  intro a; fin_cases a <;> simp [S1x1x1x256x128, S3x16x2x256x128] <;> omega

theorem inbSt (c : ℕ) (hc : c < 11) (l : ℕ) (hl : l < 2) (s : ℕ) (hs : s < 8) :
    ∀ a, S1x1x8x128.size a = 0 ∨ (![c, l, s, 0] : Fin 4 → ℕ) a + (![1, 1, 9, 1] : Fin 4 → ℕ) a * (S1x1x8x128.size a - 1)
      < S11x2x72x128.size a := by
  intro a; right; fin_cases a <;> simp [S1x1x8x128, S11x2x72x128] <;> omega

theorem inbSl (c : ℕ) (hc : c < 11) (l : ℕ) (hl : l < 2) (o : ℕ) (ho : o ≤ 63) :
    ∀ a, (![c, l, o, 0] : Fin 4 → ℕ) a + S1x1x8x128.size a ≤ S11x2x72x128.size a := by
  intro a; fin_cases a <;> simp [S1x1x8x128, S11x2x72x128] <;> omega

theorem inbSc (b : ℕ) (hb : b < 2) (o : ℕ) (ho : o ≤ 1280) :
    ∀ a, (![b, 0, o] : Fin 3 → ℕ) a + S1x8x128.size a ≤ S2x8x1408.size a := by
  intro a; fin_cases a <;> simp [S1x8x128, S2x8x1408] <;> omega

theorem packedC' : ∀ c : Fin 11, ∀ j : Fin 4,
    (Rect.unit (s := S1x2816x512) ![0, 256 * c.val, 128 * j.val] S1x256x128.size
      (inbC (256 * c.val) (by omega) (128 * j.val) (by omega))).PackedRows (EltTy.packing .i8) := by
  decide +kernel

theorem packedC (c : ℕ) (hc : c < 11) (j : ℕ) (hj : j < 4) :
    (Rect.unit (s := S1x2816x512) ![0, 256 * c, 128 * j] S1x256x128.size
      (inbC (256 * c) (by omega) (128 * j) (by omega))).PackedRows (EltTy.packing .i8) :=
  packedC' ⟨c, hc⟩ ⟨j, hj⟩

/-! ## What the operations compute -/

/-- The two nibble rows of 128 channels of one group, as 32-bit words: round `v·r` to the nearest code, make it
    a biased nibble, and put two channels into one byte. -/
def groupBytes (v : Vec F S1x1x128x256 .f32) (r : Vec F S1x1x256 .f32) : IVec S32x256 32 :=
  let y : FVec F S128x256 .f32 :=
    minimumf (maximumf
      (mulf (shapeCast S128x256 v shapeCasts_S1x1x128x256_S128x256)
        (broadcastTo S128x256 (shapeCast S1x256 r shapeCasts_S1x1x256_S1x256) broadcasts_S1x256_S128x256))
      (broadcast S128x256 (Scalar.ofBits .f32 0xC0E00000#32)))
      (broadcast S128x256 (Scalar.ofBits .f32 0x40E00000#32))
  let u : IVec S64x256 32 :=
    bitcast S64x256 32 (trunci 16 (addi (fptosi 32 (roundeven y)) (broadcast S128x256 8#32)) natLt_16_32)
      bitcasts_S128x256_w16_S64x256_w32
  xori (ori (extractStridedSlice S32x256 ![0, 0] u slices_S64x256_o0_0_S32x256)
      (shli (extractStridedSlice S32x256 ![32, 0] u slices_S64x256_o32_0_S32x256) (broadcast S32x256 4#32)))
    (broadcast S32x256 8913032#32)

/-- The byte tile of two groups: both groups' words as 128 rows of 16-bit words, transposed and cut to bytes. -/
def packTile (a b : IVec S32x256 32) : IVec S1x256x128 8 :=
  shapeCast S1x256x128
    (trunci 8 (transpose S256x128 [1, 0]
      (bitcast S128x256 16 (concatenate S64x256 0 [⟨S32x256, a⟩, ⟨S32x256, b⟩] concatenates_S32x256_S32x256_S64x256_d0)
        bitcasts_S64x256_w32_S128x256_w16)
      transposes_S128x256_p1_0_S256x128) natLt_8_16)
    shapeCasts_S256x128_S1x256x128

/-- Two slabs of 128 columns side by side. -/
def wTile (a b : Vec F S1x1x256x128 .bf16) : FVec F S256x256 .bf16 :=
  concatenate S256x256 1 [⟨S256x128, shapeCast S256x128 a shapeCasts_S1x1x256x128_S256x128⟩,
    ⟨S256x128, shapeCast S256x128 b shapeCasts_S1x1x256x128_S256x128⟩] concatenates_S256x128_S256x128_S256x256_d1

/-- Two halves of one Hadamard tile side by side. -/
def hTile (a b : Vec F S1x1x1x256x128 .bf16) : FVec F S256x256 .bf16 :=
  concatenate S256x256 1 [⟨S256x128, shapeCast S256x128 a shapeCasts_S1x1x1x256x128_S256x128⟩,
    ⟨S256x128, shapeCast S256x128 b shapeCasts_S1x1x1x256x128_S256x128⟩] concatenates_S256x128_S256x128_S256x256_d1

/-- One Hadamard tile times one tile of rows. -/
def rot (h : FVec F S256x256 .bf16) (w : FVec F S256x256 .bf16) : FVec F S256x256 .f32 :=
  matmul dot_S256x256_S256x256_S256x256_1_1_0_0_n_n none h w (constant S256x256 .f32 0x00000000#32)

/-- The running maxima of one group over its 16 blocks of 8 rows. -/
def slabMax (o : Fin 2 → ℕ) (ho : S256x256.Slices o S128x256) (v : FVec F S256x256 .f32) : FVec F S8x256 .f32 :=
  multiReduction .maximumf [0] S8x256
    (shapeCast S16x8x256 (absf (extractStridedSlice S128x256 o v ho)) shapeCasts_S128x256_S16x8x256)
    0xFF800000#32 reduces_S16x8x256_S8x256 (.inl rfl) rfl

/-- The left half of the maxima, as it is stored. -/
def slabL (m : FVec F S8x256 .f32) : FVec F S1x1x8x128 .f32 :=
  shapeCast S1x1x8x128 (extractStridedSlice S8x128 ![0, 0] m slices_S8x256_o0_0_S8x128) shapeCasts_S8x128_S1x1x8x128

/-- The right half of the maxima, as it is stored. -/
def slabR (m : FVec F S8x256 .f32) : FVec F S1x1x8x128 .f32 :=
  shapeCast S1x1x8x128 (extractStridedSlice S8x128 ![0, 128] m slices_S8x256_o0_128_S8x128) shapeCasts_S8x128_S1x1x8x128

/-- One stored row of maxima as a vector. -/
abbrev slabRow (x : Vec F S1x1x8x128 .f32) : FVec F S8x128 .f32 :=
  shapeCast S8x128 x shapeCasts_S1x1x8x128_S8x128

/-- The scale from the largest magnitude. -/
def scaleOf (m : FVec F S8x128 .f32) : FVec F S8x128 .f32 :=
  let a : FVec F S8x128 .f32 := mulf m (broadcast S8x128 (Scalar.ofBits .f32 0x3DB504F3#32))
  select (cmpf .oeq a (broadcast S8x128 (Scalar.ofBits .f32 0x00000000#32)))
    (broadcast S8x128 (Scalar.ofBits .f32 0x3F800000#32))
    (divf a (broadcast S8x128 (Scalar.ofBits .f32 0x40E00000#32)))

/-- The factor that takes an unnormalised value to its code. -/
def recipOf (s : FVec F S8x128 .f32) : FVec F S8x128 .f32 :=
  divf (broadcast S8x128 (Scalar.ofBits .f32 0x3DB504F3#32)) s

/-! ## The pieces -/

section pieces

variable (i : grid0.Coords)
  (arg3 : Memref sig .tc .vmem S1x2816x512 .i8) (harg3 : arg3.IsWhole)
  (arg4 : Memref sig .tc .vmem S2x8x1408 .f32)
  (arg5 : Memref sig .tc .vmem S3x8x2816x128 .bf16)
  (arg6 : Memref sig .tc .vmem S3x16x2x256x128 .bf16)
  (arg7 : Memref sig .tc .vmem S11x4x256x256 .f32)
  (arg8 : Memref sig .tc .vmem S11x8x256 .f32)
  (arg9 : Memref sig .tc .vmem S11x2x72x128 .f32)

/-- The ring slot of the block this point rotates. -/
def slotN (i : grid0.Coords) : ℕ :=
  (Scalar.indexCast (Scalar.remsi (Scalar.minsi (BitVec.ofNat 32 (i 0).val) 79#32) 3#32)).toNat

theorem slotN_eq : ∀ i : grid0.Coords, slotN i = min (i 0).val 79 % 3 := by decide +kernel

theorem slotN_lt (i : grid0.Coords) : slotN i < 3 := by rw [slotN_eq]; omega

/-- The Hadamard tile number of tile `j` of the block this point rotates. -/
def tileN (i : grid0.Coords) (j : ℕ) : ℕ :=
  (Scalar.indexCast (Scalar.addi (Scalar.muli (Scalar.remsi (Scalar.minsi (BitVec.ofNat 32 (i 0).val) 79#32) 4#32) 4#32)
    (BitVec.ofNat 32 j))).toNat

theorem tileN_eq : ∀ i : grid0.Coords, ∀ j : Fin 4, tileN i j.val = 4 * (min (i 0).val 79 % 4) + j.val := by
  decide +kernel

theorem tileN_lt (i : grid0.Coords) (j : ℕ) (hj : j < 4) : tileN i j < 16 := by
  rw [tileN_eq i ⟨j, hj⟩]; simp only; omega

/-- Codes of tile `j` of chunk `c`, of the block the previous point rotated. -/
def codesU (c : ℕ) (hc : c < 11) (j : ℕ) (hj : j < 4) : TCProg F PUnit := do
  let v0 : Vec F S1x1x128x256 .f32 ← Prog.lift (.load arg7 (Rect.unit (s := S11x4x256x256) ![c, j, 0, 0] S1x1x128x256.size (inbVh c hc j hj 0 (by omega))).toLoadRect (View.loadsAt_vmem h_S1x1x128x256))
  let r0 : Vec F S1x1x256 .f32 ← Prog.lift (.load arg8 (Rect.unit (s := S11x8x256) ![c, 2 * j, 0] S1x1x256.size (inbR c hc (2 * j) (by omega))).toLoadRect (View.loadsAt_vmem h_S1x1x256))
  let v1 : Vec F S1x1x128x256 .f32 ← Prog.lift (.load arg7 (Rect.unit (s := S11x4x256x256) ![c, j, 128, 0] S1x1x128x256.size (inbVh c hc j hj 128 (by omega))).toLoadRect (View.loadsAt_vmem h_S1x1x128x256))
  let r1 : Vec F S1x1x256 .f32 ← Prog.lift (.load arg8 (Rect.unit (s := S11x8x256) ![c, 2 * j + 1, 0] S1x1x256.size (inbR c hc (2 * j + 1) (by omega))).toLoadRect (View.loadsAt_vmem h_S1x1x256))
  let _ : Vec F S1x256x128 .i8 ← Prog.lift (.load arg3 (Rect.unit (s := S1x2816x512) ![0, 256 * c, 128 * j] S1x256x128.size (inbC (256 * c) (by omega) (128 * j) (by omega))).toLoadRect (View.loadsAt_vmem h_S1x256x128))
  Prog.lift (.store arg3 (Rect.unit (s := S1x2816x512) ![0, 256 * c, 128 * j] S1x256x128.size (inbC (256 * c) (by omega) (128 * j) (by omega))) (packTile (groupBytes v0 r0) (groupBytes v1 r1)) Finset.univ (View.stores_vmem h_S1x256x128 (harg3.storeExact_slice rfl _ (packedC c hc j hj)) (fun _ => rfl)) (.inl rfl))

/-- The two slabs of tile `j`, rows of chunk `c`. -/
def loadW (c : ℕ) (hc : c < 11) (j : ℕ) (hj : j < 4) : TCProg F (FVec F S256x256 .bf16) := do
  let a : Vec F S1x1x256x128 .bf16 ← Prog.lift (.load arg5 (Rect.unit (s := S3x8x2816x128) ![slotN i, 2 * j, 256 * c, 0] S1x1x256x128.size (inbW _ (slotN_lt i) (2 * j) (by omega) (256 * c) (by omega))).toLoadRect (View.loadsAt_vmem h_S1x1x256x128))
  let b : Vec F S1x1x256x128 .bf16 ← Prog.lift (.load arg5 (Rect.unit (s := S3x8x2816x128) ![slotN i, 2 * j + 1, 256 * c, 0] S1x1x256x128.size (inbW _ (slotN_lt i) (2 * j + 1) (by omega) (256 * c) (by omega))).toLoadRect (View.loadsAt_vmem h_S1x1x256x128))
  pure (wTile a b)

/-- One Hadamard tile, of part `p` of the signs. -/
def loadH (p : ℕ) (hp : p < 3) (j : ℕ) (hj : j < 4) : TCProg F (FVec F S256x256 .bf16) := do
  let a : Vec F S1x1x1x256x128 .bf16 ← Prog.lift (.load arg6 (Rect.unit (s := S3x16x2x256x128) ![p, tileN i j, 0, 0, 0] S1x1x1x256x128.size (inbH p hp _ (tileN_lt i j hj) 0 (by omega))).toLoadRect (View.loadsAt_vmem h_S1x1x1x256x128))
  let b : Vec F S1x1x1x256x128 .bf16 ← Prog.lift (.load arg6 (Rect.unit (s := S3x16x2x256x128) ![p, tileN i j, 1, 0, 0] S1x1x1x256x128.size (inbH p hp _ (tileN_lt i j hj) 1 (by omega))).toLoadRect (View.loadsAt_vmem h_S1x1x1x256x128))
  pure (hTile a b)

/-- The rotated tile by one pass. -/
def rotate1 (c : ℕ) (hc : c < 11) (j : ℕ) (hj : j < 4) : TCProg F (FVec F S256x256 .f32) := do
  let w ← loadW i arg5 c hc j hj
  let h ← loadH i arg6 0 (by omega) j hj
  pure (rot h w)

/-- The rotated tile by three passes, one for each part of the signs. -/
def rotate3 (c : ℕ) (hc : c < 11) (j : ℕ) (hj : j < 4) : TCProg F (FVec F S256x256 .f32) := do
  let w ← loadW i arg5 c hc j hj
  let h0 ← loadH i arg6 0 (by omega) j hj
  let h1 ← loadH i arg6 1 (by omega) j hj
  let h2 ← loadH i arg6 2 (by omega) j hj
  pure (addf (addf (rot h0 w) (rot h1 w)) (rot h2 w))

/-- Keep the rotated tile. -/
def keepV (c : ℕ) (hc : c < 11) (j : ℕ) (hj : j < 4) (v : FVec F S256x256 .f32) : TCProg F PUnit := do
  let _ : Vec F S1x1x256x256 .f32 ← Prog.lift (.load arg7 (Rect.unit (s := S11x4x256x256) ![c, j, 0, 0] S1x1x256x256.size (inbV c hc j hj)).toLoadRect (View.loadsAt_vmem h_S1x1x256x256))
  Prog.lift (.store arg7 (Rect.unit (s := S11x4x256x256) ![c, j, 0, 0] S1x1x256x256.size (inbV c hc j hj)) (shapeCast S1x1x256x256 v shapeCasts_S256x256_S1x1x256x256) Finset.univ (View.stores_vmem_bits_univ h_S1x1x256x256 rfl) (.inl rfl))

/-- Keep one half of the maxima of group `s` of the chunk. -/
def keepS (c : ℕ) (hc : c < 11) (l : ℕ) (hl : l < 2) (s : ℕ) (hs : s < 8) (x : FVec F S1x1x8x128 .f32) : TCProg F PUnit := do
  let _ : Vec F S1x1x8x128 .f32 ← Prog.lift (.load arg9 (⟨![c, l, s, 0], S1x1x8x128.size, ![1, 1, 9, 1], inbSt c hc l hl s hs⟩ : LoadRect S11x2x72x128) (View.loadsAt_vmem h_S1x1x8x128))
  Prog.lift (.store arg9 ⟨(⟨![c, l, s, 0], S1x1x8x128.size, ![1, 1, 9, 1], inbSt c hc l hl s hs⟩ : LoadRect S11x2x72x128), spos_1_1_9_1⟩ x Finset.univ (View.stores_vmem_bits_univ h_S1x1x8x128 rfl) (.inl rfl))

/-- The maxima of both groups of tile `j`. -/
def maximaU (c : ℕ) (hc : c < 11) (j : ℕ) (hj : j < 4) (v : FVec F S256x256 .f32) : TCProg F PUnit := do
  keepS arg9 c hc 0 (by omega) (2 * j) (by omega) (slabL (slabMax ![0, 0] slices_S256x256_o0_0_S128x256 v))
  keepS arg9 c hc 1 (by omega) (2 * j) (by omega) (slabR (slabMax ![0, 0] slices_S256x256_o0_0_S128x256 v))
  keepS arg9 c hc 0 (by omega) (2 * j + 1) (by omega) (slabL (slabMax ![128, 0] slices_S256x256_o128_0_S128x256 v))
  keepS arg9 c hc 1 (by omega) (2 * j + 1) (by omega) (slabR (slabMax ![128, 0] slices_S256x256_o128_0_S128x256 v))

/-- Tile `j` of chunk `c`: the previous block's codes, then this block's rotation and maxima. -/
def tileU (rotate : ∀ c, c < 11 → ∀ j, j < 4 → TCProg F (FVec F S256x256 .f32)) (c : ℕ) (hc : c < 11) (j : ℕ) (hj : j < 4) : TCProg F PUnit := do
  codesU arg3 harg3 arg7 arg8 c hc j hj
  let v ← rotate c hc j hj
  keepV arg7 c hc j hj v
  maximaU arg9 c hc j hj v

/-- One row of maxima of the chunk. -/
def loadS (c : ℕ) (hc : c < 11) (l : ℕ) (hl : l < 2) (o : ℕ) (ho : o ≤ 63) : TCProg F (Vec F S1x1x8x128 .f32) :=
  Prog.lift (.load arg9 (Rect.unit (s := S11x2x72x128) ![c, l, o, 0] S1x1x8x128.size (inbSl c hc l hl o ho)).toLoadRect (View.loadsAt_vmem h_S1x1x8x128))

/-- Scales and factors of lanes `128·l` of chunk `c`. -/
def scaleU (c : ℕ) (hc : c < 11) (l : ℕ) (hl : l < 2) : TCProg F PUnit := do
  let x0 ← loadS (F := F) arg9 c hc l hl 0 (by omega)
  let x1 ← loadS (F := F) arg9 c hc l hl 9 (by omega)
  let x2 ← loadS (F := F) arg9 c hc l hl 18 (by omega)
  let x3 ← loadS (F := F) arg9 c hc l hl 27 (by omega)
  let x4 ← loadS (F := F) arg9 c hc l hl 36 (by omega)
  let x5 ← loadS (F := F) arg9 c hc l hl 45 (by omega)
  let x6 ← loadS (F := F) arg9 c hc l hl 54 (by omega)
  let x7 ← loadS (F := F) arg9 c hc l hl 63 (by omega)
  let m : FVec F S8x128 .f32 := maximumf (maximumf (maximumf (maximumf (maximumf (maximumf (maximumf (slabRow x0) (slabRow x1)) (slabRow x2)) (slabRow x3)) (slabRow x4)) (slabRow x5)) (slabRow x6)) (slabRow x7)
  let _ : Vec F S1x8x128 .f32 ← Prog.lift (.load arg8 (Rect.unit (s := S11x8x256) ![c, 0, 128 * l] S1x8x128.size (inbRl c hc (128 * l) (by omega))).toLoadRect (View.loadsAt_vmem h_S1x8x128))
  Prog.lift (.store arg8 (Rect.unit (s := S11x8x256) ![c, 0, 128 * l] S1x8x128.size (inbRl c hc (128 * l) (by omega))) (shapeCast S1x8x128 (recipOf (scaleOf m)) shapeCasts_S8x128_S1x8x128) Finset.univ (View.stores_vmem_bits_univ h_S1x8x128 rfl) (.inl rfl))
  let _ : Vec F S1x8x128 .f32 ← Prog.lift (.load arg4 (Rect.unit (s := S2x8x1408) ![(256 * c + 128 * l) / 1408, 0, (256 * c + 128 * l) % 1408] S1x8x128.size (inbSc _ (by omega) _ (by omega))).toLoadRect (View.loadsAt_vmem h_S1x8x128))
  Prog.lift (.store arg4 (Rect.unit (s := S2x8x1408) ![(256 * c + 128 * l) / 1408, 0, (256 * c + 128 * l) % 1408] S1x8x128.size (inbSc _ (by omega) _ (by omega))) (shapeCast S1x8x128 (scaleOf m) shapeCasts_S8x128_S1x8x128) Finset.univ (View.stores_vmem_bits_univ h_S1x8x128 rfl) (.inl rfl))

/-- Chunk `c`: four tiles, then the scales of its 256 rows. -/
def chunkU (rotate : ∀ c, c < 11 → ∀ j, j < 4 → TCProg F (FVec F S256x256 .f32)) (c : ℕ) (hc : c < 11) : TCProg F PUnit := do
  tileU arg3 harg3 arg7 arg8 arg9 rotate c hc 0 (by omega)
  tileU arg3 harg3 arg7 arg8 arg9 rotate c hc 1 (by omega)
  tileU arg3 harg3 arg7 arg8 arg9 rotate c hc 2 (by omega)
  tileU arg3 harg3 arg7 arg8 arg9 rotate c hc 3 (by omega)
  scaleU arg4 arg8 arg9 c hc 0 (by omega)
  scaleU arg4 arg8 arg9 c hc 1 (by omega)

/-- The chunks below `n`, in order. -/
def chunksU (rotate : ∀ c, c < 11 → ∀ j, j < 4 → TCProg F (FVec F S256x256 .f32)) : (n : ℕ) → n ≤ 11 → TCProg F PUnit
  | 0, _ => pure ⟨⟩
  | n + 1, h => do
    chunksU rotate n (by omega)
    chunkU arg3 harg3 arg4 arg7 arg8 arg9 rotate n (by omega)

/-! ## The copies of the ring -/

theorem inbDst (k : ℕ) (hk : k < 3) (j : ℕ) (hj : j < 8) :
    ∀ a, (![k, j, 0, 0] : Fin 4 → ℕ) a + S1x1x2816x128.size a ≤ S3x8x2816x128.size a := by
  intro a; fin_cases a <;> simp [S1x1x2816x128, S3x8x2816x128] <;> omega

/-- A column where a slab starts. -/
abbrev SlabCol (q : ℕ) : Prop := ∃ n, n < 32 ∧ q = 128 * n

theorem inbSrc (p : ℕ) (hp : p < 20) (q : ℕ) (hq : SlabCol q) :
    ∀ a, (![p, 0, q] : Fin 3 → ℕ) a + S1x2816x128.size a ≤ S20x2816x4096.size a := by
  obtain ⟨n, hn, rfl⟩ := hq
  intro a; fin_cases a <;> simp [S1x2816x128, S20x2816x4096] <;> omega

theorem inbSem (k : ℕ) (hk : k < 3) : ∀ a, (![k] : Fin 1 → ℕ) a + S1.size a ≤ S3.size a := by
  intro a; fin_cases a; simp [S1, S3]; omega

theorem wordsDst' : ∀ k : Fin 3, ∀ j : Fin 8, (Rect.unit (s := S3x8x2816x128) ![k.val, j.val, 0, 0] S1x1x2816x128.size
    (inbDst k.val k.isLt j.val j.isLt)).WholeWords (EltTy.packing .bf16) := by
  decide +kernel

theorem wordsSrc' : ∀ p : Fin 20, ∀ n : Fin 32, (Rect.unit (s := S20x2816x4096) ![p.val, 0, 128 * n.val] S1x2816x128.size
    (inbSrc p.val p.isLt _ ⟨n.val, n.isLt, rfl⟩)).WholeWords (EltTy.packing .bf16) := by
  decide +kernel

theorem wordsSrc (p : ℕ) (hp : p < 20) (q : ℕ) (hq : SlabCol q) : (Rect.unit (s := S20x2816x4096) ![p, 0, q] S1x2816x128.size
    (inbSrc p hp q hq)).WholeWords (EltTy.packing .bf16) := by
  obtain ⟨n, hn, rfl⟩ := hq
  exact wordsSrc' ⟨p, hp⟩ ⟨n, hn⟩

/-- The 128 columns from `q` on of the pair `p` of the array. -/
def srcView (arg2 : Memref sig .tc .hbm S20x2816x4096 .bf16) (p : ℕ) (hp : p < 20) (q : ℕ) (hq : SlabCol q) :
    Memref sig .tc .hbm S2816x128 .bf16 :=
  (arg2.slice (Rect.unit (s := S20x2816x4096) ![p, 0, q] S1x2816x128.size (inbSrc p hp q hq)) (fun _ => rfl)).squeeze
    S2816x128 squeezes_S1x2816x128_S2816x128

/-- Slab `j` of ring slot `k`. -/
def dstView (arg5 : Memref sig .tc .vmem S3x8x2816x128 .bf16) (k : ℕ) (hk : k < 3) (j : ℕ) (hj : j < 8) :
    Memref sig .tc .vmem S2816x128 .bf16 :=
  (arg5.slice (Rect.unit (s := S3x8x2816x128) ![k, j, 0, 0] S1x1x2816x128.size (inbDst k hk j hj)) (fun _ => rfl)).squeeze
    S2816x128 squeezes_S1x1x2816x128_S2816x128

/-- The semaphore of ring slot `k`. -/
def semOf (arg11 : DmaSems sig S3) (k : ℕ) (hk : k < 3) : DmaSems sig S_ :=
  (arg11.slice (Rect.unit (s := S3) ![k] S1.size (inbSem k hk))).squeeze S_ squeezes_S1_S_

theorem srcView_words {arg2 : Memref sig .tc .hbm S20x2816x4096 .bf16} (harg2 : arg2.IsWhole) (p : ℕ) (hp : p < 20) (q : ℕ) (hq : SlabCol q) :
    (srcView arg2 p hp q hq).view.WordExact :=
  (harg2.wordExact_slice rfl _ (wordsSrc p hp q hq)).reshape _ _

theorem dstView_words {arg5 : Memref sig .tc .vmem S3x8x2816x128 .bf16} (harg5 : arg5.IsWhole) (k : ℕ) (hk : k < 3) (j : ℕ) (hj : j < 8) :
    (dstView arg5 k hk j hj).view.WordExact :=
  (harg5.wordExact_slice rfl _ (wordsDst' ⟨k, hk⟩ ⟨j, hj⟩)).reshape _ _

variable (arg1 : Memref sig .tc .vmem S1x4096 .f32)
  (arg2 : Memref sig .tc .hbm S20x2816x4096 .bf16) (harg2 : arg2.IsWhole) (harg5 : arg5.IsWhole) (harg6 : arg6.IsWhole)
  (arg10 : Memref sig .tc .smem S1 .i32)
  (arg11 : DmaSems sig S3)

/-- Start the copy of the 128 columns from `q` on of pair `p` into slab `j` of slot `k`. -/
def startN (k : ℕ) (hk : k < 3) (j : ℕ) (hj : j < 8) (p : ℕ) (hp : p < 20) (q : ℕ) (hq : SlabCol q) : TCProg F PUnit :=
  Prog.lift (.enqueueDma (srcView arg2 p hp q hq) (.here (dstView arg5 k hk j hj)) (.dma (semOf arg11 k hk).sem)
    (srcView_words harg2 p hp q hq) (dstView_words harg5 k hk j hj) ⟨Or.inl rfl, trivial⟩)

/-- Wait for one copy of slot `k`. -/
def waitN (k : ℕ) (hk : k < 3) (j : ℕ) (hj : j < 8) (p : ℕ) (hp : p < 20) (q : ℕ) (hq : SlabCol q) : TCProg F PUnit :=
  Prog.lift (.waitDma2 (semOf arg11 k hk).sem (srcView arg2 p hp q hq) (dstView arg5 k hk j hj)
    (srcView_words harg2 p hp q hq) (dstView_words harg5 k hk j hj))

/-! The places of block `b`, as the body computes them. -/

/-- The ring slot of block `b`. -/
def slotB (b : BitVec 32) : ℕ := (Scalar.remsi b 3#32).toNat
/-- The pair of block `b`. -/
def pairB (b : BitVec 32) : ℕ := (Scalar.divsi b 4#32).toNat
/-- The first column of slab `j` of block `b`. -/
def colB (b : BitVec 32) (j : ℕ) : ℕ :=
  (Scalar.muli (Scalar.addi (Scalar.muli (Scalar.remsi b 4#32) 8#32) (BitVec.ofNat 32 j)) 128#32).toNat

theorem slotB_eq' : ∀ n : Fin 80, slotB (BitVec.ofNat 32 n.val) = n.val % 3 := by decide +kernel
theorem pairB_eq' : ∀ n : Fin 80, pairB (BitVec.ofNat 32 n.val) = n.val / 4 := by decide +kernel
theorem colB_eq' : ∀ n : Fin 80, ∀ j : Fin 8, colB (BitVec.ofNat 32 n.val) j.val = 128 * (8 * (n.val % 4) + j.val) := by
  decide +kernel

theorem slotB_eq (b : BitVec 32) (hb : b.toNat < 80) : slotB b = b.toNat % 3 := by
  have := slotB_eq' ⟨b.toNat, hb⟩
  simpa using this
theorem pairB_eq (b : BitVec 32) (hb : b.toNat < 80) : pairB b = b.toNat / 4 := by
  have := pairB_eq' ⟨b.toNat, hb⟩
  simpa using this
theorem colB_eq (b : BitVec 32) (hb : b.toNat < 80) (j : ℕ) (hj : j < 8) : colB b j = 128 * (8 * (b.toNat % 4) + j) := by
  have := colB_eq' ⟨b.toNat, hb⟩ ⟨j, hj⟩
  simpa using this

theorem slotB_lt (b : BitVec 32) (hb : b.toNat < 80) : slotB b < 3 := by rw [slotB_eq b hb]; omega
theorem pairB_lt (b : BitVec 32) (hb : b.toNat < 80) : pairB b < 20 := by rw [pairB_eq b hb]; omega
theorem colB_slab (b : BitVec 32) (hb : b.toNat < 80) (j : ℕ) (hj : j < 8) : SlabCol (colB b j) :=
  ⟨8 * (b.toNat % 4) + j, by omega, colB_eq b hb j hj⟩

/-- Start the eight copies of block `b`, the first `n` of them. -/
def startsU (b : BitVec 32) (hb : b.toNat < 80) : (n : ℕ) → n ≤ 8 → TCProg F PUnit
  | 0, _ => pure ⟨⟩
  | n + 1, h => do
    startsU b hb n (by omega)
    startN arg5 arg2 harg2 harg5 arg11 (slotB b) (slotB_lt b hb) n (by omega) (pairB b) (pairB_lt b hb) (colB b n) (colB_slab b hb n (by omega))

/-- Wait for the eight copies of block `b`, the first `n` of them. -/
def waitsU (b : BitVec 32) (hb : b.toNat < 80) : (n : ℕ) → n ≤ 8 → TCProg F PUnit
  | 0, _ => pure ⟨⟩
  | n + 1, h => do
    waitsU b hb n (by omega)
    waitN arg5 arg2 harg2 harg5 arg11 (slotB b) (slotB_lt b hb) n (by omega) (pairB b) (pairB_lt b hb) (colB b n) (colB_slab b hb n (by omega))

theorem startB_lt : ∀ i : grid0.Coords, k0_cond2 i = 1#1 →
    (Scalar.subi (Scalar.addi (BitVec.ofNat 32 (i 0).val) 3#32) 1#32).toNat < 80 := by decide +kernel
theorem waitB_lt : ∀ i : grid0.Coords, k0_cond3 i = 1#1 → (BitVec.ofNat 32 (i 0).val).toNat < 80 := by decide +kernel

/-! ## The first point's preparations -/

/-- The sign of Hadamard row `n`, column `k`, in the half of the rows that group `half` owns, zero in the other. -/
def hadHalf (half : BitVec 32) : FVec F S256x128 .f32 :=
  let n : IVec S256x128 32 := iota .tc S256x128 32 [0] iota_S256x128_d0_w32
  let k : IVec S256x128 32 := iota .tc S256x128 32 [1] iota_S256x128_d1_w32
  let j : IVec S256x128 32 := andi n (broadcast S256x128 127#32)
  let ch : IVec S256x128 32 := ori (shli (andi j (broadcast S256x128 63#32)) (broadcast S256x128 1#32)) (shrsi j (broadcast S256x128 6#32))
  let p0 : IVec S256x128 32 := andi ch k
  let p1 : IVec S256x128 32 := xori p0 (shrsi p0 (broadcast S256x128 4#32))
  let p2 : IVec S256x128 32 := xori p1 (shrsi p1 (broadcast S256x128 2#32))
  let p3 : IVec S256x128 32 := xori p2 (shrsi p2 (broadcast S256x128 1#32))
  let s : IVec S256x128 32 := subi (broadcast S256x128 1#32) (muli (broadcast S256x128 2#32) (andi p3 (broadcast S256x128 1#32)))
  select (cmpi .eq (shrsi n (broadcast S256x128 7#32)) (broadcast S256x128 half)) (sitofp .f32 s)
    (broadcast S256x128 (Scalar.ofBits .f32 0x00000000#32))

/-- The first part of the signs. -/
def split1 (s : FVec F S1x128 .f32) : FVec F S1x128 .f32 := extf .f32 (truncf .bf16 s bitsLt_bf16_f32) bitsLt_bf16_f32
/-- The second part of the signs. -/
def split2 (s : FVec F S1x128 .f32) : FVec F S1x128 .f32 :=
  extf .f32 (truncf .bf16 (subf s (split1 s)) bitsLt_bf16_f32) bitsLt_bf16_f32
/-- The third part of the signs. -/
def split3 (s : FVec F S1x128 .f32) : FVec F S1x128 .f32 :=
  extf .f32 (truncf .bf16 (subf (subf s (split1 s)) (split2 s)) bitsLt_bf16_f32) bitsLt_bf16_f32

/-- One half tile of the Hadamard array, as it is stored. -/
def hadStore (half : BitVec 32) (s : FVec F S1x128 .f32) : FVec F S1x1x1x256x128 .bf16 :=
  shapeCast S1x1x1x256x128
    (truncf .bf16 (mulf (hadHalf half) (broadcastTo S256x128 s broadcasts_S1x128_S256x128)) bitsLt_bf16_f32)
    shapeCasts_S256x128_S1x1x1x256x128

/-- Note where the second part is not zero. -/
def restOf (r : FVec F S1x128 .f32) (s : FVec F S1x128 .f32) : FVec F S1x128 .f32 :=
  maximumf r (select (cmpf .oeq (split2 s) (broadcast S1x128 (Scalar.ofBits .f32 0x00000000#32)))
    (broadcast S1x128 (Scalar.ofBits .f32 0x00000000#32)) (broadcast S1x128 (Scalar.ofBits .f32 0x3F800000#32)))

/-- The flag: zero if no second part was. -/
def flagOf (r : FVec F S1x128 .f32) : BitVec 32 :=
  Scalar.fptosi 32 (extractAt ![0, 0, 0]
    (shapeCast S1x1x1 (multiReduction .maximumf [1, 2] S1 (shapeCast S1x1x128 r shapeCasts_S1x128_S1x1x128) 0xFF800000#32
      reduces_S1x1x128_S1 (.inl rfl) rfl) shapeCasts_S1_S1x1x1) inpos_S1x1x1_p0_0_0)

theorem inbSg (o : ℕ) (ho : o ≤ 3968) : ∀ a, (![0, o] : Fin 2 → ℕ) a + S1x128.size a ≤ S1x4096.size a := by
  intro a; fin_cases a <;> simp [S1x128, S1x4096]; omega

theorem packedH' : ∀ p : Fin 3, ∀ t : Fin 16, ∀ s : Fin 2,
    (Rect.unit (s := S3x16x2x256x128) ![p.val, t.val, s.val, 0, 0] S1x1x1x256x128.size
      (inbH p.val p.isLt t.val t.isLt s.val s.isLt)).PackedRows (EltTy.packing .bf16) := by
  decide +kernel

/-- Store one half tile. -/
def keepH (p : ℕ) (hp : p < 3) (t : ℕ) (ht : t < 16) (s : ℕ) (hs : s < 2) (x : FVec F S1x1x1x256x128 .bf16) : TCProg F PUnit := do
  let _ : Vec F S1x1x1x256x128 .bf16 ← Prog.lift (.load arg6 (Rect.unit (s := S3x16x2x256x128) ![p, t, s, 0, 0] S1x1x1x256x128.size (inbH p hp t ht s hs)).toLoadRect (View.loadsAt_vmem h_S1x1x1x256x128))
  Prog.lift (.store arg6 (Rect.unit (s := S3x16x2x256x128) ![p, t, s, 0, 0] S1x1x1x256x128.size (inbH p hp t ht s hs)) x Finset.univ (View.stores_vmem h_S1x1x1x256x128 (harg6.storeExact_slice rfl _ (packedH' ⟨p, hp⟩ ⟨t, ht⟩ ⟨s, hs⟩)) (fun _ => rfl)) (.inl rfl))

/-- The three parts of half `s` of tile `t`. -/
def initTileU (s : ℕ) (hs : s < 2) (t : ℕ) (ht : t < 16) (r : FVec F S1x128 .f32) : TCProg F (FVec F S1x128 .f32) := do
  let x : Vec F S1x128 .f32 ← Prog.lift (.load arg1 (Rect.unit (s := S1x4096) ![0, 256 * t + 128 * s] S1x128.size (inbSg _ (by omega))).toLoadRect (View.loadsAt_vmem h_S1x128))
  let g : FVec F S1x128 .f32 := shapeCast S1x128 x shapeCasts_S1x128_S1x128
  keepH arg6 harg6 0 (by omega) t ht s hs (hadStore (BitVec.ofNat 32 s) (split1 g))
  keepH arg6 harg6 1 (by omega) t ht s hs (hadStore (BitVec.ofNat 32 s) (split2 g))
  keepH arg6 harg6 2 (by omega) t ht s hs (hadStore (BitVec.ofNat 32 s) (split3 g))
  pure (restOf r g)

/-- The tiles below `n` of half `s`. -/
def initTilesU (s : ℕ) (hs : s < 2) (r : FVec F S1x128 .f32) : (n : ℕ) → n ≤ 16 → TCProg F (FVec F S1x128 .f32)
  | 0, _ => pure r
  | n + 1, h => do
    let r' ← initTilesU s hs r n (by omega)
    initTileU arg6 arg1 harg6 s hs n (by omega) r'

/-- The first point: the Hadamard tiles, the flag, and zeros for what the codes of no block are read from. -/
def initU : TCProg F PUnit := do
  let r1 ← initTilesU (F := F) arg6 arg1 harg6 0 (by omega) (broadcast S1x128 (Scalar.ofBits .f32 0x00000000#32)) 16 (by omega)
  let r2 ← initTilesU (F := F) arg6 arg1 harg6 1 (by omega) r1 16 (by omega)
  let _ : Elt F .i32 ← smemLoad arg10 (Rect.unit (s := S1) ![0] S1.size inb_S1_S1_0) numel1_S1 rfl
  Prog.lift (.store arg10 (Rect.unit (s := S1) ![0] S1.size inb_S1_S1_0) (fun _ => flagOf r2) Finset.univ (View.stores_smem_one rfl numel1_S1) (.inl rfl))
  let _ : Vec F S11x4x256x256 .f32 ← Prog.lift (.load arg7 (Rect.unit (s := S11x4x256x256) ![0, 0, 0, 0] S11x4x256x256.size inb_S11x4x256x256_S11x4x256x256_0_0_0_0).toLoadRect (View.loadsAt_vmem h_S11x4x256x256))
  Prog.lift (.store arg7 (Rect.unit (s := S11x4x256x256) ![0, 0, 0, 0] S11x4x256x256.size inb_S11x4x256x256_S11x4x256x256_0_0_0_0) (shapeCast S11x4x256x256 (broadcast S11x4x256x256 (Scalar.ofBits .f32 0x00000000#32)) shapeCasts_S11x4x256x256_S11x4x256x256) Finset.univ (View.stores_vmem_bits_univ h_S11x4x256x256 rfl) (.inl rfl))
  let _ : Vec F S11x8x256 .f32 ← Prog.lift (.load arg8 (Rect.unit (s := S11x8x256) ![0, 0, 0] S11x8x256.size inb_S11x8x256_S11x8x256_0_0_0).toLoadRect (View.loadsAt_vmem h_S11x8x256))
  Prog.lift (.store arg8 (Rect.unit (s := S11x8x256) ![0, 0, 0] S11x8x256.size inb_S11x8x256_S11x8x256_0_0_0) (shapeCast S11x8x256 (broadcast S11x8x256 (Scalar.ofBits .f32 0x00000000#32)) shapeCasts_S11x8x256_S11x8x256) Finset.univ (View.stores_vmem_bits_univ h_S11x8x256 rfl) (.inl rfl))

/-! ## The whole body -/

/-- The body of one grid point in pieces, branches in place. -/
def bodyV : TCProg F PUnit := do
  if k0_h1 : k0_cond1 i = 1#1 then do
    startsU arg5 arg2 harg2 harg5 arg11 0#32 (by decide) 8 (by omega)
    startsU arg5 arg2 harg2 harg5 arg11 1#32 (by decide) 8 (by omega)
    initU arg6 arg7 arg8 arg1 harg6 arg10
    pure ⟨⟩
  else do
    pure ⟨⟩
  if k0_h2 : k0_cond2 i = 1#1 then do
    startsU arg5 arg2 harg2 harg5 arg11 (Scalar.subi (Scalar.addi (BitVec.ofNat 32 (i 0).val) 3#32) 1#32) (startB_lt i k0_h2) 8 (by omega)
    pure ⟨⟩
  else do
    pure ⟨⟩
  if k0_h3 : k0_cond3 i = 1#1 then do
    waitsU arg5 arg2 harg2 harg5 arg11 (BitVec.ofNat 32 (i 0).val) (waitB_lt i k0_h3) 8 (by omega)
    pure ⟨⟩
  else do
    pure ⟨⟩
  let v15 : Elt F .i32 ← smemLoad arg10 (Rect.unit (s := S1) ![0] S1.size inb_S1_S1_0) numel1_S1 rfl
  if Scalar.cmpi .ne (Scalar.extui (Scalar.cmpi .eq v15 0#32) : BitVec 32) 0#32 = 1#1 then do
    chunksU arg3 harg3 arg4 arg7 arg8 arg9 (rotate1 i arg5 arg6) 11 (by omega)
    pure ⟨⟩
  else do
    pure ⟨⟩
  let v19 : Elt F .i32 ← smemLoad arg10 (Rect.unit (s := S1) ![0] S1.size inb_S1_S1_0) numel1_S1 rfl
  if Scalar.cmpi .ne (Scalar.extui (Scalar.cmpi .ne v19 0#32) : BitVec 32) 0#32 = 1#1 then do
    chunksU arg3 harg3 arg4 arg7 arg8 arg9 (rotate3 i arg5 arg6) 11 (by omega)
    pure ⟨⟩
  else do
    pure ⟨⟩

/-- At the first point: start blocks 0 and 1, build the tiles. -/
def entryIf : TCProg F PUnit :=
  if k0_h1 : k0_cond1 i = 1#1 then do
    startsU arg5 arg2 harg2 harg5 arg11 0#32 (by decide) 8 (by omega)
    startsU arg5 arg2 harg2 harg5 arg11 1#32 (by decide) 8 (by omega)
    initU arg6 arg7 arg8 arg1 harg6 arg10
    pure ⟨⟩
  else do
    pure ⟨⟩

/-- Start the block two points ahead, if there is one. -/
def startsIf : TCProg F PUnit :=
  if k0_h2 : k0_cond2 i = 1#1 then do
    startsU arg5 arg2 harg2 harg5 arg11 (Scalar.subi (Scalar.addi (BitVec.ofNat 32 (i 0).val) 3#32) 1#32) (startB_lt i k0_h2) 8 (by omega)
    pure ⟨⟩
  else do
    pure ⟨⟩

/-- Wait for this point's block, if there is one. -/
def waitsIf : TCProg F PUnit :=
  if k0_h3 : k0_cond3 i = 1#1 then do
    waitsU arg5 arg2 harg2 harg5 arg11 (BitVec.ofNat 32 (i 0).val) (waitB_lt i k0_h3) 8 (by omega)
    pure ⟨⟩
  else do
    pure ⟨⟩

/-- The step by one product per tile, if the flag asks for it. -/
def stepIf1 (v15 : Elt F .i32) : TCProg F PUnit :=
  if Scalar.cmpi .ne (Scalar.extui (Scalar.cmpi .eq v15 0#32) : BitVec 32) 0#32 = 1#1 then do
    chunksU arg3 harg3 arg4 arg7 arg8 arg9 (rotate1 i arg5 arg6) 11 (by omega)
    pure ⟨⟩
  else do
    pure ⟨⟩

/-- The step by three products per tile, if the flag asks for it. -/
def stepIf3 (v19 : Elt F .i32) : TCProg F PUnit :=
  if Scalar.cmpi .ne (Scalar.extui (Scalar.cmpi .ne v19 0#32) : BitVec 32) 0#32 = 1#1 then do
    chunksU arg3 harg3 arg4 arg7 arg8 arg9 (rotate3 i arg5 arg6) 11 (by omega)
    pure ⟨⟩
  else do
    pure ⟨⟩

/-- The whole body. -/
def bodyU : TCProg F PUnit := do
  entryIf i arg5 arg6 arg7 arg8 arg1 arg2 harg2 harg5 harg6 arg10 arg11
  startsIf i arg5 arg2 harg2 harg5 arg11
  waitsIf i arg5 arg2 harg2 harg5 arg11
  let v15 : Elt F .i32 ← smemLoad arg10 (Rect.unit (s := S1) ![0] S1.size inb_S1_S1_0) numel1_S1 rfl
  stepIf1 i arg3 harg3 arg4 arg5 arg6 arg7 arg8 arg9 v15
  let v19 : Elt F .i32 ← smemLoad arg10 (Rect.unit (s := S1) ![0] S1.size inb_S1_S1_0) numel1_S1 rfl
  stepIf3 i arg3 harg3 arg4 arg5 arg6 arg7 arg8 arg9 v19

end pieces

end Cert.KernelIdeal.Gen
-- ==== Proof.KI.Rules.lean ====
module

public import proofs.«01_k».proof.Proof.KI.Pieces
public import proofs.«01_k».proof.Proof.Gen.KernelIdeal.Launch
public import Idealize.ShloMosaic.Lib.Pipeline.FrameBody
public import Idealize.ShloMosaic.Lib.Batch
public import Idealize.ShloMosaic.Lib.Tactic

/-! How one load and one store change what a buffer holds.

A buffer is owned at a function of its index.  A load reads that function at a rectangle; a store lays a
rectangle over it.  A buffer that is being rewritten piece by piece holds `mix p N X`: the new values `N` where `p` says
it has been written, the old values `X` elsewhere. -/

@[expose] public section

noncomputable section

namespace Cert.KernelIdeal.Gen

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

/-- The propositions about those resources. -/
abbrev SP (F : FTy → Type) [FloatOps F] : Type _ := sProp (MT nD τ sig Unit (Elt F) ℕ (Pipeline.UD sig nD τ) ℕ)

/-- The weakest precondition of a piece of the body on core `c`. -/
abbrev WP {α : Type} (c : Dev nD) (p : TCProg F α) (K : α → sProp 𝕄) : sProp 𝕄 :=
  wp frame (wpE (defs₀ (F := F)) Variants.none (c : Thread nD τ) none) Set.univ p K

theorem WP_bind {α β : Type} (c : Dev nD) (p : TCProg F α) (k : α → TCProg F β) (K : β → sProp 𝕄) :
    WP c (p >>= k) K = WP c p (fun a => WP c (k a) K) := wp_bind _ _ _ p k K

theorem WP_pure {α : Type} (c : Dev nD) (a : α) (K : α → sProp 𝕄) : K a ⊢ WP c (pure a) K := le_wp_ret _ _ _ a K

/-! ## Load and store -/

/-- What a load at `r` reads of contents `X`. -/
abbrev rd {s : Shape} {α : Type} (X : s.Idx → α) (r : LoadRect s) : r.shape.Idx → α := fun x => X (r.idx x)

/-- A load of an owned buffer. -/
theorem wp_ld (c : Dev nD) {cs : CoreSpace} {s : Shape} {e : EltTy} {m : Memref sig .tc cs s e} {r : LoadRect s}
    {hl : m.view.LoadsAt r} {q : PosShare TreeShare} {X : s.Idx → Elt F e} {K : (r.shape.Idx → Elt F e) → sProp 𝕄} :
    owns (c : Thread nD τ) m q X
      ⊢ iprop((owns (c : Thread nD τ) m q X -∗ K (rd X r)) -∗ WP c (Prog.lift (.load m r hl)) K) := by
  unfold owns
  iintro ⟨%f, %hf, H⟩ Hk
  iapply (wp_load Variants.none (c : Thread nD τ) none Set.univ (m.view.setOn_subset_set _)) $$ H
  iintro H
  subst hf
  rw [show m.view.readAt (Elt F) r f = rd (m.view.read (Elt F) f) r from rfl]
  iapply (le_wp_ret _ _ _ _ K)
  iapply Hk
  iexists f
  isplitr
  · ipureintro; rfl
  iexact H

/-- A store of a whole vector into an owned buffer. -/
theorem wp_st (c : Dev nD) {cs : CoreSpace} {s : Shape} {e : EltTy} {m : Memref sig .tc cs s e} {r : Rect s}
    {w : r.shape.Idx → Elt F e} {hx : (m.access r).Stores Finset.univ} {hm : Finset.univ = Finset.univ ∨ ∀ a, r.stride a = 1}
    {X : s.Idx → Elt F e} {K : PUnit → sProp 𝕄} :
    owns (c : Thread nD τ) m fullShare X
      ⊢ iprop((owns (c : Thread nD τ) m fullShare (r.overlay X w) -∗ K ⟨⟩)
          -∗ WP c (Prog.lift (.store m r w Finset.univ hx hm)) K) := by
  unfold owns
  iintro ⟨%f, %hf, H⟩ Hk
  have h : (m.view.loc (c : Thread nD τ) ↦[m.view.set]{fullShare} f : sProp 𝕄)
      ⊢ iprop(((m.view.loc (c : Thread nD τ) ↦[m.view.set]{fullShare} ((m.access r).write (Elt F) f w Finset.univ)) -∗ WP c (Prog.ret ⟨⟩) K)
        -∗ WP c (Prog.lift (.store m r w Finset.univ hx hm)) K) :=
    wp_store Variants.none (c : Thread nD τ) none Set.univ (k := Prog.ret) (hx := hx) (hm := hm) (Memref.setOn_access_subset m r _)
  iapply h $$ H
  iintro H
  subst hf
  iapply (le_wp_ret _ _ _ _ K)
  iapply Hk
  iexists _
  isplitr
  swap
  · iexact H
  ipureintro
  funext x
  by_cases hxm : x ∈ r.set
  · obtain ⟨i, rfl⟩ := r.toLoadRect.exists_idx_of_mem hxm
    change m.view.read (Elt F) ((m.view.slice r).write (Elt F) f w Finset.univ) (r.emb i) = r.overlay _ w (r.emb i)
    rw [View.read_slice_write_emb (v := m.view) r f w (Finset.mem_univ i), Rect.overlay_emb]
  · rw [Rect.overlay_of_not_mem _ _ _ hxm]
    exact View.read_slice_write_of_not_mem (v := m.view) r f w _ (by rw [Rect.map_emb_univ]; exact hxm)

/-! ## A buffer written piece by piece -/

open Classical in
/-- The new values where `p` says the buffer has been written, the old elsewhere. -/
def mix {s : Shape} {α : Type} (p : s.Idx → Prop) (N X : s.Idx → α) : s.Idx → α := fun x => if p x then N x else X x

section mix
variable {s : Shape} {α : Type} {p q : s.Idx → Prop} {N X : s.Idx → α}

theorem mix_pos {x : s.Idx} (h : p x) : mix p N X x = N x := if_pos h
theorem mix_neg {x : s.Idx} (h : ¬ p x) : mix p N X x = X x := if_neg h

theorem mix_congr (h : ∀ x, p x ↔ q x) : mix p N X = mix q N X := by
  rw [show p = q from funext fun x => propext (h x)]

theorem mix_none (h : ∀ x, ¬ p x) : mix p N X = X := funext fun x => mix_neg (h x)
theorem mix_all (h : ∀ x, p x) : mix p N X = N := funext fun x => mix_pos (h x)

theorem rd_mix_new {r : LoadRect s} (h : ∀ i, p (r.idx i)) : rd (mix p N X) r = rd N r := funext fun i => mix_pos (h i)
theorem rd_mix_old {r : LoadRect s} (h : ∀ i, ¬ p (r.idx i)) : rd (mix p N X) r = rd X r := funext fun i => mix_neg (h i)

/-- A store of the new values at `r`. -/
theorem overlay_mix {r : Rect s} {w : r.shape.Idx → α} (hw : ∀ i, w i = N (r.idx i)) :
    r.overlay (mix p N X) w = mix (fun x => p x ∨ x ∈ r.set) N X := by
  funext x
  by_cases hx : x ∈ r.set
  · obtain ⟨i, rfl⟩ := r.toLoadRect.exists_idx_of_mem hx
    rw [mix_pos (Or.inr hx)]
    exact (r.overlay_emb _ w i).trans (hw i)
  · rw [Rect.overlay_of_not_mem _ _ _ hx]
    by_cases h : p x
    · rw [mix_pos h, mix_pos (Or.inl h)]
    · rw [mix_neg h, mix_neg (by tauto)]

/-- A store of the new values at `r`, the written part named. -/
theorem overlay_mix' {r : Rect s} {w : r.shape.Idx → α} (hw : ∀ i, w i = N (r.idx i)) (h : ∀ x, (p x ∨ x ∈ r.set) ↔ q x) :
    r.overlay (mix p N X) w = mix q N X := (overlay_mix hw).trans (mix_congr h)

/-- A store over the whole buffer. -/
theorem overlay_all {r : Rect s} {w : r.shape.Idx → α} (hw : ∀ i, w i = N (r.idx i)) (h : ∀ x, x ∈ r.set) :
    r.overlay X w = N := by
  funext x
  obtain ⟨i, rfl⟩ := r.toLoadRect.exists_idx_of_mem (h x)
  exact (r.overlay_emb _ w i).trans (hw i)

end mix

/-- The index of the tile of shape `t` at which `x` falls, the tiles laid out from zero. -/
def modIdx (t : Shape) {s : Shape} (hr : t.rank = s.rank) (ht : ∀ a, 0 < t.size a) (x : s.Idx) : t.Idx :=
  fun a => ⟨(x (Fin.cast hr a)).val % t.size a, Nat.mod_lt _ (ht a)⟩

/-- Membership in a rectangle of unit strides. -/
theorem mem_unit {s : Shape} {off size : Fin s.rank → ℕ} {inb} {x : s.Idx} :
    x ∈ (Rect.unit (s := s) off size inb).set ↔ ∀ a, off a ≤ (x a).val ∧ (x a).val < off a + size a := Rect.mem_set_unit

end Cert.KernelIdeal.Gen

end
-- ==== Proof.KI.Units.lean ====
module

public import proofs.«01_k».proof.Proof.KI.Rules

/-! What one step of the body leaves in each buffer, chunk by chunk and tile by tile. -/

@[expose] public section

noncomputable section

namespace Cert.KernelIdeal.Gen

open Cert.KernelIdeal K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

/-! ## The values -/

section values

variable (rv : Fin 11 → Fin 4 → FVec F S256x256 .f32)

/-- The rotated tiles, as the buffer holds them. -/
def newV : Vec F S11x4x256x256 .f32 := fun x =>
  shapeCast S1x1x256x256 (rv (x 0) (x 1)) shapeCasts_S256x256_S1x1x256x256 (modIdx S1x1x256x256 (s := S11x4x256x256) rfl (by decide) x)

/-- The running maxima of group `s` of chunk `c`. -/
def grpMax (c : Fin 11) (s : Fin 8) : FVec F S8x256 .f32 :=
  if s.val % 2 = 0 then slabMax ![0, 0] slices_S256x256_o0_0_S128x256 (rv c ⟨s.val / 2, by omega⟩)
  else slabMax ![128, 0] slices_S256x256_o128_0_S128x256 (rv c ⟨s.val / 2, by omega⟩)

/-- One half of the maxima of a group, as it is stored. -/
def sTile (c : Fin 11) (l : Fin 2) (s : Fin 8) : FVec F S1x1x8x128 .f32 :=
  if l = 0 then slabL (grpMax rv c s) else slabR (grpMax rv c s)

/-- An index of a tile of maxima. -/
def sIdx (k n : ℕ) : S1x1x8x128.Idx := fun a =>
  ⟨(![0, 0, k, n] : Fin 4 → ℕ) a % S1x1x8x128.size a, Nat.mod_lt _ (by revert a; decide)⟩

/-- The maxima: row `s + 9·k` is row `k` of group `s`. -/
def newS : Vec F S11x2x72x128 .f32 := fun x =>
  sTile rv (x 0) (x 1) ⟨(x 2).val % 9 % 8, by omega⟩ (sIdx ((x 2).val / 9) (x 3).val)

/-- Row `k` of all eight groups. -/
def sRow (c : Fin 11) (l : Fin 2) (k : ℕ) : Vec F S1x1x8x128 .f32 := fun i =>
  sTile rv c l (i 2) (sIdx k (i 3).val)

/-- The largest magnitude of each group and each of 128 rows. -/
def mxOf (c : Fin 11) (l : Fin 2) : FVec F S8x128 .f32 :=
  maximumf (maximumf (maximumf (maximumf (maximumf (maximumf (maximumf (slabRow (sRow rv c l 0)) (slabRow (sRow rv c l 1)))
    (slabRow (sRow rv c l 2))) (slabRow (sRow rv c l 3))) (slabRow (sRow rv c l 4))) (slabRow (sRow rv c l 5)))
    (slabRow (sRow rv c l 6))) (slabRow (sRow rv c l 7))

/-- The factors, as the buffer holds them. -/
def newR : Vec F S11x8x256 .f32 := fun x =>
  shapeCast S1x8x128 (recipOf (scaleOf (mxOf rv (x 0) ⟨(x 2).val / 128, by have : (x 2).val < 256 := (x 2).isLt; omega⟩)))
    shapeCasts_S8x128_S1x8x128 (modIdx S1x8x128 (s := S11x8x256) rfl (by decide) x)

/-- Where row `x 2` of batch `x 0` of a pair is among the rows of the pair. -/
def rowOf (x : S2x8x1408.Idx) : ℕ := 1408 * (x 0).val + (x 2).val

theorem rowOf_lt (x : S2x8x1408.Idx) : rowOf x < 2816 := by
  have h0 : (x 0).val < 2 := (x 0).isLt
  have h2 : (x 2).val < 1408 := (x 2).isLt
  unfold rowOf; omega

/-- The scales of a block, as the result holds them. -/
def newSc : Vec F S2x8x1408 .f32 := fun x =>
  shapeCast S1x8x128 (scaleOf (mxOf rv ⟨rowOf x / 256, by have := rowOf_lt x; omega⟩ ⟨rowOf x % 256 / 128, by omega⟩))
    shapeCasts_S8x128_S1x8x128 (modIdx S1x8x128 (s := S2x8x1408) rfl (by decide) x)

/-- The byte tile of chunk `c`, tile `j`, from rotated tiles `V` and factors `R`. -/
def codeTile (V : Vec F S11x4x256x256 .f32) (R : Vec F S11x8x256 .f32) (c : Fin 11) (j : Fin 4) : IVec S1x256x128 8 :=
  packTile
    (groupBytes
      (rd V (Rect.unit (s := S11x4x256x256) ![c.val, j.val, 0, 0] S1x1x128x256.size (inbVh c.val c.isLt j.val j.isLt 0 (by omega))).toLoadRect)
      (rd R (Rect.unit (s := S11x8x256) ![c.val, 2 * j.val, 0] S1x1x256.size (inbR c.val c.isLt (2 * j.val) (by omega))).toLoadRect))
    (groupBytes
      (rd V (Rect.unit (s := S11x4x256x256) ![c.val, j.val, 128, 0] S1x1x128x256.size (inbVh c.val c.isLt j.val j.isLt 128 (by omega))).toLoadRect)
      (rd R (Rect.unit (s := S11x8x256) ![c.val, 2 * j.val + 1, 0] S1x1x256.size (inbR c.val c.isLt (2 * j.val + 1) (by omega))).toLoadRect))

/-- The bytes of a block, as the result holds them. -/
def newC (V : Vec F S11x4x256x256 .f32) (R : Vec F S11x8x256 .f32) : IVec S1x2816x512 8 := fun x =>
  codeTile V R ⟨(x 1).val / 256, by have : (x 1).val < 2816 := (x 1).isLt; omega⟩
    ⟨(x 2).val / 128, by have : (x 2).val < 512 := (x 2).isLt; omega⟩ (modIdx S1x256x128 (s := S1x2816x512) rfl (by decide) x)

end values

/-! ## The pieces -/

variable (c₀ : Dev nD)
  (arg3 : Memref sig .tc .vmem S1x2816x512 .i8) (harg3 : arg3.IsWhole)
  (arg4 : Memref sig .tc .vmem S2x8x1408 .f32)
  (arg7 : Memref sig .tc .vmem S11x4x256x256 .f32)
  (arg8 : Memref sig .tc .vmem S11x8x256 .f32)
  (arg9 : Memref sig .tc .vmem S11x2x72x128 .f32)

theorem codesU_wp (c : ℕ) (hc : c < 11) (j : ℕ) (hj : j < 4) (V : Vec F S11x4x256x256 .f32) (R : Vec F S11x8x256 .f32)
    (C : IVec S1x2816x512 8) (K : PUnit → sProp 𝕄) :
    iprop(owns (c₀ : Thread nD τ) arg7 fullShare V ∗ owns (c₀ : Thread nD τ) arg8 fullShare R ∗ owns (c₀ : Thread nD τ) arg3 fullShare C)
      ⊢ iprop((iprop(owns (c₀ : Thread nD τ) arg7 fullShare V ∗ owns (c₀ : Thread nD τ) arg8 fullShare R
            ∗ owns (c₀ : Thread nD τ) arg3 fullShare ((Rect.unit (s := S1x2816x512) ![0, 256 * c, 128 * j] S1x256x128.size (inbC (256 * c) (by omega) (128 * j) (by omega))).overlay C (codeTile V R ⟨c, hc⟩ ⟨j, hj⟩))) -∗ K ⟨⟩)
          -∗ WP c₀ (codesU (F := F) arg3 harg3 arg7 arg8 c hc j hj) K) := by
  unfold codesU
  iintro ⟨H7, H8, H3⟩ Hk
  rw [WP_bind]
  iapply (wp_ld c₀) $$ H7; iintro H7
  rw [WP_bind]
  iapply (wp_ld c₀) $$ H8; iintro H8
  rw [WP_bind]
  iapply (wp_ld c₀) $$ H7; iintro H7
  rw [WP_bind]
  iapply (wp_ld c₀) $$ H8; iintro H8
  rw [WP_bind]
  iapply (wp_ld c₀) $$ H3; iintro H3
  iapply (wp_st c₀) $$ H3; iintro H3
  iapply Hk
  isplitl [H7]; · iexact H7
  isplitl [H8]; · iexact H8
  iexact H3

theorem keepV_wp (c : ℕ) (hc : c < 11) (j : ℕ) (hj : j < 4) (v : FVec F S256x256 .f32) (V : Vec F S11x4x256x256 .f32) (K : PUnit → sProp 𝕄) :
    owns (c₀ : Thread nD τ) arg7 fullShare V
      ⊢ iprop((owns (c₀ : Thread nD τ) arg7 fullShare ((Rect.unit (s := S11x4x256x256) ![c, j, 0, 0] S1x1x256x256.size (inbV c hc j hj)).overlay V
            (shapeCast S1x1x256x256 v shapeCasts_S256x256_S1x1x256x256)) -∗ K ⟨⟩)
          -∗ WP c₀ (keepV (F := F) arg7 c hc j hj v) K) := by
  unfold keepV
  iintro H7 Hk
  rw [WP_bind]
  iapply (wp_ld c₀) $$ H7; iintro H7
  iapply (wp_st c₀) $$ H7; iintro H7
  iapply Hk
  iexact H7

/-- Rows `s`, `s + 9`, … of part `c, l` of the maxima. -/
abbrev rectS (c : ℕ) (hc : c < 11) (l : ℕ) (hl : l < 2) (s : ℕ) (hs : s < 8) : Rect S11x2x72x128 :=
  ⟨(⟨![c, l, s, 0], S1x1x8x128.size, ![1, 1, 9, 1], inbSt c hc l hl s hs⟩ : LoadRect S11x2x72x128), spos_1_1_9_1⟩

theorem keepS_wp (c : ℕ) (hc : c < 11) (l : ℕ) (hl : l < 2) (s : ℕ) (hs : s < 8) (x : FVec F S1x1x8x128 .f32)
    (S : Vec F S11x2x72x128 .f32) (K : PUnit → sProp 𝕄) :
    owns (c₀ : Thread nD τ) arg9 fullShare S
      ⊢ iprop((owns (c₀ : Thread nD τ) arg9 fullShare ((rectS c hc l hl s hs).overlay S x) -∗ K ⟨⟩)
          -∗ WP c₀ (keepS (F := F) arg9 c hc l hl s hs x) K) := by
  unfold keepS
  iintro H9 Hk
  rw [WP_bind]
  iapply (wp_ld c₀) $$ H9; iintro H9
  iapply (wp_st c₀) $$ H9; iintro H9
  iapply Hk
  iexact H9

/-! ## What has been written -/

/-- The rotated tiles written after `n` chunks and `j` tiles. -/
def vP (n j : ℕ) (x : S11x4x256x256.Idx) : Prop := (x 0).val < n ∨ ((x 0).val = n ∧ (x 1).val < j)
/-- The factors written after `n` chunks and `l` halves. -/
def rP (n l : ℕ) (x : S11x8x256.Idx) : Prop := (x 0).val < n ∨ ((x 0).val = n ∧ (x 2).val < 128 * l)
/-- The maxima written after `n` chunks and `j` tiles. -/
def sP (n j : ℕ) (x : S11x2x72x128.Idx) : Prop := (x 2).val % 9 < 8 ∧ ((x 0).val < n ∨ ((x 0).val = n ∧ (x 2).val % 9 < 2 * j))
/-- The bytes written after `n` chunks and `j` tiles. -/
def cP (n j : ℕ) (x : S1x2816x512.Idx) : Prop := (x 1).val < 256 * n ∨ ((x 1).val < 256 * (n + 1) ∧ (x 2).val < 128 * j)
/-- The scales written after `n` chunks and `l` halves. -/
def scP (n l : ℕ) (x : S2x8x1408.Idx) : Prop := rowOf x < 256 * n + 128 * l

theorem app3 {A B C D : Type} (f : A → B → C → D) {a a' : A} {b b' : B} {x x' : C} (ha : a = a') (hb : b = b') (hx : x = x') :
    f a b x = f a' b' x' := by subst ha hb hx; rfl
theorem app4 {A B C D E : Type} (f : A → B → C → D → E) {a a' : A} {b b' : B} {x x' : C} {y y' : D} (ha : a = a') (hb : b = b') (hx : x = x')
    (hy : y = y') : f a b x y = f a' b' x' y' := by subst ha hb hx hy; rfl

section written
variable (rv : Fin 11 → Fin 4 → FVec F S256x256 .f32)

theorem codeTile_mix (n j : ℕ) (hn : n < 11) (hj : j < 4) (V N : Vec F S11x4x256x256 .f32) (R M : Vec F S11x8x256 .f32) :
    codeTile (mix (vP n j) N V) (mix (rP n 0) M R) ⟨n, hn⟩ ⟨j, hj⟩ = codeTile V R ⟨n, hn⟩ ⟨j, hj⟩ := by
  unfold codeTile
  rw [rd_mix_old, rd_mix_old, rd_mix_old, rd_mix_old]
  all_goals
    intro i h
    have h0 := (i 0).isLt
    have h1 := (i 1).isLt
    simp only [rP, vP, LoadRect.idx_apply] at h
    simp [S1x1x256, S1x1x128x256] at h h0 h1
    try omega

theorem write_C (n j : ℕ) (hn : n < 11) (hj : j < 4) (V : Vec F S11x4x256x256 .f32) (R : Vec F S11x8x256 .f32) (C : IVec S1x2816x512 8) :
    (Rect.unit (s := S1x2816x512) ![0, 256 * n, 128 * j] S1x256x128.size (inbC (256 * n) (by omega) (128 * j) (by omega))).overlay
      (mix (cP n j) (newC V R) C) (codeTile V R ⟨n, hn⟩ ⟨j, hj⟩) = mix (cP n (j + 1)) (newC V R) C := by
  refine overlay_mix' ?_ ?_
  · intro i
    have h1 : (i 1).val < 256 := (i 1).isLt
    have h2 : (i 2).val < 128 := (i 2).isLt
    have h0 : (i 0).val < 1 := (i 0).isLt
    refine app3 (codeTile V R) (Fin.ext ?_) (Fin.ext ?_) (funext fun a => Fin.ext ?_)
    · simp [LoadRect.idx_apply]; omega
    · simp [LoadRect.idx_apply]; omega
    · fin_cases a <;> simp [modIdx, LoadRect.idx_apply, S1x256x128] <;> omega
  · intro x
    have h0 : (x 0).val < 1 := (x 0).isLt
    rw [mem_unit]
    simp [Fin.forall_fin_succ, cP, S1x256x128]
    omega

theorem write_V (n j : ℕ) (hn : n < 11) (hj : j < 4) (V : Vec F S11x4x256x256 .f32) :
    (Rect.unit (s := S11x4x256x256) ![n, j, 0, 0] S1x1x256x256.size (inbV n hn j hj)).overlay (mix (vP n j) (newV rv) V)
      (shapeCast S1x1x256x256 (rv ⟨n, hn⟩ ⟨j, hj⟩) shapeCasts_S256x256_S1x1x256x256) = mix (vP n (j + 1)) (newV rv) V := by
  refine overlay_mix' ?_ ?_
  · intro i
    have h0 : (i 0).val < 1 := (i 0).isLt
    have h1 : (i 1).val < 1 := (i 1).isLt
    have h2 : (i 2).val < 256 := (i 2).isLt
    have h3 : (i 3).val < 256 := (i 3).isLt
    refine app3 (fun a b => shapeCast S1x1x256x256 (rv a b) shapeCasts_S256x256_S1x1x256x256) (Fin.ext ?_) (Fin.ext ?_)
      (funext fun a => Fin.ext ?_)
    · simp [LoadRect.idx_apply]; omega
    · simp [LoadRect.idx_apply]; omega
    · fin_cases a <;> simp [modIdx, LoadRect.idx_apply, S1x1x256x256] <;> omega
  · intro x
    have h2 : (x 2).val < 256 := (x 2).isLt
    have h3 : (x 3).val < 256 := (x 3).isLt
    rw [mem_unit]
    simp [Fin.forall_fin_succ, vP, S1x1x256x256]
    omega

theorem newS_rectS (n l s : ℕ) (hn : n < 11) (hl : l < 2) (hs : s < 8) (i : (rectS n hn l hl s hs).shape.Idx) :
    sTile rv ⟨n, hn⟩ ⟨l, hl⟩ ⟨s, hs⟩ i = newS rv ((rectS n hn l hl s hs).idx i) := by
  have h0 : (i 0).val < 1 := (i 0).isLt
  have h1 : (i 1).val < 1 := (i 1).isLt
  have h2 : (i 2).val < 8 := (i 2).isLt
  have h3 : (i 3).val < 128 := (i 3).isLt
  refine app4 (sTile rv) (Fin.ext ?_) (Fin.ext ?_) (Fin.ext ?_) (funext fun a => Fin.ext ?_)
  · simp [LoadRect.idx_apply]; omega
  · simp [LoadRect.idx_apply]; omega
  · simp [LoadRect.idx_apply]; omega
  · fin_cases a <;> simp [sIdx, LoadRect.idx_apply, S1x1x8x128] <;> omega

theorem mem_rectS (n l s : ℕ) (hn : n < 11) (hl : l < 2) (hs : s < 8) (x : S11x2x72x128.Idx) :
    x ∈ (rectS n hn l hl s hs).set ↔ (x 0).val = n ∧ (x 1).val = l ∧ (x 2).val % 9 = s := by
  have h2 : (x 2).val < 72 := (x 2).isLt
  have h3 : (x 3).val < 128 := (x 3).isLt
  rw [LoadRect.mem_set]
  simp [Fin.forall_fin_succ, S1x1x8x128]
  intro h0 h1
  constructor
  · rintro ⟨⟨k, hk, hk'⟩, -⟩; omega
  · intro h
    exact ⟨⟨(x 2).val / 9, by omega, by omega⟩, h3⟩

theorem sTile_L0 (n j : ℕ) (hn : n < 11) (hj : j < 4) :
    slabL (slabMax ![0, 0] slices_S256x256_o0_0_S128x256 (rv ⟨n, hn⟩ ⟨j, hj⟩)) = sTile rv ⟨n, hn⟩ ⟨0, by omega⟩ ⟨2 * j, by omega⟩ := by
  have h : (⟨2 * j / 2, by omega⟩ : Fin 4) = ⟨j, hj⟩ := Fin.ext (by simp)
  simp [sTile, grpMax, h]
theorem sTile_R0 (n j : ℕ) (hn : n < 11) (hj : j < 4) :
    slabR (slabMax ![0, 0] slices_S256x256_o0_0_S128x256 (rv ⟨n, hn⟩ ⟨j, hj⟩)) = sTile rv ⟨n, hn⟩ ⟨1, by omega⟩ ⟨2 * j, by omega⟩ := by
  have h : (⟨2 * j / 2, by omega⟩ : Fin 4) = ⟨j, hj⟩ := Fin.ext (by simp)
  simp [sTile, grpMax, h]
theorem sTile_L1 (n j : ℕ) (hn : n < 11) (hj : j < 4) :
    slabL (slabMax ![128, 0] slices_S256x256_o128_0_S128x256 (rv ⟨n, hn⟩ ⟨j, hj⟩)) = sTile rv ⟨n, hn⟩ ⟨0, by omega⟩ ⟨2 * j + 1, by omega⟩ := by
  have h : (⟨(2 * j + 1) / 2, by omega⟩ : Fin 4) = ⟨j, hj⟩ := Fin.ext (by simp; omega)
  have h2 : ¬ (2 * j + 1) % 2 = 0 := by omega
  simp [sTile, grpMax, h]
theorem sTile_R1 (n j : ℕ) (hn : n < 11) (hj : j < 4) :
    slabR (slabMax ![128, 0] slices_S256x256_o128_0_S128x256 (rv ⟨n, hn⟩ ⟨j, hj⟩)) = sTile rv ⟨n, hn⟩ ⟨1, by omega⟩ ⟨2 * j + 1, by omega⟩ := by
  have h : (⟨(2 * j + 1) / 2, by omega⟩ : Fin 4) = ⟨j, hj⟩ := Fin.ext (by simp; omega)
  simp [sTile, grpMax, h]

theorem maximaU_wp (c₀ : Dev nD) (arg9 : Memref sig .tc .vmem S11x2x72x128 .f32) (n : ℕ) (hn : n < 11) (j : ℕ) (hj : j < 4)
    (S : Vec F S11x2x72x128 .f32) (K : PUnit → sProp 𝕄) :
    owns (c₀ : Thread nD τ) arg9 fullShare (mix (sP n j) (newS rv) S)
      ⊢ iprop((owns (c₀ : Thread nD τ) arg9 fullShare (mix (sP n (j + 1)) (newS rv) S) -∗ K ⟨⟩)
          -∗ WP c₀ (maximaU (F := F) arg9 n hn j hj (rv ⟨n, hn⟩ ⟨j, hj⟩)) K) := by
  unfold maximaU
  rw [sTile_L0 rv n j hn hj, sTile_R0 rv n j hn hj, sTile_L1 rv n j hn hj, sTile_R1 rv n j hn hj]
  iintro H9 Hk
  rw [WP_bind]
  iapply (keepS_wp c₀) $$ H9; iintro H9
  rw [overlay_mix (newS_rectS rv n 0 (2 * j) hn (by omega) (by omega)), WP_bind]
  iapply (keepS_wp c₀) $$ H9; iintro H9
  rw [overlay_mix (newS_rectS rv n 1 (2 * j) hn (by omega) (by omega)), WP_bind]
  iapply (keepS_wp c₀) $$ H9; iintro H9
  rw [overlay_mix (newS_rectS rv n 0 (2 * j + 1) hn (by omega) (by omega))]
  iapply (keepS_wp c₀) $$ H9; iintro H9
  rw [overlay_mix' (q := sP n (j + 1)) (newS_rectS rv n 1 (2 * j + 1) hn (by omega) (by omega)) (fun x => by
    have h1 : (x 1).val < 2 := (x 1).isLt
    refine (or_congr (or_congr (or_congr (or_congr Iff.rfl (mem_rectS n 0 (2 * j) hn (by omega) (by omega) x))
      (mem_rectS n 1 (2 * j) hn (by omega) (by omega) x)) (mem_rectS n 0 (2 * j + 1) hn (by omega) (by omega) x))
      (mem_rectS n 1 (2 * j + 1) hn (by omega) (by omega) x)).trans ?_
    unfold sP
    omega)]
  iapply Hk
  iexact H9

theorem rd_S (n l k o : ℕ) (hn : n < 11) (hl : l < 2) (hk : k < 8) (ho : o = 9 * k) (hoo : o ≤ 63) (S : Vec F S11x2x72x128 .f32) :
    rd (mix (sP n 4) (newS rv) S) (Rect.unit (s := S11x2x72x128) ![n, l, o, 0] S1x1x8x128.size (inbSl n hn l hl o hoo)).toLoadRect
      = sRow rv ⟨n, hn⟩ ⟨l, hl⟩ k := by
  subst ho
  rw [rd_mix_new]
  · funext i
    have h0 : (i 0).val < 1 := (i 0).isLt
    have h1 : (i 1).val < 1 := (i 1).isLt
    have h2 : (i 2).val < 8 := (i 2).isLt
    have h3 : (i 3).val < 128 := (i 3).isLt
    refine app4 (sTile rv) (Fin.ext ?_) (Fin.ext ?_) (Fin.ext ?_) (funext fun a => Fin.ext ?_)
    · simp [LoadRect.idx_apply]; omega
    · simp [LoadRect.idx_apply]; omega
    · simp [LoadRect.idx_apply]; omega
    · fin_cases a <;> simp [sIdx, LoadRect.idx_apply, S1x1x8x128] <;> omega
  · intro i
    have h0 : (i 0).val < 1 := (i 0).isLt
    have h2 : (i 2).val < 8 := (i 2).isLt
    simp [sP, LoadRect.idx_apply]
    omega

theorem write_R (n l : ℕ) (hn : n < 11) (hl : l < 2) (R : Vec F S11x8x256 .f32) :
    (Rect.unit (s := S11x8x256) ![n, 0, 128 * l] S1x8x128.size (inbRl n hn (128 * l) (by omega))).overlay (mix (rP n l) (newR rv) R)
      (shapeCast S1x8x128 (recipOf (scaleOf (mxOf rv ⟨n, hn⟩ ⟨l, hl⟩))) shapeCasts_S8x128_S1x8x128) = mix (rP n (l + 1)) (newR rv) R := by
  refine overlay_mix' ?_ ?_
  · intro i
    have h0 : (i 0).val < 1 := (i 0).isLt
    have h1 : (i 1).val < 8 := (i 1).isLt
    have h2 : (i 2).val < 128 := (i 2).isLt
    refine app3 (fun a b => shapeCast S1x8x128 (recipOf (scaleOf (mxOf rv a b))) shapeCasts_S8x128_S1x8x128) (Fin.ext ?_) (Fin.ext ?_)
      (funext fun a => Fin.ext ?_)
    · simp [LoadRect.idx_apply]; omega
    · simp [LoadRect.idx_apply]; omega
    · fin_cases a <;> simp [modIdx, LoadRect.idx_apply, S1x8x128] <;> omega
  · intro x
    have h1 : (x 1).val < 8 := (x 1).isLt
    rw [mem_unit]
    simp [Fin.forall_fin_succ, rP, S1x8x128]
    omega

theorem write_Sc (n l : ℕ) (hn : n < 11) (hl : l < 2) (Sc : Vec F S2x8x1408 .f32) :
    (Rect.unit (s := S2x8x1408) ![(256 * n + 128 * l) / 1408, 0, (256 * n + 128 * l) % 1408] S1x8x128.size
      (inbSc _ (by omega) _ (by omega))).overlay (mix (scP n l) (newSc rv) Sc)
      (shapeCast S1x8x128 (scaleOf (mxOf rv ⟨n, hn⟩ ⟨l, hl⟩)) shapeCasts_S8x128_S1x8x128) = mix (scP n (l + 1)) (newSc rv) Sc := by
  refine overlay_mix' ?_ ?_
  · intro i
    have h0 : (i 0).val < 1 := (i 0).isLt
    have h1 : (i 1).val < 8 := (i 1).isLt
    have h2 : (i 2).val < 128 := (i 2).isLt
    refine app3 (fun a b => shapeCast S1x8x128 (scaleOf (mxOf rv a b)) shapeCasts_S8x128_S1x8x128) (Fin.ext ?_) (Fin.ext ?_)
      (funext fun a => Fin.ext ?_)
    · simp [rowOf, LoadRect.idx_apply]; omega
    · simp [rowOf, LoadRect.idx_apply]; omega
    · fin_cases a <;> simp [modIdx, LoadRect.idx_apply, S1x8x128] <;> omega
  · intro x
    have h0 : (x 0).val < 2 := (x 0).isLt
    have h1 : (x 1).val < 8 := (x 1).isLt
    have h2 : (x 2).val < 1408 := (x 2).isLt
    rw [mem_unit]
    simp [Fin.forall_fin_succ, scP, rowOf, S1x8x128]
    omega

end written

/-! ## One tile, one chunk, all chunks -/

section steps

variable (rv : Fin 11 → Fin 4 → FVec F S256x256 .f32)
  (V : Vec F S11x4x256x256 .f32) (R : Vec F S11x8x256 .f32) (S : Vec F S11x2x72x128 .f32) (C : IVec S1x2816x512 8) (Sc : Vec F S2x8x1408 .f32)
  (rotate : ∀ c, c < 11 → ∀ j, j < 4 → TCProg F (FVec F S256x256 .f32)) (Rres : SP F)
  (hrot : ∀ (c : ℕ) (hc : c < 11) (j : ℕ) (hj : j < 4) (K : FVec F S256x256 .f32 → SP F),
    Rres ⊢ iprop((Rres -∗ K (rv ⟨c, hc⟩ ⟨j, hj⟩)) -∗ WP c₀ (rotate c hc j hj) K))

/-- The buffers after `n` chunks and `j` tiles of the next. -/
abbrev tilesAt (n j : ℕ) : sProp 𝕄 :=
  iprop(owns (c₀ : Thread nD τ) arg7 fullShare (mix (vP n j) (newV rv) V)
    ∗ owns (c₀ : Thread nD τ) arg8 fullShare (mix (rP n 0) (newR rv) R)
    ∗ owns (c₀ : Thread nD τ) arg9 fullShare (mix (sP n j) (newS rv) S)
    ∗ owns (c₀ : Thread nD τ) arg3 fullShare (mix (cP n j) (newC V R) C))

/-- The buffers that the scales touch, after `n` chunks and `l` halves of the next. -/
abbrev scalesAt (n l : ℕ) : sProp 𝕄 :=
  iprop(owns (c₀ : Thread nD τ) arg8 fullShare (mix (rP n l) (newR rv) R)
    ∗ owns (c₀ : Thread nD τ) arg9 fullShare (mix (sP n 4) (newS rv) S)
    ∗ owns (c₀ : Thread nD τ) arg4 fullShare (mix (scP n l) (newSc rv) Sc))

include hrot in
theorem tileU_wp (n : ℕ) (hn : n < 11) (j : ℕ) (hj : j < 4) (K : PUnit → sProp 𝕄) :
    iprop(tilesAt c₀ arg3 arg7 arg8 arg9 rv V R S C n j ∗ Rres)
      ⊢ iprop((iprop(tilesAt c₀ arg3 arg7 arg8 arg9 rv V R S C n (j + 1) ∗ Rres) -∗ K ⟨⟩)
          -∗ WP c₀ (tileU (F := F) arg3 harg3 arg7 arg8 arg9 rotate n hn j hj) K) := by
  unfold tileU
  iintro ⟨⟨H7, H8, H9, H3⟩, HR⟩ Hk
  rw [WP_bind]
  iapply (codesU_wp c₀ arg3 harg3 arg7 arg8) $$ [H7 H8 H3]
  · isplitl [H7]; · iexact H7
    isplitl [H8]; · iexact H8
    iexact H3
  iintro ⟨H7, H8, H3⟩
  rw [codeTile_mix n j hn hj, write_C n j hn hj, WP_bind]
  iapply (hrot n hn j hj) $$ HR
  iintro HR
  rw [WP_bind]
  iapply (keepV_wp c₀) $$ H7
  iintro H7
  rw [write_V rv n j hn hj]
  iapply (maximaU_wp rv c₀) $$ H9
  iintro H9
  iapply Hk
  isplitr [HR]
  · isplitl [H7]; · iexact H7
    isplitl [H8]; · iexact H8
    isplitl [H9]; · iexact H9
    iexact H3
  iexact HR

theorem scaleU_wp (n : ℕ) (hn : n < 11) (l : ℕ) (hl : l < 2) (K : PUnit → sProp 𝕄) :
    scalesAt c₀ arg4 arg8 arg9 rv R S Sc n l
      ⊢ iprop((scalesAt c₀ arg4 arg8 arg9 rv R S Sc n (l + 1) -∗ K ⟨⟩)
          -∗ WP c₀ (scaleU (F := F) arg4 arg8 arg9 n hn l hl) K) := by
  unfold scaleU loadS
  iintro ⟨H8, H9, H4⟩ Hk
  rw [WP_bind]; iapply (wp_ld c₀) $$ H9; iintro H9
  rw [WP_bind]; iapply (wp_ld c₀) $$ H9; iintro H9
  rw [WP_bind]; iapply (wp_ld c₀) $$ H9; iintro H9
  rw [WP_bind]; iapply (wp_ld c₀) $$ H9; iintro H9
  rw [WP_bind]; iapply (wp_ld c₀) $$ H9; iintro H9
  rw [WP_bind]; iapply (wp_ld c₀) $$ H9; iintro H9
  rw [WP_bind]; iapply (wp_ld c₀) $$ H9; iintro H9
  rw [WP_bind]; iapply (wp_ld c₀) $$ H9; iintro H9
  rw [rd_S rv n l 0 0 hn hl (by omega) rfl (by omega), rd_S rv n l 1 9 hn hl (by omega) rfl (by omega), rd_S rv n l 2 18 hn hl (by omega) rfl (by omega),
    rd_S rv n l 3 27 hn hl (by omega) rfl (by omega), rd_S rv n l 4 36 hn hl (by omega) rfl (by omega), rd_S rv n l 5 45 hn hl (by omega) rfl (by omega),
    rd_S rv n l 6 54 hn hl (by omega) rfl (by omega), rd_S rv n l 7 63 hn hl (by omega) rfl (by omega)]
  rw [WP_bind]; iapply (wp_ld c₀) $$ H8; iintro H8
  rw [WP_bind]; iapply (wp_st c₀) $$ H8; iintro H8
  rw [WP_bind]; iapply (wp_ld c₀) $$ H4; iintro H4
  iapply (wp_st c₀) $$ H4; iintro H4
  iapply Hk
  isplitl [H8]
  · rw [← write_R rv n l hn hl]; iexact H8
  isplitl [H9]; · iexact H9
  rw [← write_Sc rv n l hn hl]; iexact H4

/-- The buffers after `n` chunks. -/
abbrev chunksAt (n : ℕ) : sProp 𝕄 :=
  iprop(tilesAt c₀ arg3 arg7 arg8 arg9 rv V R S C n 0 ∗ owns (c₀ : Thread nD τ) arg4 fullShare (mix (scP n 0) (newSc rv) Sc))

theorem vP_succ (n : ℕ) (N V : Vec F S11x4x256x256 .f32) : mix (vP n 4) N V = mix (vP (n + 1) 0) N V :=
  mix_congr fun x => by have : (x 1).val < 4 := (x 1).isLt; unfold vP; omega
theorem rP_succ (n : ℕ) (N V : Vec F S11x8x256 .f32) : mix (rP n 2) N V = mix (rP (n + 1) 0) N V :=
  mix_congr fun x => by have : (x 2).val < 256 := (x 2).isLt; unfold rP; omega
theorem sP_succ (n : ℕ) (N V : Vec F S11x2x72x128 .f32) : mix (sP n 4) N V = mix (sP (n + 1) 0) N V :=
  mix_congr fun x => by unfold sP; omega
theorem cP_succ (n : ℕ) (N V : IVec S1x2816x512 8) : mix (cP n 4) N V = mix (cP (n + 1) 0) N V :=
  mix_congr fun x => by have : (x 2).val < 512 := (x 2).isLt; unfold cP; omega
theorem scP_succ (n : ℕ) (N V : Vec F S2x8x1408 .f32) : mix (scP n 2) N V = mix (scP (n + 1) 0) N V :=
  mix_congr fun x => by unfold scP; omega

include hrot in
theorem chunkU_wp (n : ℕ) (hn : n < 11) (K : PUnit → sProp 𝕄) :
    iprop(chunksAt c₀ arg3 arg4 arg7 arg8 arg9 rv V R S C Sc n ∗ Rres)
      ⊢ iprop((iprop(chunksAt c₀ arg3 arg4 arg7 arg8 arg9 rv V R S C Sc (n + 1) ∗ Rres) -∗ K ⟨⟩)
          -∗ WP c₀ (chunkU (F := F) arg3 harg3 arg4 arg7 arg8 arg9 rotate n hn) K) := by
  unfold chunkU
  iintro ⟨⟨HT, H4⟩, HR⟩ Hk
  rw [WP_bind]
  iapply (tileU_wp c₀ arg3 harg3 arg7 arg8 arg9 rv V R S C rotate Rres hrot) $$ [HT HR]
  · isplitl [HT]; · iexact HT
    iexact HR
  iintro H
  rw [WP_bind]; iapply (tileU_wp c₀ arg3 harg3 arg7 arg8 arg9 rv V R S C rotate Rres hrot) $$ H; iintro H
  rw [WP_bind]; iapply (tileU_wp c₀ arg3 harg3 arg7 arg8 arg9 rv V R S C rotate Rres hrot) $$ H; iintro H
  rw [WP_bind]; iapply (tileU_wp c₀ arg3 harg3 arg7 arg8 arg9 rv V R S C rotate Rres hrot) $$ H; iintro ⟨⟨H7, H8, H9, H3⟩, HR⟩
  rw [WP_bind]
  iapply (scaleU_wp c₀ arg4 arg8 arg9 rv R S Sc) $$ [H8 H9 H4]
  · isplitl [H8]; · iexact H8
    isplitl [H9]; · iexact H9
    iexact H4
  iintro H
  iapply (scaleU_wp c₀ arg4 arg8 arg9 rv R S Sc) $$ H
  iintro ⟨H8, H9, H4⟩
  iapply Hk
  isplitr [HR]
  · isplitr [H4]
    · isplitl [H7]; · rw [← vP_succ]; iexact H7
      isplitl [H8]; · rw [← rP_succ]; iexact H8
      isplitl [H9]; · rw [← sP_succ]; iexact H9
      rw [← cP_succ]; iexact H3
    rw [← scP_succ]; iexact H4
  iexact HR

include hrot in
theorem chunksU_wp (n : ℕ) (hn : n ≤ 11) (K : PUnit → sProp 𝕄) :
    iprop(chunksAt c₀ arg3 arg4 arg7 arg8 arg9 rv V R S C Sc 0 ∗ Rres)
      ⊢ iprop((iprop(chunksAt c₀ arg3 arg4 arg7 arg8 arg9 rv V R S C Sc n ∗ Rres) -∗ K ⟨⟩)
          -∗ WP c₀ (chunksU (F := F) arg3 harg3 arg4 arg7 arg8 arg9 rotate n hn) K) := by
  induction n generalizing K with
  | zero =>
    iintro H Hk
    unfold chunksU
    iapply (WP_pure c₀)
    iapply Hk $$ H
  | succ n ih =>
    iintro H Hk
    unfold chunksU
    rw [WP_bind]
    iapply ih $$ H
    iintro H
    iapply (chunkU_wp c₀ arg3 harg3 arg4 arg7 arg8 arg9 rv V R S C Sc rotate Rres hrot) $$ H
    iexact Hk

include hrot in
/-- One whole step: from any contents `V`, `R` of the last step, the bytes made from them, and this step's rotated tiles, factors and scales. -/
theorem step_wp (K : PUnit → sProp 𝕄) :
    iprop(owns (c₀ : Thread nD τ) arg7 fullShare V ∗ owns (c₀ : Thread nD τ) arg8 fullShare R ∗ owns (c₀ : Thread nD τ) arg9 fullShare S
        ∗ owns (c₀ : Thread nD τ) arg3 fullShare C ∗ owns (c₀ : Thread nD τ) arg4 fullShare Sc ∗ Rres)
      ⊢ iprop((iprop(owns (c₀ : Thread nD τ) arg7 fullShare (newV rv) ∗ owns (c₀ : Thread nD τ) arg8 fullShare (newR rv)
            ∗ (∃ S, owns (c₀ : Thread nD τ) arg9 fullShare S)
            ∗ owns (c₀ : Thread nD τ) arg3 fullShare (newC V R) ∗ owns (c₀ : Thread nD τ) arg4 fullShare (newSc rv) ∗ Rres) -∗ K ⟨⟩)
          -∗ WP c₀ (chunksU (F := F) arg3 harg3 arg4 arg7 arg8 arg9 rotate 11 (by omega)) K) := by
  iintro ⟨H7, H8, H9, H3, H4, HR⟩ Hk
  iapply (chunksU_wp c₀ arg3 harg3 arg4 arg7 arg8 arg9 rv V R S C Sc rotate Rres hrot 11) $$ [H7 H8 H9 H3 H4 HR]
  · isplitr [HR]
    · isplitr [H4]
      · isplitl [H7]; · rw [mix_none (fun x => by unfold vP; omega)]; iexact H7
        isplitl [H8]; · rw [mix_none (fun x => by unfold rP; omega)]; iexact H8
        isplitl [H9]; · rw [mix_none (fun x => by unfold sP; omega)]; iexact H9
        rw [mix_none (fun x => by unfold cP; omega)]; iexact H3
      rw [mix_none (fun x => by unfold scP; omega)]; iexact H4
    iexact HR
  unfold chunksAt tilesAt
  rw [mix_all (p := vP 11 0) (fun x => by have : (x 0).val < 11 := (x 0).isLt; unfold vP; omega),
    mix_all (p := rP 11 0) (fun x => by have : (x 0).val < 11 := (x 0).isLt; unfold rP; omega),
    mix_all (p := cP 11 0) (fun x => by have : (x 1).val < 2816 := (x 1).isLt; unfold cP; omega),
    mix_all (p := scP 11 0) (fun x => by have := rowOf_lt x; unfold scP; omega)]
  iintro ⟨⟨⟨H7, H8, H9, H3⟩, H4⟩, HR⟩
  iapply Hk
  isplitl [H7]; · iexact H7
  isplitl [H8]; · iexact H8
  isplitl [H9]; · iexists _; iexact H9
  isplitl [H3]; · iexact H3
  isplitl [H4]; · iexact H4
  iexact HR

end steps

end Cert.KernelIdeal.Gen

end
-- ==== Proof.KI.Rotate.lean ====
module

public import proofs.«01_k».proof.Proof.KI.Units
public import Idealize.ShloMosaic.Lib.Pipeline.Value

/-! The rotated tile: a Hadamard tile times two slabs of a landed block. -/

@[expose] public section

noncomputable section

namespace Cert.KernelIdeal.Gen

open Cert.KernelIdeal K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

/-! ## The values -/

/-- Row `r`, column `l` of a slab. -/
def slabIdx (r l : ℕ) : S2816x128.Idx := fun a =>
  ⟨(![r, l] : Fin 2 → ℕ) a % S2816x128.size a, Nat.mod_lt _ (by revert a; decide)⟩

/-- The 256 rows from `o` on of a slab. -/
def slabTile (X : Vec F S2816x128 .bf16) (o : ℕ) : Vec F S1x1x256x128 .bf16 := fun i => X (slabIdx (o + (i 2).val) (i 3).val)

/-- Rows of chunk `c`, both slabs of tile `j`. -/
def wT (X : Fin 8 → Vec F S2816x128 .bf16) (c : Fin 11) (j : Fin 4) : FVec F S256x256 .bf16 :=
  wTile (slabTile (X ⟨2 * j.val, by omega⟩) (256 * c.val)) (slabTile (X ⟨2 * j.val + 1, by omega⟩) (256 * c.val))

/-- Hadamard tile `t` of part `p`. -/
def hT (H : Vec F S3x16x2x256x128 .bf16) (p : Fin 3) (t : Fin 16) : FVec F S256x256 .bf16 :=
  hTile (rd H (Rect.unit (s := S3x16x2x256x128) ![p.val, t.val, 0, 0, 0] S1x1x1x256x128.size (inbH p.val p.isLt t.val t.isLt 0 (by omega))).toLoadRect)
    (rd H (Rect.unit (s := S3x16x2x256x128) ![p.val, t.val, 1, 0, 0] S1x1x1x256x128.size (inbH p.val p.isLt t.val t.isLt 1 (by omega))).toLoadRect)

/-- The rotated tiles by one pass. -/
def rv1 (i : grid0.Coords) (H : Vec F S3x16x2x256x128 .bf16) (X : Fin 8 → Vec F S2816x128 .bf16) (c : Fin 11) (j : Fin 4) : FVec F S256x256 .f32 :=
  rot (hT H 0 ⟨tileN i j.val, tileN_lt i j.val j.isLt⟩) (wT X c j)

/-- The rotated tiles by three passes. -/
def rv3 (i : grid0.Coords) (H : Vec F S3x16x2x256x128 .bf16) (X : Fin 8 → Vec F S2816x128 .bf16) (c : Fin 11) (j : Fin 4) : FVec F S256x256 .f32 :=
  addf (addf (rot (hT H 0 ⟨tileN i j.val, tileN_lt i j.val j.isLt⟩) (wT X c j)) (rot (hT H 1 ⟨tileN i j.val, tileN_lt i j.val j.isLt⟩) (wT X c j)))
    (rot (hT H 2 ⟨tileN i j.val, tileN_lt i j.val j.isLt⟩) (wT X c j))

/-! ## The loads -/

variable (c₀ : Dev nD) (arg5 : Memref sig .tc .vmem S3x8x2816x128 .bf16) (arg6 : Memref sig .tc .vmem S3x16x2x256x128 .bf16)

theorem casts_slab : S1x1x2816x128.ShapeCasts S2816x128 := by decide

theorem slab_set (k : ℕ) (hk : k < 3) (j : ℕ) (hj : j < 8) (o : ℕ) (ho : o ≤ 2560) :
    arg5.view.setOn (Rect.unit (s := S3x8x2816x128) ![k, j, o, 0] S1x1x256x128.size (inbW k hk j hj o ho)).toLoadRect.set
      ⊆ (dstView arg5 k hk j hj).view.set := by
  refine Finset.Subset.trans (show _ ⊆ (arg5.view.slice
    (Rect.unit (s := S3x8x2816x128) ![k, j, 0, 0] S1x1x2816x128.size (inbDst k hk j hj))).set from ?_)
    (Finset.Subset.antisymm_iff.mp (Memref.set_view_squeeze (arg5.slice (Rect.unit (s := S3x8x2816x128) ![k, j, 0, 0] S1x1x2816x128.size
      (inbDst k hk j hj)) (fun _ => rfl)) squeezes_S1x1x2816x128_S2816x128)).2
  rw [View.set_slice]
  refine Finset.map_subset_map.mpr fun x hx => ?_
  rw [mem_unit] at hx ⊢
  simp [Fin.forall_fin_succ, S1x1x256x128, S1x1x2816x128] at hx ⊢
  omega

theorem slab_read (k : ℕ) (hk : k < 3) (j : ℕ) (hj : j < 8) (o : ℕ) (ho : o ≤ 2560) (f : arg5.view.ty.Contents (Elt F)) :
    arg5.view.readAt (Elt F) (Rect.unit (s := S3x8x2816x128) ![k, j, o, 0] S1x1x256x128.size (inbW k hk j hj o ho)).toLoadRect f
      = slabTile ((dstView arg5 k hk j hj).view.read (Elt F) f) o := by
  funext i
  have h0 : (i 0).val < 1 := (i 0).isLt
  have h1 : (i 1).val < 1 := (i 1).isLt
  have h2 : (i 2).val < 256 := (i 2).isLt
  have h3 : (i 3).val < 128 := (i 3).isLt
  unfold slabTile dstView
  rw [Memref.read_squeeze_slice arg5 _ _ _ casts_slab f]
  rw [shapeCast_apply (k := (fun a => ⟨(![0, 0, o + (i 2).val, (i 3).val] : Fin 4 → ℕ) a, by
    fin_cases a <;> simp [S1x1x2816x128] <;> omega⟩ : S1x1x2816x128.Idx))]
  · rw [View.readAt_apply, View.readAt_apply]
    congr 1
    funext a
    apply Fin.ext
    fin_cases a <;> simp [LoadRect.idx_apply] <;> omega
  · rw [Shape.rowMajor_val_two]
    refine (Shape.rowMajor_val_four _).trans ?_
    simp [slabIdx, S2816x128, S1x1x2816x128]
    omega

theorem wp_ld_slab_raw (k : ℕ) (hk : k < 3) (j : ℕ) (hj : j < 8) (o : ℕ) (ho : o ≤ 2560) (f : arg5.view.ty.Contents (Elt F))
    {hl : arg5.view.LoadsAt (Rect.unit (s := S3x8x2816x128) ![k, j, o, 0] S1x1x256x128.size (inbW k hk j hj o ho)).toLoadRect}
    (K : Vec F S1x1x256x128 .bf16 → sProp 𝕄) :
    ((dstView arg5 k hk j hj).view.loc (c₀ : Thread nD τ) ↦[(dstView arg5 k hk j hj).view.set]{fullShare} f : sProp 𝕄)
      ⊢ iprop((((dstView arg5 k hk j hj).view.loc (c₀ : Thread nD τ) ↦[(dstView arg5 k hk j hj).view.set]{fullShare} f)
          -∗ K (slabTile ((dstView arg5 k hk j hj).view.read (Elt F) f) o))
        -∗ WP c₀ (Prog.lift (.load arg5 (Rect.unit (s := S3x8x2816x128) ![k, j, o, 0] S1x1x256x128.size (inbW k hk j hj o ho)).toLoadRect hl)) K) := by
  rw [← slab_read arg5 k hk j hj o ho f]
  iintro H Hk
  have h : ((dstView arg5 k hk j hj).view.loc (c₀ : Thread nD τ) ↦[(dstView arg5 k hk j hj).view.set]{fullShare} f : sProp 𝕄)
      ⊢ iprop((((dstView arg5 k hk j hj).view.loc (c₀ : Thread nD τ) ↦[(dstView arg5 k hk j hj).view.set]{fullShare} f)
          -∗ WP c₀ (Prog.ret (arg5.view.readAt (Elt F) (Rect.unit (s := S3x8x2816x128) ![k, j, o, 0] S1x1x256x128.size (inbW k hk j hj o ho)).toLoadRect f)) K)
        -∗ WP c₀ (Prog.lift (.load arg5 (Rect.unit (s := S3x8x2816x128) ![k, j, o, 0] S1x1x256x128.size (inbW k hk j hj o ho)).toLoadRect hl)) K) :=
    wp_load Variants.none (c₀ : Thread nD τ) none Set.univ (k := Prog.ret) (slab_set arg5 k hk j hj o ho)
  iapply h $$ H
  iintro H
  iapply (le_wp_ret _ _ _ _ K)
  iapply Hk
  iexact H

theorem wp_ld_slab (k : ℕ) (hk : k < 3) (j : ℕ) (hj : j < 8) (o : ℕ) (ho : o ≤ 2560) (X : Vec F S2816x128 .bf16)
    {hl : arg5.view.LoadsAt (Rect.unit (s := S3x8x2816x128) ![k, j, o, 0] S1x1x256x128.size (inbW k hk j hj o ho)).toLoadRect}
    (K : Vec F S1x1x256x128 .bf16 → sProp 𝕄) :
    owns (c₀ : Thread nD τ) (dstView arg5 k hk j hj) fullShare X
      ⊢ iprop((owns (c₀ : Thread nD τ) (dstView arg5 k hk j hj) fullShare X -∗ K (slabTile X o))
          -∗ WP c₀ (Prog.lift (.load arg5 (Rect.unit (s := S3x8x2816x128) ![k, j, o, 0] S1x1x256x128.size (inbW k hk j hj o ho)).toLoadRect hl)) K) := by
  unfold owns
  iintro ⟨%f, %hf, H⟩ Hk
  subst hf
  iapply (wp_ld_slab_raw c₀ arg5 k hk j hj o ho f K) $$ H
  iintro H
  iapply Hk
  iexists f
  isplitr
  · ipureintro; rfl
  iexact H

/-! ## The tiles -/

/-- The eight slabs of slot `k`. -/
def slabs (k : ℕ) (hk : k < 3) (X : Fin 8 → Vec F S2816x128 .bf16) : sProp 𝕄 :=
  bigSep Finset.univ fun j : Fin 8 => owns (c₀ : Thread nD τ) (dstView arg5 k hk j.val j.isLt) fullShare (X j)

/-- What a rotation reads. -/
def RotRes (i : grid0.Coords) (H : Vec F S3x16x2x256x128 .bf16) (X : Fin 8 → Vec F S2816x128 .bf16) : sProp 𝕄 :=
  iprop(owns (c₀ : Thread nD τ) arg6 fullShare H ∗ slabs c₀ arg5 (slotN i) (slotN_lt i) X)

theorem slabs_take (k : ℕ) (hk : k < 3) (X : Fin 8 → Vec F S2816x128 .bf16) (j : ℕ) (hj : j < 8) :
    slabs c₀ arg5 k hk X ⊢ iprop(owns (c₀ : Thread nD τ) (dstView arg5 k hk j hj) fullShare (X ⟨j, hj⟩)
      ∗ (owns (c₀ : Thread nD τ) (dstView arg5 k hk j hj) fullShare (X ⟨j, hj⟩) -∗ slabs c₀ arg5 k hk X)) := by
  unfold slabs
  have e := BI.bigSep_erase (Φ := fun j : Fin 8 => (owns (c₀ : Thread nD τ) (dstView arg5 k hk j.val j.isLt) fullShare (X j) : sProp 𝕄))
    (Finset.mem_univ (⟨j, hj⟩ : Fin 8))
  have e' : (bigSep Finset.univ fun j : Fin 8 => (owns (c₀ : Thread nD τ) (dstView arg5 k hk j.val j.isLt) fullShare (X j) : sProp 𝕄))
      = iprop(owns (c₀ : Thread nD τ) (dstView arg5 k hk j hj) fullShare (X ⟨j, hj⟩)
        ∗ bigSep (Finset.univ.erase (⟨j, hj⟩ : Fin 8)) fun j : Fin 8 => owns (c₀ : Thread nD τ) (dstView arg5 k hk j.val j.isLt) fullShare (X j)) := e
  rw [e']
  iintro ⟨H, R⟩
  isplitl [H]
  · iexact H
  iintro H
  isplitl [H]
  · iexact H
  iexact R

theorem loadW_wp (i : grid0.Coords) (X : Fin 8 → Vec F S2816x128 .bf16) (c : ℕ) (hc : c < 11) (j : ℕ) (hj : j < 4)
    (K : FVec F S256x256 .bf16 → SP F) :
    slabs c₀ arg5 (slotN i) (slotN_lt i) X
      ⊢ iprop((slabs c₀ arg5 (slotN i) (slotN_lt i) X -∗ K (wT X ⟨c, hc⟩ ⟨j, hj⟩)) -∗ WP c₀ (loadW i arg5 c hc j hj) K) := by
  rw [show wT X ⟨c, hc⟩ ⟨j, hj⟩ = wTile (slabTile (X ⟨2 * j, by omega⟩) (256 * c)) (slabTile (X ⟨2 * j + 1, by omega⟩) (256 * c)) from rfl]
  iintro H Hk
  unfold loadW
  rw [WP_bind]
  ihave H' := (slabs_take c₀ arg5 (slotN i) (slotN_lt i) X (2 * j) (by omega)) $$ H
  icases H' with ⟨H, Hb⟩
  iapply (wp_ld_slab c₀ arg5 _ _ _ _ _ (by omega) _ _) $$ H
  iintro H
  ihave H := Hb $$ H
  rw [WP_bind]
  ihave H' := (slabs_take c₀ arg5 (slotN i) (slotN_lt i) X (2 * j + 1) (by omega)) $$ H
  icases H' with ⟨H, Hb⟩
  iapply (wp_ld_slab c₀ arg5 _ _ _ _ _ (by omega) _ _) $$ H
  iintro H
  ihave H := Hb $$ H
  iapply (WP_pure c₀ _ K)
  iapply Hk
  iexact H

theorem loadH_wp (i : grid0.Coords) (H : Vec F S3x16x2x256x128 .bf16) (p : ℕ) (hp : p < 3) (j : ℕ) (hj : j < 4)
    (K : FVec F S256x256 .bf16 → SP F) :
    owns (c₀ : Thread nD τ) arg6 fullShare H
      ⊢ iprop((owns (c₀ : Thread nD τ) arg6 fullShare H -∗ K (hT H ⟨p, hp⟩ ⟨tileN i j, tileN_lt i j hj⟩)) -∗ WP c₀ (loadH i arg6 p hp j hj) K) := by
  rw [show hT H ⟨p, hp⟩ ⟨tileN i j, tileN_lt i j hj⟩ = hTile
    (rd H (Rect.unit (s := S3x16x2x256x128) ![p, tileN i j, 0, 0, 0] S1x1x1x256x128.size (inbH p hp _ (tileN_lt i j hj) 0 (by omega))).toLoadRect)
    (rd H (Rect.unit (s := S3x16x2x256x128) ![p, tileN i j, 1, 0, 0] S1x1x1x256x128.size (inbH p hp _ (tileN_lt i j hj) 1 (by omega))).toLoadRect) from rfl]
  iintro H Hk
  unfold loadH
  rw [WP_bind]
  iapply (wp_ld c₀) $$ H
  iintro H
  rw [WP_bind]
  iapply (wp_ld c₀) $$ H
  iintro H
  iapply (WP_pure c₀ _ K)
  iapply Hk
  iexact H

theorem rotate1_wp (i : grid0.Coords) (H : Vec F S3x16x2x256x128 .bf16) (X : Fin 8 → Vec F S2816x128 .bf16)
    (c : ℕ) (hc : c < 11) (j : ℕ) (hj : j < 4) (K : FVec F S256x256 .f32 → SP F) :
    RotRes c₀ arg5 arg6 i H X
      ⊢ iprop((RotRes c₀ arg5 arg6 i H X -∗ K (rv1 i H X ⟨c, hc⟩ ⟨j, hj⟩)) -∗ WP c₀ (rotate1 i arg5 arg6 c hc j hj) K) := by
  unfold RotRes
  rw [show rv1 i H X ⟨c, hc⟩ ⟨j, hj⟩ = rot (hT H ⟨0, by omega⟩ ⟨tileN i j, tileN_lt i j hj⟩) (wT X ⟨c, hc⟩ ⟨j, hj⟩) from rfl]
  iintro ⟨H, S⟩ Hk
  unfold rotate1
  rw [WP_bind]
  iapply (loadW_wp c₀ arg5 i X c hc j hj _) $$ S
  iintro S
  rw [WP_bind]
  iapply (loadH_wp c₀ arg6 i _ 0 _ j hj _) $$ H
  iintro H
  iapply (WP_pure c₀ _ K)
  iapply Hk
  isplitl [H]
  · iexact H
  iexact S

theorem rotate3_wp (i : grid0.Coords) (H : Vec F S3x16x2x256x128 .bf16) (X : Fin 8 → Vec F S2816x128 .bf16)
    (c : ℕ) (hc : c < 11) (j : ℕ) (hj : j < 4) (K : FVec F S256x256 .f32 → SP F) :
    RotRes c₀ arg5 arg6 i H X
      ⊢ iprop((RotRes c₀ arg5 arg6 i H X -∗ K (rv3 i H X ⟨c, hc⟩ ⟨j, hj⟩)) -∗ WP c₀ (rotate3 i arg5 arg6 c hc j hj) K) := by
  unfold RotRes
  rw [show rv3 i H X ⟨c, hc⟩ ⟨j, hj⟩ = addf (addf (rot (hT H ⟨0, by omega⟩ ⟨tileN i j, tileN_lt i j hj⟩) (wT X ⟨c, hc⟩ ⟨j, hj⟩))
    (rot (hT H ⟨1, by omega⟩ ⟨tileN i j, tileN_lt i j hj⟩) (wT X ⟨c, hc⟩ ⟨j, hj⟩)))
    (rot (hT H ⟨2, by omega⟩ ⟨tileN i j, tileN_lt i j hj⟩) (wT X ⟨c, hc⟩ ⟨j, hj⟩)) from rfl]
  iintro ⟨H, S⟩ Hk
  unfold rotate3
  rw [WP_bind]
  iapply (loadW_wp c₀ arg5 i X c hc j hj _) $$ S
  iintro S
  rw [WP_bind]
  iapply (loadH_wp c₀ arg6 i _ 0 _ j hj _) $$ H
  iintro H
  rw [WP_bind]
  iapply (loadH_wp c₀ arg6 i _ 1 _ j hj _) $$ H
  iintro H
  rw [WP_bind]
  iapply (loadH_wp c₀ arg6 i _ 2 _ j hj _) $$ H
  iintro H
  iapply (WP_pure c₀ _ K)
  iapply Hk
  isplitl [H]
  · iexact H
  iexact S

end Cert.KernelIdeal.Gen

end
-- ==== Proof.KI.Ring.lean ====
module

public import proofs.«01_k».proof.Proof.KI.Rotate
public import Idealize.ShloMosaic.Lib.ShareLeaves
public import Idealize.ShloMosaic.Lib.Batch

/-! The ring of landing slots: eight copies started on one semaphore, and the eight waits that bring them back. -/

@[expose] public section

noncomputable section

namespace Cert.KernelIdeal.Gen

open Cert.KernelIdeal K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Transfers (Batch pending)
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

/-- The share of the array that slot `k` reads through. -/
def slotShare (k : ℕ) (hk : k < 3) : PosShare TreeShare := leaf 2 fullShare ⟨k, by omega⟩
/-- The share of the array that slab `j` of slot `k` reads through. -/
def slabShare (k : ℕ) (hk : k < 3) (j : Fin 8) : PosShare TreeShare := leaf 3 (slotShare k hk) ⟨j.val, by omega⟩

variable (c₀ : Dev nD) (arg2 : Memref sig .tc .hbm S20x2816x4096 .bf16) (arg5 : Memref sig .tc .vmem S3x8x2816x128 .bf16)
  (arg11 : DmaSems sig S3) (f : Buf (Elt F) (arg2.view.loc (c₀ : Thread nD τ)))

/-- What one copy adds to its semaphore. -/
def credN : ℕ := (dstView arg5 0 (by omega) 0 (by omega)).view.dmaCredit

theorem credN_pos : 0 < credN arg5 := View.dmaCredit_pos _ (by decide)

/-- The semaphore cell of slot `k`. -/
def slotSem (k : ℕ) (hk : k < 3) : SemLoc sig := .dma (semOf arg11 k hk).sem

section block

variable (k : ℕ) (hk : k < 3) (p : ℕ) (hp : p < 20) (q : Fin 8 → ℕ) (hq : ∀ j, SlabCol (q j))

/-- What the copy of slab `j` brings. -/
def bring (j : Fin 8) : Vec F S2816x128 .bf16 := (srcView arg2 p hp (q j) (hq j)).view.read (Elt F) f

/-- The elements of the array slab `j` is copied from. -/
def srcPt (j : Fin 8) : sProp 𝕄 :=
  (srcView arg2 p hp (q j) (hq j)).view.loc (c₀ : Thread nD τ) ↦[(srcView arg2 p hp (q j) (hq j)).view.set]{slabShare k hk j} f

/-- The other elements of the array, at the same share. -/
def srcRest (j : Fin 8) : sProp 𝕄 :=
  arg2.view.loc (c₀ : Thread nD τ) ↦[Finset.univ \ (srcView arg2 p hp (q j) (hq j)).view.set]{slabShare k hk j} f

/-- What the copy of slab `j` gives back. -/
def delivers (j : Fin 8) : sProp 𝕄 :=
  iprop(owns (c₀ : Thread nD τ) (dstView arg5 k hk j.val j.isLt) fullShare (bring c₀ arg2 f p hp q hq j) ∗ srcPt c₀ arg2 f k hk p hp q hq j)

theorem pts_storable {ℓ : Loc nD τ sig} (I : Finset (Idx ℓ)) (q : PosShare TreeShare) (g : Buf (Elt F) ℓ) :
    Storable (upEmb : UEmb _ 𝕄) (ℓ ↦[I]{q} g : sProp 𝕄) := inferInstance

instance srcPt_storable (j : Fin 8) : Storable (upEmb : UEmb _ 𝕄) (srcPt c₀ arg2 f k hk p hp q hq j) :=
  pts_storable (ℓ := arg2.view.loc (c₀ : Thread nD τ)) _ _ _

instance delivers_storable (j : Fin 8) : Storable (upEmb : UEmb _ 𝕄) (delivers c₀ arg2 arg5 f k hk p hp q hq j) := by
  unfold delivers; infer_instance

/-- The copies of slot `k`, `n` of them started and `u` units waited for. -/
def slotBatch (n u : ℕ) : sProp 𝕄 :=
  Batch (countersEmb (U := Pipeline.UD sig nD τ)) (c₀ : Thread nD τ) (slotSem arg11 k hk) () (credN arg5)
    (delivers c₀ arg2 arg5 f k hk p hp q hq) n u

/-- Slot `k` while its eight copies are in flight. -/
def Flight : sProp 𝕄 :=
  iprop(slotBatch c₀ arg2 arg5 arg11 f k hk p hp q hq 8 0 ∗ bigSep Finset.univ (srcRest c₀ arg2 f k hk p hp q hq))

/-- Slot `k` with no copy in flight, holding `X`. -/
def Idle (X : Fin 8 → Vec F S2816x128 .bf16) : sProp 𝕄 :=
  iprop(slabs c₀ arg5 k hk X ∗ semVal ((c₀ : Thread nD τ), slotSem arg11 k hk) 0
    ∗ (arg2.view.loc (c₀ : Thread nD τ) ↦[Finset.univ]{slotShare k hk} f))

theorem src_split :
    (arg2.view.loc (c₀ : Thread nD τ) ↦[Finset.univ]{slotShare k hk} f : sProp 𝕄)
      = iprop(bigSep Finset.univ (srcPt c₀ arg2 f k hk p hp q hq) ∗ bigSep Finset.univ (srcRest c₀ arg2 f k hk p hp q hq)) := by
  rw [pointsTo_leaves Finset.univ f 3 (slotShare k hk)]
  have h : ∀ j : Fin 8, (arg2.view.loc (c₀ : Thread nD τ) ↦[Finset.univ]{leaf 3 (slotShare k hk) j} f : sProp 𝕄)
      = iprop(srcPt c₀ arg2 f k hk p hp q hq j ∗ srcRest c₀ arg2 f k hk p hp q hq j) := fun j => by
    have e := pointsTo_split_subset (ℓ := arg2.view.loc (c₀ : Thread nD τ)) (q := slabShare k hk j) (f := f) (Ix := Unit) (Name := ℕ)
      (U := Pipeline.UD sig nD τ) (Lvl := ℕ) (Finset.subset_univ ((srcView arg2 p hp (q j) (hq j)).view.set))
    exact BI.Entails.antisymm e.1 e.2
  exact (bigSep_congr fun j _ => h j).trans (BI.bigSep_sep _ _ _)

/-- Starting slab `n`. -/
theorem start_step (harg2 : arg2.IsWhole) (harg5 : arg5.IsWhole) (n : ℕ) (hn : n < 8) (X : Vec F S2816x128 .bf16) (K : PUnit → SP F) :
    iprop(srcPt c₀ arg2 f k hk p hp q hq ⟨n, hn⟩ ∗ owns (c₀ : Thread nD τ) (dstView arg5 k hk n hn) fullShare X
        ∗ slotBatch c₀ arg2 arg5 arg11 f k hk p hp q hq n 0)
      ⊢ iprop((slotBatch c₀ arg2 arg5 arg11 f k hk p hp q hq (n + 1) 0 -∗ K ⟨⟩)
        -∗ WP c₀ (startN arg5 arg2 harg2 harg5 arg11 k hk n hn p hp (q ⟨n, hn⟩) (hq ⟨n, hn⟩)) K) := by
  unfold owns srcPt slotBatch
  iintro ⟨H, ⟨%g, %hg, Hd⟩, HB⟩ Hk
  have h := Transfers.wp_dmaBatch (countersEmb (U := Pipeline.UD sig nD τ)) Variants.none (c₀ : Thread nD τ) none (defs := defs₀ (F := F))
    (src := srcView arg2 p hp (q ⟨n, hn⟩) (hq ⟨n, hn⟩)) (via := .same) (dst := dstView arg5 k hk n hn) (sm := slotSem arg11 k hk)
    (hsrc := srcView_words harg2 p hp _ _) (hdst := dstView_words harg5 k hk n hn) (hsem := ⟨Or.inl rfl, trivial⟩)
    (k := Prog.ret) (Q := K) (q := slabShare k hk ⟨n, hn⟩) (fs := f) (Sd := (dstView arg5 k hk n hn).view.set) (fd := g)
    (D := delivers c₀ arg2 arg5 f k hk p hp q hq) (j := n) (u := 0) () (credN arg5) rfl (Finset.Subset.refl _) hn (Nat.zero_le _) (by
      unfold delivers srcPt owns
      iintro ⟨Hd, Hs⟩
      isplitl [Hd]
      · iexists _
        isplitr
        rotate_left
        · iexact Hd
        · ipureintro
          rw [View.read_write_univ]
          rfl
      · iexact Hs)
  iapply h $$ [H Hd HB]
  · isplitl [H]
    · iexact H
    isplitl [Hd]
    · iexact Hd
    iexact HB
  iintro HB
  iapply (le_wp_ret _ _ _ _ K)
  iapply Hk
  iexact HB

/-- Waiting for one copy. -/
theorem wait_step (harg2 : arg2.IsWhole) (harg5 : arg5.IsWhole) (n : ℕ) (hn : n < 8) (W : Waits sig Unit) (K : PUnit → SP F) :
    iprop(slotBatch c₀ arg2 arg5 arg11 f k hk p hp q hq 8 (n * credN arg5) ∗ owes (c₀ : Thread nD τ) 0 W)
      ⊢ iprop((iprop(slotBatch c₀ arg2 arg5 arg11 f k hk p hp q hq 8 ((n + 1) * credN arg5) ∗ ∃ W', owes (c₀ : Thread nD τ) 0 W') -∗ K ⟨⟩)
        -∗ WP c₀ (waitN arg5 arg2 harg2 harg5 arg11 k hk n hn p hp (q ⟨n, hn⟩) (hq ⟨n, hn⟩)) K) := by
  unfold slotBatch
  iintro ⟨HB, HO⟩ Hk
  have h := Transfers.wp_waitBatchMul (countersEmb (U := Pipeline.UD sig nD τ)) Variants.none (c₀ : Thread nD τ) none (defs := defs₀ (F := F))
    (srcw := srcView arg2 p hp (q ⟨n, hn⟩) (hq ⟨n, hn⟩)) (dstw := dstView arg5 k hk n hn) (sem := (semOf arg11 k hk).sem)
    (hsrc := srcView_words harg2 p hp _ _) (hdst := dstView_words harg5 k hk n hn)
    (k := Prog.ret) (Q := K) (N := credN arg5)
    (D := delivers c₀ arg2 arg5 f k hk p hp q hq) (j := 8) (u := n * credN arg5) () 1 (by rw [Nat.one_mul]; rfl)
    (by rw [← Nat.add_mul, Nat.mul_comm]; exact Nat.mul_le_mul_left _ (by omega)) (W := W)
  rw [Nat.one_mul, ← Nat.succ_mul] at h
  iapply h $$ [HB HO]
  · isplitl [HB]
    · iexact HB
    iexact HO
  iintro ⟨HB, HO⟩
  iapply (le_wp_ret _ _ _ _ K)
  iapply Hk
  isplitl [HB]
  · iexact HB
  iexists _
  iexact HO

/-- A slot at rest becomes a batch with nothing started. -/
theorem idle_open (X : Fin 8 → Vec F S2816x128 .bf16) :
    Idle c₀ arg2 arg5 arg11 f k hk X
      ⊢ |={Set.univ}=> iprop(slotBatch c₀ arg2 arg5 arg11 f k hk p hp q hq 0 0
        ∗ bigSep Finset.univ (srcPt c₀ arg2 f k hk p hp q hq) ∗ bigSep Finset.univ (srcRest c₀ arg2 f k hk p hp q hq)
        ∗ slabs c₀ arg5 k hk X) := by
  unfold Idle slotBatch
  rw [src_split c₀ arg2 f k hk p hp q hq]
  iintro ⟨Hs, Hv, Hp, Hr⟩
  imod (Transfers.batch_alloc' (Lvl := ℕ) (countersEmb (U := Pipeline.UD sig nD τ)) (c₀ : Thread nD τ) () (credN arg5)
    (delivers c₀ arg2 arg5 f k hk p hp q hq) (sm := slotSem arg11 k hk) (E := Set.univ)) $$ Hv with HB
  imodintro
  isplitl [HB]
  · iexact HB
  isplitl [Hp]
  · iexact Hp
  isplitl [Hr]
  · iexact Hr
  iexact Hs

/-- A slot whose eight copies have been waited for is at rest, holding what they brought. -/
theorem batch_close :
    iprop(slotBatch c₀ arg2 arg5 arg11 f k hk p hp q hq 8 (8 * credN arg5) ∗ bigSep Finset.univ (srcRest c₀ arg2 f k hk p hp q hq))
      ⊢ |={Set.univ}=> Idle c₀ arg2 arg5 arg11 f k hk (bring c₀ arg2 f p hp q hq) := by
  unfold Idle slotBatch
  rw [src_split c₀ arg2 f k hk p hp q hq, Nat.mul_comm 8]
  iintro ⟨HB, Hr⟩
  imod (Transfers.batch_collect' (countersEmb (U := Pipeline.UD sig nD τ)) (c₀ : Thread nD τ) (credN_pos arg5)
    (D := delivers c₀ arg2 arg5 f k hk p hp q hq)) $$ HB with ⟨HD, Hv⟩
  imodintro
  ihave HD' := (show bigSep Finset.univ (delivers c₀ arg2 arg5 f k hk p hp q hq)
      ⊢ iprop(slabs c₀ arg5 k hk (bring c₀ arg2 f p hp q hq) ∗ bigSep Finset.univ (srcPt c₀ arg2 f k hk p hp q hq))
    from Entails.of_eq (BI.bigSep_sep Finset.univ _ _)) $$ HD
  icases HD' with ⟨Hs, Hp⟩
  isplitl [Hs]
  · iexact Hs
  isplitl [Hv]
  · iexact Hv
  isplitl [Hp]
  · iexact Hp
  iexact Hr

end block

/-! ## The eight starts and the eight waits of a block -/

variable (harg2 : arg2.IsWhole) (harg5 : arg5.IsWhole) (b : BitVec 32) (hb : b.toNat < 80)

/-- The slabs of block `b` in flight. -/
abbrev FlightB : sProp 𝕄 :=
  Flight c₀ arg2 arg5 arg11 f (slotB b) (slotB_lt b hb) (pairB b) (pairB_lt b hb) (fun j => colB b j.val) (fun j => colB_slab b hb j.val j.isLt)

/-- The slabs of block `b`, as its copies bring them. -/
abbrev bringB : Fin 8 → Vec F S2816x128 .bf16 :=
  bring c₀ arg2 f (pairB b) (pairB_lt b hb) (fun j => colB b j.val) (fun j => colB_slab b hb j.val j.isLt)

abbrev batchB (n u : ℕ) : sProp 𝕄 :=
  slotBatch c₀ arg2 arg5 arg11 f (slotB b) (slotB_lt b hb) (pairB b) (pairB_lt b hb) (fun j => colB b j.val) (fun j => colB_slab b hb j.val j.isLt) n u

/-- What the copies not started yet need. -/
def pendB (X : Fin 8 → Vec F S2816x128 .bf16) (n : ℕ) : sProp 𝕄 :=
  bigSep (pending n) fun j : Fin 8 =>
    iprop(srcPt c₀ arg2 f (slotB b) (slotB_lt b hb) (pairB b) (pairB_lt b hb) (fun j => colB b j.val) (fun j => colB_slab b hb j.val j.isLt) j
      ∗ owns (c₀ : Thread nD τ) (dstView arg5 (slotB b) (slotB_lt b hb) j.val j.isLt) fullShare (X j))

theorem starts_wp (X : Fin 8 → Vec F S2816x128 .bf16) : ∀ (n : ℕ) (hn : n ≤ 8) (K : PUnit → SP F),
    iprop(batchB c₀ arg2 arg5 arg11 f b hb 0 0 ∗ pendB c₀ arg2 arg5 f b hb X 0)
      ⊢ iprop((iprop(batchB c₀ arg2 arg5 arg11 f b hb n 0 ∗ pendB c₀ arg2 arg5 f b hb X n) -∗ K ⟨⟩)
        -∗ WP c₀ (startsU arg5 arg2 harg2 harg5 arg11 b hb n hn) K)
  | 0, _, K => by
    iintro H Hk
    unfold startsU
    iapply (WP_pure c₀ _ K)
    iapply Hk
    iexact H
  | n + 1, hn, K => by
    iintro H Hk
    unfold startsU
    rw [WP_bind]
    iapply (starts_wp X n _ _) $$ H
    unfold pendB
    rw [Transfers.bigSep_pending_step _ n (by omega)]
    iintro ⟨HB, ⟨Hs, Hd⟩, Hp⟩
    iapply (start_step c₀ arg2 arg5 arg11 f (slotB b) (slotB_lt b hb) (pairB b) (pairB_lt b hb) (fun j => colB b j.val)
      (fun j => colB_slab b hb j.val j.isLt) harg2 harg5 n _ (X ⟨n, by omega⟩) K) $$ [HB Hs Hd]
    · isplitl [Hs]
      · iexact Hs
      isplitl [Hd]
      · iexact Hd
      iexact HB
    iintro HB
    iapply Hk
    isplitl [HB]
    · iexact HB
    iexact Hp

theorem waits_wp (W : Waits sig Unit) : ∀ (n : ℕ) (hn : n ≤ 8) (K : PUnit → SP F),
    iprop(batchB c₀ arg2 arg5 arg11 f b hb 8 0 ∗ owes (c₀ : Thread nD τ) 0 W)
      ⊢ iprop((iprop(batchB c₀ arg2 arg5 arg11 f b hb 8 (n * credN arg5) ∗ ∃ W', owes (c₀ : Thread nD τ) 0 W') -∗ K ⟨⟩)
        -∗ WP c₀ (waitsU arg5 arg2 harg2 harg5 arg11 b hb n hn) K)
  | 0, _, K => by
    rw [Nat.zero_mul]
    iintro ⟨H, HO⟩ Hk
    unfold waitsU
    iapply (WP_pure c₀ _ K)
    iapply Hk
    isplitl [H]
    · iexact H
    iexists W
    iexact HO
  | n + 1, hn, K => by
    iintro H Hk
    unfold waitsU
    rw [WP_bind]
    iapply (waits_wp W n _ _) $$ H
    iintro ⟨HB, ⟨%W', HO⟩⟩
    iapply (wait_step c₀ arg2 arg5 arg11 f (slotB b) (slotB_lt b hb) (pairB b) (pairB_lt b hb) (fun j => colB b j.val)
      (fun j => colB_slab b hb j.val j.isLt) harg2 harg5 n _ W' K) $$ [HB HO]
    · isplitl [HB]
      · iexact HB
      iexact HO
    iexact Hk

/-- The eight starts of block `b`. -/
theorem startsU_wp (X : Fin 8 → Vec F S2816x128 .bf16) (K : PUnit → SP F) :
    Idle c₀ arg2 arg5 arg11 f (slotB b) (slotB_lt b hb) X
      ⊢ iprop((FlightB c₀ arg2 arg5 arg11 f b hb -∗ K ⟨⟩) -∗ WP c₀ (startsU arg5 arg2 harg2 harg5 arg11 b hb 8 (by omega)) K) := by
  iintro H Hk
  imod (idle_open c₀ arg2 arg5 arg11 f (slotB b) (slotB_lt b hb) (pairB b) (pairB_lt b hb) (fun j => colB b j.val)
    (fun j => colB_slab b hb j.val j.isLt) X) $$ H with ⟨HB, Hp, Hr, Hs⟩
  iapply (starts_wp c₀ arg2 arg5 arg11 f harg2 harg5 b hb X 8 _ K) $$ [HB Hp Hs]
  · isplitl [HB]
    · iexact HB
    have e : iprop(bigSep Finset.univ (srcPt c₀ arg2 f (slotB b) (slotB_lt b hb) (pairB b) (pairB_lt b hb) (fun j => colB b j.val)
          (fun j => colB_slab b hb j.val j.isLt)) ∗ slabs c₀ arg5 (slotB b) (slotB_lt b hb) X)
        = pendB c₀ arg2 arg5 f b hb X 0 := by
      unfold pendB
      rw [← Transfers.bigSep_pending_zero]
      exact (BI.bigSep_sep Finset.univ _ _).symm
    rw [← e]
    isplitl [Hp]
    · iexact Hp
    iexact Hs
  iintro ⟨HB, -⟩
  iapply Hk
  unfold FlightB Flight
  isplitl [HB]
  · iexact HB
  iexact Hr

/-- The eight waits of block `b`. -/
theorem waitsU_wp (W : Waits sig Unit) (K : PUnit → SP F) :
    iprop(FlightB c₀ arg2 arg5 arg11 f b hb ∗ owes (c₀ : Thread nD τ) 0 W)
      ⊢ iprop((iprop(Idle c₀ arg2 arg5 arg11 f (slotB b) (slotB_lt b hb) (bringB c₀ arg2 f b hb) ∗ ∃ W', owes (c₀ : Thread nD τ) 0 W') -∗ K ⟨⟩)
        -∗ WP c₀ (do waitsU arg5 arg2 harg2 harg5 arg11 b hb 8 (by omega); pure ⟨⟩) K) := by
  unfold FlightB Flight
  iintro ⟨⟨HB, Hr⟩, HO⟩ Hk
  rw [WP_bind]
  iapply (waits_wp c₀ arg2 arg5 arg11 f harg2 harg5 b hb W 8 _ _) $$ [HB HO]
  · isplitl [HB]
    · iexact HB
    iexact HO
  iintro ⟨HB, HO⟩
  imod (batch_close c₀ arg2 arg5 arg11 f (slotB b) (slotB_lt b hb) (pairB b) (pairB_lt b hb) (fun j => colB b j.val)
    (fun j => colB_slab b hb j.val j.isLt)) $$ [HB Hr] with H
  · isplitl [HB]
    · iexact HB
    iexact Hr
  iapply (WP_pure c₀ _ K)
  iapply Hk
  isplitl [H]
  · iexact H
  iexact HO

end Cert.KernelIdeal.Gen

end
-- ==== Proof.KI.Init.lean ====
module

public import proofs.«01_k».proof.Proof.KI.Rotate

/-! The first grid point's preparations: the Hadamard tiles, the flag, and the zeros. -/

@[expose] public section

noncomputable section

namespace Cert.KernelIdeal.Gen

open Cert.KernelIdeal K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

/-! ## The values -/

/-- The signs of half `s` of tile `t`. -/
def sgTile (G : Vec F S1x4096 .f32) (t : ℕ) (ht : t < 16) (s : ℕ) (hs : s < 2) : FVec F S1x128 .f32 :=
  shapeCast S1x128 (rd G (Rect.unit (s := S1x4096) ![0, 256 * t + 128 * s] S1x128.size (inbSg _ (by omega))).toLoadRect) shapeCasts_S1x128_S1x128

/-- Part `p` of the signs. -/
def partOf (p : ℕ) (g : FVec F S1x128 .f32) : FVec F S1x128 .f32 := if p = 0 then split1 g else if p = 1 then split2 g else split3 g

/-- The Hadamard array. -/
def newH (G : Vec F S1x4096 .f32) : Vec F S3x16x2x256x128 .bf16 := fun x =>
  hadStore (BitVec.ofNat 32 (x 2).val) (partOf (x 0).val (sgTile G (x 1).val (x 1).isLt (x 2).val (x 2).isLt))
    (modIdx S1x1x1x256x128 (s := S3x16x2x256x128) rfl (by decide) x)

/-- The notes on the first `n` tiles of half `s`, after `r`. -/
def restTo (G : Vec F S1x4096 .f32) (s : ℕ) (hs : s < 2) (r : FVec F S1x128 .f32) : (n : ℕ) → n ≤ 16 → FVec F S1x128 .f32
  | 0, _ => r
  | n + 1, h => restOf (restTo G s hs r n (by omega)) (sgTile G n (by omega) s hs)

/-- The notes on all the signs. -/
def restAll (G : Vec F S1x4096 .f32) : FVec F S1x128 .f32 :=
  restTo G 1 (by omega) (restTo G 0 (by omega) (broadcast S1x128 (Scalar.ofBits .f32 0x00000000#32)) 16 (by omega)) 16 (by omega)

/-- The flag in its buffer. -/
def newFlag (G : Vec F S1x4096 .f32) : Vec F S1 .i32 := fun _ => flagOf (restAll G)

/-- What the rotated tiles hold before the first block. -/
def zeroV : Vec F S11x4x256x256 .f32 := fun _ => Scalar.ofBits .f32 0x00000000#32
/-- What the factors hold before the first block. -/
def zeroR : Vec F S11x8x256 .f32 := fun _ => Scalar.ofBits .f32 0x00000000#32

/-! ## The triples -/

variable (c₀ : Dev nD) (arg1 : Memref sig .tc .vmem S1x4096 .f32) (arg6 : Memref sig .tc .vmem S3x16x2x256x128 .bf16) (harg6 : arg6.IsWhole)
  (arg7 : Memref sig .tc .vmem S11x4x256x256 .f32) (arg8 : Memref sig .tc .vmem S11x8x256 .f32) (arg10 : Memref sig .tc .smem S1 .i32)

/-- The place in a buffer of one. -/
def at0 : S1.Idx := fun a => ⟨0, by revert a; decide⟩

theorem only0 (y : S1.Idx) : y = at0 := funext fun a => Fin.ext (by
  have h := (y a).isLt
  revert h
  fin_cases a
  intro h
  have h' : (y 0).val < 1 := h
  show (y 0).val = 0
  omega)

theorem zeroV_all (X : Vec F S11x4x256x256 .f32) :
    (Rect.unit (s := S11x4x256x256) ![0, 0, 0, 0] S11x4x256x256.size inb_S11x4x256x256_S11x4x256x256_0_0_0_0).overlay X
      (shapeCast S11x4x256x256 (broadcast S11x4x256x256 (Scalar.ofBits .f32 0x00000000#32)) shapeCasts_S11x4x256x256_S11x4x256x256) = zeroV (F := F) :=
  overlay_all (fun i => rfl) (fun x => by
    rw [mem_unit]; intro a; have := (x a).isLt; revert this; fin_cases a <;> simp)

theorem zeroR_all (X : Vec F S11x8x256 .f32) :
    (Rect.unit (s := S11x8x256) ![0, 0, 0] S11x8x256.size inb_S11x8x256_S11x8x256_0_0_0).overlay X
      (shapeCast S11x8x256 (broadcast S11x8x256 (Scalar.ofBits .f32 0x00000000#32)) shapeCasts_S11x8x256_S11x8x256) = zeroR (F := F) :=
  overlay_all (fun i => rfl) (fun x => by
    rw [mem_unit]; intro a; have := (x a).isLt; revert this; fin_cases a <;> simp)

theorem flag_all (X : Vec F S1 .i32) (b : BitVec 32) :
    (Rect.unit (s := S1) ![0] S1.size inb_S1_S1_0).overlay X (fun _ => b) = (fun _ => b : Vec F S1 .i32) :=
  overlay_all (fun i => rfl) (fun x => by
    rw [mem_unit]; intro a; have := (x a).isLt; revert this; fin_cases a <;> simp)

/-- The word of a buffer of one. -/
theorem smemLoad_wp (X : Vec F S1 .i32) {q : PosShare TreeShare} (K : Elt F .i32 → sProp 𝕄) :
    owns (c₀ : Thread nD τ) arg10 q X
      ⊢ iprop((owns (c₀ : Thread nD τ) arg10 q X -∗ K (X at0))
        -∗ WP c₀ (smemLoad arg10 (Rect.unit (s := S1) ![0] S1.size inb_S1_S1_0) numel1_S1 rfl) K) := by
  have e : smemLoad (nD := nD) (τ := τ) (Val := Elt F) arg10 (Rect.unit (s := S1) ![0] S1.size inb_S1_S1_0) numel1_S1 rfl
      = (Prog.lift (.load arg10 (Rect.unit (s := S1) ![0] S1.size inb_S1_S1_0).toLoadRect (View.loadsAt_rect (View.loads_smem_one rfl numel1_S1))) : TCProg F _)
        >>= fun g => pure (g (Shape.Idx.first (numel1_S1.symm ▸ Nat.one_pos))) := rfl
  rw [e, WP_bind]
  iintro H Hk
  iapply (wp_ld c₀) $$ H
  iintro H
  iapply (WP_pure c₀ _ K)
  rw [show rd X (Rect.unit (s := S1) ![0] S1.size inb_S1_S1_0).toLoadRect (Shape.Idx.first (numel1_S1.symm ▸ Nat.one_pos)) = X at0
    from congrArg X (only0 _)]
  iapply Hk
  iexact H

theorem keepH_wp (p : ℕ) (hp : p < 3) (t : ℕ) (ht : t < 16) (s : ℕ) (hs : s < 2) (x : FVec F S1x1x1x256x128 .bf16)
    (H : Vec F S3x16x2x256x128 .bf16) (K : PUnit → SP F) :
    owns (c₀ : Thread nD τ) arg6 fullShare H
      ⊢ iprop((owns (c₀ : Thread nD τ) arg6 fullShare ((Rect.unit (s := S3x16x2x256x128) ![p, t, s, 0, 0] S1x1x1x256x128.size (inbH p hp t ht s hs)).overlay H x) -∗ K ⟨⟩)
          -∗ WP c₀ (keepH (F := F) arg6 harg6 p hp t ht s hs x) K) := by
  unfold keepH
  iintro H6 Hk
  rw [WP_bind]
  iapply (wp_ld c₀) $$ H6; iintro H6
  iapply (wp_st c₀) $$ H6; iintro H6
  iapply Hk
  iexact H6

/-- The part of the Hadamard array written after `n` tiles of half `s` and `p` parts of the next. -/
def hP (s n p : ℕ) (x : S3x16x2x256x128.Idx) : Prop :=
  (x 2).val < s ∨ ((x 2).val = s ∧ ((x 1).val < n ∨ ((x 1).val = n ∧ (x 0).val < p)))

theorem keepH_mix (G : Vec F S1x4096 .f32) (H : Vec F S3x16x2x256x128 .bf16) (p : ℕ) (hp : p < 3) (t : ℕ) (ht : t < 16) (s : ℕ) (hs : s < 2) :
    (Rect.unit (s := S3x16x2x256x128) ![p, t, s, 0, 0] S1x1x1x256x128.size (inbH p hp t ht s hs)).overlay (mix (hP s t p) (newH G) H)
      (hadStore (BitVec.ofNat 32 s) (partOf p (sgTile G t ht s hs)))
      = mix (hP s t (p + 1)) (newH G) H := by
  refine overlay_mix' (fun i => ?_) (fun x => ?_)
  · have h0 : (i 0).val < 1 := (i 0).isLt
    have h1 : (i 1).val < 1 := (i 1).isLt
    have h2 : (i 2).val < 1 := (i 2).isLt
    have h3 : (i 3).val < 256 := (i 3).isLt
    have h4 : (i 4).val < 128 := (i 4).isLt
    have hh : ∀ (p' t' s' : ℕ) (ht' : t' < 16) (hs' : s' < 2) (y : S1x1x1x256x128.Idx), p' = p → t' = t → s' = s → y = i →
        hadStore (BitVec.ofNat 32 s) (partOf p (sgTile G t ht s hs)) i = hadStore (BitVec.ofNat 32 s') (partOf p' (sgTile G t' ht' s' hs')) y := by
      rintro _ _ _ _ _ _ rfl rfl rfl rfl; rfl
    refine hh _ _ _ _ _ _ ?_ ?_ ?_ (funext fun a => Fin.ext ?_)
    · simp [LoadRect.idx_apply]; omega
    · simp [LoadRect.idx_apply]; omega
    · simp [LoadRect.idx_apply]; omega
    · fin_cases a <;> simp [modIdx, LoadRect.idx_apply, S1x1x1x256x128] <;> omega
  · rw [mem_unit]
    have h3 : (x 3).val < 256 := (x 3).isLt
    have h4 : (x 4).val < 128 := (x 4).isLt
    unfold hP
    simp [Fin.forall_fin_succ, S1x1x1x256x128]
    omega

theorem initTileU_wp (G : Vec F S1x4096 .f32) {q : PosShare TreeShare} (H : Vec F S3x16x2x256x128 .bf16) (t : ℕ) (ht : t < 16) (s : ℕ) (hs : s < 2)
    (r : FVec F S1x128 .f32) (K : FVec F S1x128 .f32 → SP F) :
    iprop(owns (c₀ : Thread nD τ) arg1 q G ∗ owns (c₀ : Thread nD τ) arg6 fullShare (mix (hP s t 0) (newH G) H))
      ⊢ iprop((iprop(owns (c₀ : Thread nD τ) arg1 q G ∗ owns (c₀ : Thread nD τ) arg6 fullShare (mix (hP s t 3) (newH G) H))
            -∗ K (restOf r (sgTile G t ht s hs)))
          -∗ WP c₀ (initTileU (F := F) arg6 arg1 harg6 s hs t ht r) K) := by
  rw [← keepH_mix G H 2 (by omega) t ht s hs, ← keepH_mix G H 1 (by omega) t ht s hs, ← keepH_mix G H 0 (by omega) t ht s hs]
  unfold initTileU sgTile
  iintro ⟨H1, H6⟩ Hk
  rw [WP_bind]
  iapply (wp_ld c₀) $$ H1; iintro H1
  rw [WP_bind]
  iapply (keepH_wp c₀ arg6 harg6) $$ H6; iintro H6
  rw [WP_bind]
  iapply (keepH_wp c₀ arg6 harg6) $$ H6; iintro H6
  rw [WP_bind]
  iapply (keepH_wp c₀ arg6 harg6) $$ H6; iintro H6
  iapply (WP_pure c₀ _ K)
  iapply Hk
  isplitl [H1]
  · iexact H1
  iexact H6

theorem initTilesU_wp (G : Vec F S1x4096 .f32) {q : PosShare TreeShare} (H : Vec F S3x16x2x256x128 .bf16) (s : ℕ) (hs : s < 2)
    (r : FVec F S1x128 .f32) : ∀ (n : ℕ) (hn : n ≤ 16) (K : FVec F S1x128 .f32 → SP F),
    iprop(owns (c₀ : Thread nD τ) arg1 q G ∗ owns (c₀ : Thread nD τ) arg6 fullShare (mix (hP s 0 0) (newH G) H))
      ⊢ iprop((iprop(owns (c₀ : Thread nD τ) arg1 q G ∗ owns (c₀ : Thread nD τ) arg6 fullShare (mix (hP s n 0) (newH G) H))
            -∗ K (restTo G s hs r n hn))
          -∗ WP c₀ (initTilesU (F := F) arg6 arg1 harg6 s hs r n hn) K)
  | 0, hn, K => by
    unfold initTilesU restTo
    iintro H Hk
    iapply (WP_pure c₀ _ K)
    iapply Hk
    iexact H
  | n + 1, hn, K => by
    unfold initTilesU restTo
    iintro H Hk
    rw [WP_bind]
    iapply (initTilesU_wp G H s hs r n _ _) $$ H
    iintro H
    iapply (initTileU_wp c₀ arg1 arg6 harg6 G H n _ s hs _ K) $$ H
    have e : mix (hP s n 3) (newH G) H = mix (hP s (n + 1) 0) (newH G) H := mix_congr fun x => by
      have h0 : (x 0).val < 3 := (x 0).isLt
      unfold hP; omega
    rw [e]
    iexact Hk

attribute [local irreducible] initTilesU restTo newH hP in
theorem initU_wp (G : Vec F S1x4096 .f32) {q : PosShare TreeShare} (K : PUnit → SP F) :
    iprop(owns (c₀ : Thread nD τ) arg1 q G ∗ (∃ H, owns (c₀ : Thread nD τ) arg6 fullShare H) ∗ (∃ X, owns (c₀ : Thread nD τ) arg7 fullShare X)
        ∗ (∃ X, owns (c₀ : Thread nD τ) arg8 fullShare X) ∗ (∃ X, owns (c₀ : Thread nD τ) arg10 fullShare X))
      ⊢ iprop((iprop(owns (c₀ : Thread nD τ) arg1 q G ∗ owns (c₀ : Thread nD τ) arg6 fullShare (newH G) ∗ owns (c₀ : Thread nD τ) arg7 fullShare (zeroV (F := F))
            ∗ owns (c₀ : Thread nD τ) arg8 fullShare (zeroR (F := F)) ∗ owns (c₀ : Thread nD τ) arg10 fullShare (newFlag G)) -∗ K ⟨⟩)
          -∗ WP c₀ (initU (F := F) arg6 arg7 arg8 arg1 harg6 arg10) K) := by
  unfold initU
  iintro ⟨H1, ⟨%H, H6⟩, ⟨%V, H7⟩, ⟨%R, H8⟩, ⟨%X, H10⟩⟩ Hk
  have e0 : H = mix (hP 0 0 0) (newH G) H := (mix_none fun x => by unfold hP; omega).symm
  have e1 : mix (hP 0 16 0) (newH G) H = mix (hP 1 0 0) (newH G) H := mix_congr fun x => by
    have h1 : (x 1).val < 16 := (x 1).isLt
    unfold hP; omega
  have e2 : mix (hP 1 16 0) (newH G) H = newH G := mix_all fun x => by
    have h1 : (x 1).val < 16 := (x 1).isLt
    have h2 : (x 2).val < 2 := (x 2).isLt
    unfold hP; omega
  rw [WP_bind]
  ihave H6' := (Entails.of_eq (congrArg (fun Y => (owns (c₀ : Thread nD τ) arg6 fullShare Y : sProp 𝕄)) e0)) $$ H6
  iapply (initTilesU_wp c₀ arg1 arg6 harg6 G H 0 _ _ 16 _ _) $$ [H1 H6']
  · isplitl [H1]
    · iexact H1
    iexact H6'
  rw [e1]
  iintro Hh
  rw [WP_bind]
  iapply (initTilesU_wp c₀ arg1 arg6 harg6 G H 1 _ _ 16 _ _) $$ Hh
  rw [e2]
  iintro ⟨H1, H6⟩
  rw [WP_bind]
  iapply (smemLoad_wp c₀ arg10 X) $$ H10; iintro H10
  rw [WP_bind]
  iapply (wp_st c₀) $$ H10
  rw [flag_all X]
  iintro H10
  rw [WP_bind]
  iapply (wp_ld c₀) $$ H7; iintro H7
  rw [WP_bind]
  iapply (wp_st c₀) $$ H7
  rw [zeroV_all]
  iintro H7
  rw [WP_bind]
  iapply (wp_ld c₀) $$ H8; iintro H8
  iapply (wp_st c₀) $$ H8
  rw [zeroR_all]
  iintro H8
  iapply Hk
  isplitl [H1]
  · iexact H1
  isplitl [H6]
  · iexact H6
  isplitl [H7]
  · iexact H7
  isplitl [H8]
  · iexact H8
  iexact H10

end Cert.KernelIdeal.Gen

end
-- ==== Proof.KI.State.lean ====
module

public import proofs.«01_k».proof.Proof.KI.Ring
public import proofs.«01_k».proof.Proof.KI.Init

/-! One grid point: what the ring and the buffers hold before it and after it. -/

@[expose] public section

noncomputable section

namespace Cert.KernelIdeal.Gen

open Cert.KernelIdeal K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

variable (c₀ : Dev nD) (arg2 : Memref sig .tc .hbm S20x2816x4096 .bf16) (arg5 : Memref sig .tc .vmem S3x8x2816x128 .bf16)
  (arg11 : DmaSems sig S3) (f : Buf (Elt F) (arg2.view.loc (c₀ : Thread nD τ)))

/-! ## The ring -/

/-- The first column of slab `j` of block `b`. -/
def colN (b : ℕ) (j : Fin 8) : ℕ := 128 * (8 * (b % 4) + j.val)
theorem colN_slab (b : ℕ) (j : Fin 8) : SlabCol (colN b j) := ⟨8 * (b % 4) + j.val, by omega, rfl⟩

/-- Block `b` in flight. -/
def FlightN (b : ℕ) (hb : b < 80) : sProp 𝕄 :=
  Flight c₀ arg2 arg5 arg11 f (b % 3) (by omega) (b / 4) (by omega) (colN b) (colN_slab b)

/-- The slabs of block `b`. -/
def blkX (b : ℕ) (hb : b < 80) : Fin 8 → Vec F S2816x128 .bf16 := bring c₀ arg2 f (b / 4) (by omega) (colN b) (colN_slab b)

/-- Slot `k` at rest, holding something. -/
def Rest (k : ℕ) (hk : k < 3) : sProp 𝕄 := iprop(∃ X, Idle c₀ arg2 arg5 arg11 f k hk X)

theorem flight_congr {k k' p p' : ℕ} {q q' : Fin 8 → ℕ} (hk : k < 3) (hk' : k' < 3) (hp : p < 20) (hp' : p' < 20) (hq : ∀ j, SlabCol (q j))
    (hq' : ∀ j, SlabCol (q' j)) (ek : k = k') (ep : p = p') (eq : q = q') :
    Flight c₀ arg2 arg5 arg11 f k hk p hp q hq = Flight c₀ arg2 arg5 arg11 f k' hk' p' hp' q' hq' := by
  subst ek ep eq; rfl

theorem bring_congr {p p' : ℕ} {q q' : Fin 8 → ℕ} (hp : p < 20) (hp' : p' < 20) (hq : ∀ j, SlabCol (q j))
    (hq' : ∀ j, SlabCol (q' j)) (ep : p = p') (eq : q = q') :
    bring c₀ arg2 f p hp q hq = bring c₀ arg2 f p' hp' q' hq' := by
  subst ep eq; rfl

theorem idle_congr {k k' : ℕ} (hk : k < 3) (hk' : k' < 3) (ek : k = k') (X : Fin 8 → Vec F S2816x128 .bf16) :
    Idle c₀ arg2 arg5 arg11 f k hk X = Idle c₀ arg2 arg5 arg11 f k' hk' X := by
  subst ek; rfl

theorem rest_congr {k k' : ℕ} (hk : k < 3) (hk' : k' < 3) (ek : k = k') :
    Rest c₀ arg2 arg5 arg11 f k hk = Rest c₀ arg2 arg5 arg11 f k' hk' := by
  subst ek; rfl

theorem flightB_eq (b : BitVec 32) (hb : b.toNat < 80) (n : ℕ) (hn : n < 80) (e : b.toNat = n) :
    FlightB c₀ arg2 arg5 arg11 f b hb = FlightN c₀ arg2 arg5 arg11 f n hn := by
  subst e
  exact flight_congr c₀ arg2 arg5 arg11 f _ _ _ _ _ _ (slotB_eq b hb) (pairB_eq b hb) (funext fun j => colB_eq b hb j.val j.isLt)

theorem bringB_eq (b : BitVec 32) (hb : b.toNat < 80) (n : ℕ) (hn : n < 80) (e : b.toNat = n) :
    bringB c₀ arg2 f b hb = blkX c₀ arg2 f n hn := by
  subst e
  exact bring_congr c₀ arg2 f _ _ _ _ (pairB_eq b hb) (funext fun j => colB_eq b hb j.val j.isLt)

/-- The ring before point `t`. -/
def PreRing (t : ℕ) : sProp 𝕄 :=
  if h : t < 79 then iprop(FlightN c₀ arg2 arg5 arg11 f t (by omega) ∗ FlightN c₀ arg2 arg5 arg11 f (t + 1) (by omega)
    ∗ Rest c₀ arg2 arg5 arg11 f ((t + 2) % 3) (by omega))
  else if h : t < 80 then iprop(FlightN c₀ arg2 arg5 arg11 f 79 (by omega) ∗ Rest c₀ arg2 arg5 arg11 f 2 (by omega) ∗ Rest c₀ arg2 arg5 arg11 f 0 (by omega))
  else iprop(Idle c₀ arg2 arg5 arg11 f 1 (by omega) (blkX c₀ arg2 f 79 (by omega)) ∗ Rest c₀ arg2 arg5 arg11 f 2 (by omega)
    ∗ Rest c₀ arg2 arg5 arg11 f 0 (by omega))

/-- The ring at point `t` once its copies are started. -/
def MidRing (t : ℕ) : sProp 𝕄 :=
  if h : t < 78 then iprop(FlightN c₀ arg2 arg5 arg11 f t (by omega) ∗ FlightN c₀ arg2 arg5 arg11 f (t + 1) (by omega)
    ∗ FlightN c₀ arg2 arg5 arg11 f (t + 2) (by omega))
  else PreRing c₀ arg2 arg5 arg11 f t

/-- The slots point `t` does not read, once its block has landed. -/
def RestRing (t : ℕ) : sProp 𝕄 :=
  if h : t < 78 then iprop(FlightN c₀ arg2 arg5 arg11 f (t + 1) (by omega) ∗ FlightN c₀ arg2 arg5 arg11 f (t + 2) (by omega))
  else if h : t < 79 then iprop(FlightN c₀ arg2 arg5 arg11 f 79 (by omega) ∗ Rest c₀ arg2 arg5 arg11 f 2 (by omega))
  else iprop(Rest c₀ arg2 arg5 arg11 f 2 (by omega) ∗ Rest c₀ arg2 arg5 arg11 f 0 (by omega))

theorem cond1_iff : ∀ i : grid0.Coords, k0_cond1 i = 1#1 ↔ (i 0).val = 0 := by decide +kernel
theorem cond2_iff : ∀ i : grid0.Coords, k0_cond2 i = 1#1 ↔ (i 0).val < 78 := by decide +kernel
theorem cond3_iff : ∀ i : grid0.Coords, k0_cond3 i = 1#1 ↔ (i 0).val < 80 := by decide +kernel
theorem startB_eq : ∀ i : grid0.Coords, k0_cond2 i = 1#1 →
    (Scalar.subi (Scalar.addi (BitVec.ofNat 32 (i 0).val) 3#32) 1#32).toNat = (i 0).val + 2 := by decide +kernel
theorem waitB_eq : ∀ i : grid0.Coords, k0_cond3 i = 1#1 → (BitVec.ofNat 32 (i 0).val).toNat = (i 0).val := by decide +kernel

variable (harg2 : arg2.IsWhole) (harg5 : arg5.IsWhole) (i : grid0.Coords)

theorem coord_lt : (i 0).val < 81 := (i 0).isLt

/-- The block that point `i` reads. -/
def blkI : Fin 8 → Vec F S2816x128 .bf16 := blkX c₀ arg2 f (min (i 0).val 79) (by omega)

theorem blkI_eq (n : ℕ) (hn : n < 80) (e : min (i 0).val 79 = n) : blkI c₀ arg2 f i = blkX c₀ arg2 f n hn := by
  subst e; rfl

/-- Starting the copies two points ahead. -/
theorem starts_stage (K : PUnit → SP F) :
    PreRing c₀ arg2 arg5 arg11 f (i 0).val
      ⊢ iprop((MidRing c₀ arg2 arg5 arg11 f (i 0).val -∗ K ⟨⟩)
        -∗ WP c₀ (startsIf i arg5 arg2 harg2 harg5 arg11) K) := by
  unfold startsIf
  by_cases h : k0_cond2 i = 1#1
  · have ht := (cond2_iff i).mp h
    rw [dif_pos h]
    unfold PreRing MidRing Rest
    rw [dif_pos (by omega), dif_pos ht]
    iintro ⟨H0, H1, ⟨%X, H2⟩⟩ Hk
    rw [WP_bind]
    have e : (((i 0).val + 2) % 3) = slotB (Scalar.subi (Scalar.addi (BitVec.ofNat 32 (i 0).val) 3#32) 1#32) := by
      rw [slotB_eq _ (startB_lt i h), startB_eq i h]
    ihave H2 := (Entails.of_eq (idle_congr c₀ arg2 arg5 arg11 f _ (slotB_lt _ (startB_lt i h)) e X)) $$ H2
    iapply (startsU_wp c₀ arg2 arg5 arg11 f harg2 harg5 _ (startB_lt i h) X _) $$ H2
    rw [flightB_eq c₀ arg2 arg5 arg11 f _ (startB_lt i h) ((i 0).val + 2) (by omega) (startB_eq i h)]
    iintro H2
    iapply (WP_pure c₀ _ K)
    iapply Hk
    isplitl [H0]
    · iexact H0
    isplitl [H1]
    · iexact H1
    iexact H2
  · have ht : ¬ (i 0).val < 78 := fun h' => h ((cond2_iff i).mpr h')
    rw [dif_neg h]
    unfold MidRing
    rw [dif_neg ht]
    iintro H Hk
    iapply (WP_pure c₀ _ K)
    iapply Hk
    iexact H

/-- Waiting for this point's block. -/
theorem waits_stage (W : Waits sig Unit) (K : PUnit → SP F) :
    iprop(MidRing c₀ arg2 arg5 arg11 f (i 0).val ∗ owes (c₀ : Thread nD τ) 0 W)
      ⊢ iprop((iprop(Idle c₀ arg2 arg5 arg11 f (slotN i) (slotN_lt i) (blkI c₀ arg2 f i) ∗ RestRing c₀ arg2 arg5 arg11 f (i 0).val
            ∗ ∃ W', owes (c₀ : Thread nD τ) 0 W') -∗ K ⟨⟩)
        -∗ WP c₀ (waitsIf i arg5 arg2 harg2 harg5 arg11) K) := by
  unfold waitsIf
  by_cases h : k0_cond3 i = 1#1
  · have ht := (cond3_iff i).mp h
    rw [dif_pos h]
    have hw := waitB_eq i h
    have e1 : MidRing c₀ arg2 arg5 arg11 f (i 0).val
        = iprop(FlightN c₀ arg2 arg5 arg11 f (i 0).val ht ∗ RestRing c₀ arg2 arg5 arg11 f (i 0).val) := by
      unfold MidRing RestRing PreRing
      by_cases h78 : (i 0).val < 78
      · rw [dif_pos h78, dif_pos h78]
      · rw [dif_neg h78, dif_neg h78]
        by_cases h79 : (i 0).val < 79
        · rw [dif_pos h79, dif_pos h79]
          have : (i 0).val = 78 := by omega
          simp only [this]
        · rw [dif_neg h79, dif_neg h79, dif_pos ht]
          have : (i 0).val = 79 := by omega
          simp only [this]
    have e2 : Idle c₀ arg2 arg5 arg11 f (slotB (BitVec.ofNat 32 (i 0).val)) (slotB_lt _ (waitB_lt i h)) (bringB c₀ arg2 f (BitVec.ofNat 32 (i 0).val) (waitB_lt i h))
        = Idle c₀ arg2 arg5 arg11 f (slotN i) (slotN_lt i) (blkI c₀ arg2 f i) := by
      rw [bringB_eq c₀ arg2 f _ (waitB_lt i h) (i 0).val ht hw,
        idle_congr c₀ arg2 arg5 arg11 f _ (slotN_lt i) (by rw [slotB_eq _ (waitB_lt i h), hw, slotN_eq, Nat.min_eq_left (by omega)])]
      rw [blkI_eq c₀ arg2 f i (i 0).val ht (Nat.min_eq_left (by omega))]
    rw [e1, ← e2, ← flightB_eq c₀ arg2 arg5 arg11 f _ (waitB_lt i h) (i 0).val ht hw]
    iintro ⟨⟨H0, HR⟩, HO⟩ Hk
    iapply (waitsU_wp c₀ arg2 arg5 arg11 f harg2 harg5 _ (waitB_lt i h) W K) $$ [H0 HO]
    · isplitl [H0]
      · iexact H0
      iexact HO
    iintro ⟨H0, HO⟩
    iapply Hk
    isplitl [H0]
    · iexact H0
    isplitl [HR]
    · iexact HR
    iexact HO
  · have ht : ¬ (i 0).val < 80 := fun h' => h ((cond3_iff i).mpr h')
    have h80 : (i 0).val = 80 := by have := coord_lt i; omega
    rw [dif_neg h]
    have e1 : MidRing c₀ arg2 arg5 arg11 f (i 0).val
        = iprop(Idle c₀ arg2 arg5 arg11 f (slotN i) (slotN_lt i) (blkI c₀ arg2 f i) ∗ RestRing c₀ arg2 arg5 arg11 f (i 0).val) := by
      unfold MidRing RestRing PreRing
      rw [dif_neg (by omega), dif_neg (by omega), dif_neg (by omega), dif_neg (by omega), dif_neg (by omega),
        idle_congr c₀ arg2 arg5 arg11 f (slotN_lt i) (show 1 < 3 by omega) (by rw [slotN_eq]; omega),
        blkI_eq c₀ arg2 f i 79 (by omega) (by omega)]
    rw [e1]
    iintro ⟨⟨H, HR⟩, HO⟩ Hk
    iapply (WP_pure c₀ _ K)
    iapply Hk
    isplitl [H]
    · iexact H
    isplitl [HR]
    · iexact HR
    iexists W
    iexact HO

/-- The ring after point `t` is the ring before the next. -/
theorem ring_next :
    iprop(Idle c₀ arg2 arg5 arg11 f (slotN i) (slotN_lt i) (blkI c₀ arg2 f i) ∗ RestRing c₀ arg2 arg5 arg11 f (i 0).val)
      ⊢ PreRing c₀ arg2 arg5 arg11 f ((i 0).val + 1) := by
  have hc := coord_lt i
  unfold RestRing PreRing
  by_cases h78 : (i 0).val < 78
  · rw [dif_pos h78, dif_pos (by omega)]
    iintro ⟨H, H1, H2⟩
    isplitl [H1]
    · iexact H1
    isplitl [H2]
    · iexact H2
    rw [rest_congr c₀ arg2 arg5 arg11 f _ (slotN_lt i) (by rw [slotN_eq]; omega)]
    unfold Rest
    iexists _
    iexact H
  rw [dif_neg h78]
  by_cases h79 : (i 0).val < 79
  · rw [dif_pos h79, dif_neg (by omega), dif_pos (by omega)]
    iintro ⟨H, H1, H2⟩
    isplitl [H1]
    · iexact H1
    isplitl [H2]
    · iexact H2
    rw [rest_congr c₀ arg2 arg5 arg11 f (k := 0) _ (slotN_lt i) (by rw [slotN_eq]; omega)]
    unfold Rest
    iexists _
    iexact H
  rw [dif_neg h79, dif_neg (by omega), dif_neg (by omega)]
  have e : Idle c₀ arg2 arg5 arg11 f (slotN i) (slotN_lt i) (blkI c₀ arg2 f i)
      = Idle c₀ arg2 arg5 arg11 f 1 (by omega) (blkX c₀ arg2 f 79 (by omega)) := by
    rw [idle_congr c₀ arg2 arg5 arg11 f _ (show 1 < 3 by omega) (by rw [slotN_eq]; omega)]
    rw [blkI_eq c₀ arg2 f i 79 (by omega) (Nat.min_eq_right (by omega))]
  rw [e]

/-! ## The buffers -/

attribute [local irreducible] startsU waitsU initU chunksU newH newFlag restAll Flight

variable (arg6 : Memref sig .tc .vmem S3x16x2x256x128 .bf16) (arg7 : Memref sig .tc .vmem S11x4x256x256 .f32)
  (arg8 : Memref sig .tc .vmem S11x8x256 .f32) (arg1 : Memref sig .tc .vmem S1x4096 .f32) (harg6 : arg6.IsWhole)
  (arg10 : Memref sig .tc .smem S1 .i32) (G : Vec F S1x4096 .f32)

/-- The kept buffers: the signed Hadamard tiles, the flag, and the rotated block with its factors. -/
def Bufs (V : Vec F S11x4x256x256 .f32) (R : Vec F S11x8x256 .f32) : sProp 𝕄 :=
  iprop(owns (c₀ : Thread nD τ) arg6 fullShare (newH G) ∗ owns (c₀ : Thread nD τ) arg10 fullShare (newFlag G)
    ∗ owns (c₀ : Thread nD τ) arg7 fullShare V ∗ owns (c₀ : Thread nD τ) arg8 fullShare R)

/-- What point `t` starts from. -/
def Entry (t : ℕ) (V : Vec F S11x4x256x256 .f32) (R : Vec F S11x8x256 .f32) : sProp 𝕄 :=
  if t = 0 then iprop((Rest c₀ arg2 arg5 arg11 f 0 (by omega) ∗ Rest c₀ arg2 arg5 arg11 f 1 (by omega) ∗ Rest c₀ arg2 arg5 arg11 f 2 (by omega))
    ∗ (∃ X, owns (c₀ : Thread nD τ) arg6 fullShare X) ∗ (∃ X, owns (c₀ : Thread nD τ) arg7 fullShare X)
    ∗ (∃ X, owns (c₀ : Thread nD τ) arg8 fullShare X) ∗ (∃ X, owns (c₀ : Thread nD τ) arg10 fullShare X))
  else iprop(PreRing c₀ arg2 arg5 arg11 f t ∗ Bufs c₀ arg6 arg7 arg8 arg10 G V R)

/-- The first point starts two blocks and builds the tiles. -/
theorem entry_stage (V : Vec F S11x4x256x256 .f32) (R : Vec F S11x8x256 .f32) (hV : (i 0).val = 0 → V = zeroV) (hR : (i 0).val = 0 → R = zeroR)
    {q : PosShare TreeShare} (K : PUnit → SP F) :
    iprop(Entry c₀ arg2 arg5 arg11 f arg6 arg7 arg8 arg10 G (i 0).val V R ∗ owns (c₀ : Thread nD τ) arg1 q G)
      ⊢ iprop((iprop(PreRing c₀ arg2 arg5 arg11 f (i 0).val ∗ Bufs c₀ arg6 arg7 arg8 arg10 G V R ∗ owns (c₀ : Thread nD τ) arg1 q G) -∗ K ⟨⟩)
        -∗ WP c₀ (entryIf i arg5 arg6 arg7 arg8 arg1 arg2 harg2 harg5 harg6 arg10 arg11) K) := by
  unfold entryIf
  by_cases h : k0_cond1 i = 1#1
  · have ht := (cond1_iff i).mp h
    rw [dif_pos h]
    obtain rfl := hV ht
    obtain rfl := hR ht
    unfold Entry PreRing Bufs
    rw [ht, if_pos rfl, dif_pos (by omega)]
    have e0 := idle_congr c₀ arg2 arg5 arg11 f (show 0 < 3 by omega) (slotB_lt 0#32 (by decide)) (by rw [slotB_eq _ (by decide)]; rfl)
    have e1 := idle_congr c₀ arg2 arg5 arg11 f (show 1 < 3 by omega) (slotB_lt 1#32 (by decide)) (by rw [slotB_eq _ (by decide)]; rfl)
    rw [← flightB_eq c₀ arg2 arg5 arg11 f 0#32 (by decide) 0 (by omega) rfl, ← flightB_eq c₀ arg2 arg5 arg11 f 1#32 (by decide) (0 + 1) (by omega) rfl]
    unfold Rest
    iintro ⟨⟨⟨⟨%X0, H0⟩, ⟨%X1, H1⟩, H2⟩, H6, H7, H8, H10⟩, HG⟩ Hk
    ihave H0 := (Entails.of_eq (e0 X0)) $$ H0
    ihave H1 := (Entails.of_eq (e1 X1)) $$ H1
    rw [WP_bind]
    iapply (startsU_wp c₀ arg2 arg5 arg11 f harg2 harg5 0#32 _ X0 _) $$ H0
    iintro H0
    rw [WP_bind]
    iapply (startsU_wp c₀ arg2 arg5 arg11 f harg2 harg5 1#32 _ X1 _) $$ H1
    iintro H1
    rw [WP_bind]
    iapply (initU_wp c₀ arg1 arg6 harg6 arg7 arg8 arg10 G _) $$ [HG H6 H7 H8 H10]
    · isplitl [HG]
      · iexact HG
      isplitl [H6]
      · iexact H6
      isplitl [H7]
      · iexact H7
      isplitl [H8]
      · iexact H8
      iexact H10
    iintro ⟨HG, H6, H7, H8, H10⟩
    iapply (WP_pure c₀ _ K)
    iapply Hk
    isplitl [H0 H1 H2]
    · isplitl [H0]
      · iexact H0
      isplitl [H1]
      · iexact H1
      iexact H2
    isplitl [H6 H7 H8 H10]
    · isplitl [H6]
      · iexact H6
      isplitl [H10]
      · iexact H10
      isplitl [H7]
      · iexact H7
      iexact H8
    iexact HG
  · have ht : ¬ (i 0).val = 0 := fun h' => h ((cond1_iff i).mpr h')
    rw [dif_neg h]
    unfold Entry
    rw [if_neg ht]
    iintro ⟨⟨HP, HB⟩, HG⟩ Hk
    iapply (WP_pure c₀ _ K)
    iapply Hk
    isplitl [HP]
    · iexact HP
    isplitl [HB]
    · iexact HB
    iexact HG

/-! ## The whole point -/

/-- The rotated tiles of this point's block: one product per tile when the signs are single bf16 terms, three otherwise. -/
def rvAt (X : Fin 8 → Vec F S2816x128 .bf16) : Fin 11 → Fin 4 → Vec F S256x256 .f32 :=
  if newFlag G at0 = 0#32 then rv1 i (newH G) X else rv3 i (newH G) X

theorem flag_yes (v : BitVec 32) : Scalar.cmpi .ne (Scalar.extui (Scalar.cmpi .eq v 0#32) : BitVec 32) 0#32 = 1#1 ↔ v = 0#32 := by
  by_cases h : v = 0#32
  · subst h; decide
  · have e : Scalar.cmpi .eq v 0#32 = 0#1 := by
      rw [Scalar.cmpi, IntOp.cmpi, show (v == 0#32) = false from beq_false_of_ne h]; rfl
    rw [e]; simp [h]; decide

theorem flag_no (v : BitVec 32) : Scalar.cmpi .ne (Scalar.extui (Scalar.cmpi .ne v 0#32) : BitVec 32) 0#32 = 1#1 ↔ v ≠ 0#32 := by
  by_cases h : v = 0#32
  · subst h; decide
  · have e : Scalar.cmpi .ne v 0#32 = 1#1 := by
      rw [Scalar.cmpi, IntOp.cmpi, show (v != 0#32) = true from bne_iff_ne.mpr h]; rfl
    rw [e]; simp [h]; decide

variable (arg3 : Memref sig .tc .vmem S1x2816x512 .i8) (harg3 : arg3.IsWhole) (arg4 : Memref sig .tc .vmem S2x8x1408 .f32)
  (arg9 : Memref sig .tc .vmem S11x2x72x128 .f32)

theorem stepIf1_yes (v : Elt F .i32) (hf : v = 0#32) :
    stepIf1 i arg3 harg3 arg4 arg5 arg6 arg7 arg8 arg9 v = (do chunksU arg3 harg3 arg4 arg7 arg8 arg9 (rotate1 i arg5 arg6) 11 (by omega); pure ⟨⟩) := if_pos ((flag_yes v).mpr hf)

theorem stepIf1_no (v : Elt F .i32) (hf : v ≠ 0#32) :
    stepIf1 i arg3 harg3 arg4 arg5 arg6 arg7 arg8 arg9 v = pure ⟨⟩ := if_neg (fun h => hf ((flag_yes v).mp h))

theorem stepIf3_yes (v : Elt F .i32) (hf : v ≠ 0#32) :
    stepIf3 i arg3 harg3 arg4 arg5 arg6 arg7 arg8 arg9 v = (do chunksU arg3 harg3 arg4 arg7 arg8 arg9 (rotate3 i arg5 arg6) 11 (by omega); pure ⟨⟩) := if_pos ((flag_no v).mpr hf)

theorem stepIf3_no (v : Elt F .i32) (hf : v = 0#32) :
    stepIf3 i arg3 harg3 arg4 arg5 arg6 arg7 arg8 arg9 v = pure ⟨⟩ := if_neg (fun h => (flag_no v).mp h hf)

/-- What the step leaves: `V`, `R` are the rotated block and factors the point found, `Z` is its own rotated block. -/
def stepPost (Z : Fin 11 → Fin 4 → Vec F S256x256 .f32) (V : Vec F S11x4x256x256 .f32) (R : Vec F S11x8x256 .f32) (Rres : sProp 𝕄) : sProp 𝕄 :=
  iprop(owns (c₀ : Thread nD τ) arg7 fullShare (newV Z) ∗ owns (c₀ : Thread nD τ) arg8 fullShare (newR Z)
    ∗ (∃ S, owns (c₀ : Thread nD τ) arg9 fullShare S)
    ∗ owns (c₀ : Thread nD τ) arg3 fullShare (newC V R) ∗ owns (c₀ : Thread nD τ) arg4 fullShare (newSc Z) ∗ Rres)

/-- Exactly one of the two steps runs. -/
theorem step_stage (X : Fin 8 → Vec F S2816x128 .bf16) (V : Vec F S11x4x256x256 .f32) (R : Vec F S11x8x256 .f32) (S : Vec F S11x2x72x128 .f32)
    (C : Vec F S1x2816x512 .i8) (Sc : Vec F S2x8x1408 .f32) (K : PUnit → SP F) :
    iprop(owns (c₀ : Thread nD τ) arg7 fullShare V ∗ owns (c₀ : Thread nD τ) arg8 fullShare R ∗ owns (c₀ : Thread nD τ) arg9 fullShare S
        ∗ owns (c₀ : Thread nD τ) arg3 fullShare C ∗ owns (c₀ : Thread nD τ) arg4 fullShare Sc
        ∗ RotRes c₀ arg5 arg6 i (newH G) X ∗ owns (c₀ : Thread nD τ) arg10 fullShare (newFlag G))
      ⊢ iprop((iprop(stepPost c₀ arg7 arg8 arg3 arg4 arg9 (rvAt i G X) V R (RotRes c₀ arg5 arg6 i (newH G) X)
            ∗ owns (c₀ : Thread nD τ) arg10 fullShare (newFlag G)) -∗ K ⟨⟩)
        -∗ WP c₀ (do
          let v15 : Elt F .i32 ← smemLoad arg10 (Rect.unit (s := S1) ![0] S1.size inb_S1_S1_0) numel1_S1 rfl
          stepIf1 i arg3 harg3 arg4 arg5 arg6 arg7 arg8 arg9 v15
          let v19 : Elt F .i32 ← smemLoad arg10 (Rect.unit (s := S1) ![0] S1.size inb_S1_S1_0) numel1_S1 rfl
          stepIf3 i arg3 harg3 arg4 arg5 arg6 arg7 arg8 arg9 v19) K) := by
  unfold stepPost
  iintro ⟨H7, H8, H9, H3, H4, HR, H10⟩ Hk
  rw [WP_bind]
  iapply (smemLoad_wp c₀ arg10 (newFlag G) _) $$ H10
  iintro H10
  by_cases hf : newFlag G at0 = 0#32
  · rw [stepIf1_yes _ _ _ _ _ _ _ _ _ _ hf, show rvAt i G X = rv1 i (newH G) X from if_pos hf]
    rw [WP_bind, WP_bind]
    iapply (step_wp c₀ arg3 harg3 arg4 arg7 arg8 arg9 (rv1 i (newH G) X) V R S C Sc (rotate1 i arg5 arg6) (RotRes c₀ arg5 arg6 i (newH G) X)
      (fun c hc j hj K => rotate1_wp c₀ arg5 arg6 i (newH G) X c hc j hj K)) $$ [H7 H8 H9 H3 H4 HR]
    · isplitl [H7]; · iexact H7
      isplitl [H8]; · iexact H8
      isplitl [H9]; · iexact H9
      isplitl [H3]; · iexact H3
      isplitl [H4]; · iexact H4
      iexact HR
    iintro H
    iapply (WP_pure c₀ _ _)
    rw [WP_bind]
    iapply (smemLoad_wp c₀ arg10 (newFlag G) _) $$ H10
    iintro H10
    rw [stepIf3_no _ _ _ _ _ _ _ _ _ _ hf]
    iapply (WP_pure c₀ _ K)
    iapply Hk
    isplitl [H]
    · iexact H
    iexact H10
  · rw [stepIf1_no _ _ _ _ _ _ _ _ _ _ hf, show rvAt i G X = rv3 i (newH G) X from if_neg hf]
    rw [WP_bind]
    iapply (WP_pure c₀ _ _)
    rw [WP_bind]
    iapply (smemLoad_wp c₀ arg10 (newFlag G) _) $$ H10
    iintro H10
    rw [stepIf3_yes _ _ _ _ _ _ _ _ _ _ hf]
    rw [WP_bind]
    iapply (step_wp c₀ arg3 harg3 arg4 arg7 arg8 arg9 (rv3 i (newH G) X) V R S C Sc (rotate3 i arg5 arg6) (RotRes c₀ arg5 arg6 i (newH G) X)
      (fun c hc j hj K => rotate3_wp c₀ arg5 arg6 i (newH G) X c hc j hj K)) $$ [H7 H8 H9 H3 H4 HR]
    · isplitl [H7]; · iexact H7
      isplitl [H8]; · iexact H8
      isplitl [H9]; · iexact H9
      isplitl [H3]; · iexact H3
      isplitl [H4]; · iexact H4
      iexact HR
    iintro H
    iapply (WP_pure c₀ _ K)
    iapply Hk
    isplitl [H]
    · iexact H
    iexact H10

/-- One grid point, from what it starts with to what the next starts with. -/
theorem point_wp (V : Vec F S11x4x256x256 .f32) (R : Vec F S11x8x256 .f32) (hV : (i 0).val = 0 → V = zeroV) (hR : (i 0).val = 0 → R = zeroR)
    {q : PosShare TreeShare} (W : Waits sig Unit) (K : PUnit → SP F) :
    iprop(Entry c₀ arg2 arg5 arg11 f arg6 arg7 arg8 arg10 G (i 0).val V R ∗ (∃ S, owns (c₀ : Thread nD τ) arg9 fullShare S)
        ∗ owns (c₀ : Thread nD τ) arg1 q G ∗ (∃ C, owns (c₀ : Thread nD τ) arg3 fullShare C) ∗ (∃ Sc, owns (c₀ : Thread nD τ) arg4 fullShare Sc)
        ∗ owes (c₀ : Thread nD τ) 0 W)
      ⊢ iprop((iprop(Entry c₀ arg2 arg5 arg11 f arg6 arg7 arg8 arg10 G ((i 0).val + 1) (newV (rvAt i G (blkI c₀ arg2 f i))) (newR (rvAt i G (blkI c₀ arg2 f i)))
            ∗ (∃ S, owns (c₀ : Thread nD τ) arg9 fullShare S) ∗ owns (c₀ : Thread nD τ) arg1 q G
            ∗ owns (c₀ : Thread nD τ) arg3 fullShare (newC V R) ∗ owns (c₀ : Thread nD τ) arg4 fullShare (newSc (rvAt i G (blkI c₀ arg2 f i)))
            ∗ ∃ W', owes (c₀ : Thread nD τ) 0 W') -∗ K ⟨⟩)
        -∗ WP c₀ (bodyU i arg3 harg3 arg4 arg5 arg6 arg7 arg8 arg9 arg1 arg2 harg2 harg5 harg6 arg10 arg11) K) := by
  iintro ⟨HE, ⟨%S, H9⟩, H1, ⟨%C, H3⟩, ⟨%Sc, H4⟩, HO⟩ Hk
  unfold bodyU
  rw [WP_bind]
  iapply (entry_stage c₀ arg2 arg5 arg11 f harg2 harg5 i arg6 arg7 arg8 arg1 harg6 arg10 G V R hV hR _) $$ [HE H1]
  · isplitl [HE]; · iexact HE
    iexact H1
  iintro ⟨HP, HB, H1⟩
  rw [WP_bind]
  iapply (starts_stage c₀ arg2 arg5 arg11 f harg2 harg5 i _) $$ HP
  iintro HP
  rw [WP_bind]
  iapply (waits_stage c₀ arg2 arg5 arg11 f harg2 harg5 i W _) $$ [HP HO]
  · isplitl [HP]; · iexact HP
    iexact HO
  unfold Idle Bufs
  icases HB with ⟨H6, H10, H7, H8⟩
  iintro ⟨⟨HS, HI⟩, HR, HO⟩
  iapply (step_stage c₀ arg5 i arg6 arg7 arg8 arg10 G arg3 harg3 arg4 arg9 (blkI c₀ arg2 f i) V R S C Sc K) $$ [H6 H7 H8 H9 H3 H4 HS H10]
  · isplitl [H7]; · iexact H7
    isplitl [H8]; · iexact H8
    isplitl [H9]; · iexact H9
    isplitl [H3]; · iexact H3
    isplitl [H4]; · iexact H4
    isplitl [H6 HS]
    · unfold RotRes
      isplitl [H6]; · iexact H6
      iexact HS
    iexact H10
  unfold stepPost RotRes
  iintro ⟨⟨H7, H8, H9, H3, H4, H6, HS⟩, H10⟩
  iapply Hk
  isplitl [H6 H7 H8 HS HI HR H10]
  · unfold Entry
    rw [if_neg (by omega)]
    isplitl [HS HI HR]
    · iapply (ring_next c₀ arg2 arg5 arg11 f i)
      unfold Idle
      isplitr [HR]
      · isplitl [HS]; · iexact HS
        iexact HI
      iexact HR
    unfold Bufs
    isplitl [H6]; · iexact H6
    isplitl [H10]; · iexact H10
    isplitl [H7]; · iexact H7
    iexact H8
  isplitl [H9]; · iexact H9
  isplitl [H1]; · iexact H1
  isplitl [H3]; · iexact H3
  isplitl [H4]; · iexact H4
  iexact HO

end Cert.KernelIdeal.Gen

end
-- ==== Proof.KI.Slots.lean ====
module

public import proofs.«01_k».proof.Proof.KI.State

/-! The ring buffer as its 24 slabs, and the array it is filled from as the shares the slots read through. -/

@[expose] public section

noncomputable section

namespace Cert.KernelIdeal.Gen

open Cert.KernelIdeal K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

variable (c₀ : Dev nD)

/-- The ring buffer. -/
abbrev ringM : Memref sig .tc .vmem S3x8x2816x128 .bf16 := Memref.whole cc0_scratch0

/-- Where the ring buffer lies. -/
abbrev ringLoc : Loc nD τ sig := (c₀ : Thread nD τ).loc cc0_scratch0

/-- The elements of slab `x.2` of slot `x.1`. -/
def slabEls (x : Fin 3 × Fin 8) : Finset (Idx (ringLoc c₀)) := (dstView ringM x.1.val x.1.isLt x.2.val x.2.isLt).view.set

theorem mem_slabEls (x : Fin 3 × Fin 8) (y : S3x8x2816x128.Idx) : y ∈ slabEls c₀ x ↔ (y 0).val = x.1.val ∧ (y 1).val = x.2.val := by
  have e : slabEls c₀ x = (Rect.unit (s := S3x8x2816x128) ![x.1.val, x.2.val, 0, 0] S1x1x2816x128.size (inbDst x.1.val x.1.isLt x.2.val x.2.isLt)).set := by
    unfold slabEls dstView
    rw [Memref.set_view_squeeze]
    exact (View.set_slice _ _).trans (Finset.map_refl)
  rw [e, mem_unit]
  have h2 : (y 2).val < 2816 := (y 2).isLt
  have h3 : (y 3).val < 128 := (y 3).isLt
  simp [Fin.forall_fin_succ, S1x1x2816x128]
  omega

theorem slabEls_disjoint (x y : Fin 3 × Fin 8) (h : x ≠ y) : Disjoint (slabEls c₀ x) (slabEls c₀ y) := by
  refine Finset.disjoint_left.mpr fun z hx hy => h ?_
  have h1 := (mem_slabEls c₀ x z).mp hx
  have h2 := (mem_slabEls c₀ y z).mp hy
  exact Prod.ext (Fin.ext (by omega)) (Fin.ext (by omega))

theorem slabEls_all : (Finset.univ : Finset (Fin 3 × Fin 8)).biUnion (slabEls c₀) = Finset.univ := by
  refine Finset.eq_univ_iff_forall.mpr fun z => Finset.mem_biUnion.mpr ⟨(⟨(z 0).val, (z 0).isLt⟩, ⟨(z 1).val, (z 1).isLt⟩), Finset.mem_univ _, ?_⟩
  exact (mem_slabEls c₀ _ z).mpr ⟨rfl, rfl⟩

theorem bigSep_pairs {M I J : Type} [URA M] (s : Finset I) (t : Finset J) (Φ : I × J → sProp M) :
    bigSep (s ×ˢ t) Φ = bigSep s fun i => bigSep t fun j => Φ (i, j) := by
  classical
  induction s using Finset.induction_on with
  | empty => rw [Finset.empty_product]; rfl
  | insert a s ha ih =>
    have hdisj : Disjoint (({a} : Finset I) ×ˢ t) (s ×ˢ t) := Finset.disjoint_product.mpr (.inl (Finset.disjoint_singleton_left.mpr ha))
    rw [BI.bigSep_insert ha, Finset.insert_eq, Finset.union_product, BI.bigSep_union hdisj, ih, Finset.singleton_product, BI.bigSep_map]
    rfl

theorem three {M : Type} [URA M] (Φ : Fin 3 → sProp M) : bigSep Finset.univ Φ = iprop(Φ 0 ∗ Φ 1 ∗ Φ 2) :=
  bigSep_univ_eq_bigSepL [(0 : Fin 3), (1 : Fin 3), (2 : Fin 3)] (by decide) (by decide) Φ

theorem four {M : Type} [URA M] (Φ : Fin 4 → sProp M) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The slabs of one slot, at something. -/
def slotAny (k : Fin 3) : sProp 𝕄 := iprop(∃ X, slabs c₀ ringM k.val k.isLt X)

theorem slot_open (f : Buf (Elt F) (ringLoc c₀)) (k : Fin 3) :
    (bigSep Finset.univ fun j : Fin 8 => (ringLoc c₀ ↦[slabEls c₀ (k, j)]{fullShare} f : sProp 𝕄)) ⊢ slotAny c₀ k := by
  unfold slotAny slabs
  iintro H
  iexists fun j => (dstView ringM k.val k.isLt j.val j.isLt).view.read (Elt F) f
  have h : (bigSep Finset.univ fun j : Fin 8 => (ringLoc c₀ ↦[slabEls c₀ (k, j)]{fullShare} f : sProp 𝕄))
      ⊢ bigSep Finset.univ fun j : Fin 8 => owns (c₀ : Thread nD τ) (dstView ringM k.val k.isLt j.val j.isLt) fullShare
        ((dstView ringM k.val k.isLt j.val j.isLt).view.read (Elt F) f) :=
    bigSep_mono fun j _ => owns_intro (c₀ : Thread nD τ) (dstView ringM k.val k.isLt j.val j.isLt) fullShare f
  iapply h
  iexact H

/-- The ring buffer is its slots. -/
theorem ring_open (f : Buf (Elt F) (ringLoc c₀)) :
    (ringLoc c₀ ↦{fullShare} f : sProp 𝕄) ⊢ iprop(slotAny c₀ 0 ∗ slotAny c₀ 1 ∗ slotAny c₀ 2) := by
  rw [← slabEls_all c₀, pointsTo_biUnion Finset.univ (slabEls c₀) (fun x _ y _ h => slabEls_disjoint c₀ x y h),
    ← Finset.univ_product_univ, bigSep_pairs, ← three]
  exact bigSep_mono fun k _ => slot_open c₀ f k

theorem slab_close (k : Fin 3) (j : Fin 8) (X : Vec F S2816x128 .bf16) :
    (owns (c₀ : Thread nD τ) (dstView ringM k.val k.isLt j.val j.isLt) fullShare X : sProp 𝕄)
      ⊢ iprop(∃ g : Buf (Elt F) (ringLoc c₀), ringLoc c₀ ↦[slabEls c₀ (k, j)]{fullShare} g) := by
  unfold owns
  iintro ⟨%g, -, H⟩
  iexists g
  iexact H

theorem slot_close (k : Fin 3) :
    slotAny (F := F) c₀ k ⊢ bigSep Finset.univ fun j : Fin 8 => (iprop(∃ g : Buf (Elt F) (ringLoc c₀), ringLoc c₀ ↦[slabEls c₀ (k, j)]{fullShare} g) : sProp 𝕄) := by
  unfold slotAny slabs
  iintro ⟨%X, H⟩
  have h : (bigSep Finset.univ fun j : Fin 8 => owns (c₀ : Thread nD τ) (dstView ringM k.val k.isLt j.val j.isLt) fullShare (X j) : sProp 𝕄)
      ⊢ bigSep Finset.univ fun j : Fin 8 => iprop(∃ g : Buf (Elt F) (ringLoc c₀), ringLoc c₀ ↦[slabEls c₀ (k, j)]{fullShare} g) :=
    bigSep_mono fun j _ => slab_close c₀ k j (X j)
  iapply h
  iexact H

/-- And back, at something. -/
theorem ring_close : iprop(slotAny (F := F) c₀ 0 ∗ slotAny c₀ 1 ∗ slotAny c₀ 2) ⊢ (iprop(∃ f, ringLoc c₀ ↦{fullShare} f) : sProp 𝕄) := by
  rw [← three]
  have h1 : (bigSep Finset.univ (slotAny (F := F) c₀) : sProp 𝕄)
      ⊢ bigSep Finset.univ fun x : Fin 3 × Fin 8 => iprop(∃ g : Buf (Elt F) (ringLoc c₀), ringLoc c₀ ↦[slabEls c₀ x]{fullShare} g) := by
    rw [← Finset.univ_product_univ, bigSep_pairs]
    exact bigSep_mono fun k _ => slot_close c₀ k
  refine h1.trans ((bigSep_exists_pi Finset.univ _).trans ?_)
  iintro ⟨%g, H⟩
  have h2 := pointsTo_biUnion_join (Ix := Unit) (Name := ℕ) (U := Pipeline.UD sig nD τ) (Lvl := ℕ) (q := fullShare) Finset.univ (slabEls c₀) g (g (0, 0))
    (fun x _ y _ h => slabEls_disjoint c₀ x y h)
  rw [slabEls_all] at h2
  ihave H := h2 $$ H
  icases H with ⟨%w, -, H⟩
  iexists w
  iexact H

end Cert.KernelIdeal.Gen

end
-- ==== Proof.KI.Body.lean ====
module

public import proofs.«01_k».proof.Proof.KI.Pieces
public import Idealize.ShloMosaic.Lib.Tactic

/-! The printed body of a grid point is the body in pieces: the same operations in the same order. -/

@[expose] public section

namespace Cert.KernelIdeal.Gen

open Idealize.ShloMosaic Idealize.SL.Sem
open Cert.KernelIdeal K0.Facts₀ Shapes1.Facts₀

variable {F : FTy → Type} [FloatOps F]

theorem body_eq (i : grid0.Coords) (arg1 : Memref sig .tc .vmem S1x4096 .f32) (harg1 : arg1.IsWhole) (arg2 : Memref sig .tc .hbm S20x2816x4096 .bf16) (harg2 : arg2.IsWhole) (arg3 : Memref sig .tc .vmem S1x2816x512 .i8) (harg3 : arg3.IsWhole) (arg4 : Memref sig .tc .vmem S2x8x1408 .f32) (harg4 : arg4.IsWhole) (arg5 : Memref sig .tc .vmem S3x8x2816x128 .bf16) (harg5 : arg5.IsWhole) (arg6 : Memref sig .tc .vmem S3x16x2x256x128 .bf16) (harg6 : arg6.IsWhole) (arg7 : Memref sig .tc .vmem S11x4x256x256 .f32) (harg7 : arg7.IsWhole) (arg8 : Memref sig .tc .vmem S11x8x256 .f32) (harg8 : arg8.IsWhole) (arg9 : Memref sig .tc .vmem S11x2x72x128 .f32) (harg9 : arg9.IsWhole) (arg10 : Memref sig .tc .smem S1 .i32) (harg10 : arg10.IsWhole) (arg11 : DmaSems sig S3) :
    cc0_hadamard_int4_fold (F := F) i arg1 harg1 arg2 harg2 arg3 harg3 arg4 harg4 arg5 harg5 arg6 harg6 arg7 harg7 arg8 harg8 arg9 harg9 arg10 harg10 arg11
      = bodyV i arg3 harg3 arg4 arg5 arg6 arg7 arg8 arg9 arg1 arg2 harg2 harg5 harg6 arg10 arg11 := by
  sl_kernel_rfl

/-- The branches as pieces of their own. -/
theorem bodyV_eq (i : grid0.Coords) (arg1 : Memref sig .tc .vmem S1x4096 .f32) (arg2 : Memref sig .tc .hbm S20x2816x4096 .bf16) (harg2 : arg2.IsWhole) (arg3 : Memref sig .tc .vmem S1x2816x512 .i8) (harg3 : arg3.IsWhole) (arg4 : Memref sig .tc .vmem S2x8x1408 .f32) (arg5 : Memref sig .tc .vmem S3x8x2816x128 .bf16) (harg5 : arg5.IsWhole) (arg6 : Memref sig .tc .vmem S3x16x2x256x128 .bf16) (harg6 : arg6.IsWhole) (arg7 : Memref sig .tc .vmem S11x4x256x256 .f32) (arg8 : Memref sig .tc .vmem S11x8x256 .f32) (arg9 : Memref sig .tc .vmem S11x2x72x128 .f32) (arg10 : Memref sig .tc .smem S1 .i32) (arg11 : DmaSems sig S3) :
    bodyV (F := F) i arg3 harg3 arg4 arg5 arg6 arg7 arg8 arg9 arg1 arg2 harg2 harg5 harg6 arg10 arg11
      = bodyU i arg3 harg3 arg4 arg5 arg6 arg7 arg8 arg9 arg1 arg2 harg2 harg5 harg6 arg10 arg11 := by
  have e1 {c : Prop} [Decidable c] {a b : TCProg F PUnit} {k : PUnit → TCProg F PUnit} :
      ((if c then a else b) >>= k) = if c then a >>= k else b >>= k := by split <;> rfl
  have e2 {c : Prop} [Decidable c] {a : c → TCProg F PUnit} {b : ¬ c → TCProg F PUnit} {k : PUnit → TCProg F PUnit} :
      ((if h : c then a h else b h) >>= k) = if h : c then a h >>= k else b h >>= k := by split <;> rfl
  unfold bodyV bodyU entryIf startsIf waitsIf stepIf1 stepIf3
  simp only [e1, e2, Prog.bind_assoc, pure_bind]

end Cert.KernelIdeal.Gen
-- ==== Proof.KI.Data.lean ====
module

public import proofs.«01_k».proof.Proof.KI.State
public import proofs.«01_k».proof.Proof.KI.Slots
public import proofs.«01_k».proof.Proof.KI.Body
public import proofs.«01_k».proof.Proof.Gen.KernelIdeal.Frame

/-! The proof data of the one pipeline: what every buffer holds between two points, and that the body keeps it. -/

@[expose] public section

noncomputable section

namespace Cert.KernelIdeal.Gen

open Cert.KernelIdeal K0.Facts₀ Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

/-- The resources of the proof. -/
local notation "𝕄" => MT nD τ sig Unit (Elt F) ℕ (Pipeline.UD sig nD τ) ℕ

variable (m : (ℓ : Loc nD τ sig) → Buf (Elt F) ℓ) (ρ : Dev nD → PrngReg) (c : Dev nD)

/-- The array in HBM and the scratch buffers. -/
abbrev arrM : Memref sig .tc .hbm S20x2816x4096 .bf16 := Memref.whole main_v1
abbrev hadM : Memref sig .tc .vmem S3x16x2x256x128 .bf16 := Memref.whole cc0_scratch1
abbrev rotM : Memref sig .tc .vmem S11x4x256x256 .f32 := Memref.whole cc0_scratch2
abbrev facM : Memref sig .tc .vmem S11x8x256 .f32 := Memref.whole cc0_scratch3
abbrev maxM : Memref sig .tc .vmem S11x2x72x128 .f32 := Memref.whole cc0_scratch4
abbrev flagM : Memref sig .tc .smem S1 .i32 := Memref.whole cc0_scratch5
abbrev semM : DmaSems sig S3 := cc0_scratch6

/-- What the array in HBM holds. -/
abbrev arrV : Buf (Elt F) ((arrM).view.loc (c : Thread nD τ)) := V m c main_v1

/-- The signs. -/
def signsV : Vec F S1x4096 .f32 := iblk m c 0 ⟨0, by decide⟩

theorem signs_block (t : Fin cfg0.N) : iblk m c 0 t = signsV m c := rfl

theorem coords_val : ∀ t : Fin grid0.N, ((grid0.coords t) 0).val = t.val := by decide +kernel

/-- The coordinates of point `t`. -/
def coordsN (t : ℕ) : grid0.Coords := grid0.coords ⟨min t 80, by rw [N_0]; omega⟩

theorem coordsN_eq (t : Fin cfg0.N) : coordsN t.val = grid0.coords t := by
  have h : t.val < 81 := N_0 ▸ t.isLt
  unfold coordsN
  congr 1
  exact Fin.ext (Nat.min_eq_left (by omega))

/-- The rotated block of point `t`. -/
def rotAt (t : ℕ) : Fin 11 → Fin 4 → Vec F S256x256 .f32 := rvAt (coordsN t) (signsV m c) (blkI c arrM (arrV m c) (coordsN t))

/-- The rotated block held before point `t`. -/
def Vat : ℕ → Vec F S11x4x256x256 .f32
  | 0 => zeroV
  | t + 1 => newV (rotAt m c t)
/-- Its factors. -/
def Rat : ℕ → Vec F S11x8x256 .f32
  | 0 => zeroR
  | t + 1 => newR (rotAt m c t)

/-- The share of the array that no slot reads through. -/
def spare : sProp 𝕄 := (arrM).view.loc (c : Thread nD τ) ↦[Finset.univ]{leaf 2 fullShare (3 : Fin 4)} arrV m c

/-- What the buffers hold before point `t`. -/
def PhiAt (t : ℕ) : sProp 𝕄 :=
  iprop(Entry c arrM ringM semM (arrV m c) hadM rotM facM flagM (signsV m c) t (Vat m c t) (Rat m c t)
    ∗ (∃ S, owns (c : Thread nD τ) maxM fullShare S) ∗ (∃ r, prngReg c r) ∗ spare m c)

/-- The proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => newC (Vat m c t.val) (Rat m c t.val)
    | ⟨2, _⟩ => newSc (rotAt m c t.val)
  Φ t := PhiAt m c t.val
  q _ := fullShare
  owed _ := 0

theorem A_eq (c : Dev nD) (w : Fin cfg0.W) : (dats m 0 c).A w = V m c (Pipeline.arrRef spec0 w) := by dsimp only [dats]
theorem after0_0 (t : Fin cfg0.N) : (dats m 0 c).after 0 t = iblk m c 0 t := by dsimp only [dats]
theorem after0_1 (t : Fin cfg0.N) : (dats m 0 c).after 1 t = newC (Vat m c t.val) (Rat m c t.val) := by dsimp only [dats]
theorem after0_2 (t : Fin cfg0.N) : (dats m 0 c).after 2 t = newSc (rotAt m c t.val) := by dsimp only [dats]

theorem before0_0 (t : Fin cfg0.N) (d) : (dats m 0 c).before 0 t d = signsV m c :=
  (((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)).trans (signs_block m c t)

/-! ## The body -/

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem Vat_zero (t : Fin cfg0.N) (h : ((grid0.coords t) 0).val = 0) : Vat m c t.val = zeroV := by
  rw [coords_val] at h; rw [h]; rfl
theorem Rat_zero (t : Fin cfg0.N) (h : ((grid0.coords t) 0).val = 0) : Rat m c t.val = zeroR := by
  rw [coords_val] at h; rw [h]; rfl

theorem rotAt_eq (t : Fin cfg0.N) : rotAt m c t.val = rvAt (grid0.coords t) (signsV m c) (blkI c arrM (arrV m c) (grid0.coords t)) := by
  rw [← coordsN_eq t]; rfl
theorem Vat_succ (t : Fin cfg0.N) : Vat m c (t.val + 1) = newV (rvAt (grid0.coords t) (signsV m c) (blkI c arrM (arrV m c) (grid0.coords t))) := by
  rw [← rotAt_eq]; rfl
theorem Rat_succ (t : Fin cfg0.N) : Rat m c (t.val + 1) = newR (rvAt (grid0.coords t) (signsV m c) (blkI c arrM (arrV m c) (grid0.coords t))) := by
  rw [← rotAt_eq]; rfl

attribute [local irreducible] bodyU rvAt newC newSc newV newR blkI Entry signsV Vat Rat in
theorem sound_body (t : Fin cfg0.N) :
    bodyPre m c t ⊢ wp frame (wpE (defs₀ (F := F)) Variants.none c none) Set.univ (bodyAt0 t) (fun _ => bodyPost m c t) := by
  have ht : (t : Fin grid0.N).val = ((grid0.coords t) 0).val := (coords_val t).symm
  unfold bodyPre bodyPost bodyAt0
  rw [body_eq, bodyV_eq, after0_0, after0_1, after0_2, signs_block]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  unfold PhiAt
  rw [Vat_succ, Rat_succ, rotAt_eq]
  iintro ⟨⟨HE, H9, Hg, Hs⟩, ⟨%W, -, HO⟩, ⟨%d0, H1⟩, ⟨%d1, H3⟩, ⟨%d2, H4⟩⟩
  rw [before0_0]
  have h := fun K => point_wp c arrM ringM semM (arrV m c) (Memref.isWhole_whole _) (Memref.isWhole_whole _) (grid0.coords t) hadM rotM facM
    (st0_0 t) (Memref.isWhole_whole _) flagM (signsV m c) (st0_1 t) (hstage0_1 ((cfg0.slots t 1).cast nbuf0_1)) (st0_2 t) maxM
    (Vat m c t.val) (Rat m c t.val) (Vat_zero m c t) (Rat_zero m c t) (q := fullShare) W K
  rw [← ht] at h
  iapply (h _) $$ [HE H9 H1 H3 H4 HO]
  · isplitl [HE]; · iexact HE
    isplitl [H9]; · iexact H9
    isplitl [H1]; · iexact H1
    isplitl [H3]; · iexists _; iexact H3
    isplitl [H4]; · iexists _; iexact H4
    iexact HO
  iintro ⟨HE, H9, H1, H3, H4, ⟨%W', HO⟩⟩
  isplitl [HE H9 Hg Hs]
  · isplitl [HE]; · iexact HE
    isplitl [H9]; · iexact H9
    isplitl [Hg]; · iexact Hg
    iexact Hs
  isplitl [HO]
  · iexists W'; isplitr; · ipureintro; exact fun _ _ => Or.inl trivial
    iexact HO
  isplitl [H1]; · iexact H1
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## What the pipeline is entered with and leaves -/

/-- The kernel's own semaphores. -/
abbrev osem0 : Fin 3 → SemLoc sig := fun k => slotSem semM k.val k.isLt
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(semVal ((c : Thread nD τ), osem0 0) 0 ∗ semVal ((c : Thread nD τ), osem0 1) 0 ∗ semVal ((c : Thread nD τ), osem0 2) 0) := by
  rw [Pipeline.ownSems0_eq_of_list c osem0 [0, 1, 2] (by decide) (by decide)]; rfl

/-- The arrays the kernel reads by its own copies. -/
def H0 : Finset (Ref sig .tc) := {main_v1}
theorem H0_sub : H0 ⊆ Pipeline.restRefs sig spec0 := by decide
theorem arrPts_eq : (bigSep H0 (fun b => ((c : Thread nD τ).loc b) ↦{fullShare} V m c b) : sProp 𝕄)
      = (((c : Thread nD τ).loc main_v1) ↦{fullShare} V m c main_v1) := BI.bigSep_singleton

/-- The array is the shares of the slots and the spare one. -/
theorem arr_split : (((c : Thread nD τ).loc main_v1) ↦{fullShare} V m c main_v1 : sProp 𝕄)
    = iprop(((arrM).view.loc (c : Thread nD τ) ↦[Finset.univ]{slotShare 0 (by omega)} arrV m c)
      ∗ ((arrM).view.loc (c : Thread nD τ) ↦[Finset.univ]{slotShare 1 (by omega)} arrV m c)
      ∗ ((arrM).view.loc (c : Thread nD τ) ↦[Finset.univ]{slotShare 2 (by omega)} arrV m c) ∗ spare m c) := by
  have h := pointsTo_leaves (Ix := Unit) (Name := ℕ) (U := Pipeline.UD sig nD τ) (Lvl := ℕ) (ℓ := (arrM).view.loc (c : Thread nD τ)) Finset.univ (arrV m c) 2 fullShare
  exact h.trans (four _)

/-- Slots at rest are the ring buffer, the semaphores and the shares. -/
theorem rests_intro :
    iprop((∃ f, ringLoc c ↦{fullShare} f)
        ∗ (semVal ((c : Thread nD τ), osem0 0) 0 ∗ semVal ((c : Thread nD τ), osem0 1) 0 ∗ semVal ((c : Thread nD τ), osem0 2) 0)
        ∗ (((c : Thread nD τ).loc main_v1) ↦{fullShare} V m c main_v1))
      ⊢ (iprop((Rest c arrM ringM semM (arrV m c) 0 (by omega) ∗ Rest c arrM ringM semM (arrV m c) 1 (by omega) ∗ Rest c arrM ringM semM (arrV m c) 2 (by omega))
        ∗ spare m c) : sProp 𝕄) := by
  rw [arr_split]
  iintro ⟨⟨%f, HR⟩, ⟨S0, S1, S2⟩, A0, A1, A2, A3⟩
  ihave HR := (ring_open c f) $$ HR
  unfold slotAny Rest Idle
  icases HR with ⟨⟨%X0, R0⟩, ⟨%X1, R1⟩, ⟨%X2, R2⟩⟩
  isplitr [A3]
  · isplitl [R0 S0 A0]
    · iexists X0
      isplitl [R0]; · iexact R0
      isplitl [S0]; · iexact S0
      iexact A0
    isplitl [R1 S1 A1]
    · iexists X1
      isplitl [R1]; · iexact R1
      isplitl [S1]; · iexact S1
      iexact A1
    iexists X2
    isplitl [R2]; · iexact R2
    isplitl [S2]; · iexact S2
    iexact A2
  iexact A3

theorem rests_elim :
    (iprop((Rest c arrM ringM semM (arrV m c) 0 (by omega) ∗ Rest c arrM ringM semM (arrV m c) 1 (by omega) ∗ Rest c arrM ringM semM (arrV m c) 2 (by omega))
        ∗ spare m c) : sProp 𝕄)
      ⊢ iprop((∃ f, ringLoc c ↦{fullShare} f)
        ∗ (semVal ((c : Thread nD τ), osem0 0) 0 ∗ semVal ((c : Thread nD τ), osem0 1) 0 ∗ semVal ((c : Thread nD τ), osem0 2) 0)
        ∗ (((c : Thread nD τ).loc main_v1) ↦{fullShare} V m c main_v1)) := by
  rw [arr_split]
  unfold Rest Idle
  iintro ⟨⟨⟨%X0, R0, S0, A0⟩, ⟨%X1, R1, S1, A1⟩, ⟨%X2, R2, S2, A2⟩⟩, A3⟩
  isplitl [R0 R1 R2]
  · iapply (ring_close c)
    unfold slotAny
    isplitl [R0]; · iexists X0; iexact R0
    isplitl [R1]; · iexists X1; iexact R1
    iexists X2; iexact R2
  isplitl [S0 S1 S2]
  · isplitl [S0]; · iexact S0
    isplitl [S1]; · iexact S1
    iexact S2
  isplitl [A0]; · iexact A0
  isplitl [A1]; · iexact A1
  isplitl [A2]; · iexact A2
  iexact A3

theorem scoped_eq : (Pipeline.scopedRest (Ix := Unit) (Name := ℕ) (U := Pipeline.UD sig nD τ) (Lvl := ℕ) (Val := Elt F) spec0 c : sProp 𝕄)
    = iprop((∃ f, ringLoc c ↦{fullShare} f) ∗ (∃ X, owns (c : Thread nD τ) hadM fullShare X) ∗ (∃ X, owns (c : Thread nD τ) rotM fullShare X)
      ∗ (∃ X, owns (c : Thread nD τ) facM fullShare X) ∗ (∃ X, owns (c : Thread nD τ) maxM fullShare X) ∗ (∃ X, owns (c : Thread nD τ) flagM fullShare X)) := by
  rw [scopedRest0_eq]
  simp only [owns_whole]
  rfl

theorem phi_in : Pipeline.ΦD osem0 spec0 H0 (fun c b => V m c b) c ⊢ (dats m 0 c).Φ 0 := by
  rw [show (dats m 0 c).Φ 0 = PhiAt m c 0 from rfl, Pipeline.ΦD_eq, ownSems00_eq, arrPts_eq, scoped_eq]
  unfold PhiAt Entry
  rw [if_pos rfl]
  iintro ⟨⟨H5, H6, H7, H8, H9, H10⟩, Hg, HS, HA⟩
  ihave H := (rests_intro m c) $$ [H5 HS HA]
  · isplitl [H5]; · iexact H5
    isplitl [HS]; · iexact HS
    iexact HA
  icases H with ⟨HR, Hsp⟩
  isplitl [HR H6 H7 H8 H10]
  · isplitl [HR]; · iexact HR
    isplitl [H6]; · iexact H6
    isplitl [H7]; · iexact H7
    isplitl [H8]; · iexact H8
    iexact H10
  isplitl [H9]; · iexact H9
  isplitl [Hg]; · iexact Hg
  iexact Hsp

theorem phi_out : (dats m 0 c).Φ (Fin.last cfg0.N) ⊢ Pipeline.ΦD osem0 spec0 H0 (fun c b => V m c b) c := by
  rw [show (dats m 0 c).Φ (Fin.last cfg0.N) = PhiAt m c 81 from congrArg (PhiAt m c) N_0, Pipeline.ΦD_eq, ownSems00_eq, arrPts_eq, scoped_eq]
  unfold PhiAt Entry PreRing Bufs
  rw [if_neg (by omega), dif_neg (by omega), dif_neg (by omega)]
  iintro ⟨⟨⟨R1, R2, R0⟩, H6, H10, H7, H8⟩, H9, Hg, Hsp⟩
  ihave H := (rests_elim m c) $$ [R0 R1 R2 Hsp]
  · isplitr [Hsp]
    · isplitl [R0]; · iexact R0
      isplitl [R1]
      · unfold Rest
        iexists _
        iexact R1
      iexact R2
    iexact Hsp
  icases H with ⟨HR, HS, HA⟩
  isplitl [HR H6 H7 H8 H9 H10]
  · isplitl [HR]; · iexact HR
    isplitl [H6]; · iexists _; iexact H6
    isplitl [H7]; · iexists _; iexact H7
    isplitl [H8]; · iexists _; iexact H8
    isplitl [H9]; · iexact H9
    iexists _; iexact H10
  isplitl [Hg]; · iexact Hg
  isplitl [HS]; · iexact HS
  iexact HA

/-! ## The run -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  obtain rfl : b = main_v1 := Finset.mem_singleton.mp hb
  simp only [hostOps1, List.mem_cons, List.mem_nil_iff, or_false] at hop
  rcases hop with rfl | rfl
  all_goals simp only [StableHlo.reshape_bufs, StableHlo.unary_bufs, Finset.mem_insert, Finset.mem_singleton, not_or]
  all_goals exact ⟨StableHlo.devRef_ne_of_ne (by decide), StableHlo.devRef_ne_of_ne (by decide)⟩

theorem W_main_arg0D : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1D : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m) (hin := phi_in m) (hout := phi_out m) (Q' := _) (hQ' := fun _ h => h)

/-- The frame: the program ends, its arguments are as launched and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(((h.1 c).2 main_arg0 (Pipeline.mem_restRefs_of main_arg0 (by decide) (by decide))).trans (W_main_arg0D m c)),
      (((h.1 c).2 main_arg1 (Pipeline.mem_restRefs_of main_arg1 (by decide) (by decide))).trans (W_main_arg1D m c))⟩, h.2⟩) (run_main m ρ)

end Cert.KernelIdeal.Gen

end
-- ==== Proof.Val.Spec.lean ====
module

public import Idealize.ShloMosaic.Lib.Pointwise

/-! What the two programs compute, over the reals: the signed Hadamard sum of a group, its scale and its codes. -/

@[expose] public section

noncomputable section

namespace Cert.Val

open Idealize.ShloMosaic

/-! ## The Hadamard signs -/

/-- The sign of channel `i` and source `k` over their lowest `b` bits: `-1` to the number of bits they share. -/
def sg : ℕ → ℕ → ℕ → ℤ
  | 0, _, _ => 1
  | b + 1, i, k => sg b i k * if i / 2 ^ b % 2 = 1 ∧ k / 2 ^ b % 2 = 1 then -1 else 1

/-- `b` butterfly stages of a row. -/
def fw (x : ℕ → ℝ) : ℕ → ℕ → ℝ
  | 0, i => x i
  | b + 1, i => if i / 2 ^ b % 2 = 1 then fw x b (i - 2 ^ b) - fw x b i else fw x b i + fw x b (i + 2 ^ b)

theorem sg_congr (b : ℕ) {i i' k k' : ℕ} (hi : i % 2 ^ b = i' % 2 ^ b) (hk : k % 2 ^ b = k' % 2 ^ b) : sg b i k = sg b i' k' := by
  induction b with
  | zero => rfl
  | succ b ih =>
    have e : ∀ {a a' : ℕ}, a % 2 ^ (b + 1) = a' % 2 ^ (b + 1) → a % 2 ^ b = a' % 2 ^ b ∧ a / 2 ^ b % 2 = a' / 2 ^ b % 2 := by
      intro a a' h
      refine ⟨?_, ?_⟩
      · have := congrArg (· % 2 ^ b) h
        simpa [Nat.mod_mod_of_dvd _ (pow_dvd_pow 2 (Nat.le_succ b))] using this
      · have := congrArg (· / 2 ^ b) h
        simpa [pow_succ, Nat.mod_mul_right_div_self] using this
    unfold sg
    rw [ih (e hi).1 (e hk).1, (e hi).2, (e hk).2]

/-- The butterfly stages compute the signed sum. -/
theorem fw_eq (x : ℕ → ℝ) (b i : ℕ) : fw x b i = ∑ k ∈ Finset.range (2 ^ b), (sg b i k : ℝ) * x (i - i % 2 ^ b + k) := by
  induction b generalizing i with
  | zero => simp [fw, sg, Nat.mod_one]
  | succ b ih =>
    have hp : 0 < 2 ^ b := by positivity
    have hm : i % 2 ^ (b + 1) = i % 2 ^ b + 2 ^ b * (i / 2 ^ b % 2) := by rw [pow_succ, Nat.mod_mul]
    have hle : i % 2 ^ b ≤ i := Nat.mod_le _ _
    have hdm := Nat.div_add_mod i (2 ^ b)
    have lo : ∀ k ∈ Finset.range (2 ^ b), ¬ (k / 2 ^ b % 2 = 1) := by
      intro k hk
      rw [Nat.div_eq_of_lt (Finset.mem_range.mp hk)]; omega
    have hi' : ∀ k ∈ Finset.range (2 ^ b), (2 ^ b + k) / 2 ^ b % 2 = 1 := by
      intro k hk
      rw [Nat.add_div_left _ hp, Nat.div_eq_of_lt (Finset.mem_range.mp hk)]
    have ek : ∀ k, (2 ^ b + k) % 2 ^ b = k % 2 ^ b := fun k => Nat.add_mod_left _ _
    rw [pow_succ, mul_two, Finset.sum_range_add, ← mul_two, ← pow_succ]
    unfold fw
    by_cases h : i / 2 ^ b % 2 = 1
    · rw [if_pos h, ih, ih, sub_eq_add_neg, ← Finset.sum_neg_distrib]
      have h1 : 2 ^ b ≤ i := by
        by_contra hc
        rw [Nat.div_eq_of_lt (by omega)] at h; omega
      have hs : (i - 2 ^ b) % 2 ^ b = i % 2 ^ b := (Nat.mod_eq_sub_mod h1).symm
      rw [h, mul_one] at hm
      refine congrArg₂ (· + ·) (Finset.sum_congr rfl fun k hk => ?_) (Finset.sum_congr rfl fun k hk => ?_)
      · rw [sg_congr b (i' := i) (k' := k) hs rfl, hs, hm]
        simp only [sg, if_neg (fun hh : _ ∧ _ => lo k hk hh.2), mul_one]
        rw [show i - 2 ^ b - i % 2 ^ b + k = i - (i % 2 ^ b + 2 ^ b) + k by omega]
      · simp only [sg, if_pos (And.intro h (hi' k hk))]
        rw [sg_congr b (i' := i) (k' := k) rfl (ek k)]
        have h2 : i % 2 ^ b + 2 ^ b ≤ i := by
          have : 2 ^ b * 1 ≤ 2 ^ b * (i / 2 ^ b) := Nat.mul_le_mul_left _ (Nat.div_pos h1 hp)
          omega
        rw [show i - i % 2 ^ (b + 1) + (2 ^ b + k) = i - i % 2 ^ b + k by omega]
        push_cast; ring
    · have h0 : i / 2 ^ b % 2 = 0 := by omega
      rw [if_neg h, ih, ih]
      rw [h0, mul_zero, add_zero] at hm
      have hs : (i + 2 ^ b) % 2 ^ b = i % 2 ^ b := Nat.add_mod_right _ _
      refine congrArg₂ (· + ·) (Finset.sum_congr rfl fun k hk => ?_) (Finset.sum_congr rfl fun k hk => ?_)
      · simp only [sg, if_neg (fun hh : _ ∧ _ => h hh.1), mul_one, hm]
      · rw [sg_congr b (i' := i) (k' := k) hs rfl, hs, hm]
        simp only [sg, if_neg (fun hh : _ ∧ _ => h hh.1), mul_one]
        rw [sg_congr b (i' := i) (k' := k) rfl (ek k), show i + 2 ^ b - i % 2 ^ b + k = i - i % 2 ^ b + (2 ^ b + k) by omega]

/-- The signed sum of a group of 128. -/
def had (x : Fin 128 → ℝ) (ch : ℕ) : ℝ := ∑ k : Fin 128, (sg 7 ch k.val : ℝ) * x k

/-- Seven stages on a row of groups give each group's signed sum. -/
theorem fw_seven (x : ℕ → ℝ) (i : ℕ) : fw x 7 i = had (fun k => x (i - i % 128 + k.val)) (i % 128) := by
  rw [fw_eq]
  unfold had
  rw [Finset.sum_range]
  refine Finset.sum_congr rfl fun k _ => ?_
  rw [sg_congr 7 (i := i) (i' := i % 128) (k := k.val) (k' := k.val) (by norm_num) rfl]
  norm_num

/-! ## The quantiser -/

/-- The normalising factor, as the programs' constant reads. -/
def nrm : ℝ := 11863283 * (2 : ℝ) ^ (-27 : ℤ)

theorem nrm_pos : 0 < nrm := by unfold nrm; positivity

theorem ofBits_nrm : Ideal.ofBits .f32 0x3DB504F3#32 = (nrm : EReal) := by
  have h1 : (BitVec.extractLsb' (8 + 23) 1 (0x3DB504F3#32) == 1#1) = false := by decide
  have h2 : (BitVec.extractLsb' 23 8 (0x3DB504F3#32)).toNat = 123 := by decide
  have h3 : (BitVec.extractLsb' 0 23 (0x3DB504F3#32)).toNat = 3474675 := by decide
  simp only [Ideal.ofBits, Ideal.ieee, h1, h2, h3, nrm]
  norm_num

theorem ofBits_seven : Ideal.ofBits .f32 0x40E00000#32 = ((7 : ℝ) : EReal) := by
  have h1 : (BitVec.extractLsb' (8 + 23) 1 (0x40E00000#32) == 1#1) = false := by decide
  have h2 : (BitVec.extractLsb' 23 8 (0x40E00000#32)).toNat = 129 := by decide
  have h3 : (BitVec.extractLsb' 0 23 (0x40E00000#32)).toNat = 6291456 := by decide
  simp only [Ideal.ofBits, Ideal.ieee, h1, h2, h3]
  norm_num

theorem ofBits_neg_seven : Ideal.ofBits .f32 0xC0E00000#32 = ((-7 : ℝ) : EReal) := by
  have h1 : (BitVec.extractLsb' (8 + 23) 1 (0xC0E00000#32) == 1#1) = true := by decide
  have h2 : (BitVec.extractLsb' 23 8 (0xC0E00000#32)).toNat = 129 := by decide
  have h3 : (BitVec.extractLsb' 0 23 (0xC0E00000#32)).toNat = 6291456 := by decide
  simp only [Ideal.ofBits, Ideal.ieee, h1, h2, h3]
  norm_num

theorem ofBits_one : Ideal.ofBits .f32 0x3F800000#32 = ((1 : ℝ) : EReal) := by
  have h1 : (BitVec.extractLsb' (8 + 23) 1 (0x3F800000#32) == 1#1) = false := by decide
  have h2 : (BitVec.extractLsb' 23 8 (0x3F800000#32)).toNat = 127 := by decide
  have h3 : (BitVec.extractLsb' 0 23 (0x3F800000#32)).toNat = 0 := by decide
  simp only [Ideal.ofBits, Ideal.ieee, h1, h2, h3]
  norm_num

theorem ofBits_zero : Ideal.ofBits .f32 0x00000000#32 = ((0 : ℝ) : EReal) := by
  have h1 : (BitVec.extractLsb' (8 + 23) 1 (0x00000000#32) == 1#1) = false := by decide
  have h2 : (BitVec.extractLsb' 23 8 (0x00000000#32)).toNat = 0 := by decide
  have h3 : (BitVec.extractLsb' 0 23 (0x00000000#32)).toNat = 0 := by decide
  simp only [Ideal.ofBits, Ideal.ieee, h1, h2, h3]
  norm_num

theorem ofBits_inf : Ideal.ofBits .f32 0x7F800000#32 = ⊤ := by
  have h1 : (BitVec.extractLsb' (8 + 23) 1 (0x7F800000#32) == 1#1) = false := by decide
  have h2 : (BitVec.extractLsb' 23 8 (0x7F800000#32)).toNat = 255 := by decide
  have h3 : (BitVec.extractLsb' 0 23 (0x7F800000#32)).toNat = 0 := by decide
  simp only [Ideal.ofBits, Ideal.ieee, h1, h2, h3]
  norm_num

theorem ofBits_neg_inf : Ideal.ofBits .f32 0xFF800000#32 = ⊥ := by
  have h1 : (BitVec.extractLsb' (8 + 23) 1 (0xFF800000#32) == 1#1) = true := by decide
  have h2 : (BitVec.extractLsb' 23 8 (0xFF800000#32)).toNat = 255 := by decide
  have h3 : (BitVec.extractLsb' 0 23 (0xFF800000#32)).toNat = 0 := by decide
  simp only [Ideal.ofBits, Ideal.ieee, h1, h2, h3]
  norm_num

/-- The largest magnitude of a group. -/
def amax (f : ℕ → ℝ) : ℝ := (Finset.univ : Finset (Fin 128)).sup' ⟨0, Finset.mem_univ _⟩ fun k => |f k.val|

theorem amax_nonneg (f : ℕ → ℝ) : 0 ≤ amax f :=
  (abs_nonneg (f 0)).trans (Finset.le_sup' (fun k : Fin 128 => |f k.val|) (Finset.mem_univ (0 : Fin 128)))

/-- The scale of a group. -/
def scl (f : ℕ → ℝ) : ℝ := if amax f * nrm = 0 then 1 else amax f * nrm / 7

theorem scl_pos (f : ℕ → ℝ) : 0 < scl f := by
  unfold scl
  split
  · norm_num
  · rename_i h
    have : 0 ≤ amax f * nrm := mul_nonneg (amax_nonneg f) nrm_pos.le
    have := lt_of_le_of_ne this (Ne.symm h)
    positivity

/-- The code of a channel of a group. -/
def cod (f : ℕ → ℝ) (k : ℕ) : ℤ := Ideal.roundHalfEven (min (max (f k * (nrm / scl f)) (-7)) 7)

theorem rhe_le (r : ℝ) : (Ideal.roundHalfEven r : ℝ) ≤ r + 1 / 2 := by
  have h := Int.floor_le r
  unfold Ideal.roundHalfEven
  dsimp only
  split_ifs <;> push_cast <;> linarith

theorem le_rhe (r : ℝ) : r - 1 / 2 ≤ (Ideal.roundHalfEven r : ℝ) := by
  have h := Int.lt_floor_add_one r
  have h' := Int.floor_le r
  unfold Ideal.roundHalfEven
  dsimp only
  split_ifs <;> push_cast <;> linarith

theorem rhe_int (n : ℤ) : Ideal.roundHalfEven (n : ℝ) = n := by
  unfold Ideal.roundHalfEven
  simp

theorem rhe_le_seven {r : ℝ} (h : r ≤ 7) : Ideal.roundHalfEven r ≤ 7 := by
  have h1 := rhe_le r
  have h2 : (Ideal.roundHalfEven r : ℝ) < ((8 : ℤ) : ℝ) := by push_cast; linarith
  have := Int.cast_lt.mp h2
  omega

theorem neg_seven_le_rhe {r : ℝ} (h : -7 ≤ r) : -7 ≤ Ideal.roundHalfEven r := by
  have h1 := le_rhe r
  have h2 : ((-8 : ℤ) : ℝ) < (Ideal.roundHalfEven r : ℝ) := by push_cast; linarith
  have := Int.cast_lt.mp h2
  omega

theorem cod_le (f : ℕ → ℝ) (k : ℕ) : cod f k ≤ 7 := rhe_le_seven (min_le_right _ _)
theorem le_cod (f : ℕ → ℝ) (k : ℕ) : -7 ≤ cod f k :=
  neg_seven_le_rhe (le_min (le_max_right _ _) (by norm_num))

/-- Clamping before rounding and after it are one. -/
theorem rhe_clamp (r : ℝ) : Ideal.roundHalfEven (min (max r (-7)) 7) = min 7 (max (-7) (Ideal.roundHalfEven r)) := by
  rcases le_total r (-7) with h | h
  · rw [max_eq_right h, min_eq_left (by norm_num)]
    have h1 := rhe_le r
    have h2 : (Ideal.roundHalfEven r : ℝ) < ((-6 : ℤ) : ℝ) := by push_cast; linarith
    have h3 := Int.cast_lt.mp h2
    have h4 := rhe_int (-7)
    push_cast at h4
    rw [h4]; omega
  · rw [max_eq_left h]
    have hl := neg_seven_le_rhe h
    rcases le_total r 7 with h' | h'
    · rw [min_eq_left h']
      have := rhe_le_seven h'
      omega
    · rw [min_eq_right h']
      have h1 := le_rhe r
      have h2 : ((6 : ℤ) : ℝ) < (Ideal.roundHalfEven r : ℝ) := by push_cast; linarith
      have h3 := Int.cast_lt.mp h2
      have h4 := rhe_int 7
      push_cast at h4
      rw [h4]; omega

theorem cod_eq (f : ℕ → ℝ) (k : ℕ) : cod f k = min 7 (max (-7) (Ideal.roundHalfEven (f k * nrm / scl f))) := by
  unfold cod
  rw [rhe_clamp, mul_div_assoc]

/-- Two codes in one byte: the even channel low. -/
def byte (a b : ℤ) : BitVec 8 := BitVec.ofInt 8 (a % 16 + 16 * (b % 16))

end Cert.Val

end
-- ==== Proof.Val.Stages.lean ====
module

public import proofs.«01_k».proof.Proof.Val.Spec
public import proofs.«01_k».proof.Proof.Gen.ReferenceIdeal.Run

/-! The reference's seven butterfly stages: after stage `k` an entry is `fw` of the signed row at depth `k`. -/

@[expose] public section

noncomputable section

namespace Cert.Val

open Cert.ReferenceIdeal Cert.ReferenceIdeal.Gen Cert.ReferenceIdeal.Value
open Idealize.ShloMosaic

/-- One butterfly stage on rows of `N` pairs of blocks of `H`: sums and differences, stacked. -/
def bfly {N H : ℕ} (x : FVec Ideal ⟨5, ![40, 1408, N, 2, H]⟩ .f32)
    (h0 : Shape.Slices ⟨5, ![40, 1408, N, 2, H]⟩ ![0, 0, 0, 0, 0] ⟨5, ![40, 1408, N, 1, H]⟩)
    (h1 : Shape.Slices ⟨5, ![40, 1408, N, 2, H]⟩ ![0, 0, 0, 1, 0] ⟨5, ![40, 1408, N, 1, H]⟩)
    (hq : Shape.ShapeCasts ⟨5, ![40, 1408, N, 1, H]⟩ ⟨4, ![40, 1408, N, H]⟩)
    (hb : Shape.BroadcastsInDim ⟨4, ![40, 1408, N, H]⟩ ⟨5, ![40, 1408, N, 1, H]⟩ ![0, 1, 2, 4])
    (hc : Shape.Concatenates [⟨5, ![40, 1408, N, 1, H]⟩, ⟨5, ![40, 1408, N, 1, H]⟩] ⟨5, ![40, 1408, N, 2, H]⟩ 3)
    (hf : Shape.ShapeCasts ⟨5, ![40, 1408, N, 2, H]⟩ ⟨3, ![40, 1408, 4096]⟩) : FVec Ideal ⟨3, ![40, 1408, 4096]⟩ .f32 :=
  shapeCast _ (concatenate ⟨5, ![40, 1408, N, 2, H]⟩ 3
    [⟨⟨5, ![40, 1408, N, 1, H]⟩, broadcastInDim ⟨5, ![40, 1408, N, 1, H]⟩ ![0, 1, 2, 4] hb
        (addf (shapeCast ⟨4, ![40, 1408, N, H]⟩ (extractStridedSlice ⟨5, ![40, 1408, N, 1, H]⟩ ![0, 0, 0, 0, 0] x h0) hq)
          (shapeCast ⟨4, ![40, 1408, N, H]⟩ (extractStridedSlice ⟨5, ![40, 1408, N, 1, H]⟩ ![0, 0, 0, 1, 0] x h1) hq))⟩,
     ⟨⟨5, ![40, 1408, N, 1, H]⟩, broadcastInDim ⟨5, ![40, 1408, N, 1, H]⟩ ![0, 1, 2, 4] hb
        (subf (shapeCast ⟨4, ![40, 1408, N, H]⟩ (extractStridedSlice ⟨5, ![40, 1408, N, 1, H]⟩ ![0, 0, 0, 0, 0] x h0) hq)
          (shapeCast ⟨4, ![40, 1408, N, H]⟩ (extractStridedSlice ⟨5, ![40, 1408, N, 1, H]⟩ ![0, 0, 0, 1, 0] x h1) hq))⟩] hc) hf

/-- One stage deeper: the sum or the difference of the two entries of a pair. -/
theorem fw_step (x : ℕ → ℝ) (b H m e : ℕ) (hH : H = 2 ^ b) (he : e < 2 * H) (p q : EReal)
    (hp : p = ((fw x b (m * (2 * H) + e % H) : ℝ) : EReal)) (hq : q = ((fw x b (m * (2 * H) + H + e % H) : ℝ) : EReal)) :
    (if e / H < 1 then p + q else p - q) = ((fw x (b + 1) (m * (2 * H) + e) : ℝ) : EReal) := by
  have hpos : 0 < H := by rw [hH]; positivity
  have hd : (m * (2 * H) + e) / 2 ^ b % 2 = e / H := by
    rw [← hH, show m * (2 * H) + e = e + H * (2 * m) by ring, Nat.add_mul_div_left _ _ hpos, Nat.add_mul_mod_self_left]
    exact Nat.mod_eq_of_lt (Nat.div_lt_of_lt_mul (by rw [mul_comm]; exact he))
  show _ = ((if (m * (2 * H) + e) / 2 ^ b % 2 = 1 then fw x b (m * (2 * H) + e - 2 ^ b) - fw x b (m * (2 * H) + e)
    else fw x b (m * (2 * H) + e) + fw x b (m * (2 * H) + e + 2 ^ b) : ℝ) : EReal)
  rw [hd, ← hH, hp, hq]
  by_cases h : e < H
  · rw [Nat.div_eq_of_lt h, if_pos (by omega), if_neg (by omega), Nat.mod_eq_of_lt h, EReal.coe_add]
    rw [show m * (2 * H) + H + e = m * (2 * H) + e + H by omega]
  · have h1 : e / H = 1 := by
      apply Nat.div_eq_of_lt_le <;> omega
    have h2 : e % H = e - H := by
      rw [Nat.mod_eq_sub_mod (by omega), Nat.mod_eq_of_lt (by omega)]
    rw [h1, if_neg (by omega), if_pos rfl, h2, EReal.coe_sub]
    rw [show m * (2 * H) + e - H = m * (2 * H) + (e - H) by omega, show m * (2 * H) + H + (e - H) = m * (2 * H) + e by omega]

/-- Stage 1. -/
def bf1 (x : FVec Ideal S40x1408x2048x2x1 .f32) : FVec Ideal S40x1408x4096 .f32 :=
  bfly (N := 2048) (H := 1) x slices_S40x1408x2048x2x1_S40x1408x2048x1x1_0_0_0_0_0 slices_S40x1408x2048x2x1_S40x1408x2048x1x1_0_0_0_1_0 shapeCasts_S40x1408x2048x1x1_S40x1408x2048x1
    bcast_S40x1408x2048x1_S40x1408x2048x1x1_0_1_2_4 concatenates_S40x1408x2048x1x1_S40x1408x2048x1x1_S40x1408x2048x2x1_d3 shapeCasts_S40x1408x2048x2x1_S40x1408x4096

/-- Stage 2. -/
def bf2 (x : FVec Ideal S40x1408x1024x2x2 .f32) : FVec Ideal S40x1408x4096 .f32 :=
  bfly (N := 1024) (H := 2) x slices_S40x1408x1024x2x2_S40x1408x1024x1x2_0_0_0_0_0 slices_S40x1408x1024x2x2_S40x1408x1024x1x2_0_0_0_1_0 shapeCasts_S40x1408x1024x1x2_S40x1408x1024x2
    bcast_S40x1408x1024x2_S40x1408x1024x1x2_0_1_2_4 concatenates_S40x1408x1024x1x2_S40x1408x1024x1x2_S40x1408x1024x2x2_d3 shapeCasts_S40x1408x1024x2x2_S40x1408x4096

/-- Stage 3. -/
def bf3 (x : FVec Ideal S40x1408x512x2x4 .f32) : FVec Ideal S40x1408x4096 .f32 :=
  bfly (N := 512) (H := 4) x slices_S40x1408x512x2x4_S40x1408x512x1x4_0_0_0_0_0 slices_S40x1408x512x2x4_S40x1408x512x1x4_0_0_0_1_0 shapeCasts_S40x1408x512x1x4_S40x1408x512x4
    bcast_S40x1408x512x4_S40x1408x512x1x4_0_1_2_4 concatenates_S40x1408x512x1x4_S40x1408x512x1x4_S40x1408x512x2x4_d3 shapeCasts_S40x1408x512x2x4_S40x1408x4096

/-- Stage 4. -/
def bf4 (x : FVec Ideal S40x1408x256x2x8 .f32) : FVec Ideal S40x1408x4096 .f32 :=
  bfly (N := 256) (H := 8) x slices_S40x1408x256x2x8_S40x1408x256x1x8_0_0_0_0_0 slices_S40x1408x256x2x8_S40x1408x256x1x8_0_0_0_1_0 shapeCasts_S40x1408x256x1x8_S40x1408x256x8
    bcast_S40x1408x256x8_S40x1408x256x1x8_0_1_2_4 concatenates_S40x1408x256x1x8_S40x1408x256x1x8_S40x1408x256x2x8_d3 shapeCasts_S40x1408x256x2x8_S40x1408x4096

/-- Stage 5. -/
def bf5 (x : FVec Ideal S40x1408x128x2x16 .f32) : FVec Ideal S40x1408x4096 .f32 :=
  bfly (N := 128) (H := 16) x slices_S40x1408x128x2x16_S40x1408x128x1x16_0_0_0_0_0 slices_S40x1408x128x2x16_S40x1408x128x1x16_0_0_0_1_0 shapeCasts_S40x1408x128x1x16_S40x1408x128x16
    bcast_S40x1408x128x16_S40x1408x128x1x16_0_1_2_4 concatenates_S40x1408x128x1x16_S40x1408x128x1x16_S40x1408x128x2x16_d3 shapeCasts_S40x1408x128x2x16_S40x1408x4096

/-- Stage 6. -/
def bf6 (x : FVec Ideal S40x1408x64x2x32 .f32) : FVec Ideal S40x1408x4096 .f32 :=
  bfly (N := 64) (H := 32) x slices_S40x1408x64x2x32_S40x1408x64x1x32_0_0_0_0_0 slices_S40x1408x64x2x32_S40x1408x64x1x32_0_0_0_1_0 shapeCasts_S40x1408x64x1x32_S40x1408x64x32
    bcast_S40x1408x64x32_S40x1408x64x1x32_0_1_2_4 concatenates_S40x1408x64x1x32_S40x1408x64x1x32_S40x1408x64x2x32_d3 shapeCasts_S40x1408x64x2x32_S40x1408x4096

/-- Stage 7. -/
def bf7 (x : FVec Ideal S40x1408x32x2x64 .f32) : FVec Ideal S40x1408x4096 .f32 :=
  bfly (N := 32) (H := 64) x slices_S40x1408x32x2x64_S40x1408x32x1x64_0_0_0_0_0 slices_S40x1408x32x2x64_S40x1408x32x1x64_0_0_0_1_0 shapeCasts_S40x1408x32x1x64_S40x1408x32x64
    bcast_S40x1408x32x64_S40x1408x32x1x64_0_1_2_4 concatenates_S40x1408x32x1x64_S40x1408x32x1x64_S40x1408x32x2x64_d3 shapeCasts_S40x1408x32x2x64_S40x1408x4096

theorem bf1_apply (x : FVec Ideal S40x1408x2048x2x1 .f32) (b : Fin 40) (r : Fin 1408) (n : Fin 1024) (d : Fin 2) (e : Fin 2) :
    shapeCast S40x1408x1024x2x2 (bf1 x) shapeCasts_S40x1408x4096_S40x1408x1024x2x2 (ix5 b r n d e)
      = if e.val < 1 then (x (ix5 b r ⟨n.val * 2 + d.val, by omega⟩ 0 0) + x (ix5 b r ⟨n.val * 2 + d.val, by omega⟩ 1 0) : EReal)
        else (x (ix5 b r ⟨n.val * 2 + d.val, by omega⟩ 0 0) - x (ix5 b r ⟨n.val * 2 + d.val, by omega⟩ 1 0) : EReal) := by
  unfold bf1 bfly
  pointwise
  rfl

theorem bf2_apply (x : FVec Ideal S40x1408x1024x2x2 .f32) (b : Fin 40) (r : Fin 1408) (n : Fin 512) (d : Fin 2) (e : Fin 4) :
    shapeCast S40x1408x512x2x4 (bf2 x) shapeCasts_S40x1408x4096_S40x1408x512x2x4 (ix5 b r n d e)
      = if e.val / 2 < 1 then (x (ix5 b r ⟨n.val * 2 + d.val, by omega⟩ 0 ⟨e.val % 2, by omega⟩) + x (ix5 b r ⟨n.val * 2 + d.val, by omega⟩ 1 ⟨e.val % 2, by omega⟩) : EReal)
        else (x (ix5 b r ⟨n.val * 2 + d.val, by omega⟩ 0 ⟨e.val % 2, by omega⟩) - x (ix5 b r ⟨n.val * 2 + d.val, by omega⟩ 1 ⟨e.val % 2, by omega⟩) : EReal) := by
  unfold bf2 bfly
  pointwise
  rfl

theorem bf3_apply (x : FVec Ideal S40x1408x512x2x4 .f32) (b : Fin 40) (r : Fin 1408) (n : Fin 256) (d : Fin 2) (e : Fin 8) :
    shapeCast S40x1408x256x2x8 (bf3 x) shapeCasts_S40x1408x4096_S40x1408x256x2x8 (ix5 b r n d e)
      = if e.val / 4 < 1 then (x (ix5 b r ⟨n.val * 2 + d.val, by omega⟩ 0 ⟨e.val % 4, by omega⟩) + x (ix5 b r ⟨n.val * 2 + d.val, by omega⟩ 1 ⟨e.val % 4, by omega⟩) : EReal)
        else (x (ix5 b r ⟨n.val * 2 + d.val, by omega⟩ 0 ⟨e.val % 4, by omega⟩) - x (ix5 b r ⟨n.val * 2 + d.val, by omega⟩ 1 ⟨e.val % 4, by omega⟩) : EReal) := by
  unfold bf3 bfly
  pointwise
  rfl

theorem bf4_apply (x : FVec Ideal S40x1408x256x2x8 .f32) (b : Fin 40) (r : Fin 1408) (n : Fin 128) (d : Fin 2) (e : Fin 16) :
    shapeCast S40x1408x128x2x16 (bf4 x) shapeCasts_S40x1408x4096_S40x1408x128x2x16 (ix5 b r n d e)
      = if e.val / 8 < 1 then (x (ix5 b r ⟨n.val * 2 + d.val, by omega⟩ 0 ⟨e.val % 8, by omega⟩) + x (ix5 b r ⟨n.val * 2 + d.val, by omega⟩ 1 ⟨e.val % 8, by omega⟩) : EReal)
        else (x (ix5 b r ⟨n.val * 2 + d.val, by omega⟩ 0 ⟨e.val % 8, by omega⟩) - x (ix5 b r ⟨n.val * 2 + d.val, by omega⟩ 1 ⟨e.val % 8, by omega⟩) : EReal) := by
  unfold bf4 bfly
  pointwise
  rfl

theorem bf5_apply (x : FVec Ideal S40x1408x128x2x16 .f32) (b : Fin 40) (r : Fin 1408) (n : Fin 64) (d : Fin 2) (e : Fin 32) :
    shapeCast S40x1408x64x2x32 (bf5 x) shapeCasts_S40x1408x4096_S40x1408x64x2x32 (ix5 b r n d e)
      = if e.val / 16 < 1 then (x (ix5 b r ⟨n.val * 2 + d.val, by omega⟩ 0 ⟨e.val % 16, by omega⟩) + x (ix5 b r ⟨n.val * 2 + d.val, by omega⟩ 1 ⟨e.val % 16, by omega⟩) : EReal)
        else (x (ix5 b r ⟨n.val * 2 + d.val, by omega⟩ 0 ⟨e.val % 16, by omega⟩) - x (ix5 b r ⟨n.val * 2 + d.val, by omega⟩ 1 ⟨e.val % 16, by omega⟩) : EReal) := by
  unfold bf5 bfly
  pointwise
  rfl

theorem bf6_apply (x : FVec Ideal S40x1408x64x2x32 .f32) (b : Fin 40) (r : Fin 1408) (n : Fin 32) (d : Fin 2) (e : Fin 64) :
    shapeCast S40x1408x32x2x64 (bf6 x) shapeCasts_S40x1408x4096_S40x1408x32x2x64 (ix5 b r n d e)
      = if e.val / 32 < 1 then (x (ix5 b r ⟨n.val * 2 + d.val, by omega⟩ 0 ⟨e.val % 32, by omega⟩) + x (ix5 b r ⟨n.val * 2 + d.val, by omega⟩ 1 ⟨e.val % 32, by omega⟩) : EReal)
        else (x (ix5 b r ⟨n.val * 2 + d.val, by omega⟩ 0 ⟨e.val % 32, by omega⟩) - x (ix5 b r ⟨n.val * 2 + d.val, by omega⟩ 1 ⟨e.val % 32, by omega⟩) : EReal) := by
  unfold bf6 bfly
  pointwise
  rfl

theorem bf7_apply (x : FVec Ideal S40x1408x32x2x64 .f32) (b : Fin 40) (r : Fin 1408) (n : Fin 32) (e : Fin 128) :
    shapeCast S40x1408x32x128 (bf7 x) shapeCasts_S40x1408x4096_S40x1408x32x128 (ix4 b r n e)
      = (if e.val / 64 < 1 then (x (ix5 b r n 0 ⟨e.val % 64, by omega⟩) + x (ix5 b r n 1 ⟨e.val % 64, by omega⟩) : EReal)
        else (x (ix5 b r n 0 ⟨e.val % 64, by omega⟩) - x (ix5 b r n 1 ⟨e.val % 64, by omega⟩) : EReal)) := by
  unfold bf7 bfly
  pointwise
  rfl

theorem norm_apply (y : FVec Ideal S40x1408x4096 .f32) (b : Fin 40) (r : Fin 1408) (n : Fin 32) (e : Fin 128) :
    shapeCast S40x1408x32x128 (mulf y (broadcastInDim S40x1408x4096 ![] bcast_S_S40x1408x4096 (constant (F := Ideal) S_ .f32 0x3DB504F3#32))) shapeCasts_S40x1408x4096_S40x1408x32x128 (ix4 b r n e)
      = (shapeCast S40x1408x32x128 y shapeCasts_S40x1408x4096_S40x1408x32x128 (ix4 b r n e) * Ideal.ofBits .f32 0x3DB504F3#32 : EReal) := rfl

end Cert.Val

end
-- ==== Proof.Val.Rows.lean ====
module

public import proofs.«01_k».proof.Proof.Val.Stages

/-! What the reference computes from real rows and real signs, stage by stage. -/

@[expose] public section

noncomputable section

namespace Cert.Val

open Cert.ReferenceIdeal Cert.ReferenceIdeal.Gen Cert.ReferenceIdeal.Value
open Idealize.ShloMosaic

/-- The signed row `r` of batch `b`. -/
def sgnRow (W : ℕ → ℕ → ℕ → ℝ) (S : ℕ → ℝ) (b r : ℕ) : ℕ → ℝ := fun k => W b r k * S k

/-- Group `g` of row `r` of batch `b`, rotated. -/
def rotv (W : ℕ → ℕ → ℕ → ℝ) (S : ℕ → ℝ) (b r g : ℕ) : ℕ → ℝ := fun ch => had (fun k => W b r (128 * g + k.val) * S (128 * g + k.val)) ch

variable (V0 : Valuation τ sig (Elt Ideal)) (W : ℕ → ℕ → ℕ → ℝ) (S : ℕ → ℝ)
  (hW : ∀ (b : Fin 40) (r : Fin 1408) (k : Fin 4096), (V0 (Proc.devRef .tc main_arg0) : FVec Ideal S40x1408x4096 .bf16) (ix3 b r k) = ((W b.val r.val k.val : ℝ) : EReal))
  (hS : ∀ k : Fin 4096, (V0 (Proc.devRef .tc main_arg1) : FVec Ideal S4096 .f32) (ix1 k) = ((S k.val : ℝ) : EReal))

theorem signed_apply (a : FVec Ideal S40x1408x4096 .bf16) (s : FVec Ideal S4096 .f32) (b : Fin 40) (r : Fin 1408) (n : Fin 2048) (d : Fin 2) :
    shapeCast S40x1408x2048x2x1 (mulf (extf .f32 a bitsLt_bf16_f32) (broadcastInDim S40x1408x4096 ![0, 1, 2] bcast_S1x1x4096_S40x1408x4096_0_1_2 (broadcastInDim S1x1x4096 ![2] bcast_S4096_S1x1x4096_2 s))) shapeCasts_S40x1408x4096_S40x1408x2048x2x1 (ix5 b r n d 0)
      = ((a (ix3 b r ⟨n.val * 2 + d.val, by omega⟩) : EReal) * (s (ix1 ⟨n.val * 2 + d.val, by omega⟩) : EReal) : EReal) := by
  pointwise

include hW hS in
theorem st0 (b : Fin 40) (r : Fin 1408) (n : Fin 2048) (d : Fin 2) (e : Fin 1) :
    (res_main_v4 V0 : FVec Ideal S40x1408x2048x2x1 .f32) (ix5 b r n d e) = ((fw (sgnRow W S b.val r.val) 0 (n.val * 2 + d.val * 1 + e.val) : ℝ) : EReal) := by
  obtain rfl : e = 0 := Subsingleton.elim _ _
  refine (signed_apply _ _ b r n d).trans ?_
  rw [hW, hS]
  refine (EReal.coe_mul _ _).symm.trans ?_
  show _ = ((sgnRow W S b.val r.val (n.val * 2 + d.val * 1 + 0) : ℝ) : EReal)
  rw [Nat.mul_one, Nat.add_zero]
  rfl

include hW hS in
theorem st1 (b : Fin 40) (r : Fin 1408) (n : Fin 1024) (d : Fin 2) (e : Fin 2) :
    (res_main_v15 V0 : FVec Ideal S40x1408x1024x2x2 .f32) (ix5 b r n d e)
      = ((fw (sgnRow W S b.val r.val) 1 (n.val * 4 + d.val * 2 + e.val) : ℝ) : EReal) := by
  refine (bf1_apply (res_main_v4 V0) b r n d e).trans ?_
  have hm : e.val % 1 = 0 := Nat.mod_one _
  have hd : e.val / 1 = e.val := Nat.div_one _
  rw [← hd]
  refine (fw_step (sgnRow W S b.val r.val) 0 1 (n.val * 2 + d.val) e.val (by norm_num) e.isLt _ _ ((st0 V0 W S hW hS b r _ _ _).trans ?_) ((st0 V0 W S hW hS b r _ _ _).trans ?_)).trans ?_
  · exact congrArg (fun z => ((fw (sgnRow W S b.val r.val) 0 z : ℝ) : EReal)) (show (n.val * 2 + d.val) * 2 + 0 * 1 + 0 = (n.val * 2 + d.val) * (2 * 1) + e.val % 1 by omega)
  · exact congrArg (fun z => ((fw (sgnRow W S b.val r.val) 0 z : ℝ) : EReal)) (show (n.val * 2 + d.val) * 2 + 1 * 1 + 0 = (n.val * 2 + d.val) * (2 * 1) + 1 + e.val % 1 by omega)
  · exact congrArg (fun z => ((fw (sgnRow W S b.val r.val) 1 z : ℝ) : EReal)) (show (n.val * 2 + d.val) * (2 * 1) + e.val = n.val * 4 + d.val * 2 + e.val / 1 by omega)

include hW hS in
theorem st2 (b : Fin 40) (r : Fin 1408) (n : Fin 512) (d : Fin 2) (e : Fin 4) :
    (res_main_v26 V0 : FVec Ideal S40x1408x512x2x4 .f32) (ix5 b r n d e)
      = ((fw (sgnRow W S b.val r.val) 2 (n.val * 8 + d.val * 4 + e.val) : ℝ) : EReal) := by
  refine (bf2_apply (res_main_v15 V0) b r n d e).trans ?_
  refine (fw_step (sgnRow W S b.val r.val) 1 2 (n.val * 2 + d.val) e.val (by norm_num) e.isLt _ _ ((st1 V0 W S hW hS b r _ _ _).trans ?_) ((st1 V0 W S hW hS b r _ _ _).trans ?_)).trans ?_
  · exact congrArg (fun z => ((fw (sgnRow W S b.val r.val) 1 z : ℝ) : EReal)) (show (n.val * 2 + d.val) * 4 + 0 * 2 + e.val % 2 = (n.val * 2 + d.val) * (2 * 2) + e.val % 2 by omega)
  · exact congrArg (fun z => ((fw (sgnRow W S b.val r.val) 1 z : ℝ) : EReal)) (show (n.val * 2 + d.val) * 4 + 1 * 2 + e.val % 2 = (n.val * 2 + d.val) * (2 * 2) + 2 + e.val % 2 by omega)
  · exact congrArg (fun z => ((fw (sgnRow W S b.val r.val) 2 z : ℝ) : EReal)) (show (n.val * 2 + d.val) * (2 * 2) + e.val = n.val * 8 + d.val * 4 + e.val by omega)

include hW hS in
theorem st3 (b : Fin 40) (r : Fin 1408) (n : Fin 256) (d : Fin 2) (e : Fin 8) :
    (res_main_v37 V0 : FVec Ideal S40x1408x256x2x8 .f32) (ix5 b r n d e)
      = ((fw (sgnRow W S b.val r.val) 3 (n.val * 16 + d.val * 8 + e.val) : ℝ) : EReal) := by
  refine (bf3_apply (res_main_v26 V0) b r n d e).trans ?_
  refine (fw_step (sgnRow W S b.val r.val) 2 4 (n.val * 2 + d.val) e.val (by norm_num) e.isLt _ _ ((st2 V0 W S hW hS b r _ _ _).trans ?_) ((st2 V0 W S hW hS b r _ _ _).trans ?_)).trans ?_
  · exact congrArg (fun z => ((fw (sgnRow W S b.val r.val) 2 z : ℝ) : EReal)) (show (n.val * 2 + d.val) * 8 + 0 * 4 + e.val % 4 = (n.val * 2 + d.val) * (2 * 4) + e.val % 4 by omega)
  · exact congrArg (fun z => ((fw (sgnRow W S b.val r.val) 2 z : ℝ) : EReal)) (show (n.val * 2 + d.val) * 8 + 1 * 4 + e.val % 4 = (n.val * 2 + d.val) * (2 * 4) + 4 + e.val % 4 by omega)
  · exact congrArg (fun z => ((fw (sgnRow W S b.val r.val) 3 z : ℝ) : EReal)) (show (n.val * 2 + d.val) * (2 * 4) + e.val = n.val * 16 + d.val * 8 + e.val by omega)

include hW hS in
theorem st4 (b : Fin 40) (r : Fin 1408) (n : Fin 128) (d : Fin 2) (e : Fin 16) :
    (res_main_v48 V0 : FVec Ideal S40x1408x128x2x16 .f32) (ix5 b r n d e)
      = ((fw (sgnRow W S b.val r.val) 4 (n.val * 32 + d.val * 16 + e.val) : ℝ) : EReal) := by
  refine (bf4_apply (res_main_v37 V0) b r n d e).trans ?_
  refine (fw_step (sgnRow W S b.val r.val) 3 8 (n.val * 2 + d.val) e.val (by norm_num) e.isLt _ _ ((st3 V0 W S hW hS b r _ _ _).trans ?_) ((st3 V0 W S hW hS b r _ _ _).trans ?_)).trans ?_
  · exact congrArg (fun z => ((fw (sgnRow W S b.val r.val) 3 z : ℝ) : EReal)) (show (n.val * 2 + d.val) * 16 + 0 * 8 + e.val % 8 = (n.val * 2 + d.val) * (2 * 8) + e.val % 8 by omega)
  · exact congrArg (fun z => ((fw (sgnRow W S b.val r.val) 3 z : ℝ) : EReal)) (show (n.val * 2 + d.val) * 16 + 1 * 8 + e.val % 8 = (n.val * 2 + d.val) * (2 * 8) + 8 + e.val % 8 by omega)
  · exact congrArg (fun z => ((fw (sgnRow W S b.val r.val) 4 z : ℝ) : EReal)) (show (n.val * 2 + d.val) * (2 * 8) + e.val = n.val * 32 + d.val * 16 + e.val by omega)

include hW hS in
theorem st5 (b : Fin 40) (r : Fin 1408) (n : Fin 64) (d : Fin 2) (e : Fin 32) :
    (res_main_v59 V0 : FVec Ideal S40x1408x64x2x32 .f32) (ix5 b r n d e)
      = ((fw (sgnRow W S b.val r.val) 5 (n.val * 64 + d.val * 32 + e.val) : ℝ) : EReal) := by
  refine (bf5_apply (res_main_v48 V0) b r n d e).trans ?_
  refine (fw_step (sgnRow W S b.val r.val) 4 16 (n.val * 2 + d.val) e.val (by norm_num) e.isLt _ _ ((st4 V0 W S hW hS b r _ _ _).trans ?_) ((st4 V0 W S hW hS b r _ _ _).trans ?_)).trans ?_
  · exact congrArg (fun z => ((fw (sgnRow W S b.val r.val) 4 z : ℝ) : EReal)) (show (n.val * 2 + d.val) * 32 + 0 * 16 + e.val % 16 = (n.val * 2 + d.val) * (2 * 16) + e.val % 16 by omega)
  · exact congrArg (fun z => ((fw (sgnRow W S b.val r.val) 4 z : ℝ) : EReal)) (show (n.val * 2 + d.val) * 32 + 1 * 16 + e.val % 16 = (n.val * 2 + d.val) * (2 * 16) + 16 + e.val % 16 by omega)
  · exact congrArg (fun z => ((fw (sgnRow W S b.val r.val) 5 z : ℝ) : EReal)) (show (n.val * 2 + d.val) * (2 * 16) + e.val = n.val * 64 + d.val * 32 + e.val by omega)

include hW hS in
theorem st6 (b : Fin 40) (r : Fin 1408) (n : Fin 32) (d : Fin 2) (e : Fin 64) :
    (res_main_v70 V0 : FVec Ideal S40x1408x32x2x64 .f32) (ix5 b r n d e)
      = ((fw (sgnRow W S b.val r.val) 6 (n.val * 128 + d.val * 64 + e.val) : ℝ) : EReal) := by
  refine (bf6_apply (res_main_v59 V0) b r n d e).trans ?_
  refine (fw_step (sgnRow W S b.val r.val) 5 32 (n.val * 2 + d.val) e.val (by norm_num) e.isLt _ _ ((st5 V0 W S hW hS b r _ _ _).trans ?_) ((st5 V0 W S hW hS b r _ _ _).trans ?_)).trans ?_
  · exact congrArg (fun z => ((fw (sgnRow W S b.val r.val) 5 z : ℝ) : EReal)) (show (n.val * 2 + d.val) * 64 + 0 * 32 + e.val % 32 = (n.val * 2 + d.val) * (2 * 32) + e.val % 32 by omega)
  · exact congrArg (fun z => ((fw (sgnRow W S b.val r.val) 5 z : ℝ) : EReal)) (show (n.val * 2 + d.val) * 64 + 1 * 32 + e.val % 32 = (n.val * 2 + d.val) * (2 * 32) + 32 + e.val % 32 by omega)
  · exact congrArg (fun z => ((fw (sgnRow W S b.val r.val) 6 z : ℝ) : EReal)) (show (n.val * 2 + d.val) * (2 * 32) + e.val = n.val * 128 + d.val * 64 + e.val by omega)

include hW hS in
/-- The rotated and normalised values. -/
theorem v83_real (b : Fin 40) (r : Fin 1408) (g : Fin 32) (k : Fin 128) :
    (res_main_v83 V0 : FVec Ideal S40x1408x32x128 .f32) (ix4 b r g k) = ((rotv W S b.val r.val g.val k.val * nrm : ℝ) : EReal) := by
  refine (norm_apply (bf7 (res_main_v70 V0)) b r g k).trans ?_
  rw [bf7_apply, ofBits_nrm]
  refine (congrArg (fun z : EReal => z * (nrm : EReal)) (fw_step (sgnRow W S b.val r.val) 6 64 g.val k.val (by norm_num) k.isLt _ _
    ((st6 V0 W S hW hS b r _ _ _).trans ?_) ((st6 V0 W S hW hS b r _ _ _).trans ?_))).trans ((EReal.coe_mul _ _).symm.trans ?_)
  · exact congrArg (fun z => ((fw (sgnRow W S b.val r.val) 6 z : ℝ) : EReal)) (show g.val * 128 + 0 * 64 + k.val % 64 = g.val * (2 * 64) + k.val % 64 by omega)
  · exact congrArg (fun z => ((fw (sgnRow W S b.val r.val) 6 z : ℝ) : EReal)) (show g.val * 128 + 1 * 64 + k.val % 64 = g.val * (2 * 64) + 64 + k.val % 64 by omega)
  · rw [fw_seven]
    unfold rotv sgnRow
    rw [show g.val * (2 * 64) + k.val - (g.val * (2 * 64) + k.val) % 128 = 128 * g.val by omega, show (g.val * (2 * 64) + k.val) % 128 = k.val by omega]

end Cert.Val

end
-- ==== Proof.Val.Signs.lean ====
module

public import proofs.«01_k».proof.Proof.Val.Spec
public import proofs.«01_k».proof.Proof.KI.Rules

/-! The bit arithmetic of the Hadamard tile: the sign at a row and column is the sign of the Hadamard matrix. -/

@[expose] public section

noncomputable section

namespace Cert.Val

open Idealize.ShloMosaic

/-- The channel that Hadamard row `n` of a group computes. -/
def chan (n : ℕ) : ℕ := 2 * (n % 64) + n / 64

/-- The shared bits of the channel of row `n` and column `k`. -/
def shared (n k : ℕ) : BitVec 32 :=
  IntOp.andi (IntOp.ori (IntOp.shli .vector (IntOp.andi (IntOp.andi (BitVec.ofNat 32 n) 127#32) 63#32) 1#32)
    (IntOp.shrsi .vector (IntOp.andi (BitVec.ofNat 32 n) 127#32) 6#32)) (BitVec.ofNat 32 k)
/-- One folding step of the parity. -/
def foldB (p s : BitVec 32) : BitVec 32 := IntOp.xori p (IntOp.shrsi .vector p s)
/-- The integer sign of the tile at row `n`, column `k`, as the tile computes it. -/
def signB (n k : ℕ) : BitVec 32 :=
  IntOp.subi 1#32 (IntOp.muli 2#32 (IntOp.andi (foldB (foldB (foldB (shared n k) 4#32) 2#32) 1#32) 1#32))

theorem signB_eq : ∀ n : Fin 256, ∀ k : Fin 128, (signB n.val k.val).toInt = sg 7 (chan (n.val % 128)) k.val := by
  decide +kernel

theorem half_eq : ∀ n : Fin 256, ∀ s : Fin 2,
    IntOp.cmpi .eq (IntOp.shrsi .vector (BitVec.ofNat 32 n.val) 7#32) (BitVec.ofNat 32 s.val) = if n.val / 128 = s.val then 1#1 else 0#1 := by
  decide +kernel

end Cert.Val

end
-- ==== Proof.Val.Rotated.lean ====
module

public import proofs.«01_k».proof.Proof.Val.Signs
public import proofs.«01_k».proof.Proof.KI.State

/-! The rotated tiles at the reals: each entry is the signed Hadamard sum of one row of one group. -/

@[expose] public section

noncomputable section

namespace Cert.Val

open Cert.KernelIdeal Cert.KernelIdeal.Gen
open Idealize.ShloMosaic

/-! ## The Hadamard tiles -/

theorem hadHalf_apply (s : Fin 2) (n : Fin 256) (k : Fin 128) :
    hadHalf (F := Ideal) (BitVec.ofNat 32 s.val) (ix2 n k) = if n.val / 128 = s.val then (((sg 7 (chan (n.val % 128)) k.val : ℤ) : ℝ) : EReal) else 0 := by
  rw [← signB_eq n k]
  unfold hadHalf
  pointwise
  have h := half_eq n s
  change Scalar.select (IntOp.cmpi .eq (IntOp.shrsi .vector (BitVec.ofNat 32 n.val) 7#32) (BitVec.ofNat 32 s.val)) (((((signB n k).toInt : ℤ) : ℝ) : EReal)) 0 = _
  rw [h]; by_cases hq : n.val / 128 = s.val
  · rw [if_pos hq, if_pos hq]; rfl
  · rw [if_neg hq, if_neg hq]; rfl

end Cert.Val

end
-- ==== Proof.Val.Tile.lean ====
module

public import proofs.«01_k».proof.Proof.Val.Rotated

/-! The rotated tiles at the reals: each entry is the Hadamard sum of one row of one group, signs applied. -/

@[expose] public section

noncomputable section

namespace Cert.Val

open Cert.KernelIdeal Cert.KernelIdeal.Gen
open Idealize.ShloMosaic

theorem hadHalf_real (s : ℕ) (hs : s < 2) (n : Fin 256) (k : Fin 128) :
    hadHalf (F := Ideal) (BitVec.ofNat 32 s) (ix2 n k)
      = (((if n.val / 128 = s then (sg 7 (chan (n.val % 128)) k.val : ℝ) else 0 : ℝ)) : EReal) := by
  rw [hadHalf_apply ⟨s, hs⟩ n k]
  split <;> rfl

theorem sgTile_apply (G : Vec Ideal S1x4096 .f32) (t : ℕ) (ht : t < 16) (s : ℕ) (hs : s < 2) (k : Fin 128) :
    sgTile G t ht s hs (ix2 0 k) = G (ix2 0 ⟨256 * t + 128 * s + k.val, by omega⟩) := by
  unfold sgTile
  pointwise [rd]

theorem hadStore_apply (h : BitVec 32) (g : FVec Ideal S1x128 .f32) (n : Fin 256) (k : Fin 128) :
    hadStore (F := Ideal) h g (ix5 0 0 0 n k) = (hadHalf (F := Ideal) h (ix2 n k) * g (ix2 0 k) : Ideal .f32) := by
  unfold hadStore
  pointwise

theorem rot_apply (h w : FVec Ideal S256x256 .bf16) (n l : Fin 256) :
    rot h w (ix2 n l) = ∑ q : Fin 256, h (ix2 n q) * w (ix2 l q) := by
  unfold rot
  pointwise

theorem wTile_apply (a b : Vec Ideal S1x1x256x128 .bf16) (l q : Fin 256) :
    wTile a b (ix2 l q) = if h : q.val < 128 then a (ix4 0 0 l ⟨q.val, h⟩) else b (ix4 0 0 l ⟨q.val - 128, by omega⟩) := by
  unfold wTile
  pointwise

theorem hTile_apply (a b : Vec Ideal S1x1x1x256x128 .bf16) (l q : Fin 256) :
    hTile a b (ix2 l q) = if h : q.val < 128 then a (ix5 0 0 0 l ⟨q.val, h⟩) else b (ix5 0 0 0 l ⟨q.val - 128, by omega⟩) := by
  unfold hTile
  pointwise

theorem hT_apply (H : Vec Ideal S3x16x2x256x128 .bf16) (p : Fin 3) (t : Fin 16) (n q : Fin 256) :
    hT H p t (ix2 n q) = H (ix5 p t ⟨q.val / 128, by omega⟩ n ⟨q.val % 128, by omega⟩) := by
  unfold hT
  rw [hTile_apply]
  split
  · rename_i h
    pointwise [rd]
    rw [show (⟨q.val / 128, by omega⟩ : Fin 2) = 0 from Fin.ext (Nat.div_eq_of_lt h),
      show (⟨q.val % 128, by omega⟩ : Fin 128) = ⟨q.val, h⟩ from Fin.ext (Nat.mod_eq_of_lt h)]
  · rename_i h
    pointwise [rd]
    rw [show (⟨q.val / 128, by omega⟩ : Fin 2) = 1 from Fin.ext (show q.val / 128 = 1 by omega),
      show (⟨q.val % 128, by omega⟩ : Fin 128) = ⟨q.val - 128, by omega⟩ from Fin.ext (show q.val % 128 = q.val - 128 by omega)]

theorem slabTile_apply (X : Vec Ideal S2816x128 .bf16) (c : Fin 11) (l : Fin 256) (q : Fin 128) :
    slabTile X (256 * c.val) (ix4 0 0 l q) = X (ix2 ⟨256 * c.val + l.val, by omega⟩ q) := by
  unfold slabTile
  refine congrArg X (funext fun a => Fin.ext ?_)
  fin_cases a
  · exact Nat.mod_eq_of_lt (show 256 * c.val + l.val < 2816 by omega)
  · exact Nat.mod_eq_of_lt q.isLt

theorem wT_apply (X : Fin 8 → Vec Ideal S2816x128 .bf16) (c : Fin 11) (j : Fin 4) (l q : Fin 256) :
    wT X c j (ix2 l q) = X ⟨2 * j.val + q.val / 128, by omega⟩ (ix2 ⟨256 * c.val + l.val, by omega⟩ ⟨q.val % 128, by omega⟩) := by
  unfold wT
  rw [wTile_apply]
  split
  · rename_i h
    rw [slabTile_apply, show (⟨2 * j.val + q.val / 128, by omega⟩ : Fin 8) = ⟨2 * j.val, by omega⟩ from Fin.ext (show 2 * j.val + q.val / 128 = 2 * j.val by omega),
      show (⟨q.val % 128, by omega⟩ : Fin 128) = ⟨q.val, h⟩ from Fin.ext (Nat.mod_eq_of_lt h)]
  · rename_i h
    rw [slabTile_apply, show (⟨2 * j.val + q.val / 128, by omega⟩ : Fin 8) = ⟨2 * j.val + 1, by omega⟩ from Fin.ext (show 2 * j.val + q.val / 128 = 2 * j.val + 1 by omega),
      show (⟨q.val % 128, by omega⟩ : Fin 128) = ⟨q.val - 128, by omega⟩ from Fin.ext (show q.val % 128 = q.val - 128 by omega)]

theorem newH_apply (G : Vec Ideal S1x4096 .f32) (t : Fin 16) (s : Fin 2) (n : Fin 256) (k : Fin 128) :
    newH G (ix5 0 t s n k) = (hadHalf (F := Ideal) (BitVec.ofNat 32 s.val) (ix2 n k) * G (ix2 0 ⟨256 * t.val + 128 * s.val + k.val, by omega⟩) : Ideal .f32) := by
  unfold newH
  have e : (modIdx S1x1x1x256x128 (s := S3x16x2x256x128) rfl (by decide) (ix5 0 t s n k)) = ix5 0 0 0 n k := by
    funext a; refine Fin.ext ?_; fin_cases a
    · rfl
    · exact Nat.mod_one _
    · exact Nat.mod_one _
    · exact Nat.mod_eq_of_lt n.isLt
    · exact Nat.mod_eq_of_lt k.isLt
  rw [e, hadStore_apply]
  show (hadHalf (F := Ideal) (BitVec.ofNat 32 s.val) (ix2 n k) * sgTile G t.val t.isLt s.val s.isLt (ix2 0 k) : Ideal .f32) = _
  rw [sgTile_apply]

/-- A sum over both halves of 256 columns of which one is zero. -/
theorem sum_half (h : ℕ) (hh : h < 2) (x : ℕ → ℕ → ℝ) :
    ∑ q : Fin 256, (if h = q.val / 128 then x (q.val / 128) (q.val % 128) else 0) = ∑ k : Fin 128, x h k.val := by
  have e : ∑ q : Fin 256, (if h = q.val / 128 then x (q.val / 128) (q.val % 128) else 0)
      = ∑ y : Fin 2 × Fin 128, (if h = y.1.val then x y.1.val y.2.val else 0) := by
    refine (Fintype.sum_equiv (finProdFinEquiv (m := 2) (n := 128)) _ _ fun y => ?_).symm
    have h1 : (finProdFinEquiv (m := 2) (n := 128) y).val / 128 = y.1.val := by
      show (y.2.val + 128 * y.1.val) / 128 = _; omega
    have h2 : (finProdFinEquiv (m := 2) (n := 128) y).val % 128 = y.2.val := by
      show (y.2.val + 128 * y.1.val) % 128 = _; omega
    exact (congr (congrArg (fun a b => if h = a then x a b else 0) h1) h2).symm
  rw [e, Fintype.sum_prod_type, Fin.sum_univ_two]
  interval_cases h <;> simp

theorem coe_sum {ι : Type} (s : Finset ι) (f : ι → ℝ) : ((∑ x ∈ s, f x : ℝ) : EReal) = ∑ x ∈ s, ((f x : ℝ) : EReal) := by
  classical
  induction s using Finset.induction_on with
  | empty => rfl
  | insert a s ha ih => rw [Finset.sum_insert ha, Finset.sum_insert ha, EReal.coe_add, ih]

/-- One entry of a rotated tile, on real rows and real signs. -/
theorem rv1_real (i : grid0.Coords) (G : Vec Ideal S1x4096 .f32) (X : Fin 8 → Vec Ideal S2816x128 .bf16) (S : ℕ → ℝ) (W : ℕ → ℕ → ℕ → ℝ)
    (hG : ∀ k : Fin 4096, G (ix2 0 k) = ((S k.val : ℝ) : EReal))
    (hX : ∀ (j : Fin 8) (r : Fin 2816) (k : Fin 128), X j (ix2 r k) = ((W j.val r.val k.val : ℝ) : EReal)) (c : Fin 11) (j : Fin 4) (n l : Fin 256) :
    rv1 i (newH G) X c j (ix2 n l)
      = ((had (fun k => W (2 * j.val + n.val / 128) (256 * c.val + l.val) k.val
          * S (128 * (8 * (min (i 0).val 79 % 4) + 2 * j.val + n.val / 128) + k.val)) (chan (n.val % 128)) : ℝ) : EReal) := by
  unfold rv1
  rw [rot_apply]
  have ht := tileN_eq i j
  have key : ∀ q : Fin 256, (hT (newH G) 0 ⟨tileN i j.val, tileN_lt i j.val j.isLt⟩ (ix2 n q) * wT X c j (ix2 l q) : EReal)
      = (((if n.val / 128 = q.val / 128 then (sg 7 (chan (n.val % 128)) (q.val % 128) : ℝ) * (W (2 * j.val + q.val / 128) (256 * c.val + l.val) (q.val % 128)
          * S (128 * (8 * (min (i 0).val 79 % 4) + 2 * j.val + q.val / 128) + q.val % 128)) else 0 : ℝ)) : EReal) := by
    intro q
    rw [hT_apply, newH_apply, wT_apply, hG, hX, hadHalf_real _ (show q.val / 128 < 2 by omega)]
    rw [show 128 * (8 * (min (i 0).val 79 % 4) + 2 * j.val + q.val / 128) + q.val % 128
      = 256 * tileN i j.val + 128 * (q.val / 128) + q.val % 128 by rw [ht]; ring]
    refine (congrArg₂ (· * ·) (EReal.coe_mul _ _).symm rfl).trans ((EReal.coe_mul _ _).symm.trans (congrArg _ ?_))
    split <;> ring
  refine (Finset.sum_congr rfl fun q _ => key q).trans ((coe_sum _ _).symm.trans (congrArg _ ?_))
  exact sum_half (n.val / 128) (by omega) (fun a b => (sg 7 (chan (n.val % 128)) b : ℝ) * (W (2 * j.val + a) (256 * c.val + l.val) b
          * S (128 * (8 * (min (i 0).val 79 % 4) + 2 * j.val + a) + b)))

end Cert.Val

end
-- ==== Proof.Val.Maxima.lean ====
module

public import proofs.«01_k».proof.Proof.Val.Tile

/-! The largest magnitudes, the scales and the factors of a block whose rotated tiles are known. -/

@[expose] public section

noncomputable section

namespace Cert.Val

open Cert.KernelIdeal Cert.KernelIdeal.Gen
open Idealize.ShloMosaic

theorem absf_coe (r : ℝ) : (FloatOps.absf (F := Ideal) (φ := .f32) ((r : ℝ) : EReal) : EReal) = ((|r| : ℝ) : EReal) := by
  show max ((r : ℝ) : EReal) (-((r : ℝ) : EReal)) = _
  rw [← EReal.coe_neg, ← EReal.coe_strictMono.monotone.map_max, abs_eq_max_neg]

theorem amax_le_iff (f : ℕ → ℝ) (x : EReal) : ((amax f : ℝ) : EReal) ≤ x ↔ ∀ k : Fin 128, ((|f k.val| : ℝ) : EReal) ≤ x := by
  constructor
  · intro h k
    exact le_trans (EReal.coe_le_coe_iff.mpr (Finset.le_sup' (fun k : Fin 128 => |f k.val|) (Finset.mem_univ k))) h
  · intro h
    obtain ⟨k, _, hk⟩ := Finset.exists_mem_eq_sup' (⟨0, Finset.mem_univ _⟩ : (Finset.univ : Finset (Fin 128)).Nonempty) fun k => |f k.val|
    unfold amax
    rw [hk]
    exact h k

theorem chan_lt {n : ℕ} (h : n < 128) : chan n < 128 := by unfold chan; omega
theorem chan_inv {k : ℕ} (h : k < 128) : chan (k / 2 + 64 * (k % 2)) = k := by unfold chan; omega

theorem slabMax_le_iff (a : ℕ) (ha : a < 2) (ho : S256x256.Slices ![128 * a, 0] S128x256) (v : FVec Ideal S256x256 .f32) (k : Fin 8) (l : Fin 256) (x : EReal) :
    (slabMax ![128 * a, 0] ho v (ix2 k l) : EReal) ≤ x
      ↔ ∀ y : Fin 16, (FloatOps.absf (v (ix2 ⟨128 * a + (y.val * 8 + k.val), by omega⟩ l)) : EReal) ≤ x := by
  have e : slabMax ![128 * a, 0] ho v (ix2 k l)
      = Finset.fold max (Ideal.ofBits FTy.f32 4286578688#32) (fun y : Fin 16 => (FloatOps.absf (v (ix2 ⟨128 * a + (y.val * 8 + k.val), by omega⟩ l)) : EReal)) Finset.univ := by
    unfold slabMax
    pointwise
  rw [e, ofBits_neg_inf, Finset.fold_max_le]
  simp

variable (rv : Fin 11 → Fin 4 → FVec Ideal S256x256 .f32) (f : ℕ → ℕ → ℕ → ℝ)

/-- The rotated tiles hold `f row group channel`. -/
def Holds : Prop := ∀ (c : Fin 11) (j : Fin 4) (n l : Fin 256),
  rv c j (ix2 n l) = ((f (256 * c.val + l.val) (2 * j.val + n.val / 128) (chan (n.val % 128)) : ℝ) : EReal)

theorem grpMax_le_iff (h : Holds rv f) (c : Fin 11) (s : Fin 8) (k : Fin 8) (l : Fin 256) (x : EReal) :
    (grpMax rv c s (ix2 k l) : EReal) ≤ x
      ↔ ∀ y : Fin 16, ((|f (256 * c.val + l.val) s.val (chan (y.val * 8 + k.val))| : ℝ) : EReal) ≤ x := by
  unfold grpMax
  split
  · rename_i hs
    refine (slabMax_le_iff 0 (by omega) Gen.slices_S256x256_o0_0_S128x256 _ k l x).trans (forall_congr' fun y => ?_)
    rw [h, absf_coe]
    rw [show 2 * (s.val / 2) + (128 * 0 + (y.val * 8 + k.val)) / 128 = s.val by omega, show (128 * 0 + (y.val * 8 + k.val)) % 128 = y.val * 8 + k.val by omega]
  · rename_i hs
    refine (slabMax_le_iff 1 (by omega) Gen.slices_S256x256_o128_0_S128x256 _ k l x).trans (forall_congr' fun y => ?_)
    rw [h, absf_coe]
    rw [show 2 * (s.val / 2) + (128 * 1 + (y.val * 8 + k.val)) / 128 = s.val by omega, show (128 * 1 + (y.val * 8 + k.val)) % 128 = y.val * 8 + k.val by omega]

theorem slabL_apply (m : FVec Ideal S8x256 .f32) (k : Fin 8) (n : Fin 128) : slabL m (ix4 0 0 k n) = m (ix2 k ⟨n.val, by omega⟩) := by
  unfold slabL
  pointwise

theorem slabR_apply (m : FVec Ideal S8x256 .f32) (k : Fin 8) (n : Fin 128) : slabR m (ix4 0 0 k n) = m (ix2 k ⟨128 + n.val, by omega⟩) := by
  unfold slabR
  pointwise

theorem sIdx_eq (k : Fin 8) (n : Fin 128) : sIdx k.val n.val = ix4 0 0 k n := by
  funext a; refine Fin.ext ?_; fin_cases a
  · rfl
  · rfl
  · exact Nat.mod_eq_of_lt k.isLt
  · exact Nat.mod_eq_of_lt n.isLt

theorem sRow_apply (c : Fin 11) (l : Fin 2) (k : Fin 8) (s : Fin 8) (n : Fin 128) :
    slabRow (sRow rv c l k.val) (ix2 s n) = grpMax rv c s (ix2 k ⟨128 * l.val + n.val, by omega⟩) := by
  have e : slabRow (sRow rv c l k.val) (ix2 s n) = sRow rv c l k.val (ix4 0 0 s n) := by pointwise
  rw [e]
  show sTile rv c l s (sIdx k.val n.val) = _
  rw [sIdx_eq]
  unfold sTile
  split
  · rename_i hl
    subst hl
    rw [slabL_apply]
    exact congrArg _ (congrArg (ix2 k) (Fin.ext (by show n.val = 128 * 0 + n.val; omega)))
  · rename_i hl
    have hl' : l.val = 1 := by have := l.isLt; have : l.val ≠ 0 := fun e => hl (Fin.ext e); omega
    rw [slabR_apply]
    exact congrArg _ (congrArg (ix2 k) (Fin.ext (by show 128 + n.val = 128 * l.val + n.val; omega)))

theorem mxOf_max (c : Fin 11) (l : Fin 2) (s : Fin 8) (n : Fin 128) (x : EReal) :
    (mxOf rv c l (ix2 s n) : EReal) ≤ x ↔ ∀ k : Fin 8, (slabRow (sRow rv c l k.val) (ix2 s n) : EReal) ≤ x := by
  have e : (mxOf rv c l (ix2 s n) : EReal) = max (max (max (max (max (max (max (slabRow (sRow rv c l 0) (ix2 s n) : EReal) (slabRow (sRow rv c l 1) (ix2 s n)))
    (slabRow (sRow rv c l 2) (ix2 s n))) (slabRow (sRow rv c l 3) (ix2 s n))) (slabRow (sRow rv c l 4) (ix2 s n))) (slabRow (sRow rv c l 5) (ix2 s n)))
    (slabRow (sRow rv c l 6) (ix2 s n))) (slabRow (sRow rv c l 7) (ix2 s n)) := rfl
  rw [e]
  simp only [max_le_iff]
  constructor
  · rintro ⟨⟨⟨⟨⟨⟨⟨h0, h1⟩, h2⟩, h3⟩, h4⟩, h5⟩, h6⟩, h7⟩ k
    fin_cases k <;> assumption
  · intro h
    exact ⟨⟨⟨⟨⟨⟨⟨h 0, h 1⟩, h 2⟩, h 3⟩, h 4⟩, h 5⟩, h 6⟩, h 7⟩

/-- The largest magnitude of a group of a row. -/
theorem mxOf_real (h : Holds rv f) (c : Fin 11) (l : Fin 2) (s : Fin 8) (n : Fin 128) :
    mxOf rv c l (ix2 s n) = ((amax (f (256 * c.val + (128 * l.val + n.val)) s.val) : ℝ) : EReal) := by
  refine eq_of_forall_ge_iff fun x => ?_
  rw [amax_le_iff]
  refine (mxOf_max rv c l s n x).trans ⟨fun H ch => ?_, fun H k => ?_⟩
  · have hc := ch.isLt
    have h1 := H ⟨(ch.val / 2 + 64 * (ch.val % 2)) % 8, by omega⟩
    rw [sRow_apply, grpMax_le_iff rv f h] at h1
    have h2 := h1 ⟨(ch.val / 2 + 64 * (ch.val % 2)) / 8, by omega⟩
    rw [show (ch.val / 2 + 64 * (ch.val % 2)) / 8 * 8 + (ch.val / 2 + 64 * (ch.val % 2)) % 8 = ch.val / 2 + 64 * (ch.val % 2) by omega, chan_inv hc] at h2
    exact h2
  · rw [sRow_apply, grpMax_le_iff rv f h]
    intro y
    exact H ⟨chan (y.val * 8 + k.val), chan_lt (by omega)⟩

theorem scaleOf_real (m : FVec Ideal S8x128 .f32) (g : ℕ → ℝ) (y : S8x128.Idx) (hm : m y = ((amax g : ℝ) : EReal)) :
    scaleOf m y = ((scl g : ℝ) : EReal) := by
  have e : scaleOf m y = Scalar.select (Ideal.cmp .oeq ((m y : EReal) * Ideal.ofBits .f32 0x3DB504F3#32) (Ideal.ofBits .f32 0x00000000#32))
      (Ideal.ofBits .f32 0x3F800000#32) (Ideal.div ((m y : EReal) * Ideal.ofBits .f32 0x3DB504F3#32) (Ideal.ofBits .f32 0x40E00000#32)) := rfl
  rw [e, hm, ofBits_nrm, ofBits_zero, ofBits_one, ofBits_seven, ← EReal.coe_mul, Ideal.div_coe (by norm_num), ← EReal.coe_mul]
  unfold scl Scalar.select Ideal.cmp
  by_cases h0 : amax g * nrm = 0
  · rw [if_pos h0, h0, if_pos (by simp)]
  · have h1 : decide (((amax g * nrm : ℝ) : EReal) = ((0 : ℝ) : EReal)) = false := decide_eq_false fun hc => h0 (EReal.coe_eq_coe_iff.mp hc)
    rw [if_neg h0, if_neg (by show ¬ BitVec.ofBool (decide (((amax g * nrm : ℝ) : EReal) = ((0 : ℝ) : EReal))) = 1#1; rw [h1]; decide)]
    congr 1; ring

theorem recipOf_real (m : FVec Ideal S8x128 .f32) (g : ℕ → ℝ) (y : S8x128.Idx) (hm : m y = ((scl g : ℝ) : EReal)) :
    recipOf m y = ((nrm / scl g : ℝ) : EReal) := by
  have e : recipOf m y = Ideal.div (Ideal.ofBits .f32 0x3DB504F3#32) (m y : EReal) := rfl
  rw [e, hm, ofBits_nrm, Ideal.div_coe (scl_pos g).ne', ← EReal.coe_mul]
  congr 1; ring

theorem newV_real (h : Holds rv f) (c : Fin 11) (j : Fin 4) (n l : Fin 256) :
    newV rv (ix4 c j n l) = ((f (256 * c.val + l.val) (2 * j.val + n.val / 128) (chan (n.val % 128)) : ℝ) : EReal) := by
  rw [← h c j n l]
  unfold newV
  have e : (modIdx S1x1x256x256 (s := S11x4x256x256) rfl (by decide) (ix4 c j n l)) = ix4 0 0 n l := by
    funext a; refine Fin.ext ?_; fin_cases a
    · exact Nat.mod_one _
    · exact Nat.mod_one _
    · exact Nat.mod_eq_of_lt n.isLt
    · exact Nat.mod_eq_of_lt l.isLt
  rw [e]
  show shapeCast S1x1x256x256 (rv c j) _ (ix4 0 0 n l) = _
  pointwise

theorem newR_real (h : Holds rv f) (c : Fin 11) (s : Fin 8) (l : Fin 256) :
    newR rv (ix3 c s l) = ((nrm / scl (f (256 * c.val + l.val) s.val) : ℝ) : EReal) := by
  unfold newR
  have e : (modIdx S1x8x128 (s := S11x8x256) rfl (by decide) (ix3 c s l)) = ix3 0 s ⟨l.val % 128, by omega⟩ := by
    funext a; refine Fin.ext ?_; fin_cases a
    · exact Nat.mod_one _
    · exact Nat.mod_eq_of_lt s.isLt
    · rfl
  rw [e]
  show shapeCast S1x8x128 (recipOf (scaleOf (mxOf rv c ⟨l.val / 128, by omega⟩))) _ (ix3 0 s ⟨l.val % 128, by omega⟩) = _
  have e2 : ∀ z : FVec Ideal S8x128 .f32, shapeCast S1x8x128 z Gen.shapeCasts_S8x128_S1x8x128 (ix3 0 s ⟨l.val % 128, by omega⟩) = z (ix2 s ⟨l.val % 128, by omega⟩) := by
    intro z; pointwise
  rw [e2]
  refine recipOf_real _ _ _ (scaleOf_real _ _ _ ((mxOf_real rv f h _ _ _ _).trans ?_))
  rw [show 256 * c.val + (128 * (l.val / 128) + l.val % 128) = 256 * c.val + l.val by omega]

theorem newSc_real (h : Holds rv f) (a : Fin 2) (s : Fin 8) (r : Fin 1408) :
    newSc rv (ix3 a s r) = ((scl (f (1408 * a.val + r.val) s.val) : ℝ) : EReal) := by
  unfold newSc
  have e : (modIdx S1x8x128 (s := S2x8x1408) rfl (by decide) (ix3 a s r)) = ix3 0 s ⟨r.val % 128, by omega⟩ := by
    funext a; refine Fin.ext ?_; fin_cases a
    · exact Nat.mod_one _
    · exact Nat.mod_eq_of_lt s.isLt
    · rfl
  rw [e]
  have e2 : ∀ z : FVec Ideal S8x128 .f32, shapeCast S1x8x128 z Gen.shapeCasts_S8x128_S1x8x128 (ix3 0 s ⟨r.val % 128, by omega⟩) = z (ix2 s ⟨r.val % 128, by omega⟩) := by
    intro z; pointwise
  rw [e2]
  refine scaleOf_real _ _ _ ((mxOf_real rv f h _ _ _ _).trans ?_)
  show ((amax (f (256 * ((1408 * a.val + r.val) / 256) + (128 * ((1408 * a.val + r.val) % 256 / 128) + r.val % 128)) s.val) : ℝ) : EReal) = _
  rw [show 256 * ((1408 * a.val + r.val) / 256) + (128 * ((1408 * a.val + r.val) % 256 / 128) + r.val % 128) = 1408 * a.val + r.val by omega]

end Cert.Val

end
-- ==== Proof.Val.Bits.lean ====
module

public import proofs.«01_k».proof.Proof.Val.Maxima
public import Idealize.ShloMosaic.Lib.BitcastPair

/-! The bytes of a block whose rotated tiles and factors are known: two codes to a byte. -/

@[expose] public section

noncomputable section

namespace Cert.Val

open Cert.KernelIdeal Cert.KernelIdeal.Gen
open Idealize.ShloMosaic

/-- A code as a 16-bit word, eight added. -/
def word (a : ℤ) : BitVec 16 := BitVec.setWidth 16 (BitVec.ofInt 32 a + 8#32)

theorem word_lt : ∀ a : Fin 15, (word ((a.val : ℤ) - 7)).toNat < 16 := by decide +kernel

theorem byte_word : ∀ a b : Fin 15, BitVec.setWidth 8 (word ((a.val : ℤ) - 7) ||| word ((b.val : ℤ) - 7) <<< 4) ^^^ 0x88#8
    = byte ((a.val : ℤ) - 7) ((b.val : ℤ) - 7) := by decide +kernel

theorem low_half (X0 X1 Y0 Y1 : BitVec 16) :
    BitVec.setWidth 8 (BitVec.extractLsb' 0 16 (((X1 ++ X0) ||| ((Y1 ++ Y0) <<< 4)) ^^^ 8913032#32))
      = BitVec.setWidth 8 (X0 ||| Y0 <<< 4) ^^^ 0x88#8 := by
  refine BitVec.eq_of_getLsbD_eq fun i hi => ?_
  have e : (8913032#32).getLsbD i = (0x88#8).getLsbD i := by
    have : ∀ i : Fin 8, (8913032#32).getLsbD i.val = (0x88#8).getLsbD i.val := by decide
    exact this ⟨i, hi⟩
  simp only [BitVec.getLsbD_setWidth, BitVec.getLsbD_extractLsb', BitVec.getLsbD_xor, BitVec.getLsbD_or, BitVec.getLsbD_append,
    BitVec.getLsbD_shiftLeft, Nat.zero_add, e]
  rw [if_pos (by omega), if_pos (by omega)]
  simp [hi, show i < 16 by omega, show i < 32 by omega]

theorem high_half (X0 X1 Y0 Y1 : BitVec 16) (hY : Y0.toNat < 16) :
    BitVec.setWidth 8 (BitVec.extractLsb' 16 16 (((X1 ++ X0) ||| ((Y1 ++ Y0) <<< 4)) ^^^ 8913032#32))
      = BitVec.setWidth 8 (X1 ||| Y1 <<< 4) ^^^ 0x88#8 := by
  refine BitVec.eq_of_getLsbD_eq fun i hi => ?_
  have e : (8913032#32).getLsbD (16 + i) = (0x88#8).getLsbD i := by
    have : ∀ i : Fin 8, (8913032#32).getLsbD (16 + i.val) = (0x88#8).getLsbD i.val := by decide
    exact this ⟨i, hi⟩
  have z : ∀ j, 4 ≤ j → Y0.getLsbD j = false := fun j hj =>
    Nat.testBit_lt_two_pow (lt_of_lt_of_le hY (by calc 16 = 2 ^ 4 := rfl
                                                    _ ≤ 2 ^ j := Nat.pow_le_pow_right (by omega) hj))
  simp only [BitVec.getLsbD_setWidth, BitVec.getLsbD_extractLsb', BitVec.getLsbD_xor, BitVec.getLsbD_or, BitVec.getLsbD_append,
    BitVec.getLsbD_shiftLeft, e]
  rw [if_neg (by omega)]
  by_cases h4 : i < 4
  · rw [if_pos (by omega), z _ (by omega)]
    simp [hi, h4, show i < 16 by omega, show 16 + i < 32 by omega]
  · rw [if_neg (by omega)]
    simp [hi, h4, show i < 16 by omega, show 16 + i < 32 by omega, show 16 + i - 4 - 16 = i - 4 by omega, show ¬ 16 + i < 4 by omega]

theorem fptosi_code (a : ℤ) (h1 : -7 ≤ a) (h2 : a ≤ 7) : Ideal.fptosi 32 (((a : ℤ) : ℝ) : EReal) = BitVec.ofInt 32 a := by
  show BitVec.ofInt 32 (max (-(2 ^ 31 : ℕ) : ℤ) (min ((2 ^ 31 : ℕ) - 1 : ℤ) (if (0 : ℝ) ≤ (a : ℝ) then ⌊(a : ℝ)⌋ else ⌈(a : ℝ)⌉))) = _
  rw [Int.floor_intCast, Int.ceil_intCast, ite_self]
  congr 1
  rw [min_eq_right (by norm_num; omega), max_eq_right (by norm_num; omega)]

/-- The 16-bit words of a group, before they are paired. -/
def wordsOf (v : Vec Ideal S1x1x128x256 .f32) (r : Vec Ideal S1x1x256 .f32) : IVec S128x256 16 :=
  trunci 16 (addi (fptosi (F := Ideal) (φ := .f32) 32 (roundeven (minimumf (maximumf
      (mulf (shapeCast S128x256 v Gen.shapeCasts_S1x1x128x256_S128x256)
        (broadcastTo S128x256 (shapeCast S1x256 r Gen.shapeCasts_S1x1x256_S1x256) Gen.broadcasts_S1x256_S128x256))
      (broadcast S128x256 (Scalar.ofBits .f32 0xC0E00000#32)))
      (broadcast S128x256 (Scalar.ofBits .f32 0x40E00000#32))))) (broadcast S128x256 8#32)) Gen.natLt_16_32

theorem wordsOf_real (v : Vec Ideal S1x1x128x256 .f32) (r : Vec Ideal S1x1x256 .f32) (g : ℕ → ℝ) (n : Fin 128) (l : Fin 256)
    (hv : v (ix4 0 0 n l) = ((g (chan n.val) : ℝ) : EReal)) (hr : r (ix3 0 0 l) = ((nrm / scl g : ℝ) : EReal)) :
    wordsOf v r (ix2 n l) = word (cod g (chan n.val)) := by
  have e : wordsOf v r (ix2 n l) = BitVec.setWidth 16 (Ideal.fptosi 32 (Ideal.liftRound Ideal.roundHalfEven
      (min (max ((v (ix4 0 0 n l) : EReal) * (r (ix3 0 0 l) : EReal)) (Ideal.ofBits .f32 0xC0E00000#32)) (Ideal.ofBits .f32 0x40E00000#32))) + 8#32) := by
    unfold wordsOf
    pointwise
    rfl
  rw [e, hv, hr, ofBits_neg_seven, ofBits_seven, ← EReal.coe_mul, ← EReal.coe_strictMono.monotone.map_max, ← EReal.coe_strictMono.monotone.map_min,
    Ideal.liftRound_coe]
  exact congrArg (fun z => BitVec.setWidth 16 (z + 8#32)) (fptosi_code _ (le_cod g _) (cod_le g _))

theorem pair_apply (x : IVec S128x256 16) (r : Fin 64) (l : Fin 256) :
    bitcast S64x256 32 x Gen.bitcasts_S128x256_w16_S64x256_w32 (ix2 r l)
      = (x (ix2 ⟨2 * r.val + 1, by omega⟩ l) ++ x (ix2 ⟨2 * r.val, by omega⟩ l) : BitVec 32) := by
  rw [bitcast_16_32]
  have e : ∀ (p : ℕ) (hp : p < 128) (h : _), Shape.Bitcasts.srcIdx Gen.bitcasts_S128x256_w16_S64x256_w32 (ix2 r l) p h = (ix2 (⟨p, hp⟩ : Fin 128) l : S128x256.Idx) := by
    intro p hp h
    funext a; refine Fin.ext ?_; fin_cases a
    · exact Shape.Bitcasts.srcIdx_row _ _ _ _ _ rfl
    · exact Shape.Bitcasts.srcIdx_other _ _ _ _ _ (by decide)
  exact congrArg₂ (fun (y z : BitVec 16) => (y ++ z : BitVec 32)) (congrArg x (e _ (show 2 * r.val + 1 < 128 by omega) _)) (congrArg x (e _ (show 2 * r.val < 128 by omega) _))

theorem unpair_apply (x : IVec S64x256 32) (q : Fin 128) (l : Fin 256) :
    bitcast S128x256 16 x Gen.bitcasts_S64x256_w32_S128x256_w16 (ix2 q l)
      = BitVec.extractLsb' (16 * (q.val % 2)) 16 (x (ix2 ⟨q.val / 2, by omega⟩ l)) := by
  rw [bitcast_32_16]
  have e : ∀ (p : ℕ) (hp : p < 64) (h : _), Shape.Bitcasts.srcIdx Gen.bitcasts_S64x256_w32_S128x256_w16 (ix2 q l) p h = (ix2 (⟨p, hp⟩ : Fin 64) l : S64x256.Idx) := by
    intro p hp h
    funext a; refine Fin.ext ?_; fin_cases a
    · exact Shape.Bitcasts.srcIdx_row _ _ _ _ _ rfl
    · exact Shape.Bitcasts.srcIdx_other _ _ _ _ _ (by decide)
  exact congrArg (BitVec.extractLsb' (16 * (q.val % 2)) 16) (congrArg x (e _ (show q.val / 2 < 64 by omega) _))

theorem groupBytes_apply (v : Vec Ideal S1x1x128x256 .f32) (r : Vec Ideal S1x1x256 .f32) (w : Fin 32) (l : Fin 256) :
    groupBytes v r (ix2 w l) =
      (((wordsOf v r (ix2 ⟨2 * w.val + 1, by omega⟩ l) ++ wordsOf v r (ix2 ⟨2 * w.val, by omega⟩ l) : BitVec 32))
        ||| (wordsOf v r (ix2 ⟨2 * (32 + w.val) + 1, by omega⟩ l) ++ wordsOf v r (ix2 ⟨2 * (32 + w.val), by omega⟩ l) : BitVec 32) <<< 4) ^^^ 8913032#32 := by
  rw [← pair_apply (wordsOf v r) ⟨w.val, by omega⟩ l, ← pair_apply (wordsOf v r) ⟨32 + w.val, by omega⟩ l]
  have e : groupBytes v r = xori (ori (extractStridedSlice S32x256 ![0, 0] (bitcast S64x256 32 (wordsOf v r) Gen.bitcasts_S128x256_w16_S64x256_w32) Gen.slices_S64x256_o0_0_S32x256)
      (shli (extractStridedSlice S32x256 ![32, 0] (bitcast S64x256 32 (wordsOf v r) Gen.bitcasts_S128x256_w16_S64x256_w32) Gen.slices_S64x256_o32_0_S32x256) (broadcast S32x256 4#32)))
    (broadcast S32x256 8913032#32) := rfl
  rw [e]
  generalize bitcast S64x256 32 (wordsOf v r) Gen.bitcasts_S128x256_w16_S64x256_w32 = z
  pointwise
  rfl

theorem packTile_apply (a b : IVec S32x256 32) (l : Fin 256) (q : Fin 128) :
    packTile a b (ix3 0 l q) = BitVec.setWidth 8 (BitVec.extractLsb' (16 * (q.val % 2)) 16
      (if h : q.val / 2 < 32 then a (ix2 ⟨q.val / 2, h⟩ l) else b (ix2 ⟨q.val / 2 - 32, by omega⟩ l))) := by
  unfold packTile
  pointwise
  rw [unpair_apply]
  pointwise

/-- The byte of channels `2 p` and `2 p + 1` of a group. -/
theorem groupByte_real (v : Vec Ideal S1x1x128x256 .f32) (r : Vec Ideal S1x1x256 .f32) (g : ℕ → ℝ) (l : Fin 256)
    (hv : ∀ n : Fin 128, v (ix4 0 0 n l) = ((g (chan n.val) : ℝ) : EReal)) (hr : r (ix3 0 0 l) = ((nrm / scl g : ℝ) : EReal)) (p : Fin 64) :
    BitVec.setWidth 8 (BitVec.extractLsb' (16 * (p.val % 2)) 16 (groupBytes v r (ix2 ⟨p.val / 2, by omega⟩ l)))
      = byte (cod g (2 * p.val)) (cod g (2 * p.val + 1)) := by
  have hw : ∀ n : Fin 128, wordsOf v r (ix2 n l) = word (cod g (chan n.val)) := fun n => wordsOf_real v r g n l (hv n) hr
  rw [groupBytes_apply, hw, hw, hw, hw]
  have hk : ∀ k, ∃ a : Fin 15, cod g k = (a.val : ℤ) - 7 := fun k =>
    ⟨⟨(cod g k + 7).toNat, by have := cod_le g k; have := le_cod g k; omega⟩, by have := cod_le g k; have := le_cod g k; show cod g k = ((cod g k + 7).toNat : ℤ) - 7; omega⟩
  rcases Nat.mod_two_eq_zero_or_one p.val with h | h
  · rw [h, low_half]
    show BitVec.setWidth 8 (word (cod g (chan (2 * (p.val / 2)))) ||| word (cod g (chan (2 * (32 + p.val / 2)))) <<< 4) ^^^ 0x88#8 = _
    rw [show chan (2 * (p.val / 2)) = 2 * p.val by unfold chan; omega, show chan (2 * (32 + p.val / 2)) = 2 * p.val + 1 by unfold chan; omega]
    obtain ⟨a, ha⟩ := hk (2 * p.val)
    obtain ⟨b, hb⟩ := hk (2 * p.val + 1)
    rw [ha, hb]
    exact byte_word a b
  · rw [h, high_half]
    · show BitVec.setWidth 8 (word (cod g (chan (2 * (p.val / 2) + 1))) ||| word (cod g (chan (2 * (32 + p.val / 2) + 1))) <<< 4) ^^^ 0x88#8 = _
      rw [show chan (2 * (p.val / 2) + 1) = 2 * p.val by unfold chan; omega, show chan (2 * (32 + p.val / 2) + 1) = 2 * p.val + 1 by unfold chan; omega]
      obtain ⟨a, ha⟩ := hk (2 * p.val)
      obtain ⟨b, hb⟩ := hk (2 * p.val + 1)
      rw [ha, hb]
      exact byte_word a b
    · obtain ⟨a, ha⟩ := hk (chan (2 * (32 + p.val / 2)))
      show (word (cod g (chan (2 * (32 + p.val / 2))))).toNat < 16
      rw [ha]
      exact word_lt a

variable (rv : Fin 11 → Fin 4 → FVec Ideal S256x256 .f32) (f : ℕ → ℕ → ℕ → ℝ)

theorem rdV (V : Vec Ideal S11x4x256x256 .f32) (c : Fin 11) (j : Fin 4) (o : ℕ) (ho : o ≤ 128) (n : Fin 128) (l : Fin 256) :
    rd V (Rect.unit (s := S11x4x256x256) ![c.val, j.val, o, 0] S1x1x128x256.size (inbVh c.val c.isLt j.val j.isLt o ho)).toLoadRect (ix4 0 0 n l)
      = V (ix4 c j ⟨o + n.val, by omega⟩ l) := by
  pointwise [rd]

theorem rdR (R : Vec Ideal S11x8x256 .f32) (c : Fin 11) (s : ℕ) (hs : s < 8) (l : Fin 256) :
    rd R (Rect.unit (s := S11x8x256) ![c.val, s, 0] S1x1x256.size (inbR c.val c.isLt s hs)).toLoadRect (ix3 0 0 l)
      = R (ix3 c ⟨s, hs⟩ l) := by
  pointwise [rd]

theorem codeTile_real (h : Holds rv f) (c : Fin 11) (j : Fin 4) (l : Fin 256) (q : Fin 128) :
    codeTile (newV rv) (newR rv) c j (ix3 0 l q)
      = byte (cod (f (256 * c.val + l.val) (2 * j.val + q.val / 64)) (2 * (q.val % 64))) (cod (f (256 * c.val + l.val) (2 * j.val + q.val / 64)) (2 * (q.val % 64) + 1)) := by
  unfold codeTile
  rw [packTile_apply]
  split
  · rename_i hq
    have hq' : q.val / 64 = 0 := by omega
    have hq2 : q.val % 64 = q.val := by omega
    rw [hq', hq2, Nat.add_zero]
    refine groupByte_real _ _ _ l (fun n => ?_) ?_ ⟨q.val, by omega⟩
    · refine (rdV _ c j 0 (by omega) n l).trans ((newV_real rv f h _ _ _ _).trans ?_)
      show ((f _ (2 * j.val + (0 + n.val) / 128) (chan ((0 + n.val) % 128)) : ℝ) : EReal) = _
      rw [show 2 * j.val + (0 + n.val) / 128 = 2 * j.val by omega, show (0 + n.val) % 128 = n.val by omega]
    · exact (rdR _ c _ (by omega) l).trans (newR_real rv f h _ _ _)
  · rename_i hq
    have hq' : q.val / 64 = 1 := by omega
    have hq2 : q.val % 64 = q.val - 64 := by omega
    rw [hq', hq2]
    have e1 : (⟨q.val / 2 - 32, by omega⟩ : Fin 32) = ⟨(q.val - 64) / 2, by omega⟩ := Fin.ext (show q.val / 2 - 32 = (q.val - 64) / 2 by omega)
    rw [e1, show q.val % 2 = (q.val - 64) % 2 by omega]
    refine groupByte_real _ _ _ l (fun n => ?_) ?_ ⟨q.val - 64, by omega⟩
    · refine (rdV _ c j 128 (by omega) n l).trans ((newV_real rv f h _ _ _ _).trans ?_)
      show ((f _ (2 * j.val + (128 + n.val) / 128) (chan ((128 + n.val) % 128)) : ℝ) : EReal) = _
      rw [show 2 * j.val + (128 + n.val) / 128 = 2 * j.val + 1 by omega, show (128 + n.val) % 128 = n.val by omega]
    · exact (rdR _ c _ (by omega) l).trans (newR_real rv f h _ _ _)

theorem newC_real (h : Holds rv f) (r : Fin 2816) (q : Fin 512) :
    newC (newV rv) (newR rv) (ix3 0 r q)
      = byte (cod (f r.val (q.val / 64)) (2 * (q.val % 64))) (cod (f r.val (q.val / 64)) (2 * (q.val % 64) + 1)) := by
  unfold newC
  have e : (modIdx S1x256x128 (s := S1x2816x512) rfl (by decide) (ix3 0 r q)) = ix3 0 ⟨r.val % 256, by omega⟩ ⟨q.val % 128, by omega⟩ := by
    funext a; refine Fin.ext ?_; fin_cases a
    · exact Nat.mod_one _
    · rfl
    · rfl
  rw [e]
  refine (codeTile_real rv f h ⟨r.val / 256, by omega⟩ ⟨q.val / 128, by omega⟩ _ _).trans ?_
  show byte (cod (f (256 * (r.val / 256) + r.val % 256) (2 * (q.val / 128) + q.val % 128 / 64)) (2 * (q.val % 128 % 64)))
    (cod (f (256 * (r.val / 256) + r.val % 256) (2 * (q.val / 128) + q.val % 128 / 64)) (2 * (q.val % 128 % 64) + 1)) = _
  rw [show 256 * (r.val / 256) + r.val % 256 = r.val by omega, show 2 * (q.val / 128) + q.val % 128 / 64 = q.val / 64 by omega, show q.val % 128 % 64 = q.val % 64 by omega]

end Cert.Val

end
-- ==== Proof.Val.RefOut.lean ====
module

public import proofs.«01_k».proof.Proof.Val.Rows
public import proofs.«01_k».proof.Proof.Val.Bits

/-! The reference's scales and bytes from real rows and real signs. -/

@[expose] public section

noncomputable section

namespace Cert.Val

open Cert.ReferenceIdeal Cert.ReferenceIdeal.Gen Cert.ReferenceIdeal.Value
open Idealize.ShloMosaic

/-- A positive factor comes out of the largest magnitude. -/
theorem amax_mul (f : ℕ → ℝ) (c : ℝ) (hc : 0 < c) : amax (fun k => f k * c) = amax f * c := by
  refine le_antisymm ?_ ?_
  · refine Finset.sup'_le _ _ fun k _ => ?_
    rw [abs_mul, abs_of_pos hc]
    exact mul_le_mul_of_nonneg_right (Finset.le_sup' (fun k : Fin 128 => |f k.val|) (Finset.mem_univ k)) hc.le
  · obtain ⟨k, _, hk⟩ := Finset.exists_mem_eq_sup' (⟨0, Finset.mem_univ _⟩ : (Finset.univ : Finset (Fin 128)).Nonempty) fun k => |f k.val|
    have h : |f k.val * c| ≤ amax (fun k => f k * c) := Finset.le_sup' (fun k : Fin 128 => |f k.val * c|) (Finset.mem_univ k)
    rw [abs_mul, abs_of_pos hc] at h
    have e : amax f = |f k.val| := hk
    rw [e]
    exact h

theorem rowMax_apply (x : FVec Ideal S40x1408x32x128 .f32) (b : Fin 40) (r : Fin 1408) (g : Fin 32) :
    Host.reduce FloatOps.maximumf (Host.absf x) (constant (F := Ideal) S_ .f32 0xFF800000#32) reducesTo_S40x1408x32x128_S40x1408x32_d3 h_S_ (ix3 b r g)
      = Finset.fold max (Ideal.ofBits FTy.f32 0xFF800000#32) (fun k : Fin 128 => (FloatOps.absf (F := Ideal) (φ := .f32) (x (ix4 b r g k)) : EReal)) Finset.univ := by
  pointwise

variable (V0 : Valuation τ sig (Elt Ideal)) (W : ℕ → ℕ → ℕ → ℝ) (S : ℕ → ℝ)
  (hW : ∀ (b : Fin 40) (r : Fin 1408) (k : Fin 4096), (V0 (Proc.devRef .tc main_arg0) : FVec Ideal S40x1408x4096 .bf16) (ix3 b r k) = ((W b.val r.val k.val : ℝ) : EReal))
  (hS : ∀ k : Fin 4096, (V0 (Proc.devRef .tc main_arg1) : FVec Ideal S4096 .f32) (ix1 k) = ((S k.val : ℝ) : EReal))

include hW hS in
/-- The largest normalised magnitude of a group. -/
theorem v85_real (b : Fin 40) (r : Fin 1408) (g : Fin 32) :
    (res_main_v85 V0 : FVec Ideal S40x1408x32 .f32) (ix3 b r g) = ((amax (rotv W S b.val r.val g.val) * nrm : ℝ) : EReal) := by
  rw [← amax_mul _ _ nrm_pos]
  refine (rowMax_apply (res_main_v83 V0) b r g).trans (eq_of_forall_ge_iff fun x => ?_)
  rw [amax_le_iff, ofBits_neg_inf, Finset.fold_max_le]
  simp only [bot_le, true_and, Finset.mem_univ, forall_true_left]
  refine forall_congr' fun k => ?_
  rw [v83_real V0 W S hW hS, absf_coe]

/-- The scales, from the largest magnitudes. -/
def refScale (a : FVec Ideal S40x1408x32 .f32) : FVec Ideal S40x1408x32 .f32 :=
  select (cmpf .oeq a (broadcastInDim S40x1408x32 ![] bcast_S_S40x1408x32 (constant S_ .f32 0x00000000#32))) (broadcastInDim S40x1408x32 ![] bcast_S_S40x1408x32 (constant S_ .f32 0x3F800000#32)) (Host.divf a (broadcastInDim S40x1408x32 ![] bcast_S_S40x1408x32 (constant S_ .f32 0x40E00000#32)))

theorem refScale_real (a : FVec Ideal S40x1408x32 .f32) (f : ℕ → ℝ) (y : S40x1408x32.Idx) (ha : a y = ((amax f * nrm : ℝ) : EReal)) :
    refScale a y = ((scl f : ℝ) : EReal) := by
  have e : refScale a y = Scalar.select (Ideal.cmp .oeq (a y : EReal) (Ideal.ofBits .f32 0x00000000#32))
      (Ideal.ofBits .f32 0x3F800000#32) (Ideal.div (a y : EReal) (Ideal.ofBits .f32 0x40E00000#32)) := rfl
  rw [e, ha, ofBits_zero, ofBits_one, ofBits_seven, Ideal.div_coe (by norm_num), ← EReal.coe_mul]
  unfold scl Scalar.select Ideal.cmp
  by_cases h0 : amax f * nrm = 0
  · rw [if_pos h0, h0, if_pos (by simp)]
  · have h1 : decide (((amax f * nrm : ℝ) : EReal) = ((0 : ℝ) : EReal)) = false := decide_eq_false fun hc => h0 (EReal.coe_eq_coe_iff.mp hc)
    rw [if_neg h0, if_neg (by show ¬ BitVec.ofBool (decide (((amax f * nrm : ℝ) : EReal) = ((0 : ℝ) : EReal))) = 1#1; rw [h1]; decide)]
    congr 1; ring

/-- The codes' low four bits, from the normalised values and the scales. -/
def refNib (v : FVec Ideal S40x1408x32x128 .f32) (s : FVec Ideal S40x1408x32 .f32) : IVec S40x1408x4096 32 :=
  andi (shapeCast _ (fptosi (F := Ideal) (φ := .f32) 32 (minimumf (broadcastInDim S40x1408x32x128 ![] bcast_S_S40x1408x32x128 (id (constant S_ .f32 0x40E00000#32))) (maximumf (broadcastInDim S40x1408x32x128 ![] bcast_S_S40x1408x32x128 (id (constant S_ .f32 0xC0E00000#32))) (Host.roundeven (Host.divf v (broadcastInDim S40x1408x32x128 ![0, 1, 2, 3] bcast_S40x1408x32x1_S40x1408x32x128_0_1_2_3 (broadcastInDim S40x1408x32x1 ![0, 1, 2] bcast_S40x1408x32_S40x1408x32x1_0_1_2 s))))))) shapeCasts_S40x1408x32x128_S40x1408x4096) (broadcastInDim S40x1408x4096 ![] bcast_S_S40x1408x4096 (constantI S_ 32 15#32))

theorem refNib_apply (v : FVec Ideal S40x1408x32x128 .f32) (s : FVec Ideal S40x1408x32 .f32) (b : Fin 40) (r : Fin 1408) (k : Fin 4096) :
    refNib v s (ix3 b r k) = Ideal.fptosi 32 (min (Ideal.ofBits .f32 0x40E00000#32) (max (Ideal.ofBits .f32 0xC0E00000#32)
      (Ideal.liftRound Ideal.roundHalfEven (Ideal.div (v (ix4 b r ⟨k.val / 128, by omega⟩ ⟨k.val % 128, by omega⟩)) (s (ix3 b r ⟨k.val / 128, by omega⟩)))))) &&& 15#32 := by
  unfold refNib
  pointwise
  rfl

theorem refNib_real (v : FVec Ideal S40x1408x32x128 .f32) (s : FVec Ideal S40x1408x32 .f32) (b : Fin 40) (r : Fin 1408) (g : Fin 32) (n : Fin 128) (f : ℕ → ℝ)
    (hv : v (ix4 b r g n) = ((f n.val * nrm : ℝ) : EReal)) (hs : s (ix3 b r g) = ((scl f : ℝ) : EReal)) :
    refNib v s (ix3 b r ⟨128 * g.val + n.val, by omega⟩) = BitVec.ofInt 32 (cod f n.val) &&& 15#32 := by
  rw [refNib_apply]
  have e1 : (⟨(128 * g.val + n.val) / 128, by omega⟩ : Fin 32) = g := Fin.ext (show (128 * g.val + n.val) / 128 = g.val by omega)
  have e2 : (⟨(128 * g.val + n.val) % 128, by omega⟩ : Fin 128) = n := Fin.ext (show (128 * g.val + n.val) % 128 = n.val by omega)
  show Ideal.fptosi 32 (min (Ideal.ofBits .f32 0x40E00000#32) (max (Ideal.ofBits .f32 0xC0E00000#32)
      (Ideal.liftRound Ideal.roundHalfEven (Ideal.div (v (ix4 b r ⟨(128 * g.val + n.val) / 128, by omega⟩ ⟨(128 * g.val + n.val) % 128, by omega⟩)) (s (ix3 b r ⟨(128 * g.val + n.val) / 128, by omega⟩)))))) &&& 15#32 = _
  rw [e1, e2, hv, hs, Ideal.div_coe (scl_pos f).ne', ← EReal.coe_mul, Ideal.liftRound_coe, ofBits_neg_seven, ofBits_seven,
    ← EReal.coe_strictMono.monotone.map_max, ← EReal.coe_strictMono.monotone.map_min]
  refine congrArg (· &&& 15#32) (Eq.trans (congrArg (fun z : ℝ => Ideal.fptosi 32 (z : EReal)) ?_) (fptosi_code (cod f n.val) (le_cod f _) (cod_le f _)))
  rw [cod_eq, one_div, div_eq_mul_inv]
  push_cast
  rfl

theorem byte_nib : ∀ a b : Fin 15, BitVec.setWidth 8 ((BitVec.ofInt 32 ((a.val : ℤ) - 7) &&& 15#32) ||| (BitVec.ofInt 32 ((b.val : ℤ) - 7) &&& 15#32) <<< 4)
    = byte ((a.val : ℤ) - 7) ((b.val : ℤ) - 7) := by decide +kernel

theorem shl_four (x : BitVec 32) : IntOp.shli ArithUnit.host x 4#32 = x <<< 4 := by
  unfold IntOp.shli
  rfl

/-- The packed bytes, from the codes' low four bits. -/
def refPack (x : IVec S40x1408x4096 32) : IVec S40x1408x2048 8 :=
  trunci 8 (ori (Host.slice S40x1408x2048 ![0, 0, 0] ![1, 1, 2] x slicesBy_S40x1408x4096_S40x1408x2048_0s1_0s1_0s2) (Host.shli (Host.slice S40x1408x2048 ![0, 0, 1] ![1, 1, 2] x slicesBy_S40x1408x4096_S40x1408x2048_0s1_0s1_1s2) (broadcastInDim S40x1408x2048 ![] bcast_S_S40x1408x2048 (constantI S_ 32 4#32)))) natLt_8_32

theorem refPack_apply (x : IVec S40x1408x4096 32) (b : Fin 40) (r : Fin 1408) (q : Fin 2048) :
    refPack x (ix3 b r q) = BitVec.setWidth 8 (x (ix3 b r ⟨2 * q.val, by omega⟩) ||| x (ix3 b r ⟨2 * q.val + 1, by omega⟩) <<< 4) := by
  unfold refPack
  pointwise
  have e : (⟨1 + 2 * q.val, by omega⟩ : Fin 4096) = ⟨2 * q.val + 1, by omega⟩ := Fin.ext (Nat.add_comm _ _)
  rw [e]
  exact congrArg (fun z => BitVec.setWidth 8 (x (ix3 b r ⟨2 * q.val, by omega⟩) ||| z)) (shl_four _)

include hW hS in
/-- The reference's scales. -/
theorem refScale_val (b : Fin 40) (r : Fin 1408) (g : Fin 32) :
    refScale (res_main_v85 V0) (ix3 b r g) = ((scl (rotv W S b.val r.val g.val) : ℝ) : EReal) :=
  refScale_real _ _ _ (v85_real V0 W S hW hS b r g)

include hW hS in
/-- The reference's bytes. -/
theorem refPack_val (b : Fin 40) (r : Fin 1408) (q : Fin 2048) :
    refPack (refNib (res_main_v83 V0) (refScale (res_main_v85 V0))) (ix3 b r q)
      = byte (cod (rotv W S b.val r.val (q.val / 64)) (2 * (q.val % 64))) (cod (rotv W S b.val r.val (q.val / 64)) (2 * (q.val % 64) + 1)) := by
  have hn : ∀ (n : ℕ) (hn : n < 128), refNib (res_main_v83 V0) (refScale (res_main_v85 V0)) (ix3 b r ⟨128 * (q.val / 64) + n, by omega⟩)
      = BitVec.ofInt 32 (cod (rotv W S b.val r.val (q.val / 64)) n) &&& 15#32 := fun n hn =>
    refNib_real _ _ b r ⟨q.val / 64, by omega⟩ ⟨n, hn⟩ _ (v83_real V0 W S hW hS b r _ _) (refScale_val V0 W S hW hS b r _)
  rw [refPack_apply]
  have e1 : (⟨2 * q.val, by omega⟩ : Fin 4096) = ⟨128 * (q.val / 64) + 2 * (q.val % 64), by omega⟩ := Fin.ext (show 2 * q.val = 128 * (q.val / 64) + 2 * (q.val % 64) by omega)
  have e2 : (⟨2 * q.val + 1, by omega⟩ : Fin 4096) = ⟨128 * (q.val / 64) + (2 * (q.val % 64) + 1), by omega⟩ := Fin.ext (show 2 * q.val + 1 = 128 * (q.val / 64) + (2 * (q.val % 64) + 1) by omega)
  rw [e1, e2, hn _ (by omega), hn _ (by omega)]
  generalize rotv W S b.val r.val (q.val / 64) = g
  have hk : ∀ k, ∃ a : Fin 15, cod g k = (a.val : ℤ) - 7 := fun k =>
    ⟨⟨(cod g k + 7).toNat, by have := cod_le g k; have := le_cod g k; omega⟩, by have := cod_le g k; have := le_cod g k; show cod g k = ((cod g k + 7).toNat : ℤ) - 7; omega⟩
  obtain ⟨a, ha⟩ := hk (2 * (q.val % 64))
  obtain ⟨b', hb⟩ := hk (2 * (q.val % 64) + 1)
  rw [ha, hb]
  exact byte_nib a b'

end Cert.Val

end
-- ==== Proof.Val.Flag.lean ====
module

public import proofs.«01_k».proof.Proof.Val.Tile

/-! On real signs the flag is zero: a sign rounded to bf16 is the sign itself, over the reals. -/

@[expose] public section

noncomputable section

namespace Cert.Val

open Cert.KernelIdeal Cert.KernelIdeal.Gen
open Idealize.ShloMosaic

theorem restOf_zero (r g : FVec Ideal S1x128 .f32) (hr : ∀ k, r k = (0 : EReal)) (hg : ∀ k, ∃ x : ℝ, g k = (x : EReal)) (k : S1x128.Idx) :
    restOf r g k = (0 : EReal) := by
  obtain ⟨x, hx⟩ := hg k
  have e : restOf r g k = max (r k : EReal) (Scalar.select (Ideal.cmp .oeq ((g k : EReal) - (g k : EReal)) (Ideal.ofBits .f32 0x00000000#32))
      (Ideal.ofBits .f32 0x00000000#32) (Ideal.ofBits .f32 0x3F800000#32)) := rfl
  rw [e, hr, hx, ofBits_zero, ofBits_one, ← EReal.coe_sub, sub_self]
  unfold Scalar.select Ideal.cmp
  rw [if_pos (by simp)]
  exact max_self _

variable (G : Vec Ideal S1x4096 .f32) (S : ℕ → ℝ) (hG : ∀ k : Fin 4096, G (ix2 0 k) = ((S k.val : ℝ) : EReal))

include hG in
theorem sgTile_real (t : ℕ) (ht : t < 16) (s : ℕ) (hs : s < 2) (k : S1x128.Idx) : ∃ x : ℝ, sgTile G t ht s hs k = (x : EReal) := by
  have e : k = (ix2 0 (⟨(k 1).val, (k 1).isLt⟩ : Fin 128) : S1x128.Idx) := by
    funext a; fin_cases a
    · exact Fin.ext (by have := (k 0).isLt; have : (k 0).val < 1 := this; show (k 0).val = 0; omega)
    · rfl
  rw [e, sgTile_apply, hG]
  exact ⟨_, rfl⟩

include hG in
theorem restTo_zero (s : ℕ) (hs : s < 2) (r : FVec Ideal S1x128 .f32) (hr : ∀ k, r k = (0 : EReal)) :
    ∀ (n : ℕ) (hn : n ≤ 16) (k : S1x128.Idx), restTo G s hs r n hn k = (0 : EReal)
  | 0, _, k => hr k
  | n + 1, h, k => restOf_zero _ _ (restTo_zero s hs r hr n (by omega)) (sgTile_real G S hG n (by omega) s hs) k

theorem flagOf_zero (r : FVec Ideal S1x128 .f32) (hr : ∀ k, r k = (0 : EReal)) : flagOf r = 0#32 := by
  have hr' : r = fun _ => (0 : EReal) := funext hr
  subst hr'
  have e : extractAt ![0, 0, 0]
    (shapeCast S1x1x1 (multiReduction (F := Ideal) (φ := .f32) .maximumf [1, 2] S1 (shapeCast S1x1x128 (fun _ => (0 : EReal) : FVec Ideal S1x128 .f32) Gen.shapeCasts_S1x128_S1x1x128) 0xFF800000#32
      Gen.reduces_S1x1x128_S1 (.inl rfl) rfl) Gen.shapeCasts_S1_S1x1x1) Gen.inpos_S1x1x1_p0_0_0 = ((0 : EReal) : Ideal .f32) := by
    pointwise
    rw [ofBits_neg_inf]
    refine le_antisymm ((Finset.fold_max_le _).mpr ⟨bot_le, fun _ _ => le_rfl⟩) ((Finset.le_fold_max _).mpr (Or.inr ⟨0, Finset.mem_univ _, le_rfl⟩))
  refine (congrArg (Ideal.fptosi 32) e).trans ?_
  show BitVec.ofInt 32 (max (-(2 ^ 31 : ℕ) : ℤ) (min ((2 ^ 31 : ℕ) - 1 : ℤ) (if (0 : ℝ) ≤ 0 then ⌊(0 : ℝ)⌋ else ⌈(0 : ℝ)⌉))) = _
  rw [if_pos le_rfl, Int.floor_zero]
  decide

include hG in
theorem newFlag_zero : newFlag G at0 = 0#32 :=
  flagOf_zero _ (restTo_zero G S hG 1 (by omega) _ (restTo_zero G S hG 0 (by omega) _ (fun _ => ofBits_zero) 16 (by omega)) 16 (by omega))

end Cert.Val

end
-- ==== Proof.Val.Arrays.lean ====
module

public import proofs.«01_k».proof.Proof.Val.Bits
public import proofs.«01_k».proof.Proof.Val.Flag
public import proofs.«01_k».proof.Proof.Val.Rows
public import proofs.«01_k».proof.Proof.KI.Data
public import Idealize.ShloMosaic.Lib.Claim
public import Idealize.ShloMosaic.Lib.Pipeline.ValueKit.Geometry

/-! The kernel's two result arrays from real rows and real signs. -/

@[expose] public section

noncomputable section

namespace Cert.Val

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- The rows as the kernel is given them, and the signs. -/
def argW : FVec Ideal S40x1408x4096 .bf16 := m ((c : Thread nD τ).loc main_arg0)
def argS : FVec Ideal S4096 .f32 := m ((c : Thread nD τ).loc main_arg1)

theorem V_main_v0 : (V m c main_v0 : FVec Ideal S1x4096 .f32) = shapeCast S1x4096 (argS m c) (by decide) := by
  show StableHlo.after (List.flatten [hostOps0]) (fun b => m (c, b)) _ = _
  simp only [hostOps0, List.flatten_cons, List.flatten_nil, List.append_nil]
  after_results
  rfl

theorem V_main_v1 : (V m c main_v1 : FVec Ideal S20x2816x4096 .bf16) = shapeCast S20x2816x4096 (argW m c) (by decide) := by
  show StableHlo.after (List.flatten [hostOps0]) (fun b => m (c, b)) _ = _
  simp only [hostOps0, List.flatten_cons, List.flatten_nil, List.append_nil]
  after_results
  rfl

/-- A sign, as the body reads it. -/
theorem signsV_apply (k : Fin 4096) : signsV m c (ix2 0 k) = argS m c (ix1 k) := by
  have e : signsV m c = (V m c main_v0 : FVec Ideal S1x4096 .f32) := by
    unfold signsV
    funext y
    blk_simp [iblk]
    refine congrArg (V m c main_v0) (funext fun a => Fin.ext ?_)
    have h0 : win0_0.index ⟨0, by decide⟩ = ![0, 0] := by decide +kernel
    fin_cases a
    · blk_simp [h0]; exact congrFun h0 0
    · blk_simp [h0]; show 0 * 4096 + (y 1).val = (y 1).val; omega
  rw [e, V_main_v0]
  pointwise

/-- An entry of the array of row pairs. -/
theorem arrV_apply (p : Fin 20) (r : Fin 2816) (k : Fin 4096) :
    (arrV m c : FVec Ideal S20x2816x4096 .bf16) (ix3 p r k) = argW m c (ix3 ⟨2 * p.val + r.val / 1408, by omega⟩ ⟨r.val % 1408, by omega⟩ k) := by
  rw [show (arrV m c : FVec Ideal S20x2816x4096 .bf16) = _ from V_main_v1 m c]
  pointwise
  exact congrArg (fun z => argW m c (ix3 z ⟨r.val % 1408, by omega⟩ k)) (Fin.ext (show p.val * 2 + r.val / 1408 = 2 * p.val + r.val / 1408 by omega))

theorem slab_casts : S1x2816x128.ShapeCasts S2816x128 := by decide

/-- A leading axis of extent one dropped. -/
theorem slab_cast (x : FVec Ideal S1x2816x128 .bf16) (r : Fin 2816) (k : Fin 128) :
    shapeCast S2816x128 x slab_casts (ix2 r k) = x (ix3 0 r k) := by pointwise

/-- An entry of a slab of block `b`. -/
theorem blkX_apply (b : ℕ) (hb : b < 80) (j : Fin 8) (r : Fin 2816) (k : Fin 128) :
    blkX c arrM (arrV m c) b hb j (ix2 r k)
      = (arrV m c : FVec Ideal S20x2816x4096 .bf16) (ix3 ⟨b / 4, by omega⟩ r ⟨128 * (8 * (b % 4) + j.val) + k.val, by omega⟩) := by
  have e : blkX c arrM (arrV m c) b hb j (ix2 r k)
      = shapeCast (s := S1x2816x128) S2816x128 ((arrM.view.readAt (Elt Ideal) (Rect.unit (s := S20x2816x4096) ![b / 4, 0, colN b j] S1x2816x128.size
          (inbSrc (b / 4) (by omega) (colN b j) (colN_slab b j))).toLoadRect (arrV m c)) : FVec Ideal S1x2816x128 .bf16) slab_casts (ix2 r k) := rfl
  refine e.trans ((slab_cast _ r k).trans ?_)
  show (arrV m c : FVec Ideal S20x2816x4096 .bf16) _ = _
  congr 1
  funext a
  refine Fin.ext ?_
  fin_cases a
  · show b / 4 + 1 * 0 = b / 4; omega
  · show 0 + 1 * r.val = r.val; omega
  · show colN b j + 1 * k.val = 128 * (8 * (b % 4) + j.val) + k.val; unfold colN; omega

variable (W : ℕ → ℕ → ℕ → ℝ) (S : ℕ → ℝ)
  (hW : ∀ (b : Fin 40) (r : Fin 1408) (k : Fin 4096), argW m c (ix3 b r k) = ((W b.val r.val k.val : ℝ) : EReal))
  (hS : ∀ k : Fin 4096, argS m c (ix1 k) = ((S k.val : ℝ) : EReal))

/-- What block `b`'s groups hold, rotated. -/
def blkF (b r s : ℕ) : ℕ → ℝ := rotv W S (2 * (b / 4) + r / 1408) (r % 1408) (8 * (b % 4) + s)

include hW hS in
theorem rotAt_holds (t : ℕ) (ht : t < 81) : Holds (rotAt m c t) (blkF W S (min t 79)) := by
  intro cc j n l
  have hG : ∀ k : Fin 4096, signsV m c (ix2 0 k) = ((S k.val : ℝ) : EReal) := fun k => (signsV_apply m c k).trans (hS k)
  have hi : ((coordsN t) 0).val = t := (coords_val ⟨min t 80, by rw [N_0]; omega⟩).trans (show min t 80 = t by omega)
  unfold rotAt rvAt
  rw [if_pos (newFlag_zero _ S hG)]
  refine (rv1_real (coordsN t) _ _ S (fun j r k => W (2 * (min t 79 / 4) + r / 1408) (r % 1408) (128 * (8 * (min t 79 % 4) + j) + k)) hG
    (fun j r k => ?_) cc j n l).trans ?_
  · rw [blkI_eq c arrM (arrV m c) (coordsN t) (min t 79) (by omega) (by rw [hi]), blkX_apply, arrV_apply, hW]
  · rw [hi]
    unfold blkF rotv
    refine congrArg (fun z : Fin 128 → ℝ => ((had z (chan (n.val % 128)) : ℝ) : EReal)) ?_
    funext k
    simp only [Nat.add_assoc]

/-! ## The index maps -/

theorem index_1 : ∀ t : Fin cfg0.N, win0_1.index t = ![(t.val - 1) / 4, 0, (t.val - 1) % 4] :=
  (by decide +kernel : ∀ t : Fin grid0.N, _)
theorem index_2 : ∀ t : Fin cfg0.N, win0_2.index t = ![min t.val 79 / 4, min t.val 79 % 4, 0] :=
  (by decide +kernel : ∀ t : Fin grid0.N, _)
theorem flush_1 : ∀ t : Fin cfg0.N, (cfg0.win 1).flush t = true → 1 ≤ t.val :=
  (by decide +kernel : ∀ t : Fin grid0.N, win0_1.flush t = true → 1 ≤ t.val)

/-- The bytes of the codes, pairs of rows together. -/
def codesG : IVec S20x2816x2048 8 := fun y =>
  byte (cod (rotv W S (2 * (y 0).val + (y 1).val / 1408) ((y 1).val % 1408) ((y 2).val / 64)) (2 * ((y 2).val % 64)))
    (cod (rotv W S (2 * (y 0).val + (y 1).val / 1408) ((y 1).val % 1408) ((y 2).val / 64)) (2 * ((y 2).val % 64) + 1))

/-- The scales, groups before rows. -/
def scalesG : FVec Ideal S40x32x1408 .f32 := fun y => ((scl (rotv W S (y 0).val (y 2).val (y 1).val) : ℝ) : EReal)

include hW hS in
theorem codes_arr : (dats m 0 c).arrAt 1 cfg0.N = codesG W S := by
  refine (dats m 0 c).arrAt_eq_of_covers 1 _ (by decide +kernel) fun t hf y => ?_
  have h1 := flush_1 t hf
  have ht : t.val < 81 := N_0 ▸ t.isLt
  obtain ⟨u, hu⟩ : ∃ u, t.val = u + 1 := ⟨t.val - 1, by omega⟩
  blk_simp
  rw [after0_1]
  have hv : Vat m c t.val = newV (rotAt m c u) ∧ Rat m c t.val = newR (rotAt m c u) := by rw [hu]; exact ⟨rfl, rfl⟩
  rw [hv.1, hv.2]
  have hy : y = (ix3 0 (⟨(y 1).val, (y 1).isLt⟩ : Fin 2816) (⟨(y 2).val, (y 2).isLt⟩ : Fin 512) : S1x2816x512.Idx) := by
    funext a; fin_cases a
    · exact Fin.ext (by have := (y 0).isLt; have : (y 0).val < 1 := this; show (y 0).val = 0; omega)
    · rfl
    · rfl
  have y1 : (y 1).val < 2816 := (y 1).isLt
  have y2 : (y 2).val < 512 := (y 2).isLt
  have y0 : (y 0).val < 1 := (y 0).isLt
  refine (congrArg (newC _ _) hy).trans ((newC_real _ _ (rotAt_holds m c W S hW hS u (by omega)) _ _).trans ?_)
  unfold codesG blkF
  have e0 : ((((cfg0.win 1).blk t).view.emb y 0 : Fin _) : ℕ) = min u 79 / 4 := by blk_simp [index_1]; omega
  have e1 : ((((cfg0.win 1).blk t).view.emb y 1 : Fin _) : ℕ) = (y 1).val := by blk_simp [index_1]
  have e2 : ((((cfg0.win 1).blk t).view.emb y 2 : Fin _) : ℕ) = (min u 79 % 4) * 512 + (y 2).val := by blk_simp [index_1]; omega
  rw [e0, e1, e2]
  have d1 : (min u 79 % 4 * 512 + (y 2).val) / 64 = 8 * (min u 79 % 4) + (y 2).val / 64 := by omega
  have d2 : (min u 79 % 4 * 512 + (y 2).val) % 64 = (y 2).val % 64 := by omega
  rw [d1, d2]

include hW hS in
theorem scales_arr : (dats m 0 c).arrAt 2 cfg0.N = scalesG W S := by
  refine (dats m 0 c).arrAt_eq_of_covers 2 _ (by decide +kernel) fun t hf y => ?_
  have ht : t.val < 81 := N_0 ▸ t.isLt
  blk_simp
  rw [after0_2]
  have hy : y = (ix3 (⟨(y 0).val, (y 0).isLt⟩ : Fin 2) (⟨(y 1).val, (y 1).isLt⟩ : Fin 8) (⟨(y 2).val, (y 2).isLt⟩ : Fin 1408) : S2x8x1408.Idx) := by
    funext a; fin_cases a <;> rfl
  have y0 : (y 0).val < 2 := (y 0).isLt
  have y1 : (y 1).val < 8 := (y 1).isLt
  have y2 : (y 2).val < 1408 := (y 2).isLt
  refine (congrArg (newSc _) hy).trans ((newSc_real _ _ (rotAt_holds m c W S hW hS t.val ht) _ _ _).trans ?_)
  unfold scalesG blkF
  have e0 : ((((cfg0.win 2).blk t).view.emb y 0 : Fin _) : ℕ) = min t.val 79 / 4 * 2 + (y 0).val := by blk_simp [index_2]
  have e1 : ((((cfg0.win 2).blk t).view.emb y 1 : Fin _) : ℕ) = min t.val 79 % 4 * 8 + (y 1).val := by blk_simp [index_2]
  have e2 : ((((cfg0.win 2).blk t).view.emb y 2 : Fin _) : ℕ) = (y 2).val := by blk_simp [index_2]
  rw [e0, e1, e2]
  have d1 : 2 * (min t.val 79 / 4) + (1408 * (y 0).val + (y 2).val) / 1408 = min t.val 79 / 4 * 2 + (y 0).val := by omega
  have d2 : (1408 * (y 0).val + (y 2).val) % 1408 = (y 2).val := by omega
  have d3 : 8 * (min t.val 79 % 4) + (y 1).val = min t.val 79 % 4 * 8 + (y 1).val := by omega
  show ((scl (rotv W S (2 * (min t.val 79 / 4) + (1408 * (y 0).val + (y 2).val) / 1408) ((1408 * (y 0).val + (y 2).val) % 1408) (8 * (min t.val 79 % 4) + (y 1).val)) : ℝ) : EReal) = _
  rw [d1, d2, d3]

/-! ## The results of the whole program -/

theorem tail_codes : (Pipeline.afterTail₀ cfgs (dats m) 0 (V0 m) [hostOps1] c main_v3 : IVec S40x1408x2048 8)
    = shapeCast (s := S20x2816x2048) S40x1408x2048 ((dats m 0 c).arrAt 1 cfg0.N : IVec S20x2816x2048 8) (by decide) := by
  unfold Pipeline.afterTail₀
  rw [← Pipeline.withArrays_arr spec0 (by decide) c (V0 m c) (fun w => (dats m 0 c).arrAt w (cfgs 0).N) 1]
  unfold_abbrev_sides
  after_results
  rfl

theorem tail_scales : (Pipeline.afterTail₀ cfgs (dats m) 0 (V0 m) [hostOps1] c main_v4 : FVec Ideal S40x1408x32 .f32)
    = transpose (s := S40x32x1408) S40x1408x32 [0, 2, 1] ((dats m 0 c).arrAt 2 cfg0.N : FVec Ideal S40x32x1408 .f32) transposes_S40x32x1408_S40x1408x32_0_2_1 := by
  unfold Pipeline.afterTail₀
  rw [← Pipeline.withArrays_arr spec0 (by decide) c (V0 m c) (fun w => (dats m 0 c).arrAt w (cfgs 0).N) 2]
  unfold_abbrev_sides
  after_results
  rfl

include hW hS in
/-- The kernel's bytes. -/
theorem kernel_codes (b : Fin 40) (r : Fin 1408) (q : Fin 2048) :
    (Pipeline.afterTail₀ cfgs (dats m) 0 (V0 m) [hostOps1] c main_v3 : IVec S40x1408x2048 8) (ix3 b r q)
      = byte (cod (rotv W S b.val r.val (q.val / 64)) (2 * (q.val % 64))) (cod (rotv W S b.val r.val (q.val / 64)) (2 * (q.val % 64) + 1)) := by
  rw [tail_codes, codes_arr m c W S hW hS]
  have e : shapeCast S40x1408x2048 (codesG W S) (by decide) (ix3 b r q)
      = codesG W S (ix3 ⟨b.val / 2, by omega⟩ ⟨1408 * (b.val % 2) + r.val, by omega⟩ q) := by
    pointwise
    exact congrArg (fun z => codesG W S (ix3 ⟨b.val / 2, by omega⟩ z q)) (Fin.ext (show b.val % 2 * 1408 + r.val = 1408 * (b.val % 2) + r.val by omega))
  refine e.trans ?_
  have d1 : 2 * (b.val / 2) + (1408 * (b.val % 2) + r.val) / 1408 = b.val := by omega
  have d2 : (1408 * (b.val % 2) + r.val) % 1408 = r.val := by omega
  show byte (cod (rotv W S (2 * (b.val / 2) + (1408 * (b.val % 2) + r.val) / 1408) ((1408 * (b.val % 2) + r.val) % 1408) (q.val / 64)) (2 * (q.val % 64)))
    (cod (rotv W S (2 * (b.val / 2) + (1408 * (b.val % 2) + r.val) / 1408) ((1408 * (b.val % 2) + r.val) % 1408) (q.val / 64)) (2 * (q.val % 64) + 1)) = _
  rw [d1, d2]

include hW hS in
/-- The kernel's scales. -/
theorem kernel_scales (b : Fin 40) (r : Fin 1408) (g : Fin 32) :
    (Pipeline.afterTail₀ cfgs (dats m) 0 (V0 m) [hostOps1] c main_v4 : FVec Ideal S40x1408x32 .f32) (ix3 b r g)
      = ((scl (rotv W S b.val r.val g.val) : ℝ) : EReal) := by
  rw [tail_scales, scales_arr m c W S hW hS]
  have e : transpose S40x1408x32 [0, 2, 1] (scalesG W S) transposes_S40x32x1408_S40x1408x32_0_2_1 (ix3 b r g) = scalesG W S (ix3 b g r) := by pointwise
  exact e

end Cert.Val

end
-- ==== Proof.Val.Finite.lean ====
module

public import proofs.«01_k».proof.Pre_finite
public import proofs.«01_k».proof.Proof.Val.Spec
public import Idealize.ShloMosaic.Lib.Decide

/-! The precondition says that every row entry and every sign is a real number. -/

@[expose] public section

noncomputable section

namespace Cert.Val

open Idealize.ShloMosaic Cert.Pre_finite

/-- The side conditions of the precondition's operations. -/
instance factsFinite : Cert.Pre_finite.Facts where
  bitsLt_bf16_f32 := by decide
  bcast_S_S40x1408x4096 := by decide
  bcast_S_S4096 := by decide
  bcast_S4096_S1x1x4096_2 := by decide
  bcast_S1x1x4096_S40x1408x4096_0_1_2 := by decide

/-- An entry whose magnitude is below infinity is real. -/
theorem real_of_lt (x : EReal) (h : Ideal.cmp .olt (max x (-x)) (Ideal.ofBits .f32 0x7F800000#32) = 1#1) : ((x.toReal : ℝ) : EReal) = x := by
  rw [ofBits_inf] at h
  have h' : max x (-x) < ⊤ := by
    by_contra hc
    have : Ideal.cmp .olt (max x (-x)) ⊤ = BitVec.ofBool (decide (max x (-x) < ⊤)) := rfl
    rw [this, decide_eq_false hc] at h
    exact absurd h (by decide)
  have h1 : x ≠ ⊤ := fun e => absurd (lt_of_le_of_lt (le_max_left x (-x)) h') (by rw [e]; exact lt_irrefl _)
  have h2 : x ≠ ⊥ := fun e => absurd (lt_of_le_of_lt (le_max_right x (-x)) h') (by rw [e, EReal.neg_bot]; exact lt_irrefl _)
  exact EReal.coe_toReal h1 h2

theorem finite_apply (a : FVec Ideal S40x1408x4096 .bf16) (s : FVec Ideal S4096 .f32) (b : Fin 40) (r : Fin 1408) (k : Fin 4096) :
    Cert.Pre_finite.fn a s (ix3 b r k)
      = Ideal.cmp .olt (max (a (ix3 b r k) : EReal) (-(a (ix3 b r k) : EReal))) (Ideal.ofBits .f32 0x7F800000#32)
        &&& Ideal.cmp .olt (max (s (ix1 k) : EReal) (-(s (ix1 k) : EReal))) (Ideal.ofBits .f32 0x7F800000#32) := by
  unfold Cert.Pre_finite.fn
  pointwise
  rfl

theorem and_one : ∀ x y : BitVec 1, x &&& y = 1#1 → x = 1#1 ∧ y = 1#1 := by decide

theorem finite_real (a : FVec Ideal S40x1408x4096 .bf16) (s : FVec Ideal S4096 .f32) (h : Cert.Pre_finite.fn a s = fun _ => 1#1) :
    ∃ (W : ℕ → ℕ → ℕ → ℝ) (S : ℕ → ℝ), (∀ (b : Fin 40) (r : Fin 1408) (k : Fin 4096), a (ix3 b r k) = ((W b.val r.val k.val : ℝ) : EReal))
      ∧ ∀ k : Fin 4096, s (ix1 k) = ((S k.val : ℝ) : EReal) := by
  have hh := fun b r k => and_one _ _ ((finite_apply a s b r k).symm.trans (congrFun h _))
  refine ⟨fun b r k => if h : b < 40 ∧ r < 1408 ∧ k < 4096 then (a (ix3 ⟨b, h.1⟩ ⟨r, h.2.1⟩ ⟨k, h.2.2⟩) : EReal).toReal else 0,
    fun k => if h : k < 4096 then (s (ix1 ⟨k, h⟩) : EReal).toReal else 0, fun b r k => ?_, fun k => ?_⟩
  · beta_reduce
    rw [dif_pos ⟨b.isLt, r.isLt, k.isLt⟩]
    exact (real_of_lt _ (hh b r k).1).symm
  · beta_reduce
    rw [dif_pos k.isLt]
    exact (real_of_lt _ (hh 0 0 k).2).symm

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Data
public import proofs.«01_k».proof.Proof.KI.Data
public import proofs.«01_k».proof.Proof.Val.RefOut
public import proofs.«01_k».proof.Proof.Val.Arrays
public import proofs.«01_k».proof.Proof.Val.Finite
public import Idealize.ShloMosaic.Adequacy
public import Idealize.ShloMosaic.Init

@[expose] public section

noncomputable section

namespace Cert.Proof

open Idealize.ShloMosaic Idealize.SL.Sem Cert.Kernel

/-- The reference's frame: it has no semaphore, and its run leaves the arguments as they were. -/
theorem frame_r : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Two functions of three coordinates that agree at all coordinates. -/
theorem ext3 {α : Type} {n₀ n₁ n₂ : ℕ} (f g : (⟨3, ![n₀, n₁, n₂]⟩ : Shape).Idx → α)
    (h : ∀ (a : Fin n₀) (b : Fin n₁) (c : Fin n₂), f (ix3 a b c) = g (ix3 a b c)) : f = g := by
  funext y
  have e : y = ix3 (y 0) (y 1) (y 2) := by funext i; fin_cases i <;> rfl
  rw [e]
  exact h _ _ _

/-- The kernel's run: its two results and its arguments. -/
theorem run_k (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3)
          = Pipeline.afterTail₀ Cert.KernelIdeal.cfgs (Cert.KernelIdeal.Gen.dats m) 0 (Cert.KernelIdeal.Gen.V0 m) [Cert.KernelIdeal.Gen.hostOps1] c Cert.KernelIdeal.main_v3
      ∧ r.2.mem ((c.tc : Thread Cert.KernelIdeal.nD Cert.KernelIdeal.τ).loc Cert.KernelIdeal.main_v4)
          = Pipeline.afterTail₀ Cert.KernelIdeal.cfgs (Cert.KernelIdeal.Gen.dats m) 0 (Cert.KernelIdeal.Gen.V0 m) [Cert.KernelIdeal.Gen.hostOps1] c Cert.KernelIdeal.main_v4
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun r h c =>
    ⟨(h.1 c).2 Cert.KernelIdeal.main_v3 (Pipeline.mem_restRefs_of Cert.KernelIdeal.main_v3 (by decide) (by decide)),
      (h.1 c).2 Cert.KernelIdeal.main_v4 (Pipeline.mem_restRefs_of Cert.KernelIdeal.main_v4 (by decide) (by decide)),
      ((h.1 c).2 Cert.KernelIdeal.main_arg0 (Pipeline.mem_restRefs_of Cert.KernelIdeal.main_arg0 (by decide) (by decide))).trans (Cert.KernelIdeal.Gen.W_main_arg0D m c),
      ((h.1 c).2 Cert.KernelIdeal.main_arg1 (Pipeline.mem_restRefs_of Cert.KernelIdeal.main_arg1 (by decide) (by decide))).trans (Cert.KernelIdeal.Gen.W_main_arg1D m c)⟩)
    (Cert.KernelIdeal.Gen.run_main m g)

open Cert.Val in
/-- On real arguments the kernel's results are the reference's. -/
theorem algebraic : Cert.algebraic_KernelIdeal_ReferenceIdeal_pre_finite := fun m g m' g' hpre hagree =>
  ⟨_, _, run_k m g, (θ_run Cert.ReferenceIdeal.defs _ _).mono (fun r h c => by
    obtain ⟨W, S, hW, hS⟩ := finite_real _ _ (hpre c)
    have hW' : ∀ b r k, (StableHlo.launchContents m' c (Proc.devRef .tc Cert.ReferenceIdeal.main_arg0) : FVec Ideal Cert.ReferenceIdeal.S40x1408x4096 .bf16) (ix3 b r k) = _ :=
      fun b r k => (congrFun (hagree c).1 _).trans (hW b r k)
    have hS' : ∀ k, (StableHlo.launchContents m' c (Proc.devRef .tc Cert.ReferenceIdeal.main_arg1) : FVec Ideal Cert.ReferenceIdeal.S4096 .f32) (ix1 k) = _ :=
      fun k => (congrFun (hagree c).2 _).trans (hS k)
    refine ⟨(h c).1.trans (ext3 _ _ fun b r q => ?_), (h c).2.1.trans (ext3 _ _ fun b r q => ?_), (h c).2.2.1, (h c).2.2.2⟩
    · exact (refPack_val _ W S hW' hS' b r q).trans (kernel_codes m c W S hW hS b r q).symm
    · exact (refScale_val _ W S hW' hS' b r q).trans (kernel_scales m c W S hW hS b r q).symm)
    (Cert.ReferenceIdeal.Value.run (F := Ideal) m' g')⟩

/-- The frames, the idealization, which rewrote nothing, and the equality of the results. -/
theorem claim : Cert.Claim := ⟨Cert.Kernel.Gen.facts, Cert.KernelIdeal.Gen.facts, Cert.ReferenceIdeal.Gen.facts, Cert.Val.factsFinite,
  fun m g _ => Cert.Kernel.Gen.frame m g, fun m g _ => Cert.KernelIdeal.Gen.frame m g, fun m g _ => Cert.KernelIdeal.Gen.frame m g,
  frame_r, fun m g _ => frame_r m g trivial, trivial, algebraic⟩

end Cert.Proof

end
